-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdRefIdeal (m : (ℓ : Loc Cert.MlpBwdRefIdeal.nD Cert.MlpBwdRefIdeal.τ Cert.MlpBwdRefIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_OutY (m : (ℓ : Loc Cert.OutY.nD Cert.OutY.τ Cert.OutY.sig) → Buf (Elt Bits) ℓ) : Prop :=
  True

def Pre_OutYIdeal (m : (ℓ : Loc Cert.OutYIdeal.nD Cert.OutYIdeal.τ Cert.OutYIdeal.sig) → Buf (Elt Ideal) ℓ) : Prop :=
  True

def Pre_OutYRefIdeal (m : (ℓ : Loc Cert.OutYRefIdeal.nD Cert.OutYRefIdeal.τ Cert.OutYRefIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdRefIdeal (m : (ℓ : Loc Cert.ProjFwdRefIdeal.nD Cert.ProjFwdRefIdeal.τ Cert.ProjFwdRefIdeal.sig) → Buf (Elt Ideal) ℓ) : Prop :=
  True

def Pre_FfUp (m : (ℓ : Loc Cert.FfUp.nD Cert.FfUp.τ Cert.FfUp.sig) → Buf (Elt Bits) ℓ) : Prop :=
  True

def Pre_FfUpIdeal (m : (ℓ : Loc Cert.FfUpIdeal.nD Cert.FfUpIdeal.τ Cert.FfUpIdeal.sig) → Buf (Elt Ideal) ℓ) : Prop :=
  True

def Pre_FfUpRefIdeal (m : (ℓ : Loc Cert.FfUpRefIdeal.nD Cert.FfUpRefIdeal.τ Cert.FfUpRefIdeal.sig) → Buf (Elt Ideal) ℓ) : Prop :=
  True

def Pre_MixLn (m : (ℓ : Loc Cert.MixLn.nD Cert.MixLn.τ Cert.MixLn.sig) → Buf (Elt Bits) ℓ) : Prop :=
  True

def Pre_MixLnIdeal (m : (ℓ : Loc Cert.MixLnIdeal.nD Cert.MixLnIdeal.τ Cert.MixLnIdeal.sig) → Buf (Elt Ideal) ℓ) : Prop :=
  True

def Pre_MixLnRefIdeal (m : (ℓ : Loc Cert.MixLnRefIdeal.nD Cert.MixLnRefIdeal.τ Cert.MixLnRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2))
      ∧ r.2.sem = fun _ => 0)

def quiescent_MlpBwdRefIdeal [hMlpBwdRefIdeal : Cert.MlpBwdRefIdeal.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1)
      ∧ r.2.mem ((c.tc : Thread Cert.DownW.nD Cert.DownW.τ).loc Cert.DownW.main_arg2) = m ((c.tc : Thread Cert.DownW.nD Cert.DownW.τ).loc Cert.DownW.main_arg2))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1)
      ∧ r.2.mem ((c.tc : Thread Cert.DownWIdeal.nD Cert.DownWIdeal.τ).loc Cert.DownWIdeal.main_arg2) = m ((c.tc : Thread Cert.DownWIdeal.nD Cert.DownWIdeal.τ).loc Cert.DownWIdeal.main_arg2))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1)
      ∧ r.2.mem ((c.tc : Thread Cert.DownWRefIdeal.nD Cert.DownWRefIdeal.τ).loc Cert.DownWRefIdeal.main_arg2) = m ((c.tc : Thread Cert.DownWRefIdeal.nD Cert.DownWRefIdeal.τ).loc Cert.DownWRefIdeal.main_arg2))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1)
      ∧ r.2.mem ((c.tc : Thread Cert.UpW.nD Cert.UpW.τ).loc Cert.UpW.main_arg2) = m ((c.tc : Thread Cert.UpW.nD Cert.UpW.τ).loc Cert.UpW.main_arg2))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
      ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1)
      ∧ r.2.mem ((c.tc : Thread Cert.UpWRefIdeal.nD Cert.UpWRefIdeal.τ).loc Cert.UpWRefIdeal.main_arg2) = m ((c.tc : Thread Cert.UpWRefIdeal.nD Cert.UpWRefIdeal.τ).loc Cert.UpWRefIdeal.main_arg2))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1)
      ∧ r.2.mem ((c.tc : Thread Cert.OutW.nD Cert.OutW.τ).loc Cert.OutW.main_arg2) = m ((c.tc : Thread Cert.OutW.nD Cert.OutW.τ).loc Cert.OutW.main_arg2))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
      ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1)
      ∧ r.2.mem ((c.tc : Thread Cert.OutWRefIdeal.nD Cert.OutWRefIdeal.τ).loc Cert.OutWRefIdeal.main_arg2) = m ((c.tc : Thread Cert.OutWRefIdeal.nD Cert.OutWRefIdeal.τ).loc Cert.OutWRefIdeal.main_arg2))
      ∧ r.2.sem = fun _ => 0)

def quiescent_OutY [hOutY : Cert.OutY.Facts] : Prop :=
  ∀ (m : (ℓ : Loc Cert.OutY.nD Cert.OutY.τ Cert.OutY.sig) → Buf (Elt Bits) ℓ) (g : Dev Cert.OutY.nD → PrngReg), Pre_OutY m →
    θ_run (Cert.OutY.defs (F := Bits)) (onTc (τ := Cert.OutY.τ) (Cert.OutY.main (F := Bits))) ⟨m, fun _ => 0, g⟩ (fun r => (∀ c : Dev Cert.OutY.nD,
      r.2.mem ((c.tc : Thread Cert.OutY.nD Cert.OutY.τ).loc Cert.OutY.main_arg0) = m ((c.tc : Thread Cert.OutY.nD Cert.OutY.τ).loc Cert.OutY.main_arg0)
      ∧ r.2.mem ((c.tc : Thread Cert.OutY.nD Cert.OutY.τ).loc Cert.OutY.main_arg1) = m ((c.tc : Thread Cert.OutY.nD Cert.OutY.τ).loc Cert.OutY.main_arg1)
      ∧ r.2.mem ((c.tc : Thread Cert.OutY.nD Cert.OutY.τ).loc Cert.OutY.main_arg2) = m ((c.tc : Thread Cert.OutY.nD Cert.OutY.τ).loc Cert.OutY.main_arg2))
      ∧ r.2.sem = fun _ => 0)

def quiescent_OutYIdeal [hOutYIdeal : Cert.OutYIdeal.Facts] : Prop :=
  ∀ (m : (ℓ : Loc Cert.OutYIdeal.nD Cert.OutYIdeal.τ Cert.OutYIdeal.sig) → Buf (Elt Ideal) ℓ) (g : Dev Cert.OutYIdeal.nD → PrngReg), Pre_OutYIdeal m →
    θ_run (Cert.OutYIdeal.defs (F := Ideal)) (onTc (τ := Cert.OutYIdeal.τ) (Cert.OutYIdeal.main (F := Ideal))) ⟨m, fun _ => 0, g⟩ (fun r => (∀ c : Dev Cert.OutYIdeal.nD,
      r.2.mem ((c.tc : Thread Cert.OutYIdeal.nD Cert.OutYIdeal.τ).loc Cert.OutYIdeal.main_arg0) = m ((c.tc : Thread Cert.OutYIdeal.nD Cert.OutYIdeal.τ).loc Cert.OutYIdeal.main_arg0)
      ∧ r.2.mem ((c.tc : Thread Cert.OutYIdeal.nD Cert.OutYIdeal.τ).loc Cert.OutYIdeal.main_arg1) = m ((c.tc : Thread Cert.OutYIdeal.nD Cert.OutYIdeal.τ).loc Cert.OutYIdeal.main_arg1)
      ∧ r.2.mem ((c.tc : Thread Cert.OutYIdeal.nD Cert.OutYIdeal.τ).loc Cert.OutYIdeal.main_arg2) = m ((c.tc : Thread Cert.OutYIdeal.nD Cert.OutYIdeal.τ).loc Cert.OutYIdeal.main_arg2))
      ∧ r.2.sem = fun _ => 0)

def quiescent_OutYRefIdeal [hOutYRefIdeal : Cert.OutYRefIdeal.Facts] : Prop :=
  ∀ (m : (ℓ : Loc Cert.OutYRefIdeal.nD Cert.OutYRefIdeal.τ Cert.OutYRefIdeal.sig) → Buf (Elt Ideal) ℓ) (g : Dev Cert.OutYRefIdeal.nD → PrngReg), Pre_OutYRefIdeal m →
    θ_run (Cert.OutYRefIdeal.defs (F := Ideal)) (onTc (τ := Cert.OutYRefIdeal.τ) (Cert.OutYRefIdeal.main (F := Ideal))) ⟨m, fun _ => 0, g⟩ (fun r => (∀ c : Dev Cert.OutYRefIdeal.nD,
      r.2.mem ((c.tc : Thread Cert.OutYRefIdeal.nD Cert.OutYRefIdeal.τ).loc Cert.OutYRefIdeal.main_arg0) = m ((c.tc : Thread Cert.OutYRefIdeal.nD Cert.OutYRefIdeal.τ).loc Cert.OutYRefIdeal.main_arg0)
      ∧ r.2.mem ((c.tc : Thread Cert.OutYRefIdeal.nD Cert.OutYRefIdeal.τ).loc Cert.OutYRefIdeal.main_arg1) = m ((c.tc : Thread Cert.OutYRefIdeal.nD Cert.OutYRefIdeal.τ).loc Cert.OutYRefIdeal.main_arg1)
      ∧ r.2.mem ((c.tc : Thread Cert.OutYRefIdeal.nD Cert.OutYRefIdeal.τ).loc Cert.OutYRefIdeal.main_arg2) = m ((c.tc : Thread Cert.OutYRefIdeal.nD Cert.OutYRefIdeal.τ).loc Cert.OutYRefIdeal.main_arg2))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2)
      ∧ r.2.mem ((c.tc : Thread Cert.InX.nD Cert.InX.τ).loc Cert.InX.main_arg3) = m ((c.tc : Thread Cert.InX.nD Cert.InX.τ).loc Cert.InX.main_arg3))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
      ∧ r.2.mem ((c.tc : Thread Cert.InXIdeal.nD Cert.InXIdeal.τ).loc Cert.InXIdeal.main_arg3) = m ((c.tc : Thread Cert.InXIdeal.nD Cert.InXIdeal.τ).loc Cert.InXIdeal.main_arg3))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1)
      ∧ r.2.mem ((c.tc : Thread Cert.InXRefIdeal.nD Cert.InXRefIdeal.τ).loc Cert.InXRefIdeal.main_arg2) = m ((c.tc : Thread Cert.InXRefIdeal.nD Cert.InXRefIdeal.τ).loc Cert.InXRefIdeal.main_arg2)
      ∧ r.2.mem ((c.tc : Thread Cert.InXRefIdeal.nD Cert.InXRefIdeal.τ).loc Cert.InXRefIdeal.main_arg3) = m ((c.tc : Thread Cert.InXRefIdeal.nD Cert.InXRefIdeal.τ).loc Cert.InXRefIdeal.main_arg3))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1)
      ∧ r.2.mem ((c.tc : Thread Cert.InW.nD Cert.InW.τ).loc Cert.InW.main_arg2) = m ((c.tc : Thread Cert.InW.nD Cert.InW.τ).loc Cert.InW.main_arg2))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
      ∧ r.2.mem ((c.tc : Thread Cert.InWIdeal.nD Cert.InWIdeal.τ).loc Cert.InWIdeal.main_arg2) = m ((c.tc : Thread Cert.InWIdeal.nD Cert.InWIdeal.τ).loc Cert.InWIdeal.main_arg2))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1)
      ∧ r.2.mem ((c.tc : Thread Cert.InWRefIdeal.nD Cert.InWRefIdeal.τ).loc Cert.InWRefIdeal.main_arg2) = m ((c.tc : Thread Cert.InWRefIdeal.nD Cert.InWRefIdeal.τ).loc Cert.InWRefIdeal.main_arg2))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1))
      ∧ r.2.sem = fun _ => 0)

def quiescent_ProjFwdRefIdeal [hProjFwdRefIdeal : Cert.ProjFwdRefIdeal.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1))
      ∧ r.2.sem = fun _ => 0)

def quiescent_FfUp [hFfUp : Cert.FfUp.Facts] : Prop :=
  ∀ (m : (ℓ : Loc Cert.FfUp.nD Cert.FfUp.τ Cert.FfUp.sig) → Buf (Elt Bits) ℓ) (g : Dev Cert.FfUp.nD → PrngReg), Pre_FfUp m →
    θ_run (Cert.FfUp.defs (F := Bits)) (onTc (τ := Cert.FfUp.τ) (Cert.FfUp.main (F := Bits))) ⟨m, fun _ => 0, g⟩ (fun r => (∀ c : Dev Cert.FfUp.nD,
      r.2.mem ((c.tc : Thread Cert.FfUp.nD Cert.FfUp.τ).loc Cert.FfUp.main_arg0) = m ((c.tc : Thread Cert.FfUp.nD Cert.FfUp.τ).loc Cert.FfUp.main_arg0)
      ∧ r.2.mem ((c.tc : Thread Cert.FfUp.nD Cert.FfUp.τ).loc Cert.FfUp.main_arg1) = m ((c.tc : Thread Cert.FfUp.nD Cert.FfUp.τ).loc Cert.FfUp.main_arg1)
      ∧ r.2.mem ((c.tc : Thread Cert.FfUp.nD Cert.FfUp.τ).loc Cert.FfUp.main_arg2) = m ((c.tc : Thread Cert.FfUp.nD Cert.FfUp.τ).loc Cert.FfUp.main_arg2)
      ∧ r.2.mem ((c.tc : Thread Cert.FfUp.nD Cert.FfUp.τ).loc Cert.FfUp.main_arg3) = m ((c.tc : Thread Cert.FfUp.nD Cert.FfUp.τ).loc Cert.FfUp.main_arg3))
      ∧ r.2.sem = fun _ => 0)

def quiescent_FfUpIdeal [hFfUpIdeal : Cert.FfUpIdeal.Facts] : Prop :=
  ∀ (m : (ℓ : Loc Cert.FfUpIdeal.nD Cert.FfUpIdeal.τ Cert.FfUpIdeal.sig) → Buf (Elt Ideal) ℓ) (g : Dev Cert.FfUpIdeal.nD → PrngReg), Pre_FfUpIdeal m →
    θ_run (Cert.FfUpIdeal.defs (F := Ideal)) (onTc (τ := Cert.FfUpIdeal.τ) (Cert.FfUpIdeal.main (F := Ideal))) ⟨m, fun _ => 0, g⟩ (fun r => (∀ c : Dev Cert.FfUpIdeal.nD,
      r.2.mem ((c.tc : Thread Cert.FfUpIdeal.nD Cert.FfUpIdeal.τ).loc Cert.FfUpIdeal.main_arg0) = m ((c.tc : Thread Cert.FfUpIdeal.nD Cert.FfUpIdeal.τ).loc Cert.FfUpIdeal.main_arg0)
      ∧ r.2.mem ((c.tc : Thread Cert.FfUpIdeal.nD Cert.FfUpIdeal.τ).loc Cert.FfUpIdeal.main_arg1) = m ((c.tc : Thread Cert.FfUpIdeal.nD Cert.FfUpIdeal.τ).loc Cert.FfUpIdeal.main_arg1)
      ∧ r.2.mem ((c.tc : Thread Cert.FfUpIdeal.nD Cert.FfUpIdeal.τ).loc Cert.FfUpIdeal.main_arg2) = m ((c.tc : Thread Cert.FfUpIdeal.nD Cert.FfUpIdeal.τ).loc Cert.FfUpIdeal.main_arg2)
      ∧ r.2.mem ((c.tc : Thread Cert.FfUpIdeal.nD Cert.FfUpIdeal.τ).loc Cert.FfUpIdeal.main_arg3) = m ((c.tc : Thread Cert.FfUpIdeal.nD Cert.FfUpIdeal.τ).loc Cert.FfUpIdeal.main_arg3))
      ∧ r.2.sem = fun _ => 0)

def quiescent_FfUpRefIdeal [hFfUpRefIdeal : Cert.FfUpRefIdeal.Facts] : Prop :=
  ∀ (m : (ℓ : Loc Cert.FfUpRefIdeal.nD Cert.FfUpRefIdeal.τ Cert.FfUpRefIdeal.sig) → Buf (Elt Ideal) ℓ) (g : Dev Cert.FfUpRefIdeal.nD → PrngReg), Pre_FfUpRefIdeal m →
    θ_run (Cert.FfUpRefIdeal.defs (F := Ideal)) (onTc (τ := Cert.FfUpRefIdeal.τ) (Cert.FfUpRefIdeal.main (F := Ideal))) ⟨m, fun _ => 0, g⟩ (fun r => (∀ c : Dev Cert.FfUpRefIdeal.nD,
      r.2.mem ((c.tc : Thread Cert.FfUpRefIdeal.nD Cert.FfUpRefIdeal.τ).loc Cert.FfUpRefIdeal.main_arg0) = m ((c.tc : Thread Cert.FfUpRefIdeal.nD Cert.FfUpRefIdeal.τ).loc Cert.FfUpRefIdeal.main_arg0)
      ∧ r.2.mem ((c.tc : Thread Cert.FfUpRefIdeal.nD Cert.FfUpRefIdeal.τ).loc Cert.FfUpRefIdeal.main_arg1) = m ((c.tc : Thread Cert.FfUpRefIdeal.nD Cert.FfUpRefIdeal.τ).loc Cert.FfUpRefIdeal.main_arg1)
      ∧ r.2.mem ((c.tc : Thread Cert.FfUpRefIdeal.nD Cert.FfUpRefIdeal.τ).loc Cert.FfUpRefIdeal.main_arg2) = m ((c.tc : Thread Cert.FfUpRefIdeal.nD Cert.FfUpRefIdeal.τ).loc Cert.FfUpRefIdeal.main_arg2)
      ∧ r.2.mem ((c.tc : Thread Cert.FfUpRefIdeal.nD Cert.FfUpRefIdeal.τ).loc Cert.FfUpRefIdeal.main_arg3) = m ((c.tc : Thread Cert.FfUpRefIdeal.nD Cert.FfUpRefIdeal.τ).loc Cert.FfUpRefIdeal.main_arg3))
      ∧ r.2.sem = fun _ => 0)

def quiescent_MixLn [hMixLn : Cert.MixLn.Facts] : Prop :=
  ∀ (m : (ℓ : Loc Cert.MixLn.nD Cert.MixLn.τ Cert.MixLn.sig) → Buf (Elt Bits) ℓ) (g : Dev Cert.MixLn.nD → PrngReg), Pre_MixLn m →
    θ_run (Cert.MixLn.defs (F := Bits)) (onTc (τ := Cert.MixLn.τ) (Cert.MixLn.main (F := Bits))) ⟨m, fun _ => 0, g⟩ (fun r => (∀ c : Dev Cert.MixLn.nD,
      r.2.mem ((c.tc : Thread Cert.MixLn.nD Cert.MixLn.τ).loc Cert.MixLn.main_arg0) = m ((c.tc : Thread Cert.MixLn.nD Cert.MixLn.τ).loc Cert.MixLn.main_arg0)
      ∧ r.2.mem ((c.tc : Thread Cert.MixLn.nD Cert.MixLn.τ).loc Cert.MixLn.main_arg1) = m ((c.tc : Thread Cert.MixLn.nD Cert.MixLn.τ).loc Cert.MixLn.main_arg1)
      ∧ r.2.mem ((c.tc : Thread Cert.MixLn.nD Cert.MixLn.τ).loc Cert.MixLn.main_arg2) = m ((c.tc : Thread Cert.MixLn.nD Cert.MixLn.τ).loc Cert.MixLn.main_arg2)
      ∧ r.2.mem ((c.tc : Thread Cert.MixLn.nD Cert.MixLn.τ).loc Cert.MixLn.main_arg3) = m ((c.tc : Thread Cert.MixLn.nD Cert.MixLn.τ).loc Cert.MixLn.main_arg3)
      ∧ r.2.mem ((c.tc : Thread Cert.MixLn.nD Cert.MixLn.τ).loc Cert.MixLn.main_arg4) = m ((c.tc : Thread Cert.MixLn.nD Cert.MixLn.τ).loc Cert.MixLn.main_arg4))
      ∧ r.2.sem = fun _ => 0)

def quiescent_MixLnIdeal [hMixLnIdeal : Cert.MixLnIdeal.Facts] : Prop :=
  ∀ (m : (ℓ : Loc Cert.MixLnIdeal.nD Cert.MixLnIdeal.τ Cert.MixLnIdeal.sig) → Buf (Elt Ideal) ℓ) (g : Dev Cert.MixLnIdeal.nD → PrngReg), Pre_MixLnIdeal m →
    θ_run (Cert.MixLnIdeal.defs (F := Ideal)) (onTc (τ := Cert.MixLnIdeal.τ) (Cert.MixLnIdeal.main (F := Ideal))) ⟨m, fun _ => 0, g⟩ (fun r => (∀ c : Dev Cert.MixLnIdeal.nD,
      r.2.mem ((c.tc : Thread Cert.MixLnIdeal.nD Cert.MixLnIdeal.τ).loc Cert.MixLnIdeal.main_arg0) = m ((c.tc : Thread Cert.MixLnIdeal.nD Cert.MixLnIdeal.τ).loc Cert.MixLnIdeal.main_arg0)
      ∧ r.2.mem ((c.tc : Thread Cert.MixLnIdeal.nD Cert.MixLnIdeal.τ).loc Cert.MixLnIdeal.main_arg1) = m ((c.tc : Thread Cert.MixLnIdeal.nD Cert.MixLnIdeal.τ).loc Cert.MixLnIdeal.main_arg1)
      ∧ r.2.mem ((c.tc : Thread Cert.MixLnIdeal.nD Cert.MixLnIdeal.τ).loc Cert.MixLnIdeal.main_arg2) = m ((c.tc : Thread Cert.MixLnIdeal.nD Cert.MixLnIdeal.τ).loc Cert.MixLnIdeal.main_arg2)
      ∧ r.2.mem ((c.tc : Thread Cert.MixLnIdeal.nD Cert.MixLnIdeal.τ).loc Cert.MixLnIdeal.main_arg3) = m ((c.tc : Thread Cert.MixLnIdeal.nD Cert.MixLnIdeal.τ).loc Cert.MixLnIdeal.main_arg3)
      ∧ r.2.mem ((c.tc : Thread Cert.MixLnIdeal.nD Cert.MixLnIdeal.τ).loc Cert.MixLnIdeal.main_arg4) = m ((c.tc : Thread Cert.MixLnIdeal.nD Cert.MixLnIdeal.τ).loc Cert.MixLnIdeal.main_arg4))
      ∧ r.2.sem = fun _ => 0)

def quiescent_MixLnRefIdeal [hMixLnRefIdeal : Cert.MixLnRefIdeal.Facts] : Prop :=
  ∀ (m : (ℓ : Loc Cert.MixLnRefIdeal.nD Cert.MixLnRefIdeal.τ Cert.MixLnRefIdeal.sig) → Buf (Elt Ideal) ℓ) (g : Dev Cert.MixLnRefIdeal.nD → PrngReg), Pre_MixLnRefIdeal m →
    θ_run (Cert.MixLnRefIdeal.defs (F := Ideal)) (onTc (τ := Cert.MixLnRefIdeal.τ) (Cert.MixLnRefIdeal.main (F := Ideal))) ⟨m, fun _ => 0, g⟩ (fun r => (∀ c : Dev Cert.MixLnRefIdeal.nD,
      r.2.mem ((c.tc : Thread Cert.MixLnRefIdeal.nD Cert.MixLnRefIdeal.τ).loc Cert.MixLnRefIdeal.main_arg0) = m ((c.tc : Thread Cert.MixLnRefIdeal.nD Cert.MixLnRefIdeal.τ).loc Cert.MixLnRefIdeal.main_arg0)
      ∧ r.2.mem ((c.tc : Thread Cert.MixLnRefIdeal.nD Cert.MixLnRefIdeal.τ).loc Cert.MixLnRefIdeal.main_arg1) = m ((c.tc : Thread Cert.MixLnRefIdeal.nD Cert.MixLnRefIdeal.τ).loc Cert.MixLnRefIdeal.main_arg1)
      ∧ r.2.mem ((c.tc : Thread Cert.MixLnRefIdeal.nD Cert.MixLnRefIdeal.τ).loc Cert.MixLnRefIdeal.main_arg2) = m ((c.tc : Thread Cert.MixLnRefIdeal.nD Cert.MixLnRefIdeal.τ).loc Cert.MixLnRefIdeal.main_arg2)
      ∧ r.2.mem ((c.tc : Thread Cert.MixLnRefIdeal.nD Cert.MixLnRefIdeal.τ).loc Cert.MixLnRefIdeal.main_arg3) = m ((c.tc : Thread Cert.MixLnRefIdeal.nD Cert.MixLnRefIdeal.τ).loc Cert.MixLnRefIdeal.main_arg3)
      ∧ r.2.mem ((c.tc : Thread Cert.MixLnRefIdeal.nD Cert.MixLnRefIdeal.τ).loc Cert.MixLnRefIdeal.main_arg4) = m ((c.tc : Thread Cert.MixLnRefIdeal.nD Cert.MixLnRefIdeal.τ).loc Cert.MixLnRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_1)) (v2 : (c : Dev Cert.KernelIdeal.nD) → Buf (Elt Ideal) ((c.tc : Thread Cert.KernelIdeal.nD Cert.KernelIdeal.τ).loc Cert.KernelIdeal.main_v63_2)) (v3 : (c : Dev Cert.KernelIdeal.nD) → Buf (Elt Ideal) ((c.tc : Thread Cert.KernelIdeal.nD Cert.KernelIdeal.τ).loc Cert.KernelIdeal.main_v63_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v63_1) = v1 c
          ∧ r.2.mem ((c.tc : Thread Cert.KernelIdeal.nD Cert.KernelIdeal.τ).loc Cert.KernelIdeal.main_v63_2) = v2 c
          ∧ r.2.mem ((c.tc : Thread Cert.KernelIdeal.nD Cert.KernelIdeal.τ).loc Cert.KernelIdeal.main_v63_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_v185) = v1 c
          ∧ r.2.mem ((c.tc : Thread Cert.ReferenceIdeal.nD Cert.ReferenceIdeal.τ).loc Cert.ReferenceIdeal.main_v186) = v2 c
          ∧ r.2.mem ((c.tc : Thread Cert.ReferenceIdeal.nD Cert.ReferenceIdeal.τ).loc Cert.ReferenceIdeal.main_v187) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_MlpBwd_MlpBwdIdeal : Prop :=
  True

def algebraic_MlpBwdIdeal_MlpBwdRefIdeal [hMlpBwdIdeal : Cert.MlpBwdIdeal.Facts] [hMlpBwdRefIdeal : Cert.MlpBwdRefIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpBwdRefIdeal.nD Cert.MlpBwdRefIdeal.τ Cert.MlpBwdRefIdeal.sig) → Buf (Elt Ideal) ℓ) (g' : Dev Cert.MlpBwdRefIdeal.nD → PrngReg), Pre_MlpBwdIdeal m →
    (∀ c : Dev Cert.MlpBwdIdeal.nD,
      m' ((c.tc : Thread Cert.MlpBwdRefIdeal.nD Cert.MlpBwdRefIdeal.τ).loc Cert.MlpBwdRefIdeal.main_arg0) = m ((c.tc : Thread Cert.MlpBwdIdeal.nD Cert.MlpBwdIdeal.τ).loc Cert.MlpBwdIdeal.main_arg0)
      ∧ m' ((c.tc : Thread Cert.MlpBwdRefIdeal.nD Cert.MlpBwdRefIdeal.τ).loc Cert.MlpBwdRefIdeal.main_arg1) = m ((c.tc : Thread Cert.MlpBwdIdeal.nD Cert.MlpBwdIdeal.τ).loc Cert.MlpBwdIdeal.main_arg1)
      ∧ m' ((c.tc : Thread Cert.MlpBwdRefIdeal.nD Cert.MlpBwdRefIdeal.τ).loc Cert.MlpBwdRefIdeal.main_arg2) = m ((c.tc : Thread Cert.MlpBwdIdeal.nD Cert.MlpBwdIdeal.τ).loc Cert.MlpBwdIdeal.main_arg2)) →
    ∃ (v0 : (c : Dev Cert.MlpBwdIdeal.nD) → Buf (Elt Ideal) ((c.tc : Thread Cert.MlpBwdIdeal.nD Cert.MlpBwdIdeal.τ).loc Cert.MlpBwdIdeal.main_v4)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v4) = v0 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2))
      ∧ θ_run (Cert.MlpBwdRefIdeal.defs (F := Ideal)) (onTc (τ := Cert.MlpBwdRefIdeal.τ) (Cert.MlpBwdRefIdeal.main (F := Ideal))) ⟨m', fun _ => 0, g'⟩ (fun r => ∀ c : Dev Cert.MlpBwdRefIdeal.nD,
          r.2.mem ((c.tc : Thread Cert.MlpBwdRefIdeal.nD Cert.MlpBwdRefIdeal.τ).loc Cert.MlpBwdRefIdeal.main_v12) = v0 c
          ∧ r.2.mem ((c.tc : Thread Cert.MlpBwdRefIdeal.nD Cert.MlpBwdRefIdeal.τ).loc Cert.MlpBwdRefIdeal.main_arg0) = m' ((c.tc : Thread Cert.MlpBwdRefIdeal.nD Cert.MlpBwdRefIdeal.τ).loc Cert.MlpBwdRefIdeal.main_arg0)
          ∧ r.2.mem ((c.tc : Thread Cert.MlpBwdRefIdeal.nD Cert.MlpBwdRefIdeal.τ).loc Cert.MlpBwdRefIdeal.main_arg1) = m' ((c.tc : Thread Cert.MlpBwdRefIdeal.nD Cert.MlpBwdRefIdeal.τ).loc Cert.MlpBwdRefIdeal.main_arg1)
          ∧ r.2.mem ((c.tc : Thread Cert.MlpBwdRefIdeal.nD Cert.MlpBwdRefIdeal.τ).loc Cert.MlpBwdRefIdeal.main_arg2) = m' ((c.tc : Thread Cert.MlpBwdRefIdeal.nD Cert.MlpBwdRefIdeal.τ).loc Cert.MlpBwdRefIdeal.main_arg2))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)
      ∧ m' ((c.tc : Thread Cert.DownWRefIdeal.nD Cert.DownWRefIdeal.τ).loc Cert.DownWRefIdeal.main_arg2) = m ((c.tc : Thread Cert.DownWIdeal.nD Cert.DownWIdeal.τ).loc Cert.DownWIdeal.main_arg2)) →
    ∃ (v0 : (c : Dev Cert.DownWIdeal.nD) → Buf (Elt Ideal) ((c.tc : Thread Cert.DownWIdeal.nD Cert.DownWIdeal.τ).loc Cert.DownWIdeal.main_v4)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v4) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1)
          ∧ r.2.mem ((c.tc : Thread Cert.DownWIdeal.nD Cert.DownWIdeal.τ).loc Cert.DownWIdeal.main_arg2) = m ((c.tc : Thread Cert.DownWIdeal.nD Cert.DownWIdeal.τ).loc Cert.DownWIdeal.main_arg2))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v4) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1)
          ∧ r.2.mem ((c.tc : Thread Cert.DownWRefIdeal.nD Cert.DownWRefIdeal.τ).loc Cert.DownWRefIdeal.main_arg2) = m' ((c.tc : Thread Cert.DownWRefIdeal.nD Cert.DownWRefIdeal.τ).loc Cert.DownWRefIdeal.main_arg2))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)
      ∧ m' ((c.tc : Thread Cert.UpWRefIdeal.nD Cert.UpWRefIdeal.τ).loc Cert.UpWRefIdeal.main_arg2) = m ((c.tc : Thread Cert.UpWIdeal.nD Cert.UpWIdeal.τ).loc Cert.UpWIdeal.main_arg2)) →
    ∃ (v0 : (c : Dev Cert.UpWIdeal.nD) → Buf (Elt Ideal) ((c.tc : Thread Cert.UpWIdeal.nD Cert.UpWIdeal.τ).loc Cert.UpWIdeal.main_v2)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v2) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
          ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v4) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1)
          ∧ r.2.mem ((c.tc : Thread Cert.UpWRefIdeal.nD Cert.UpWRefIdeal.τ).loc Cert.UpWRefIdeal.main_arg2) = m' ((c.tc : Thread Cert.UpWRefIdeal.nD Cert.UpWRefIdeal.τ).loc Cert.UpWRefIdeal.main_arg2))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)
      ∧ m' ((c.tc : Thread Cert.OutWRefIdeal.nD Cert.OutWRefIdeal.τ).loc Cert.OutWRefIdeal.main_arg2) = m ((c.tc : Thread Cert.OutWIdeal.nD Cert.OutWIdeal.τ).loc Cert.OutWIdeal.main_arg2)) →
    ∃ (v0 : (c : Dev Cert.OutWIdeal.nD) → Buf (Elt Ideal) ((c.tc : Thread Cert.OutWIdeal.nD Cert.OutWIdeal.τ).loc Cert.OutWIdeal.main_v2)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v2) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
          ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v2) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1)
          ∧ r.2.mem ((c.tc : Thread Cert.OutWRefIdeal.nD Cert.OutWRefIdeal.τ).loc Cert.OutWRefIdeal.main_arg2) = m' ((c.tc : Thread Cert.OutWRefIdeal.nD Cert.OutWRefIdeal.τ).loc Cert.OutWRefIdeal.main_arg2))

def preserves_OutY_OutYIdeal : Prop :=
  True

def algebraic_OutYIdeal_OutYRefIdeal [hOutYIdeal : Cert.OutYIdeal.Facts] [hOutYRefIdeal : Cert.OutYRefIdeal.Facts] : Prop :=
  ∀ (m : (ℓ : Loc Cert.OutYIdeal.nD Cert.OutYIdeal.τ Cert.OutYIdeal.sig) → Buf (Elt Ideal) ℓ) (g : Dev Cert.OutYIdeal.nD → PrngReg)
    (m' : (ℓ : Loc Cert.OutYRefIdeal.nD Cert.OutYRefIdeal.τ Cert.OutYRefIdeal.sig) → Buf (Elt Ideal) ℓ) (g' : Dev Cert.OutYRefIdeal.nD → PrngReg), Pre_OutYIdeal m →
    (∀ c : Dev Cert.OutYIdeal.nD,
      m' ((c.tc : Thread Cert.OutYRefIdeal.nD Cert.OutYRefIdeal.τ).loc Cert.OutYRefIdeal.main_arg0) = m ((c.tc : Thread Cert.OutYIdeal.nD Cert.OutYIdeal.τ).loc Cert.OutYIdeal.main_arg0)
      ∧ m' ((c.tc : Thread Cert.OutYRefIdeal.nD Cert.OutYRefIdeal.τ).loc Cert.OutYRefIdeal.main_arg1) = m ((c.tc : Thread Cert.OutYIdeal.nD Cert.OutYIdeal.τ).loc Cert.OutYIdeal.main_arg1)
      ∧ m' ((c.tc : Thread Cert.OutYRefIdeal.nD Cert.OutYRefIdeal.τ).loc Cert.OutYRefIdeal.main_arg2) = m ((c.tc : Thread Cert.OutYIdeal.nD Cert.OutYIdeal.τ).loc Cert.OutYIdeal.main_arg2)) →
    ∃ (v0 : (c : Dev Cert.OutYIdeal.nD) → Buf (Elt Ideal) ((c.tc : Thread Cert.OutYIdeal.nD Cert.OutYIdeal.τ).loc Cert.OutYIdeal.main_v2)),
      θ_run (Cert.OutYIdeal.defs (F := Ideal)) (onTc (τ := Cert.OutYIdeal.τ) (Cert.OutYIdeal.main (F := Ideal))) ⟨m, fun _ => 0, g⟩ (fun r => ∀ c : Dev Cert.OutYIdeal.nD,
          r.2.mem ((c.tc : Thread Cert.OutYIdeal.nD Cert.OutYIdeal.τ).loc Cert.OutYIdeal.main_v2) = v0 c
          ∧ r.2.mem ((c.tc : Thread Cert.OutYIdeal.nD Cert.OutYIdeal.τ).loc Cert.OutYIdeal.main_arg0) = m ((c.tc : Thread Cert.OutYIdeal.nD Cert.OutYIdeal.τ).loc Cert.OutYIdeal.main_arg0)
          ∧ r.2.mem ((c.tc : Thread Cert.OutYIdeal.nD Cert.OutYIdeal.τ).loc Cert.OutYIdeal.main_arg1) = m ((c.tc : Thread Cert.OutYIdeal.nD Cert.OutYIdeal.τ).loc Cert.OutYIdeal.main_arg1)
          ∧ r.2.mem ((c.tc : Thread Cert.OutYIdeal.nD Cert.OutYIdeal.τ).loc Cert.OutYIdeal.main_arg2) = m ((c.tc : Thread Cert.OutYIdeal.nD Cert.OutYIdeal.τ).loc Cert.OutYIdeal.main_arg2))
      ∧ θ_run (Cert.OutYRefIdeal.defs (F := Ideal)) (onTc (τ := Cert.OutYRefIdeal.τ) (Cert.OutYRefIdeal.main (F := Ideal))) ⟨m', fun _ => 0, g'⟩ (fun r => ∀ c : Dev Cert.OutYRefIdeal.nD,
          r.2.mem ((c.tc : Thread Cert.OutYRefIdeal.nD Cert.OutYRefIdeal.τ).loc Cert.OutYRefIdeal.main_v1) = v0 c
          ∧ r.2.mem ((c.tc : Thread Cert.OutYRefIdeal.nD Cert.OutYRefIdeal.τ).loc Cert.OutYRefIdeal.main_arg0) = m' ((c.tc : Thread Cert.OutYRefIdeal.nD Cert.OutYRefIdeal.τ).loc Cert.OutYRefIdeal.main_arg0)
          ∧ r.2.mem ((c.tc : Thread Cert.OutYRefIdeal.nD Cert.OutYRefIdeal.τ).loc Cert.OutYRefIdeal.main_arg1) = m' ((c.tc : Thread Cert.OutYRefIdeal.nD Cert.OutYRefIdeal.τ).loc Cert.OutYRefIdeal.main_arg1)
          ∧ r.2.mem ((c.tc : Thread Cert.OutYRefIdeal.nD Cert.OutYRefIdeal.τ).loc Cert.OutYRefIdeal.main_arg2) = m' ((c.tc : Thread Cert.OutYRefIdeal.nD Cert.OutYRefIdeal.τ).loc Cert.OutYRefIdeal.main_arg2))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)
      ∧ m' ((c.tc : Thread Cert.InXRefIdeal.nD Cert.InXRefIdeal.τ).loc Cert.InXRefIdeal.main_arg2) = m ((c.tc : Thread Cert.InXIdeal.nD Cert.InXIdeal.τ).loc Cert.InXIdeal.main_arg2)
      ∧ m' ((c.tc : Thread Cert.InXRefIdeal.nD Cert.InXRefIdeal.τ).loc Cert.InXRefIdeal.main_arg3) = m ((c.tc : Thread Cert.InXIdeal.nD Cert.InXIdeal.τ).loc Cert.InXIdeal.main_arg3)) →
    ∃ (v0 : (c : Dev Cert.InXIdeal.nD) → Buf (Elt Ideal) ((c.tc : Thread Cert.InXIdeal.nD Cert.InXIdeal.τ).loc Cert.InXIdeal.main_v12)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v12) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
          ∧ r.2.mem ((c.tc : Thread Cert.InXIdeal.nD Cert.InXIdeal.τ).loc Cert.InXIdeal.main_arg3) = m ((c.tc : Thread Cert.InXIdeal.nD Cert.InXIdeal.τ).loc Cert.InXIdeal.main_arg3))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v6) = v0 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1)
          ∧ r.2.mem ((c.tc : Thread Cert.InXRefIdeal.nD Cert.InXRefIdeal.τ).loc Cert.InXRefIdeal.main_arg2) = m' ((c.tc : Thread Cert.InXRefIdeal.nD Cert.InXRefIdeal.τ).loc Cert.InXRefIdeal.main_arg2)
          ∧ r.2.mem ((c.tc : Thread Cert.InXRefIdeal.nD Cert.InXRefIdeal.τ).loc Cert.InXRefIdeal.main_arg3) = m' ((c.tc : Thread Cert.InXRefIdeal.nD Cert.InXRefIdeal.τ).loc Cert.InXRefIdeal.main_arg3))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)
      ∧ m' ((c.tc : Thread Cert.InWRefIdeal.nD Cert.InWRefIdeal.τ).loc Cert.InWRefIdeal.main_arg2) = m ((c.tc : Thread Cert.InWIdeal.nD Cert.InWIdeal.τ).loc Cert.InWIdeal.main_arg2)) →
    ∃ (v0 : (c : Dev Cert.InWIdeal.nD) → Buf (Elt Ideal) ((c.tc : Thread Cert.InWIdeal.nD Cert.InWIdeal.τ).loc Cert.InWIdeal.main_v7)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v7) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
          ∧ r.2.mem ((c.tc : Thread Cert.InWIdeal.nD Cert.InWIdeal.τ).loc Cert.InWIdeal.main_arg2) = m ((c.tc : Thread Cert.InWIdeal.nD Cert.InWIdeal.τ).loc Cert.InWIdeal.main_arg2))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v7) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1)
          ∧ r.2.mem ((c.tc : Thread Cert.InWRefIdeal.nD Cert.InWRefIdeal.τ).loc Cert.InWRefIdeal.main_arg2) = m' ((c.tc : Thread Cert.InWRefIdeal.nD Cert.InWRefIdeal.τ).loc Cert.InWRefIdeal.main_arg2))

def preserves_ProjFwd_ProjFwdIdeal : Prop :=
  True

def algebraic_ProjFwdIdeal_ProjFwdRefIdeal [hProjFwdIdeal : Cert.ProjFwdIdeal.Facts] [hProjFwdRefIdeal : Cert.ProjFwdRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdRefIdeal.nD Cert.ProjFwdRefIdeal.τ Cert.ProjFwdRefIdeal.sig) → Buf (Elt Ideal) ℓ) (g' : Dev Cert.ProjFwdRefIdeal.nD → PrngReg), Pre_ProjFwdIdeal m →
    (∀ c : Dev Cert.ProjFwdIdeal.nD,
      m' ((c.tc : Thread Cert.ProjFwdRefIdeal.nD Cert.ProjFwdRefIdeal.τ).loc Cert.ProjFwdRefIdeal.main_arg0) = m ((c.tc : Thread Cert.ProjFwdIdeal.nD Cert.ProjFwdIdeal.τ).loc Cert.ProjFwdIdeal.main_arg0)
      ∧ m' ((c.tc : Thread Cert.ProjFwdRefIdeal.nD Cert.ProjFwdRefIdeal.τ).loc Cert.ProjFwdRefIdeal.main_arg1) = m ((c.tc : Thread Cert.ProjFwdIdeal.nD Cert.ProjFwdIdeal.τ).loc Cert.ProjFwdIdeal.main_arg1)) →
    ∃ (v0 : (c : Dev Cert.ProjFwdIdeal.nD) → Buf (Elt Ideal) ((c.tc : Thread Cert.ProjFwdIdeal.nD Cert.ProjFwdIdeal.τ).loc Cert.ProjFwdIdeal.main_v7)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v7) = v0 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1))
      ∧ θ_run (Cert.ProjFwdRefIdeal.defs (F := Ideal)) (onTc (τ := Cert.ProjFwdRefIdeal.τ) (Cert.ProjFwdRefIdeal.main (F := Ideal))) ⟨m', fun _ => 0, g'⟩ (fun r => ∀ c : Dev Cert.ProjFwdRefIdeal.nD,
          r.2.mem ((c.tc : Thread Cert.ProjFwdRefIdeal.nD Cert.ProjFwdRefIdeal.τ).loc Cert.ProjFwdRefIdeal.main_v5) = v0 c
          ∧ r.2.mem ((c.tc : Thread Cert.ProjFwdRefIdeal.nD Cert.ProjFwdRefIdeal.τ).loc Cert.ProjFwdRefIdeal.main_arg0) = m' ((c.tc : Thread Cert.ProjFwdRefIdeal.nD Cert.ProjFwdRefIdeal.τ).loc Cert.ProjFwdRefIdeal.main_arg0)
          ∧ r.2.mem ((c.tc : Thread Cert.ProjFwdRefIdeal.nD Cert.ProjFwdRefIdeal.τ).loc Cert.ProjFwdRefIdeal.main_arg1) = m' ((c.tc : Thread Cert.ProjFwdRefIdeal.nD Cert.ProjFwdRefIdeal.τ).loc Cert.ProjFwdRefIdeal.main_arg1))

def preserves_FfUp_FfUpIdeal : Prop :=
  True

def algebraic_FfUpIdeal_FfUpRefIdeal [hFfUpIdeal : Cert.FfUpIdeal.Facts] [hFfUpRefIdeal : Cert.FfUpRefIdeal.Facts] : Prop :=
  ∀ (m : (ℓ : Loc Cert.FfUpIdeal.nD Cert.FfUpIdeal.τ Cert.FfUpIdeal.sig) → Buf (Elt Ideal) ℓ) (g : Dev Cert.FfUpIdeal.nD → PrngReg)
    (m' : (ℓ : Loc Cert.FfUpRefIdeal.nD Cert.FfUpRefIdeal.τ Cert.FfUpRefIdeal.sig) → Buf (Elt Ideal) ℓ) (g' : Dev Cert.FfUpRefIdeal.nD → PrngReg), Pre_FfUpIdeal m →
    (∀ c : Dev Cert.FfUpIdeal.nD,
      m' ((c.tc : Thread Cert.FfUpRefIdeal.nD Cert.FfUpRefIdeal.τ).loc Cert.FfUpRefIdeal.main_arg0) = m ((c.tc : Thread Cert.FfUpIdeal.nD Cert.FfUpIdeal.τ).loc Cert.FfUpIdeal.main_arg0)
      ∧ m' ((c.tc : Thread Cert.FfUpRefIdeal.nD Cert.FfUpRefIdeal.τ).loc Cert.FfUpRefIdeal.main_arg1) = m ((c.tc : Thread Cert.FfUpIdeal.nD Cert.FfUpIdeal.τ).loc Cert.FfUpIdeal.main_arg1)
      ∧ m' ((c.tc : Thread Cert.FfUpRefIdeal.nD Cert.FfUpRefIdeal.τ).loc Cert.FfUpRefIdeal.main_arg2) = m ((c.tc : Thread Cert.FfUpIdeal.nD Cert.FfUpIdeal.τ).loc Cert.FfUpIdeal.main_arg2)
      ∧ m' ((c.tc : Thread Cert.FfUpRefIdeal.nD Cert.FfUpRefIdeal.τ).loc Cert.FfUpRefIdeal.main_arg3) = m ((c.tc : Thread Cert.FfUpIdeal.nD Cert.FfUpIdeal.τ).loc Cert.FfUpIdeal.main_arg3)) →
    ∃ (v0 : (c : Dev Cert.FfUpIdeal.nD) → Buf (Elt Ideal) ((c.tc : Thread Cert.FfUpIdeal.nD Cert.FfUpIdeal.τ).loc Cert.FfUpIdeal.main_v4_0)) (v1 : (c : Dev Cert.FfUpIdeal.nD) → Buf (Elt Ideal) ((c.tc : Thread Cert.FfUpIdeal.nD Cert.FfUpIdeal.τ).loc Cert.FfUpIdeal.main_v4_1)),
      θ_run (Cert.FfUpIdeal.defs (F := Ideal)) (onTc (τ := Cert.FfUpIdeal.τ) (Cert.FfUpIdeal.main (F := Ideal))) ⟨m, fun _ => 0, g⟩ (fun r => ∀ c : Dev Cert.FfUpIdeal.nD,
          r.2.mem ((c.tc : Thread Cert.FfUpIdeal.nD Cert.FfUpIdeal.τ).loc Cert.FfUpIdeal.main_v4_0) = v0 c
          ∧ r.2.mem ((c.tc : Thread Cert.FfUpIdeal.nD Cert.FfUpIdeal.τ).loc Cert.FfUpIdeal.main_v4_1) = v1 c
          ∧ r.2.mem ((c.tc : Thread Cert.FfUpIdeal.nD Cert.FfUpIdeal.τ).loc Cert.FfUpIdeal.main_arg0) = m ((c.tc : Thread Cert.FfUpIdeal.nD Cert.FfUpIdeal.τ).loc Cert.FfUpIdeal.main_arg0)
          ∧ r.2.mem ((c.tc : Thread Cert.FfUpIdeal.nD Cert.FfUpIdeal.τ).loc Cert.FfUpIdeal.main_arg1) = m ((c.tc : Thread Cert.FfUpIdeal.nD Cert.FfUpIdeal.τ).loc Cert.FfUpIdeal.main_arg1)
          ∧ r.2.mem ((c.tc : Thread Cert.FfUpIdeal.nD Cert.FfUpIdeal.τ).loc Cert.FfUpIdeal.main_arg2) = m ((c.tc : Thread Cert.FfUpIdeal.nD Cert.FfUpIdeal.τ).loc Cert.FfUpIdeal.main_arg2)
          ∧ r.2.mem ((c.tc : Thread Cert.FfUpIdeal.nD Cert.FfUpIdeal.τ).loc Cert.FfUpIdeal.main_arg3) = m ((c.tc : Thread Cert.FfUpIdeal.nD Cert.FfUpIdeal.τ).loc Cert.FfUpIdeal.main_arg3))
      ∧ θ_run (Cert.FfUpRefIdeal.defs (F := Ideal)) (onTc (τ := Cert.FfUpRefIdeal.τ) (Cert.FfUpRefIdeal.main (F := Ideal))) ⟨m', fun _ => 0, g'⟩ (fun r => ∀ c : Dev Cert.FfUpRefIdeal.nD,
          r.2.mem ((c.tc : Thread Cert.FfUpRefIdeal.nD Cert.FfUpRefIdeal.τ).loc Cert.FfUpRefIdeal.main_v5) = v0 c
          ∧ r.2.mem ((c.tc : Thread Cert.FfUpRefIdeal.nD Cert.FfUpRefIdeal.τ).loc Cert.FfUpRefIdeal.main_v9) = v1 c
          ∧ r.2.mem ((c.tc : Thread Cert.FfUpRefIdeal.nD Cert.FfUpRefIdeal.τ).loc Cert.FfUpRefIdeal.main_arg0) = m' ((c.tc : Thread Cert.FfUpRefIdeal.nD Cert.FfUpRefIdeal.τ).loc Cert.FfUpRefIdeal.main_arg0)
          ∧ r.2.mem ((c.tc : Thread Cert.FfUpRefIdeal.nD Cert.FfUpRefIdeal.τ).loc Cert.FfUpRefIdeal.main_arg1) = m' ((c.tc : Thread Cert.FfUpRefIdeal.nD Cert.FfUpRefIdeal.τ).loc Cert.FfUpRefIdeal.main_arg1)
          ∧ r.2.mem ((c.tc : Thread Cert.FfUpRefIdeal.nD Cert.FfUpRefIdeal.τ).loc Cert.FfUpRefIdeal.main_arg2) = m' ((c.tc : Thread Cert.FfUpRefIdeal.nD Cert.FfUpRefIdeal.τ).loc Cert.FfUpRefIdeal.main_arg2)
          ∧ r.2.mem ((c.tc : Thread Cert.FfUpRefIdeal.nD Cert.FfUpRefIdeal.τ).loc Cert.FfUpRefIdeal.main_arg3) = m' ((c.tc : Thread Cert.FfUpRefIdeal.nD Cert.FfUpRefIdeal.τ).loc Cert.FfUpRefIdeal.main_arg3))

def preserves_MixLn_MixLnIdeal : Prop :=
  True

def algebraic_MixLnIdeal_MixLnRefIdeal [hMixLnIdeal : Cert.MixLnIdeal.Facts] [hMixLnRefIdeal : Cert.MixLnRefIdeal.Facts] : Prop :=
  ∀ (m : (ℓ : Loc Cert.MixLnIdeal.nD Cert.MixLnIdeal.τ Cert.MixLnIdeal.sig) → Buf (Elt Ideal) ℓ) (g : Dev Cert.MixLnIdeal.nD → PrngReg)
    (m' : (ℓ : Loc Cert.MixLnRefIdeal.nD Cert.MixLnRefIdeal.τ Cert.MixLnRefIdeal.sig) → Buf (Elt Ideal) ℓ) (g' : Dev Cert.MixLnRefIdeal.nD → PrngReg), Pre_MixLnIdeal m →
    (∀ c : Dev Cert.MixLnIdeal.nD,
      m' ((c.tc : Thread Cert.MixLnRefIdeal.nD Cert.MixLnRefIdeal.τ).loc Cert.MixLnRefIdeal.main_arg0) = m ((c.tc : Thread Cert.MixLnIdeal.nD Cert.MixLnIdeal.τ).loc Cert.MixLnIdeal.main_arg0)
      ∧ m' ((c.tc : Thread Cert.MixLnRefIdeal.nD Cert.MixLnRefIdeal.τ).loc Cert.MixLnRefIdeal.main_arg1) = m ((c.tc : Thread Cert.MixLnIdeal.nD Cert.MixLnIdeal.τ).loc Cert.MixLnIdeal.main_arg1)
      ∧ m' ((c.tc : Thread Cert.MixLnRefIdeal.nD Cert.MixLnRefIdeal.τ).loc Cert.MixLnRefIdeal.main_arg2) = m ((c.tc : Thread Cert.MixLnIdeal.nD Cert.MixLnIdeal.τ).loc Cert.MixLnIdeal.main_arg2)
      ∧ m' ((c.tc : Thread Cert.MixLnRefIdeal.nD Cert.MixLnRefIdeal.τ).loc Cert.MixLnRefIdeal.main_arg3) = m ((c.tc : Thread Cert.MixLnIdeal.nD Cert.MixLnIdeal.τ).loc Cert.MixLnIdeal.main_arg3)
      ∧ m' ((c.tc : Thread Cert.MixLnRefIdeal.nD Cert.MixLnRefIdeal.τ).loc Cert.MixLnRefIdeal.main_arg4) = m ((c.tc : Thread Cert.MixLnIdeal.nD Cert.MixLnIdeal.τ).loc Cert.MixLnIdeal.main_arg4)) →
    ∃ (v0 : (c : Dev Cert.MixLnIdeal.nD) → Buf (Elt Ideal) ((c.tc : Thread Cert.MixLnIdeal.nD Cert.MixLnIdeal.τ).loc Cert.MixLnIdeal.main_v2_0)) (v1 : (c : Dev Cert.MixLnIdeal.nD) → Buf (Elt Ideal) ((c.tc : Thread Cert.MixLnIdeal.nD Cert.MixLnIdeal.τ).loc Cert.MixLnIdeal.main_v2_1)) (v2 : (c : Dev Cert.MixLnIdeal.nD) → Buf (Elt Ideal) ((c.tc : Thread Cert.MixLnIdeal.nD Cert.MixLnIdeal.τ).loc Cert.MixLnIdeal.main_v2_2)),
      θ_run (Cert.MixLnIdeal.defs (F := Ideal)) (onTc (τ := Cert.MixLnIdeal.τ) (Cert.MixLnIdeal.main (F := Ideal))) ⟨m, fun _ => 0, g⟩ (fun r => ∀ c : Dev Cert.MixLnIdeal.nD,
          r.2.mem ((c.tc : Thread Cert.MixLnIdeal.nD Cert.MixLnIdeal.τ).loc Cert.MixLnIdeal.main_v2_0) = v0 c
          ∧ r.2.mem ((c.tc : Thread Cert.MixLnIdeal.nD Cert.MixLnIdeal.τ).loc Cert.MixLnIdeal.main_v2_1) = v1 c
          ∧ r.2.mem ((c.tc : Thread Cert.MixLnIdeal.nD Cert.MixLnIdeal.τ).loc Cert.MixLnIdeal.main_v2_2) = v2 c
          ∧ r.2.mem ((c.tc : Thread Cert.MixLnIdeal.nD Cert.MixLnIdeal.τ).loc Cert.MixLnIdeal.main_arg0) = m ((c.tc : Thread Cert.MixLnIdeal.nD Cert.MixLnIdeal.τ).loc Cert.MixLnIdeal.main_arg0)
          ∧ r.2.mem ((c.tc : Thread Cert.MixLnIdeal.nD Cert.MixLnIdeal.τ).loc Cert.MixLnIdeal.main_arg1) = m ((c.tc : Thread Cert.MixLnIdeal.nD Cert.MixLnIdeal.τ).loc Cert.MixLnIdeal.main_arg1)
          ∧ r.2.mem ((c.tc : Thread Cert.MixLnIdeal.nD Cert.MixLnIdeal.τ).loc Cert.MixLnIdeal.main_arg2) = m ((c.tc : Thread Cert.MixLnIdeal.nD Cert.MixLnIdeal.τ).loc Cert.MixLnIdeal.main_arg2)
          ∧ r.2.mem ((c.tc : Thread Cert.MixLnIdeal.nD Cert.MixLnIdeal.τ).loc Cert.MixLnIdeal.main_arg3) = m ((c.tc : Thread Cert.MixLnIdeal.nD Cert.MixLnIdeal.τ).loc Cert.MixLnIdeal.main_arg3)
          ∧ r.2.mem ((c.tc : Thread Cert.MixLnIdeal.nD Cert.MixLnIdeal.τ).loc Cert.MixLnIdeal.main_arg4) = m ((c.tc : Thread Cert.MixLnIdeal.nD Cert.MixLnIdeal.τ).loc Cert.MixLnIdeal.main_arg4))
      ∧ θ_run (Cert.MixLnRefIdeal.defs (F := Ideal)) (onTc (τ := Cert.MixLnRefIdeal.τ) (Cert.MixLnRefIdeal.main (F := Ideal))) ⟨m', fun _ => 0, g'⟩ (fun r => ∀ c : Dev Cert.MixLnRefIdeal.nD,
          r.2.mem ((c.tc : Thread Cert.MixLnRefIdeal.nD Cert.MixLnRefIdeal.τ).loc Cert.MixLnRefIdeal.main_v21) = v0 c
          ∧ r.2.mem ((c.tc : Thread Cert.MixLnRefIdeal.nD Cert.MixLnRefIdeal.τ).loc Cert.MixLnRefIdeal.main_v26) = v1 c
          ∧ r.2.mem ((c.tc : Thread Cert.MixLnRefIdeal.nD Cert.MixLnRefIdeal.τ).loc Cert.MixLnRefIdeal.main_v17) = v2 c
          ∧ r.2.mem ((c.tc : Thread Cert.MixLnRefIdeal.nD Cert.MixLnRefIdeal.τ).loc Cert.MixLnRefIdeal.main_arg0) = m' ((c.tc : Thread Cert.MixLnRefIdeal.nD Cert.MixLnRefIdeal.τ).loc Cert.MixLnRefIdeal.main_arg0)
          ∧ r.2.mem ((c.tc : Thread Cert.MixLnRefIdeal.nD Cert.MixLnRefIdeal.τ).loc Cert.MixLnRefIdeal.main_arg1) = m' ((c.tc : Thread Cert.MixLnRefIdeal.nD Cert.MixLnRefIdeal.τ).loc Cert.MixLnRefIdeal.main_arg1)
          ∧ r.2.mem ((c.tc : Thread Cert.MixLnRefIdeal.nD Cert.MixLnRefIdeal.τ).loc Cert.MixLnRefIdeal.main_arg2) = m' ((c.tc : Thread Cert.MixLnRefIdeal.nD Cert.MixLnRefIdeal.τ).loc Cert.MixLnRefIdeal.main_arg2)
          ∧ r.2.mem ((c.tc : Thread Cert.MixLnRefIdeal.nD Cert.MixLnRefIdeal.τ).loc Cert.MixLnRefIdeal.main_arg3) = m' ((c.tc : Thread Cert.MixLnRefIdeal.nD Cert.MixLnRefIdeal.τ).loc Cert.MixLnRefIdeal.main_arg3)
          ∧ r.2.mem ((c.tc : Thread Cert.MixLnRefIdeal.nD Cert.MixLnRefIdeal.τ).loc Cert.MixLnRefIdeal.main_arg4) = m' ((c.tc : Thread Cert.MixLnRefIdeal.nD Cert.MixLnRefIdeal.τ).loc Cert.MixLnRefIdeal.main_arg4))

def Claim : Prop :=
  ∃ (hKernel : Cert.Kernel.Facts) (hKernelIdeal : Cert.KernelIdeal.Facts) (hReferenceIdeal : Cert.ReferenceIdeal.Facts) (hMlpBwd : Cert.MlpBwd.Facts) (hMlpBwdIdeal : Cert.MlpBwdIdeal.Facts) (hMlpBwdRefIdeal : Cert.MlpBwdRefIdeal.Facts) (hDownW : Cert.DownW.Facts) (hDownWIdeal : Cert.DownWIdeal.Facts) (hDownWRefIdeal : Cert.DownWRefIdeal.Facts) (hUpW : Cert.UpW.Facts) (hUpWIdeal : Cert.UpWIdeal.Facts) (hUpWRefIdeal : Cert.UpWRefIdeal.Facts) (hOutW : Cert.OutW.Facts) (hOutWIdeal : Cert.OutWIdeal.Facts) (hOutWRefIdeal : Cert.OutWRefIdeal.Facts) (hOutY : Cert.OutY.Facts) (hOutYIdeal : Cert.OutYIdeal.Facts) (hOutYRefIdeal : Cert.OutYRefIdeal.Facts) (hInX : Cert.InX.Facts) (hInXIdeal : Cert.InXIdeal.Facts) (hInXRefIdeal : Cert.InXRefIdeal.Facts) (hInW : Cert.InW.Facts) (hInWIdeal : Cert.InWIdeal.Facts) (hInWRefIdeal : Cert.InWRefIdeal.Facts) (hProjFwd : Cert.ProjFwd.Facts) (hProjFwdIdeal : Cert.ProjFwdIdeal.Facts) (hProjFwdRefIdeal : Cert.ProjFwdRefIdeal.Facts) (hFfUp : Cert.FfUp.Facts) (hFfUpIdeal : Cert.FfUpIdeal.Facts) (hFfUpRefIdeal : Cert.FfUpRefIdeal.Facts) (hMixLn : Cert.MixLn.Facts) (hMixLnIdeal : Cert.MixLnIdeal.Facts) (hMixLnRefIdeal : Cert.MixLnRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MlpBwd (hMlpBwd := hMlpBwd)
    ∧ quiescent_MlpBwdIdeal (hMlpBwdIdeal := hMlpBwdIdeal)
    ∧ quiescent_MlpBwdRefIdeal (hMlpBwdRefIdeal := hMlpBwdRefIdeal)
    ∧ quiescent_DownW (hDownW := hDownW)
    ∧ quiescent_DownWIdeal (hDownWIdeal := hDownWIdeal)
    ∧ quiescent_DownWRefIdeal (hDownWRefIdeal := hDownWRefIdeal)
    ∧ quiescent_UpW (hUpW := hUpW)
    ∧ quiescent_UpWIdeal (hUpWIdeal := hUpWIdeal)
    ∧ quiescent_UpWRefIdeal (hUpWRefIdeal := hUpWRefIdeal)
    ∧ quiescent_OutW (hOutW := hOutW)
    ∧ quiescent_OutWIdeal (hOutWIdeal := hOutWIdeal)
    ∧ quiescent_OutWRefIdeal (hOutWRefIdeal := hOutWRefIdeal)
    ∧ quiescent_OutY (hOutY := hOutY)
    ∧ quiescent_OutYIdeal (hOutYIdeal := hOutYIdeal)
    ∧ quiescent_OutYRefIdeal (hOutYRefIdeal := hOutYRefIdeal)
    ∧ quiescent_InX (hInX := hInX)
    ∧ quiescent_InXIdeal (hInXIdeal := hInXIdeal)
    ∧ quiescent_InXRefIdeal (hInXRefIdeal := hInXRefIdeal)
    ∧ quiescent_InW (hInW := hInW)
    ∧ quiescent_InWIdeal (hInWIdeal := hInWIdeal)
    ∧ quiescent_InWRefIdeal (hInWRefIdeal := hInWRefIdeal)
    ∧ quiescent_ProjFwd (hProjFwd := hProjFwd)
    ∧ quiescent_ProjFwdIdeal (hProjFwdIdeal := hProjFwdIdeal)
    ∧ quiescent_ProjFwdRefIdeal (hProjFwdRefIdeal := hProjFwdRefIdeal)
    ∧ quiescent_FfUp (hFfUp := hFfUp)
    ∧ quiescent_FfUpIdeal (hFfUpIdeal := hFfUpIdeal)
    ∧ quiescent_FfUpRefIdeal (hFfUpRefIdeal := hFfUpRefIdeal)
    ∧ quiescent_MixLn (hMixLn := hMixLn)
    ∧ quiescent_MixLnIdeal (hMixLnIdeal := hMixLnIdeal)
    ∧ quiescent_MixLnRefIdeal (hMixLnRefIdeal := hMixLnRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MlpBwd_MlpBwdIdeal
    ∧ algebraic_MlpBwdIdeal_MlpBwdRefIdeal (hMlpBwdIdeal := hMlpBwdIdeal) (hMlpBwdRefIdeal := hMlpBwdRefIdeal)
    ∧ preserves_DownW_DownWIdeal
    ∧ algebraic_DownWIdeal_DownWRefIdeal (hDownWIdeal := hDownWIdeal) (hDownWRefIdeal := hDownWRefIdeal)
    ∧ preserves_UpW_UpWIdeal
    ∧ algebraic_UpWIdeal_UpWRefIdeal (hUpWIdeal := hUpWIdeal) (hUpWRefIdeal := hUpWRefIdeal)
    ∧ preserves_OutW_OutWIdeal
    ∧ algebraic_OutWIdeal_OutWRefIdeal (hOutWIdeal := hOutWIdeal) (hOutWRefIdeal := hOutWRefIdeal)
    ∧ preserves_OutY_OutYIdeal
    ∧ algebraic_OutYIdeal_OutYRefIdeal (hOutYIdeal := hOutYIdeal) (hOutYRefIdeal := hOutYRefIdeal)
    ∧ preserves_InX_InXIdeal
    ∧ algebraic_InXIdeal_InXRefIdeal (hInXIdeal := hInXIdeal) (hInXRefIdeal := hInXRefIdeal)
    ∧ preserves_InW_InWIdeal
    ∧ algebraic_InWIdeal_InWRefIdeal (hInWIdeal := hInWIdeal) (hInWRefIdeal := hInWRefIdeal)
    ∧ preserves_ProjFwd_ProjFwdIdeal
    ∧ algebraic_ProjFwdIdeal_ProjFwdRefIdeal (hProjFwdIdeal := hProjFwdIdeal) (hProjFwdRefIdeal := hProjFwdRefIdeal)
    ∧ preserves_FfUp_FfUpIdeal
    ∧ algebraic_FfUpIdeal_FfUpRefIdeal (hFfUpIdeal := hFfUpIdeal) (hFfUpRefIdeal := hFfUpRefIdeal)
    ∧ preserves_MixLn_MixLnIdeal
    ∧ algebraic_MixLnIdeal_MixLnRefIdeal (hMixLnIdeal := hMixLnIdeal) (hMixLnRefIdeal := hMixLnRefIdeal)
-- ==== Pre_finite.lean ====
abbrev S4096x512 : Shape := ⟨2, ![4096, 512]⟩
abbrev S4096x1024 : Shape := ⟨2, ![4096, 1024]⟩
abbrev S4096x16 : Shape := ⟨2, ![4096, 16]⟩
abbrev S16x512 : Shape := ⟨2, ![16, 512]⟩
abbrev S512 : Shape := ⟨1, ![512]⟩
abbrev S1024 : Shape := ⟨1, ![1024]⟩
abbrev S4096x2048 : Shape := ⟨2, ![4096, 2048]⟩
abbrev S4096x6400 : Shape := ⟨2, ![4096, 6400]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096x16 : S_.BroadcastsInDim S4096x16 (![] : Fin 0 → Fin S4096x16.rank)
  reducesTo_S4096x16_S_d0_1 : S4096x16.ReducesTo [0, 1] S_
  bcast_S_S16x512 : S_.BroadcastsInDim S16x512 (![] : Fin 0 → Fin S16x512.rank)
  reducesTo_S16x512_S_d0_1 : S16x512.ReducesTo [0, 1] S_
  bcast_S_S512 : S_.BroadcastsInDim S512 (![] : Fin 0 → Fin S512.rank)
  reducesTo_S512_S_d0 : S512.ReducesTo [0] S_
  bcast_S_S1024 : S_.BroadcastsInDim S1024 (![] : Fin 0 → Fin S1024.rank)
  reducesTo_S1024_S_d0 : S1024.ReducesTo [0] S_
  bcast_S_S4096x2048 : S_.BroadcastsInDim S4096x2048 (![] : Fin 0 → Fin S4096x2048.rank)
  reducesTo_S4096x2048_S_d0_1 : S4096x2048.ReducesTo [0, 1] S_

variable [Facts]

def fn_part2 {F : FTy → Type} [FloatOps F] (main_arg7 : FVec F S1024 .f32) (main_arg8 : FVec F S4096x2048 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S4096x2048 .f32 := Host.absf main_arg8
  let main_cst_14 : FVec F S_ .f32 := constant S_ .f32 0x7F800000#32
  let main_v40 : FVec F S4096x2048 .f32 := broadcastInDim S4096x2048 ![] bcast_S_S4096x2048 main_cst_14
  let main_v41 : IVec S4096x2048 1 := cmpf .olt main_v39 main_v40
  let main_c_15 : IVec S_ 1 := constantI S_ 1 1#1
  let main_v42 : IVec S_ 1 := (fun x v => Host.reduce IntOp.andi x v reducesTo_S4096x2048_S_d0_1 h_S_) main_v41 main_c_15
  let main_v43 : IVec S_ 1 := andi main_v38 main_v42
  main_v43

def fn_part1 {F : FTy → Type} [FloatOps F] (main_arg4 : FVec F S4096x16 .f32) (main_arg5 : FVec F S16x512 .f32) (main_arg6 : FVec F S512 .f32) (main_arg7 : FVec F S1024 .f32) (main_arg8 : FVec F S4096x2048 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  let main_v24 : FVec F S16x512 .f32 := Host.absf main_arg5
  let main_cst_8 : FVec F S_ .f32 := constant S_ .f32 0x7F800000#32
  let main_v25 : FVec F S16x512 .f32 := broadcastInDim S16x512 ![] bcast_S_S16x512 main_cst_8
  let main_v26 : IVec S16x512 1 := cmpf .olt main_v24 main_v25
  let main_c_9 : IVec S_ 1 := constantI S_ 1 1#1
  let main_v27 : IVec S_ 1 := (fun x v => Host.reduce IntOp.andi x v reducesTo_S16x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S4096x512 .f32) (main_arg1 : FVec F S4096x512 .f32) (main_arg2 : FVec F S4096x1024 .f32) (main_arg3 : FVec F S4096x1024 .f32) (main_arg4 : FVec F S4096x16 .f32) (main_arg5 : FVec F S16x512 .f32) (main_arg6 : FVec F S512 .f32) (main_arg7 : FVec F S1024 .f32) (main_arg8 : FVec F S4096x2048 .f32) (main_arg9 : FVec F S4096x6400 .bf16) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_v13 main_v16
-- ==== Kernel.lean ====
abbrev S4096x512 : Shape := ⟨2, ![4096, 512]⟩
abbrev S4096x1024 : Shape := ⟨2, ![4096, 1024]⟩
abbrev S4096x16 : Shape := ⟨2, ![4096, 16]⟩
abbrev S16x512 : Shape := ⟨2, ![16, 512]⟩
abbrev S512 : Shape := ⟨1, ![512]⟩
abbrev S1024 : Shape := ⟨1, ![1024]⟩
abbrev S4096x2048 : Shape := ⟨2, ![4096, 2048]⟩
abbrev S4096x6400 : Shape := ⟨2, ![4096, 6400]⟩
abbrev S1x512 : Shape := ⟨2, ![1, 512]⟩
abbrev S_ : Shape := ⟨0, ![]⟩
abbrev S64x64x4x128 : Shape := ⟨4, ![64, 64, 4, 128]⟩
abbrev S4x64x64x128 : Shape := ⟨4, ![4, 64, 64, 128]⟩
abbrev S64x64x4x256 : Shape := ⟨4, ![64, 64, 4, 256]⟩
abbrev S4x64x64x256 : Shape := ⟨4, ![4, 64, 64, 256]⟩
abbrev S4x64x1x128 : Shape := ⟨4, ![4, 64, 1, 128]⟩
abbrev S64x64 : Shape := ⟨2, ![64, 64]⟩
abbrev S4x64x64x64 : Shape := ⟨4, ![4, 64, 64, 64]⟩
abbrev S4x64x128x256 : Shape := ⟨4, ![4, 64, 128, 256]⟩
abbrev S4x64x128 : Shape := ⟨3, ![4, 64, 128]⟩
abbrev S64x64x1 : Shape := ⟨3, ![64, 64, 1]⟩
abbrev S4x1x64x128 : Shape := ⟨4, ![4, 1, 64, 128]⟩
abbrev S4x128x256x64 : Shape := ⟨4, ![4, 128, 256, 64]⟩
abbrev S64x4x256x128 : Shape := ⟨4, ![64, 4, 256, 128]⟩
abbrev S4096x3200 : Shape := ⟨2, ![4096, 3200]⟩
abbrev S4096x112 : Shape := ⟨2, ![4096, 112]⟩
abbrev S128x512 : Shape := ⟨2, ![128, 512]⟩
abbrev S1x1024 : Shape := ⟨2, ![1, 1024]⟩
abbrev S512x3200 : Shape := ⟨2, ![512, 3200]⟩
abbrev S512x1024 : Shape := ⟨2, ![512, 1024]⟩
abbrev S8x4x256x128 : Shape := ⟨4, ![8, 4, 256, 128]⟩
abbrev S4x256x128 : Shape := ⟨3, ![4, 256, 128]⟩
abbrev S512x128 : Shape := ⟨2, ![512, 128]⟩
abbrev S512x512 : Shape := ⟨2, ![512, 512]⟩
abbrev S64x512 : Shape := ⟨2, ![64, 512]⟩
abbrev S1x256x128 : Shape := ⟨3, ![1, 256, 128]⟩
abbrev S256x128 : Shape := ⟨2, ![256, 128]⟩
abbrev S64x1024 : Shape := ⟨2, ![64, 1024]⟩
abbrev S64x128 : Shape := ⟨2, ![64, 128]⟩
abbrev S1x128 : Shape := ⟨2, ![1, 128]⟩
abbrev S64x256 : Shape := ⟨2, ![64, 256]⟩
abbrev S64 : Shape := ⟨1, ![64]⟩
abbrev S64x1 : Shape := ⟨2, ![64, 1]⟩
abbrev S1x256 : Shape := ⟨2, ![1, 256]⟩
abbrev S256 : Shape := ⟨1, ![256]⟩
abbrev S1x1x256x128 : Shape := ⟨4, ![1, 1, 256, 128]⟩
abbrev S128 : Shape := ⟨1, ![128]⟩

abbrev nBuf : Space → Nat
  | .hbm => 132
  | .vmem => 17
  | .smem => 0
  | _ => 0

abbrev hbmTy0_0 (i : Nat) : BufTy := match i % 128 with
  | 0 => ⟨S4096x512, .f32⟩
  | 1 => ⟨S4096x512, .f32⟩
  | 2 => ⟨S4096x1024, .f32⟩
  | 3 => ⟨S4096x1024, .f32⟩
  | 4 => ⟨S4096x16, .f32⟩
  | 5 => ⟨S16x512, .f32⟩
  | 6 => ⟨S512, .f32⟩
  | 7 => ⟨S1024, .f32⟩
  | 8 => ⟨S4096x2048, .f32⟩
  | 9 => ⟨S4096x6400, .bf16⟩
  | 10 => ⟨S4096x512, .f32⟩
  | 11 => ⟨S1x512, .f32⟩
  | 12 => ⟨S4096x512, .f32⟩
  | 13 => ⟨S4096x512, .f32⟩
  | 14 => ⟨S4096x512, .f32⟩
  | 15 => ⟨S_, .f32⟩
  | 16 => ⟨S4096x512, .f32⟩
  | 17 => ⟨S4096x512, .f32⟩
  | 18 => ⟨S4096x512, .f32⟩
  | 19 => ⟨S4096x512, .f32⟩
  | 20 => ⟨S4096x512, .i1⟩
  | 21 => ⟨S4096x512, .f32⟩
  | 22 => ⟨S4096x512, .f32⟩
  | 23 => ⟨S4096x512, .f32⟩
  | 24 => ⟨S4096x512, .f32⟩
  | 25 => ⟨S4096x512, .f32⟩
  | 26 => ⟨S4096x512, .f32⟩
  | 27 => ⟨S4096x512, .f32⟩
  | 28 => ⟨S4096x512, .f32⟩
  | 29 => ⟨S4096x512, .f32⟩
  | 30 => ⟨S_, .f32⟩
  | 31 => ⟨S4096x512, .f32⟩
  | 32 => ⟨S4096x512, .f32⟩
  | 33 => ⟨S64x64x4x128, .f32⟩
  | 34 => ⟨S4x64x64x128, .f32⟩
  | 35 => ⟨S_, .f32⟩
  | 36 => ⟨S4x64x64x128, .f32⟩
  | 37 => ⟨S4x64x64x128, .f32⟩
  | 38 => ⟨S64x64x4x128, .f32⟩
  | 39 => ⟨S4x64x64x128, .f32⟩
  | 40 => ⟨S64x64x4x256, .f32⟩
  | 41 => ⟨S4x64x64x256, .f32⟩
  | 42 => ⟨S64x64x4x128, .f32⟩
  | 43 => ⟨S4x64x64x128, .f32⟩
  | 44 => ⟨S_, .f32⟩
  | 45 => ⟨S_, .f32⟩
  | 46 => ⟨S4x64x64x128, .f32⟩
  | 47 => ⟨S4x64x1x128, .f32⟩
  | 48 => ⟨S4x64x64x128, .f32⟩
  | 49 => ⟨S4x64x64x128, .f32⟩
  | 50 => ⟨S4x64x64x128, .f32⟩
  | 51 => ⟨S4x64x64x128, .f32⟩
  | 52 => ⟨S4x64x64x128, .f32⟩
  | 53 => ⟨S4x64x64x128, .f32⟩
  | 54 => ⟨S4x64x64x128, .f32⟩
  | 55 => ⟨S4x64x64x128, .f32⟩
  | 56 => ⟨S4x64x64x128, .f32⟩
  | 57 => ⟨S_, .i1⟩
  | 58 => ⟨S64x64, .i1⟩
  | 59 => ⟨S64x64, .i32⟩
  | 60 => ⟨S_, .i32⟩
  | 61 => ⟨S64x64, .i32⟩
  | 62 => ⟨S64x64, .i32⟩
  | 63 => ⟨S64x64, .i32⟩
  | 64 => ⟨S64x64, .i1⟩
  | 65 => ⟨S_, .i1⟩
  | 66 => ⟨S64x64, .i1⟩
  | 67 => ⟨S64x64, .i1⟩
  | 68 => ⟨S4x64x64x64, .f32⟩
  | 69 => ⟨S_, .f32⟩
  | 70 => ⟨S_, .f32⟩
  | 71 => ⟨S4x64x64x64, .i1⟩
  | 72 => ⟨S4x64x64x64, .f32⟩
  | 73 => ⟨S4x64x64x64, .f32⟩
  | 74 => ⟨S4x64x64x256, .f32⟩
  | 75 => ⟨S4x64x128x256, .f32⟩
  | 76 => ⟨S4x64x128, .f32⟩
  | 77 => ⟨S_, .f32⟩
  | 78 => ⟨S_, .f32⟩
  | 79 => ⟨S4x64x128, .f32⟩
  | 80 => ⟨S4x64x128, .f32⟩
  | 81 => ⟨S4x64x128, .f32⟩
  | 82 => ⟨S_, .i1⟩
  | 83 => ⟨S64x64, .i1⟩
  | 84 => ⟨S64x64, .i32⟩
  | 85 => ⟨S_, .i32⟩
  | 86 => ⟨S64x64, .i32⟩
  | 87 => ⟨S64x64, .i32⟩
  | 88 => ⟨S64x64, .i32⟩
  | 89 => ⟨S64x64, .i1⟩
  | 90 => ⟨S_, .i1⟩
  | 91 => ⟨S64x64, .i1⟩
  | 92 => ⟨S64x64, .i1⟩
  | 93 => ⟨S64x64x1, .i1⟩
  | 94 => ⟨S4x64x1x128, .f32⟩
  | 95 => ⟨S4x1x64x128, .f32⟩
  | 96 => ⟨S4x64x64x128, .f32⟩
  | 97 => ⟨S4x64x64x128, .f32⟩
  | 98 => ⟨S4x64x64x128, .f32⟩
  | 99 => ⟨S_, .f32⟩
  | 100 => ⟨S_, .f32⟩
  | 101 => ⟨S4x64x64x128, .i1⟩
  | 102 => ⟨S4x64x64x128, .f32⟩
  | 103 => ⟨S4x64x64x128, .f32⟩
  | 104 => ⟨S4x64x64x128, .f32⟩
  | 105 => ⟨S_, .f32⟩
  | 106 => ⟨S_, .f32⟩
  | 107 => ⟨S4x64x64x128, .i1⟩
  | 108 => ⟨S4x64x64x128, .f32⟩
  | 109 => ⟨S4x64x64x128, .f32⟩
  | 110 => ⟨S4x128x256x64, .f32⟩
  | 111 => ⟨S4x64x128x256, .f32⟩
  | 112 => ⟨S4x64x64x256, .f32⟩
  | 113 => ⟨S4x64x64x256, .f32⟩
  | 114 => ⟨S64x64x4x256, .f32⟩
  | 115 => ⟨S4096x1024, .f32⟩
  | 116 => ⟨S64x4x256x128, .f32⟩
  | 117 => ⟨S_, .f32⟩
  | 118 => ⟨S4096x3200, .f32⟩
  | 119 => ⟨S_, .f32⟩
  | 120 => ⟨S4096x112, .f32⟩
  | 121 => ⟨S4096x6400, .f32⟩
  | 122 => ⟨S_, .i32⟩
  | 123 => ⟨S_, .f32⟩
  | 124 => ⟨S128x512, .f32⟩
  | 125 => ⟨S128x512, .bf16⟩
  | 126 => ⟨S1x512, .f32⟩
  | 127 => ⟨S1x1024, .f32⟩
  | _ => ⟨S4096x512, .f32⟩

abbrev hbmTy0_1 (i : Nat) : BufTy := match i % 128 with
  | 0 => ⟨S4096x6400, .bf16⟩
  | 1 => ⟨S128x512, .f32⟩
  | 2 => ⟨S1x512, .f32⟩
  | 3 => ⟨S1x1024, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | .local _ .vmem, ⟨0, _⟩ => ⟨S512x3200, .f32⟩
  | .local _ .vmem, ⟨1, _⟩ => ⟨S512x3200, .f32⟩
  | .local _ .vmem, ⟨2, _⟩ => ⟨S128x512, .bf16⟩
  | .local _ .vmem, ⟨3, _⟩ => ⟨S1x512, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S8x4x256x128, .f32⟩
  | .local _ .vmem, ⟨8, _⟩ => ⟨S8x4x256x128, .f32⟩
  | .local _ .vmem, ⟨9, _⟩ => ⟨S512x1024, .f32⟩
  | .local _ .vmem, ⟨10, _⟩ => ⟨S512x1024, .f32⟩
  | .local _ .vmem, ⟨11, _⟩ => ⟨S512x3200, .bf16⟩
  | .local _ .vmem, ⟨12, _⟩ => ⟨S512x3200, .bf16⟩
  | .local _ .vmem, ⟨13, _⟩ => ⟨S128x512, .f32⟩
  | .local _ .vmem, ⟨14, _⟩ => ⟨S1x512, .f32⟩
  | .local _ .vmem, ⟨15, _⟩ => ⟨S1x1024, .f32⟩
  | .local _ .vmem, ⟨16, _⟩ => ⟨S4x256x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_call1_call0_cst : Ref sig .tc := ⟨.hbm, 44, rfl⟩
abbrev main_call1_call0_v0 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c : Ref sig .tc := ⟨.hbm, 57, rfl⟩
abbrev main_v28 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_0 : Ref sig .tc := ⟨.hbm, 65, rfl⟩
abbrev main_call2_v5 : Ref sig .tc := ⟨.hbm, 66, rfl⟩
abbrev main_v29 : Ref sig .tc := ⟨.hbm, 67, rfl⟩
abbrev main_v30 : Ref sig .tc := ⟨.hbm, 68, rfl⟩
abbrev main_cst_1 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_call4_call0_cst : Ref sig .tc := ⟨.hbm, 77, rfl⟩
abbrev main_call4_call0_v0 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_c_2 : Ref sig .tc := ⟨.hbm, 82, rfl⟩
abbrev main_v38 : Ref sig .tc := ⟨.hbm, 83, rfl⟩
abbrev main_call5_v0 : Ref sig .tc := ⟨.hbm, 84, rfl⟩
abbrev main_call5_c : Ref sig .tc := ⟨.hbm, 85, rfl⟩
abbrev main_call5_v1 : Ref sig .tc := ⟨.hbm, 86, rfl⟩
abbrev main_call5_v2 : Ref sig .tc := ⟨.hbm, 87, rfl⟩
abbrev main_call5_v3 : Ref sig .tc := ⟨.hbm, 88, rfl⟩
abbrev main_call5_v4 : Ref sig .tc := ⟨.hbm, 89, rfl⟩
abbrev main_call5_c_0 : Ref sig .tc := ⟨.hbm, 90, rfl⟩
abbrev main_call5_v5 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_3 : Ref sig .tc := ⟨.hbm, 99, rfl⟩
abbrev main_call6_v0 : Ref sig .tc := ⟨.hbm, 100, rfl⟩
abbrev main_call6_v1 : Ref sig .tc := ⟨.hbm, 101, rfl⟩
abbrev main_call6_v2 : Ref sig .tc := ⟨.hbm, 102, rfl⟩
abbrev main_v46 : Ref sig .tc := ⟨.hbm, 103, rfl⟩
abbrev main_v47 : Ref sig .tc := ⟨.hbm, 104, rfl⟩
abbrev main_cst_4 : Ref sig .tc := ⟨.hbm, 105, rfl⟩
abbrev main_call7_v0 : Ref sig .tc := ⟨.hbm, 106, rfl⟩
abbrev main_call7_v1 : Ref sig .tc := ⟨.hbm, 107, rfl⟩
abbrev main_call7_v2 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_5 : Ref sig .tc := ⟨.hbm, 117, rfl⟩
abbrev main_v56 : Ref sig .tc := ⟨.hbm, 118, rfl⟩
abbrev main_cst_6 : Ref sig .tc := ⟨.hbm, 119, rfl⟩
abbrev main_v57 : Ref sig .tc := ⟨.hbm, 120, rfl⟩
abbrev main_v58 : Ref sig .tc := ⟨.hbm, 121, rfl⟩
abbrev main_c_7 : Ref sig .tc := ⟨.hbm, 122, rfl⟩
abbrev main_call8_v0 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63_0 : Ref sig .tc := ⟨.hbm, 128, rfl⟩
abbrev main_v63_1 : Ref sig .tc := ⟨.hbm, 129, rfl⟩
abbrev main_v63_2 : Ref sig .tc := ⟨.hbm, 130, rfl⟩
abbrev main_v63_3 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3200 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x512 : Shape := ⟨2, ![4096, 512]⟩
abbrev S4096x1024 : Shape := ⟨2, ![4096, 1024]⟩
abbrev S4096x16 : Shape := ⟨2, ![4096, 16]⟩
abbrev S16x512 : Shape := ⟨2, ![16, 512]⟩
abbrev S512 : Shape := ⟨1, ![512]⟩
abbrev S1024 : Shape := ⟨1, ![1024]⟩
abbrev S4096x2048 : Shape := ⟨2, ![4096, 2048]⟩
abbrev S4096x6400 : Shape := ⟨2, ![4096, 6400]⟩
abbrev S1x512 : Shape := ⟨2, ![1, 512]⟩
abbrev S_ : Shape := ⟨0, ![]⟩
abbrev S64x64x4x128 : Shape := ⟨4, ![64, 64, 4, 128]⟩
abbrev S4x64x64x128 : Shape := ⟨4, ![4, 64, 64, 128]⟩
abbrev S64x64x4x256 : Shape := ⟨4, ![64, 64, 4, 256]⟩
abbrev S4x64x64x256 : Shape := ⟨4, ![4, 64, 64, 256]⟩
abbrev S4x64x1x128 : Shape := ⟨4, ![4, 64, 1, 128]⟩
abbrev S64x64 : Shape := ⟨2, ![64, 64]⟩
abbrev S4x64x64x64 : Shape := ⟨4, ![4, 64, 64, 64]⟩
abbrev S4x64x128x256 : Shape := ⟨4, ![4, 64, 128, 256]⟩
abbrev S4x64x128 : Shape := ⟨3, ![4, 64, 128]⟩
abbrev S64x64x1 : Shape := ⟨3, ![64, 64, 1]⟩
abbrev S4x1x64x128 : Shape := ⟨4, ![4, 1, 64, 128]⟩
abbrev S4x128x256x64 : Shape := ⟨4, ![4, 128, 256, 64]⟩
abbrev S4096x4x256 : Shape := ⟨3, ![4096, 4, 256]⟩
abbrev S4096x4 : Shape := ⟨2, ![4096, 4]⟩
abbrev S4096x4x1 : Shape := ⟨3, ![4096, 4, 1]⟩
abbrev S1x1024 : Shape := ⟨2, ![1, 1024]⟩
abbrev S4x64x256x128 : Shape := ⟨4, ![4, 64, 256, 128]⟩
abbrev S4x128x64x64 : Shape := ⟨4, ![4, 128, 64, 64]⟩
abbrev S4x64x256x64 : Shape := ⟨4, ![4, 64, 256, 64]⟩
abbrev S4x64x128x64 : Shape := ⟨4, ![4, 64, 128, 64]⟩
abbrev S512x16 : Shape := ⟨2, ![512, 16]⟩
abbrev S4096x112 : Shape := ⟨2, ![4096, 112]⟩
abbrev S4096x3200 : Shape := ⟨2, ![4096, 3200]⟩
abbrev S112x512 : Shape := ⟨2, ![112, 512]⟩
abbrev S128x512 : Shape := ⟨2, ![128, 512]⟩

abbrev nBuf : Space → Nat
  | .hbm => 336
  | .vmem => 0
  | .smem => 0
  | _ => 0

abbrev hbmTy0_0 (i : Nat) : BufTy := match i % 128 with
  | 0 => ⟨S4096x512, .f32⟩
  | 1 => ⟨S4096x512, .f32⟩
  | 2 => ⟨S4096x1024, .f32⟩
  | 3 => ⟨S4096x1024, .f32⟩
  | 4 => ⟨S4096x16, .f32⟩
  | 5 => ⟨S16x512, .f32⟩
  | 6 => ⟨S512, .f32⟩
  | 7 => ⟨S1024, .f32⟩
  | 8 => ⟨S4096x2048, .f32⟩
  | 9 => ⟨S4096x6400, .bf16⟩
  | 10 => ⟨S4096x512, .f32⟩
  | 11 => ⟨S1x512, .f32⟩
  | 12 => ⟨S4096x512, .f32⟩
  | 13 => ⟨S4096x512, .f32⟩
  | 14 => ⟨S4096x512, .f32⟩
  | 15 => ⟨S_, .f32⟩
  | 16 => ⟨S4096x512, .f32⟩
  | 17 => ⟨S4096x512, .f32⟩
  | 18 => ⟨S4096x512, .f32⟩
  | 19 => ⟨S4096x512, .f32⟩
  | 20 => ⟨S4096x512, .i1⟩
  | 21 => ⟨S4096x512, .f32⟩
  | 22 => ⟨S4096x512, .f32⟩
  | 23 => ⟨S4096x512, .f32⟩
  | 24 => ⟨S4096x512, .f32⟩
  | 25 => ⟨S4096x512, .f32⟩
  | 26 => ⟨S4096x512, .f32⟩
  | 27 => ⟨S4096x512, .f32⟩
  | 28 => ⟨S4096x512, .f32⟩
  | 29 => ⟨S_, .f32⟩
  | 30 => ⟨S4096x512, .f32⟩
  | 31 => ⟨S4096x512, .i1⟩
  | 32 => ⟨S_, .f32⟩
  | 33 => ⟨S4096x512, .f32⟩
  | 34 => ⟨S4096x512, .f32⟩
  | 35 => ⟨S_, .f32⟩
  | 36 => ⟨S4096x512, .f32⟩
  | 37 => ⟨S4096x512, .i1⟩
  | 38 => ⟨S_, .f32⟩
  | 39 => ⟨S4096x512, .f32⟩
  | 40 => ⟨S4096x512, .f32⟩
  | 41 => ⟨S4096x512, .f32⟩
  | 42 => ⟨S4096x512, .f32⟩
  | 43 => ⟨S_, .f32⟩
  | 44 => ⟨S_, .f32⟩
  | 45 => ⟨S_, .i1⟩
  | 46 => ⟨S_, .f32⟩
  | 47 => ⟨S_, .f32⟩
  | 48 => ⟨S_, .f32⟩
  | 49 => ⟨S_, .f32⟩
  | 50 => ⟨S4096x512, .f32⟩
  | 51 => ⟨S4096x512, .i1⟩
  | 52 => ⟨S_, .f32⟩
  | 53 => ⟨S4096x512, .f32⟩
  | 54 => ⟨S4096x512, .f32⟩
  | 55 => ⟨S4096x512, .f32⟩
  | 56 => ⟨S4096x512, .f32⟩
  | 57 => ⟨S4096x512, .f32⟩
  | 58 => ⟨S_, .f32⟩
  | 59 => ⟨S4096x512, .f32⟩
  | 60 => ⟨S4096x512, .f32⟩
  | 61 => ⟨S4096x512, .f32⟩
  | 62 => ⟨S_, .f32⟩
  | 63 => ⟨S4096x512, .f32⟩
  | 64 => ⟨S4096x512, .f32⟩
  | 65 => ⟨S64x64x4x128, .f32⟩
  | 66 => ⟨S4x64x64x128, .f32⟩
  | 67 => ⟨S_, .f32⟩
  | 68 => ⟨S4x64x64x128, .f32⟩
  | 69 => ⟨S4x64x64x128, .f32⟩
  | 70 => ⟨S64x64x4x128, .f32⟩
  | 71 => ⟨S4x64x64x128, .f32⟩
  | 72 => ⟨S64x64x4x256, .f32⟩
  | 73 => ⟨S4x64x64x256, .f32⟩
  | 74 => ⟨S64x64x4x128, .f32⟩
  | 75 => ⟨S4x64x64x128, .f32⟩
  | 76 => ⟨S_, .f32⟩
  | 77 => ⟨S_, .f32⟩
  | 78 => ⟨S4x64x64x128, .f32⟩
  | 79 => ⟨S4x64x1x128, .f32⟩
  | 80 => ⟨S4x64x64x128, .f32⟩
  | 81 => ⟨S4x64x64x128, .f32⟩
  | 82 => ⟨S4x64x64x128, .f32⟩
  | 83 => ⟨S4x64x64x128, .f32⟩
  | 84 => ⟨S4x64x64x128, .f32⟩
  | 85 => ⟨S4x64x64x128, .f32⟩
  | 86 => ⟨S4x64x64x128, .f32⟩
  | 87 => ⟨S4x64x64x128, .f32⟩
  | 88 => ⟨S4x64x64x128, .f32⟩
  | 89 => ⟨S_, .i1⟩
  | 90 => ⟨S64x64, .i1⟩
  | 91 => ⟨S64x64, .i32⟩
  | 92 => ⟨S_, .i32⟩
  | 93 => ⟨S64x64, .i32⟩
  | 94 => ⟨S64x64, .i32⟩
  | 95 => ⟨S64x64, .i32⟩
  | 96 => ⟨S64x64, .i1⟩
  | 97 => ⟨S_, .i1⟩
  | 98 => ⟨S64x64, .i1⟩
  | 99 => ⟨S64x64, .i1⟩
  | 100 => ⟨S4x64x64x64, .f32⟩
  | 101 => ⟨S_, .f32⟩
  | 102 => ⟨S_, .f32⟩
  | 103 => ⟨S4x64x64x64, .i1⟩
  | 104 => ⟨S4x64x64x64, .f32⟩
  | 105 => ⟨S4x64x64x64, .f32⟩
  | 106 => ⟨S_, .f32⟩
  | 107 => ⟨S4x64x64x64, .f32⟩
  | 108 => ⟨S4x64x64x256, .f32⟩
  | 109 => ⟨S4x64x128x256, .f32⟩
  | 110 => ⟨S4x64x128, .f32⟩
  | 111 => ⟨S_, .f32⟩
  | 112 => ⟨S_, .f32⟩
  | 113 => ⟨S4x64x128, .f32⟩
  | 114 => ⟨S4x64x128, .f32⟩
  | 115 => ⟨S4x64x128, .f32⟩
  | 116 => ⟨S_, .i1⟩
  | 117 => ⟨S64x64, .i1⟩
  | 118 => ⟨S64x64, .i32⟩
  | 119 => ⟨S_, .i32⟩
  | 120 => ⟨S64x64, .i32⟩
  | 121 => ⟨S64x64, .i32⟩
  | 122 => ⟨S64x64, .i32⟩
  | 123 => ⟨S64x64, .i1⟩
  | 124 => ⟨S_, .i1⟩
  | 125 => ⟨S64x64, .i1⟩
  | 126 => ⟨S64x64, .i1⟩
  | 127 => ⟨S64x64x1, .i1⟩
  | _ => ⟨S4096x512, .f32⟩

abbrev hbmTy0_1 (i : Nat) : BufTy := match i % 128 with
  | 0 => ⟨S4x64x1x128, .f32⟩
  | 1 => ⟨S4x1x64x128, .f32⟩
  | 2 => ⟨S4x64x64x128, .f32⟩
  | 3 => ⟨S4x64x64x128, .f32⟩
  | 4 => ⟨S4x64x64x128, .f32⟩
  | 5 => ⟨S_, .f32⟩
  | 6 => ⟨S_, .f32⟩
  | 7 => ⟨S4x64x64x128, .i1⟩
  | 8 => ⟨S4x64x64x128, .f32⟩
  | 9 => ⟨S4x64x64x128, .f32⟩
  | 10 => ⟨S_, .f32⟩
  | 11 => ⟨S4x64x64x128, .f32⟩
  | 12 => ⟨S4x64x64x128, .f32⟩
  | 13 => ⟨S_, .f32⟩
  | 14 => ⟨S_, .f32⟩
  | 15 => ⟨S4x64x64x128, .i1⟩
  | 16 => ⟨S4x64x64x128, .f32⟩
  | 17 => ⟨S4x64x64x128, .f32⟩
  | 18 => ⟨S_, .f32⟩
  | 19 => ⟨S4x64x64x128, .f32⟩
  | 20 => ⟨S4x128x256x64, .f32⟩
  | 21 => ⟨S4x64x128x256, .f32⟩
  | 22 => ⟨S4x64x64x256, .f32⟩
  | 23 => ⟨S4x64x64x256, .f32⟩
  | 24 => ⟨S64x64x4x256, .f32⟩
  | 25 => ⟨S4096x4x256, .f32⟩
  | 26 => ⟨S4096x4x256, .f32⟩
  | 27 => ⟨S_, .f32⟩
  | 28 => ⟨S4096x4x256, .f32⟩
  | 29 => ⟨S4096x4x256, .f32⟩
  | 30 => ⟨S_, .f32⟩
  | 31 => ⟨S4096x4, .f32⟩
  | 32 => ⟨S4096x4x1, .f32⟩
  | 33 => ⟨S_, .f32⟩
  | 34 => ⟨S4096x4x1, .f32⟩
  | 35 => ⟨S4096x4x1, .f32⟩
  | 36 => ⟨S_, .f32⟩
  | 37 => ⟨S4096x4x1, .f32⟩
  | 38 => ⟨S4096x4x1, .f32⟩
  | 39 => ⟨S4096x4x1, .f32⟩
  | 40 => ⟨S4096x4x1, .f32⟩
  | 41 => ⟨S_, .f32⟩
  | 42 => ⟨S4096x4x1, .f32⟩
  | 43 => ⟨S4096x4x1, .f32⟩
  | 44 => ⟨S4096x4x256, .f32⟩
  | 45 => ⟨S4096x4x256, .f32⟩
  | 46 => ⟨S4096x1024, .f32⟩
  | 47 => ⟨S1x1024, .f32⟩
  | 48 => ⟨S4096x1024, .f32⟩
  | 49 => ⟨S4096x1024, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S_, .f32⟩
  | 73 => ⟨S1024, .f32⟩
  | 74 => ⟨S1x1024, .f32⟩
  | 75 => ⟨S4096x1024, .f32⟩
  | 76 => ⟨S4096x1024, .f32⟩
  | 77 => ⟨S_, .f32⟩
  | 78 => ⟨S1024, .f32⟩
  | 79 => ⟨S4096x4x256, .f32⟩
  | 80 => ⟨S4096x4x256, .f32⟩
  | 81 => ⟨S_, .f32⟩
  | 82 => ⟨S4096x4, .f32⟩
  | 83 => ⟨S4096x4x1, .f32⟩
  | 84 => ⟨S4096x4x256, .f32⟩
  | 85 => ⟨S4096x4x256, .f32⟩
  | 86 => ⟨S4096x4x1, .f32⟩
  | 87 => ⟨S_, .f32⟩
  | 88 => ⟨S4096x4x1, .f32⟩
  | 89 => ⟨S4096x4x1, .f32⟩
  | 90 => ⟨S_, .f32⟩
  | 91 => ⟨S4096x4, .f32⟩
  | 92 => ⟨S4096x4x256, .f32⟩
  | 93 => ⟨S4096x4x256, .f32⟩
  | 94 => ⟨S4096x4x256, .f32⟩
  | 95 => ⟨S64x64x4x256, .f32⟩
  | 96 => ⟨S4x64x64x256, .f32⟩
  | 97 => ⟨S4x64x256x128, .f32⟩
  | 98 => ⟨S4x64x128x256, .f32⟩
  | 99 => ⟨S4x64x64x128, .f32⟩
  | 100 => ⟨S4x128x256x64, .f32⟩
  | 101 => ⟨S4x128x64x64, .f32⟩
  | 102 => ⟨S4x64x64x128, .f32⟩
  | 103 => ⟨S4x128x256x64, .f32⟩
  | 104 => ⟨S4x64x128x256, .f32⟩
  | 105 => ⟨S_, .f32⟩
  | 106 => ⟨S4x64x64x128, .f32⟩
  | 107 => ⟨S4x64x64x128, .f32⟩
  | 108 => ⟨S4x64x64x128, .f32⟩
  | 109 => ⟨S_, .f32⟩
  | 110 => ⟨S4x64x64x128, .f32⟩
  | 111 => ⟨S4x64x64x128, .f32⟩
  | 112 => ⟨S_, .f32⟩
  | 113 => ⟨S4x64x128, .f32⟩
  | 114 => ⟨S4x64x1x128, .f32⟩
  | 115 => ⟨S4x64x64x128, .f32⟩
  | 116 => ⟨S_, .f32⟩
  | 117 => ⟨S4x64x128, .f32⟩
  | 118 => ⟨S4x1x64x128, .f32⟩
  | 119 => ⟨S_, .f32⟩
  | 120 => ⟨S4x64x128, .f32⟩
  | 121 => ⟨S_, .f32⟩
  | 122 => ⟨S4x64x128, .f32⟩
  | 123 => ⟨S4x64x128, .f32⟩
  | 124 => ⟨S4x64x128, .f32⟩
  | 125 => ⟨S4x64x1x128, .f32⟩
  | 126 => ⟨S_, .f32⟩
  | 127 => ⟨S_, .f32⟩
  | _ => ⟨S4096x512, .f32⟩

abbrev hbmTy0_2 (i : Nat) : BufTy := match i % 128 with
  | 0 => ⟨S4x64x128, .f32⟩
  | 1 => ⟨S4x64x1x128, .f32⟩
  | 2 => ⟨S4x64x1x128, .f32⟩
  | 3 => ⟨S4x64x256x64, .f32⟩
  | 4 => ⟨S4x64x64x256, .f32⟩
  | 5 => ⟨S4x64x128x64, .f32⟩
  | 6 => ⟨S4x64x64x128, .f32⟩
  | 7 => ⟨S4x64x256x64, .f32⟩
  | 8 => ⟨S4x64x64x256, .f32⟩
  | 9 => ⟨S4x64x64x256, .f32⟩
  | 10 => ⟨S4x64x64x64, .f32⟩
  | 11 => ⟨S_, .f32⟩
  | 12 => ⟨S4x64x64x64, .f32⟩
  | 13 => ⟨S4x64x64x64, .f32⟩
  | 14 => ⟨S4x64x64x128, .f32⟩
  | 15 => ⟨S4x64x64x128, .f32⟩
  | 16 => ⟨S4x64x64x128, .f32⟩
  | 17 => ⟨S4x64x64x128, .f32⟩
  | 18 => ⟨S4x64x64x128, .f32⟩
  | 19 => ⟨S4x64x64x128, .f32⟩
  | 20 => ⟨S_, .f32⟩
  | 21 => ⟨S4x64x128, .f32⟩
  | 22 => ⟨S4x64x1x128, .f32⟩
  | 23 => ⟨S4x64x64x128, .f32⟩
  | 24 => ⟨S4x64x1x128, .f32⟩
  | 25 => ⟨S4x64x64x128, .f32⟩
  | 26 => ⟨S4x64x64x128, .f32⟩
  | 27 => ⟨S4x64x64x128, .f32⟩
  | 28 => ⟨S4x64x64x128, .f32⟩
  | 29 => ⟨S4x64x64x128, .f32⟩
  | 30 => ⟨S4x64x64x128, .f32⟩
  | 31 => ⟨S4x64x64x128, .f32⟩
  | 32 => ⟨S4x64x64x128, .f32⟩
  | 33 => ⟨S4x64x64x128, .f32⟩
  | 34 => ⟨S4x64x64x128, .f32⟩
  | 35 => ⟨S_, .f32⟩
  | 36 => ⟨S4x64x64x128, .f32⟩
  | 37 => ⟨S4x64x64x128, .f32⟩
  | 38 => ⟨S_, .f32⟩
  | 39 => ⟨S_, .f32⟩
  | 40 => ⟨S4x64x64x128, .f32⟩
  | 41 => ⟨S64x64x4x128, .f32⟩
  | 42 => ⟨S4096x512, .f32⟩
  | 43 => ⟨S64x64x4x256, .f32⟩
  | 44 => ⟨S4096x1024, .f32⟩
  | 45 => ⟨S64x64x4x128, .f32⟩
  | 46 => ⟨S4096x512, .f32⟩
  | 47 => ⟨S_, .f32⟩
  | 48 => ⟨S4x64x64x128, .f32⟩
  | 49 => ⟨S4x64x64x128, .f32⟩
  | 50 => ⟨S64x64x4x128, .f32⟩
  | 51 => ⟨S4096x512, .f32⟩
  | 52 => ⟨S_, .f32⟩
  | 53 => ⟨S4096x512, .f32⟩
  | 54 => ⟨S4096x512, .f32⟩
  | 55 => ⟨S4096x512, .f32⟩
  | 56 => ⟨S4096x512, .f32⟩
  | 57 => ⟨S4096x512, .f32⟩
  | 58 => ⟨S_, .f32⟩
  | 59 => ⟨S512, .f32⟩
  | 60 => ⟨S1x512, .f32⟩
  | 61 => ⟨S_, .f32⟩
  | 62 => ⟨S512, .f32⟩
  | 63 => ⟨S512x16, .f32⟩
  | 64 => ⟨S16x512, .f32⟩
  | 65 => ⟨S4096x16, .f32⟩
  | 66 => ⟨S_, .bf16⟩
  | 67 => ⟨S4096x112, .bf16⟩
  | 68 => ⟨S4096x512, .bf16⟩
  | 69 => ⟨S4096x512, .bf16⟩
  | 70 => ⟨S4096x1024, .bf16⟩
  | 71 => ⟨S4096x1024, .bf16⟩
  | 72 => ⟨S4096x16, .bf16⟩
  | 73 => ⟨S4096x3200, .bf16⟩
  | 74 => ⟨S4096x6400, .bf16⟩
  | 75 => ⟨S_, .f32⟩
  | 76 => ⟨S112x512, .f32⟩
  | 77 => ⟨S128x512, .f32⟩
  | 78 => ⟨S1x512, .f32⟩
  | 79 => ⟨S1x1024, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1_0 : Ref sig .tc := ⟨.hbm, 28, rfl⟩
abbrev main_call0_call0_cst_0 : Ref sig .tc := ⟨.hbm, 29, rfl⟩
abbrev main_call0_call0_v13 : Ref sig .tc := ⟨.hbm, 30, rfl⟩
abbrev main_call0_call0_v14 : Ref sig .tc := ⟨.hbm, 31, rfl⟩
abbrev main_call0_call0_cst_1 : Ref sig .tc := ⟨.hbm, 32, rfl⟩
abbrev main_call0_call0_v15 : Ref sig .tc := ⟨.hbm, 33, rfl⟩
abbrev main_call0_call0_v16 : Ref sig .tc := ⟨.hbm, 34, rfl⟩
abbrev main_call0_call0_cst_2 : Ref sig .tc := ⟨.hbm, 35, rfl⟩
abbrev main_call0_call0_v17 : Ref sig .tc := ⟨.hbm, 36, rfl⟩
abbrev main_call0_call0_v18 : Ref sig .tc := ⟨.hbm, 37, rfl⟩
abbrev main_call0_call0_cst_3 : Ref sig .tc := ⟨.hbm, 38, rfl⟩
abbrev main_call0_call0_v19 : Ref sig .tc := ⟨.hbm, 39, rfl⟩
abbrev main_call0_call0_v20 : Ref sig .tc := ⟨.hbm, 40, rfl⟩
abbrev main_call0_call0_v21 : Ref sig .tc := ⟨.hbm, 41, rfl⟩
abbrev main_v4_1 : Ref sig .tc := ⟨.hbm, 42, rfl⟩
abbrev main_call0_call0_cst_4 : Ref sig .tc := ⟨.hbm, 43, rfl⟩
abbrev main_call0_call0_cst_5 : Ref sig .tc := ⟨.hbm, 44, rfl⟩
abbrev main_call0_call0_v23 : Ref sig .tc := ⟨.hbm, 45, rfl⟩
abbrev main_call0_call0_cst_6 : Ref sig .tc := ⟨.hbm, 46, rfl⟩
abbrev main_call0_call0_cst_7 : Ref sig .tc := ⟨.hbm, 47, rfl⟩
abbrev main_call0_call0_v24 : Ref sig .tc := ⟨.hbm, 48, rfl⟩
abbrev main_call0_call0_cst_8 : Ref sig .tc := ⟨.hbm, 49, rfl⟩
abbrev main_call0_call0_v25 : Ref sig .tc := ⟨.hbm, 50, rfl⟩
abbrev main_call0_call0_v26 : Ref sig .tc := ⟨.hbm, 51, rfl⟩
abbrev main_call0_call0_cst_9 : Ref sig .tc := ⟨.hbm, 52, rfl⟩
abbrev main_call0_call0_v27 : Ref sig .tc := ⟨.hbm, 53, rfl⟩
abbrev main_call0_call0_v28 : Ref sig .tc := ⟨.hbm, 54, rfl⟩
abbrev main_call0_call0_v29 : Ref sig .tc := ⟨.hbm, 55, rfl⟩
abbrev main_call0_call0_v30 : Ref sig .tc := ⟨.hbm, 56, rfl⟩
abbrev main_call0_call0_v31 : Ref sig .tc := ⟨.hbm, 57, rfl⟩
abbrev main_call0_call0_cst_10 : Ref sig .tc := ⟨.hbm, 58, rfl⟩
abbrev main_call0_call0_v32 : Ref sig .tc := ⟨.hbm, 59, rfl⟩
abbrev main_v4_2 : Ref sig .tc := ⟨.hbm, 60, rfl⟩
abbrev main_v4_0 : Ref sig .tc := ⟨.hbm, 61, rfl⟩
abbrev main_cst : Ref sig .tc := ⟨.hbm, 62, rfl⟩
abbrev main_v5 : Ref sig .tc := ⟨.hbm, 63, rfl⟩
abbrev main_v6 : Ref sig .tc := ⟨.hbm, 64, rfl⟩
abbrev main_v7 : Ref sig .tc := ⟨.hbm, 65, rfl⟩
abbrev main_v8 : Ref sig .tc := ⟨.hbm, 66, rfl⟩
abbrev main_cst_0 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_call1_call0_cst : Ref sig .tc := ⟨.hbm, 76, rfl⟩
abbrev main_call1_call0_v0 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_c : Ref sig .tc := ⟨.hbm, 89, rfl⟩
abbrev main_v28 : Ref sig .tc := ⟨.hbm, 90, rfl⟩
abbrev main_call2_v0 : Ref sig .tc := ⟨.hbm, 91, rfl⟩
abbrev main_call2_c : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_c_0 : Ref sig .tc := ⟨.hbm, 97, rfl⟩
abbrev main_call2_v5 : Ref sig .tc := ⟨.hbm, 98, rfl⟩
abbrev main_v29 : Ref sig .tc := ⟨.hbm, 99, rfl⟩
abbrev main_v30 : Ref sig .tc := ⟨.hbm, 100, rfl⟩
abbrev main_cst_1 : Ref sig .tc := ⟨.hbm, 101, rfl⟩
abbrev main_call3_v0 : Ref sig .tc := ⟨.hbm, 102, rfl⟩
abbrev main_v31_1 : Ref sig .tc := ⟨.hbm, 103, rfl⟩
abbrev main_call3_v2 : Ref sig .tc := ⟨.hbm, 104, rfl⟩
abbrev main_v31_0 : Ref sig .tc := ⟨.hbm, 105, rfl⟩
abbrev main_call3_cst : Ref sig .tc := ⟨.hbm, 106, rfl⟩
abbrev main_v31_2 : Ref sig .tc := ⟨.hbm, 107, rfl⟩
abbrev main_v32 : Ref sig .tc := ⟨.hbm, 108, rfl⟩
abbrev main_v33 : Ref sig .tc := ⟨.hbm, 109, rfl⟩
abbrev main_v34 : Ref sig .tc := ⟨.hbm, 110, rfl⟩
abbrev main_call4_call0_cst : Ref sig .tc := ⟨.hbm, 111, rfl⟩
abbrev main_call4_call0_v0 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_c_2 : Ref sig .tc := ⟨.hbm, 116, rfl⟩
abbrev main_v38 : Ref sig .tc := ⟨.hbm, 117, rfl⟩
abbrev main_call5_v0 : Ref sig .tc := ⟨.hbm, 118, rfl⟩
abbrev main_call5_c : Ref sig .tc := ⟨.hbm, 119, rfl⟩
abbrev main_call5_v1 : Ref sig .tc := ⟨.hbm, 120, rfl⟩
abbrev main_call5_v2 : Ref sig .tc := ⟨.hbm, 121, rfl⟩
abbrev main_call5_v3 : Ref sig .tc := ⟨.hbm, 122, rfl⟩
abbrev main_call5_v4 : Ref sig .tc := ⟨.hbm, 123, rfl⟩
abbrev main_call5_c_0 : Ref sig .tc := ⟨.hbm, 124, rfl⟩
abbrev main_call5_v5 : Ref sig .tc := ⟨.hbm, 125, rfl⟩
abbrev main_v39 : Ref sig .tc := ⟨.hbm, 126, rfl⟩
abbrev main_v40 : Ref sig .tc := ⟨.hbm, 127, rfl⟩
abbrev main_v41 : Ref sig .tc := ⟨.hbm, 128, rfl⟩
abbrev main_v42 : Ref sig .tc := ⟨.hbm, 129, rfl⟩
abbrev main_v43 : Ref sig .tc := ⟨.hbm, 130, rfl⟩
abbrev main_v44 : Ref sig .tc := ⟨.hbm, 131, rfl⟩
abbrev main_v45 : Ref sig .tc := ⟨.hbm, 132, rfl⟩
abbrev main_cst_3 : Ref sig .tc := ⟨.hbm, 133, rfl⟩
abbrev main_call6_v0 : Ref sig .tc := ⟨.hbm, 134, rfl⟩
abbrev main_v46_1 : Ref sig .tc := ⟨.hbm, 135, rfl⟩
abbrev main_call6_v2 : Ref sig .tc := ⟨.hbm, 136, rfl⟩
abbrev main_v46_0 : Ref sig .tc := ⟨.hbm, 137, rfl⟩
abbrev main_call6_cst : Ref sig .tc := ⟨.hbm, 138, rfl⟩
abbrev main_v46_2 : Ref sig .tc := ⟨.hbm, 139, rfl⟩
abbrev main_v47 : Ref sig .tc := ⟨.hbm, 140, rfl⟩
abbrev main_cst_4 : Ref sig .tc := ⟨.hbm, 141, rfl⟩
abbrev main_call7_v0 : Ref sig .tc := ⟨.hbm, 142, rfl⟩
abbrev main_v48_1 : Ref sig .tc := ⟨.hbm, 143, rfl⟩
abbrev main_call7_v2 : Ref sig .tc := ⟨.hbm, 144, rfl⟩
abbrev main_v48_0 : Ref sig .tc := ⟨.hbm, 145, rfl⟩
abbrev main_call7_cst : Ref sig .tc := ⟨.hbm, 146, rfl⟩
abbrev main_v48_2 : Ref sig .tc := ⟨.hbm, 147, rfl⟩
abbrev main_v49 : Ref sig .tc := ⟨.hbm, 148, rfl⟩
abbrev main_v50 : Ref sig .tc := ⟨.hbm, 149, rfl⟩
abbrev main_v51 : Ref sig .tc := ⟨.hbm, 150, rfl⟩
abbrev main_v52 : Ref sig .tc := ⟨.hbm, 151, rfl⟩
abbrev main_v53 : Ref sig .tc := ⟨.hbm, 152, rfl⟩
abbrev main_v54 : Ref sig .tc := ⟨.hbm, 153, rfl⟩
abbrev main_v55 : Ref sig .tc := ⟨.hbm, 154, rfl⟩
abbrev main_cst_5 : Ref sig .tc := ⟨.hbm, 155, rfl⟩
abbrev main_v56 : Ref sig .tc := ⟨.hbm, 156, rfl⟩
abbrev main_v57 : Ref sig .tc := ⟨.hbm, 157, rfl⟩
abbrev main_cst_6 : Ref sig .tc := ⟨.hbm, 158, rfl⟩
abbrev main_v58 : Ref sig .tc := ⟨.hbm, 159, rfl⟩
abbrev main_v59 : Ref sig .tc := ⟨.hbm, 160, rfl⟩
abbrev main_cst_7 : Ref sig .tc := ⟨.hbm, 161, rfl⟩
abbrev main_v60 : Ref sig .tc := ⟨.hbm, 162, rfl⟩
abbrev main_v61 : Ref sig .tc := ⟨.hbm, 163, rfl⟩
abbrev main_cst_8 : Ref sig .tc := ⟨.hbm, 164, rfl⟩
abbrev main_v62 : Ref sig .tc := ⟨.hbm, 165, rfl⟩
abbrev main_v63 : Ref sig .tc := ⟨.hbm, 166, rfl⟩
abbrev main_v64 : Ref sig .tc := ⟨.hbm, 167, rfl⟩
abbrev main_v65 : Ref sig .tc := ⟨.hbm, 168, rfl⟩
abbrev main_cst_9 : Ref sig .tc := ⟨.hbm, 169, rfl⟩
abbrev main_v66 : Ref sig .tc := ⟨.hbm, 170, rfl⟩
abbrev main_v67 : Ref sig .tc := ⟨.hbm, 171, rfl⟩
abbrev main_v68 : Ref sig .tc := ⟨.hbm, 172, rfl⟩
abbrev main_v69 : Ref sig .tc := ⟨.hbm, 173, rfl⟩
abbrev main_v70 : Ref sig .tc := ⟨.hbm, 174, rfl⟩
abbrev main_v71 : Ref sig .tc := ⟨.hbm, 175, rfl⟩
abbrev main_v72 : Ref sig .tc := ⟨.hbm, 176, rfl⟩
abbrev main_v73 : Ref sig .tc := ⟨.hbm, 177, rfl⟩
abbrev main_call8_v0 : Ref sig .tc := ⟨.hbm, 178, rfl⟩
abbrev main_call8_v1 : Ref sig .tc := ⟨.hbm, 179, rfl⟩
abbrev main_call8_cst : Ref sig .tc := ⟨.hbm, 180, rfl⟩
abbrev main_call8_v2 : Ref sig .tc := ⟨.hbm, 181, rfl⟩
abbrev main_call8_v3 : Ref sig .tc := ⟨.hbm, 182, rfl⟩
abbrev main_call8_cst_0 : Ref sig .tc := ⟨.hbm, 183, rfl⟩
abbrev main_call8_v4 : Ref sig .tc := ⟨.hbm, 184, rfl⟩
abbrev main_v74_2 : Ref sig .tc := ⟨.hbm, 185, rfl⟩
abbrev main_call8_cst_1 : Ref sig .tc := ⟨.hbm, 186, rfl⟩
abbrev main_call8_v6 : Ref sig .tc := ⟨.hbm, 187, rfl⟩
abbrev main_call8_v7 : Ref sig .tc := ⟨.hbm, 188, rfl⟩
abbrev main_v74_1 : Ref sig .tc := ⟨.hbm, 189, rfl⟩
abbrev main_v74_0 : Ref sig .tc := ⟨.hbm, 190, rfl⟩
abbrev main_v75 : Ref sig .tc := ⟨.hbm, 191, rfl⟩
abbrev main_v76 : Ref sig .tc := ⟨.hbm, 192, rfl⟩
abbrev main_v77 : Ref sig .tc := ⟨.hbm, 193, rfl⟩
abbrev main_v78 : Ref sig .tc := ⟨.hbm, 194, rfl⟩
abbrev main_call9_v0 : Ref sig .tc := ⟨.hbm, 195, rfl⟩
abbrev main_call9_v1 : Ref sig .tc := ⟨.hbm, 196, rfl⟩
abbrev main_call9_v2 : Ref sig .tc := ⟨.hbm, 197, rfl⟩
abbrev main_v79 : Ref sig .tc := ⟨.hbm, 198, rfl⟩
abbrev main_v80 : Ref sig .tc := ⟨.hbm, 199, rfl⟩
abbrev main_cst_10 : Ref sig .tc := ⟨.hbm, 200, rfl⟩
abbrev main_v81 : Ref sig .tc := ⟨.hbm, 201, rfl⟩
abbrev main_v82 : Ref sig .tc := ⟨.hbm, 202, rfl⟩
abbrev main_v83 : Ref sig .tc := ⟨.hbm, 203, rfl⟩
abbrev main_v84 : Ref sig .tc := ⟨.hbm, 204, rfl⟩
abbrev main_cst_11 : Ref sig .tc := ⟨.hbm, 205, rfl⟩
abbrev main_v85 : Ref sig .tc := ⟨.hbm, 206, rfl⟩
abbrev main_v86 : Ref sig .tc := ⟨.hbm, 207, rfl⟩
abbrev main_v87 : Ref sig .tc := ⟨.hbm, 208, rfl⟩
abbrev main_cst_12 : Ref sig .tc := ⟨.hbm, 209, rfl⟩
abbrev main_v88 : Ref sig .tc := ⟨.hbm, 210, rfl⟩
abbrev main_v89 : Ref sig .tc := ⟨.hbm, 211, rfl⟩
abbrev main_v90 : Ref sig .tc := ⟨.hbm, 212, rfl⟩
abbrev main_v91 : Ref sig .tc := ⟨.hbm, 213, rfl⟩
abbrev main_v92 : Ref sig .tc := ⟨.hbm, 214, rfl⟩
abbrev main_cst_13 : Ref sig .tc := ⟨.hbm, 215, rfl⟩
abbrev main_v93 : Ref sig .tc := ⟨.hbm, 216, rfl⟩
abbrev main_v94 : Ref sig .tc := ⟨.hbm, 217, rfl⟩
abbrev main_cst_14 : Ref sig .tc := ⟨.hbm, 218, rfl⟩
abbrev main_v95 : Ref sig .tc := ⟨.hbm, 219, rfl⟩
abbrev main_v96 : Ref sig .tc := ⟨.hbm, 220, rfl⟩
abbrev main_v97 : Ref sig .tc := ⟨.hbm, 221, rfl⟩
abbrev main_v98 : Ref sig .tc := ⟨.hbm, 222, rfl⟩
abbrev main_v99 : Ref sig .tc := ⟨.hbm, 223, rfl⟩
abbrev main_v100 : Ref sig .tc := ⟨.hbm, 224, rfl⟩
abbrev main_v101 : Ref sig .tc := ⟨.hbm, 225, rfl⟩
abbrev main_v102 : Ref sig .tc := ⟨.hbm, 226, rfl⟩
abbrev main_v103 : Ref sig .tc := ⟨.hbm, 227, rfl⟩
abbrev main_v104 : Ref sig .tc := ⟨.hbm, 228, rfl⟩
abbrev main_v105 : Ref sig .tc := ⟨.hbm, 229, rfl⟩
abbrev main_v106 : Ref sig .tc := ⟨.hbm, 230, rfl⟩
abbrev main_v107 : Ref sig .tc := ⟨.hbm, 231, rfl⟩
abbrev main_v108 : Ref sig .tc := ⟨.hbm, 232, rfl⟩
abbrev main_call10_cst : Ref sig .tc := ⟨.hbm, 233, rfl⟩
abbrev main_call10_v0 : Ref sig .tc := ⟨.hbm, 234, rfl⟩
abbrev main_v109 : Ref sig .tc := ⟨.hbm, 235, rfl⟩
abbrev main_v110 : Ref sig .tc := ⟨.hbm, 236, rfl⟩
abbrev main_call11_cst : Ref sig .tc := ⟨.hbm, 237, rfl⟩
abbrev main_call11_v0 : Ref sig .tc := ⟨.hbm, 238, rfl⟩
abbrev main_v111 : Ref sig .tc := ⟨.hbm, 239, rfl⟩
abbrev main_cst_15 : Ref sig .tc := ⟨.hbm, 240, rfl⟩
abbrev main_v112 : Ref sig .tc := ⟨.hbm, 241, rfl⟩
abbrev main_v113 : Ref sig .tc := ⟨.hbm, 242, rfl⟩
abbrev main_v114 : Ref sig .tc := ⟨.hbm, 243, rfl⟩
abbrev main_cst_16 : Ref sig .tc := ⟨.hbm, 244, rfl⟩
abbrev main_v115 : Ref sig .tc := ⟨.hbm, 245, rfl⟩
abbrev main_v116 : Ref sig .tc := ⟨.hbm, 246, rfl⟩
abbrev main_cst_17 : Ref sig .tc := ⟨.hbm, 247, rfl⟩
abbrev main_v117 : Ref sig .tc := ⟨.hbm, 248, rfl⟩
abbrev main_cst_18 : Ref sig .tc := ⟨.hbm, 249, rfl⟩
abbrev main_v118 : Ref sig .tc := ⟨.hbm, 250, rfl⟩
abbrev main_v119 : Ref sig .tc := ⟨.hbm, 251, rfl⟩
abbrev main_v120 : Ref sig .tc := ⟨.hbm, 252, rfl⟩
abbrev main_v121 : Ref sig .tc := ⟨.hbm, 253, rfl⟩
abbrev main_call12_call0_cst : Ref sig .tc := ⟨.hbm, 254, rfl⟩
abbrev main_call12_call0_v0 : Ref sig .tc := ⟨.hbm, 255, rfl⟩
abbrev main_v122 : Ref sig .tc := ⟨.hbm, 256, rfl⟩
abbrev main_v123 : Ref sig .tc := ⟨.hbm, 257, rfl⟩
abbrev main_v124 : Ref sig .tc := ⟨.hbm, 258, rfl⟩
abbrev main_v125 : Ref sig .tc := ⟨.hbm, 259, rfl⟩
abbrev main_v126 : Ref sig .tc := ⟨.hbm, 260, rfl⟩
abbrev main_v127 : Ref sig .tc := ⟨.hbm, 261, rfl⟩
abbrev main_v128 : Ref sig .tc := ⟨.hbm, 262, rfl⟩
abbrev main_v129 : Ref sig .tc := ⟨.hbm, 263, rfl⟩
abbrev main_v130 : Ref sig .tc := ⟨.hbm, 264, rfl⟩
abbrev main_v131 : Ref sig .tc := ⟨.hbm, 265, rfl⟩
abbrev main_v132 : Ref sig .tc := ⟨.hbm, 266, rfl⟩
abbrev main_call13_cst : Ref sig .tc := ⟨.hbm, 267, rfl⟩
abbrev main_call13_v0 : Ref sig .tc := ⟨.hbm, 268, rfl⟩
abbrev main_v133 : Ref sig .tc := ⟨.hbm, 269, rfl⟩
abbrev main_v134 : Ref sig .tc := ⟨.hbm, 270, rfl⟩
abbrev main_v135 : Ref sig .tc := ⟨.hbm, 271, rfl⟩
abbrev main_v136 : Ref sig .tc := ⟨.hbm, 272, rfl⟩
abbrev main_v137 : Ref sig .tc := ⟨.hbm, 273, rfl⟩
abbrev main_v138 : Ref sig .tc := ⟨.hbm, 274, rfl⟩
abbrev main_v139 : Ref sig .tc := ⟨.hbm, 275, rfl⟩
abbrev main_cst_19 : Ref sig .tc := ⟨.hbm, 276, rfl⟩
abbrev main_v140 : Ref sig .tc := ⟨.hbm, 277, rfl⟩
abbrev main_v141 : Ref sig .tc := ⟨.hbm, 278, rfl⟩
abbrev main_v142 : Ref sig .tc := ⟨.hbm, 279, rfl⟩
abbrev main_v143 : Ref sig .tc := ⟨.hbm, 280, rfl⟩
abbrev main_v144 : Ref sig .tc := ⟨.hbm, 281, rfl⟩
abbrev main_v145 : Ref sig .tc := ⟨.hbm, 282, rfl⟩
abbrev main_v146 : Ref sig .tc := ⟨.hbm, 283, rfl⟩
abbrev main_v147 : Ref sig .tc := ⟨.hbm, 284, rfl⟩
abbrev main_v148 : Ref sig .tc := ⟨.hbm, 285, rfl⟩
abbrev main_v149 : Ref sig .tc := ⟨.hbm, 286, rfl⟩
abbrev main_v150 : Ref sig .tc := ⟨.hbm, 287, rfl⟩
abbrev main_v151 : Ref sig .tc := ⟨.hbm, 288, rfl⟩
abbrev main_v152 : Ref sig .tc := ⟨.hbm, 289, rfl⟩
abbrev main_v153 : Ref sig .tc := ⟨.hbm, 290, rfl⟩
abbrev main_cst_20 : Ref sig .tc := ⟨.hbm, 291, rfl⟩
abbrev main_v154 : Ref sig .tc := ⟨.hbm, 292, rfl⟩
abbrev main_v155 : Ref sig .tc := ⟨.hbm, 293, rfl⟩
abbrev main_call14_call0_cst : Ref sig .tc := ⟨.hbm, 294, rfl⟩
abbrev main_call14_call0_v0 : Ref sig .tc := ⟨.hbm, 295, rfl⟩
abbrev main_v156 : Ref sig .tc := ⟨.hbm, 296, rfl⟩
abbrev main_v157 : Ref sig .tc := ⟨.hbm, 297, rfl⟩
abbrev main_v158 : Ref sig .tc := ⟨.hbm, 298, rfl⟩
abbrev main_v159 : Ref sig .tc := ⟨.hbm, 299, rfl⟩
abbrev main_v160 : Ref sig .tc := ⟨.hbm, 300, rfl⟩
abbrev main_v161 : Ref sig .tc := ⟨.hbm, 301, rfl⟩
abbrev main_v162 : Ref sig .tc := ⟨.hbm, 302, rfl⟩
abbrev main_cst_21 : Ref sig .tc := ⟨.hbm, 303, rfl⟩
abbrev main_v163 : Ref sig .tc := ⟨.hbm, 304, rfl⟩
abbrev main_v164 : Ref sig .tc := ⟨.hbm, 305, rfl⟩
abbrev main_v165 : Ref sig .tc := ⟨.hbm, 306, rfl⟩
abbrev main_v166 : Ref sig .tc := ⟨.hbm, 307, rfl⟩
abbrev main_cst_22 : Ref sig .tc := ⟨.hbm, 308, rfl⟩
abbrev main_v167 : Ref sig .tc := ⟨.hbm, 309, rfl⟩
abbrev main_v168 : Ref sig .tc := ⟨.hbm, 310, rfl⟩
abbrev main_call15_v0 : Ref sig .tc := ⟨.hbm, 311, rfl⟩
abbrev main_call15_v1 : Ref sig .tc := ⟨.hbm, 312, rfl⟩
abbrev main_v169 : Ref sig .tc := ⟨.hbm, 313, rfl⟩
abbrev main_cst_23 : Ref sig .tc := ⟨.hbm, 314, rfl⟩
abbrev main_v170 : Ref sig .tc := ⟨.hbm, 315, rfl⟩
abbrev main_v171 : Ref sig .tc := ⟨.hbm, 316, rfl⟩
abbrev main_cst_24 : Ref sig .tc := ⟨.hbm, 317, rfl⟩
abbrev main_v172 : Ref sig .tc := ⟨.hbm, 318, rfl⟩
abbrev main_v173 : Ref sig .tc := ⟨.hbm, 319, rfl⟩
abbrev main_v174 : Ref sig .tc := ⟨.hbm, 320, rfl⟩
abbrev main_v175 : Ref sig .tc := ⟨.hbm, 321, rfl⟩
abbrev main_cst_25 : Ref sig .tc := ⟨.hbm, 322, rfl⟩
abbrev main_v176 : Ref sig .tc := ⟨.hbm, 323, rfl⟩
abbrev main_v177 : Ref sig .tc := ⟨.hbm, 324, rfl⟩
abbrev main_v178 : Ref sig .tc := ⟨.hbm, 325, rfl⟩
abbrev main_v179 : Ref sig .tc := ⟨.hbm, 326, rfl⟩
abbrev main_v180 : Ref sig .tc := ⟨.hbm, 327, rfl⟩
abbrev main_v181 : Ref sig .tc := ⟨.hbm, 328, rfl⟩
abbrev main_v182 : Ref sig .tc := ⟨.hbm, 329, rfl⟩
abbrev main_v183 : Ref sig .tc := ⟨.hbm, 330, rfl⟩
abbrev main_cst_26 : Ref sig .tc := ⟨.hbm, 331, rfl⟩
abbrev main_v184 : Ref sig .tc := ⟨.hbm, 332, rfl⟩
abbrev main_v185 : Ref sig .tc := ⟨.hbm, 333, rfl⟩
abbrev main_v186 : Ref sig .tc := ⟨.hbm, 334, rfl⟩
abbrev main_v187 : Ref sig .tc := ⟨.hbm, 335, rfl⟩

abbrev nD : Nat := 1
abbrev τ : Topo := Topo.v7x

variable {F : FTy → Type} [FloatOps F]
-- ==== MlpBwd.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S1024x2048 : Shape := ⟨2, ![1024, 2048]⟩
abbrev S1024x1024 : Shape := ⟨2, ![1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S4096x2048, .bf16⟩
  | .hbm, ⟨4, _⟩ => ⟨S8192x2048, .bf16⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .bf16⟩
  | .hbm, ⟨9, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpBwdRefIdeal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x2048, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== DownW.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 10
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | .hbm, ⟨8, _⟩ => ⟨S4096x2048, .bf16⟩
  | .hbm, ⟨9, _⟩ => ⟨S8192x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWRefIdeal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x2048, .f32⟩
  | .hbm, ⟨8, _⟩ => ⟨S2048x8192, .f32⟩
  | .hbm, ⟨9, _⟩ => ⟨S8192x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== UpW.lean ====
abbrev S4096x2048 : Shape := ⟨2, ![4096, 2048]⟩
abbrev S2048x8192 : Shape := ⟨2, ![2048, 8192]⟩
abbrev S4096x8192 : Shape := ⟨2, ![4096, 8192]⟩
abbrev S8x2048x1024 : Shape := ⟨3, ![8, 2048, 1024]⟩
abbrev S4096x1024 : Shape := ⟨2, ![4096, 1024]⟩
abbrev S1x1024x1024 : Shape := ⟨3, ![1, 1024, 1024]⟩
abbrev S8x128 : Shape := ⟨2, ![8, 128]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x2048, .bf16⟩
  | .hbm, ⟨4, _⟩ => ⟨S4096x8192, .bf16⟩
  | .hbm, ⟨5, _⟩ => ⟨S8x2048x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWRefIdeal.lean ====
abbrev S4096x2048 : Shape := ⟨2, ![4096, 2048]⟩
abbrev S2048x8192 : Shape := ⟨2, ![2048, 8192]⟩
abbrev S4096x8192 : Shape := ⟨2, ![4096, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x8192, .f32⟩
  | .hbm, ⟨4, _⟩ => ⟨S8192x2048, .f32⟩
  | .hbm, ⟨5, _⟩ => ⟨S2048x8192, .f32⟩
  | .hbm, ⟨6, _⟩ => ⟨S2048x8x1024, .f32⟩
  | .hbm, ⟨7, _⟩ => ⟨S8x2048x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutW.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .hbm, ⟨5, _⟩ => ⟨S2048x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWRefIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutY.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutYRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== InX.lean ====
abbrev S4096x2048 : Shape := ⟨2, ![4096, 2048]⟩
abbrev S2048x6160 : Shape := ⟨2, ![2048, 6160]⟩
abbrev S4096x6160 : Shape := ⟨2, ![4096, 6160]⟩
abbrev S_ : Shape := ⟨0, ![]⟩
abbrev S4096x128 : Shape := ⟨2, ![4096, 128]⟩
abbrev S4096x112 : Shape := ⟨2, ![4096, 112]⟩
abbrev S4096x3072 : Shape := ⟨2, ![4096, 3072]⟩
abbrev S4096x3088 : Shape := ⟨2, ![4096, 3088]⟩
abbrev S4096x6400 : Shape := ⟨2, ![4096, 6400]⟩
abbrev S2048x128 : Shape := ⟨2, ![2048, 128]⟩
abbrev S2048x112 : Shape := ⟨2, ![2048, 112]⟩
abbrev S2048x3072 : Shape := ⟨2, ![2048, 3072]⟩
abbrev S2048x3088 : Shape := ⟨2, ![2048, 3088]⟩
abbrev S2048x6400 : Shape := ⟨2, ![2048, 6400]⟩
abbrev S512x1280 : Shape := ⟨2, ![512, 1280]⟩
abbrev S2048x1280 : Shape := ⟨2, ![2048, 1280]⟩
abbrev S512x2048 : Shape := ⟨2, ![512, 2048]⟩

abbrev nBuf : Space → Nat
  | .hbm => 21
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048x6160, .f32⟩
  | .hbm, ⟨2, _⟩ => ⟨S4096x6160, .f32⟩
  | .hbm, ⟨3, _⟩ => ⟨S4096x2048, .f32⟩
  | .hbm, ⟨4, _⟩ => ⟨S4096x6160, .bf16⟩
  | .hbm, ⟨5, _⟩ => ⟨S_, .bf16⟩
  | .hbm, ⟨6, _⟩ => ⟨S4096x128, .bf16⟩
  | .hbm, ⟨7, _⟩ => ⟨S_, .bf16⟩
  | .hbm, ⟨8, _⟩ => ⟨S4096x112, .bf16⟩
  | .hbm, ⟨9, _⟩ => ⟨S4096x3072, .bf16⟩
  | .hbm, ⟨10, _⟩ => ⟨S4096x3088, .bf16⟩
  | .hbm, ⟨11, _⟩ => ⟨S4096x6400, .bf16⟩
  | .hbm, ⟨12, _⟩ => ⟨S2048x6160, .bf16⟩
  | .hbm, ⟨13, _⟩ => ⟨S_, .bf16⟩
  | .hbm, ⟨14, _⟩ => ⟨S2048x128, .bf16⟩
  | .hbm, ⟨15, _⟩ => ⟨S_, .bf16⟩
  | .hbm, ⟨16, _⟩ => ⟨S2048x112, .bf16⟩
  | .hbm, ⟨17, _⟩ => ⟨S2048x3072, .bf16⟩
  | .hbm, ⟨18, _⟩ => ⟨S2048x3088, .bf16⟩
  | .hbm, ⟨19, _⟩ => ⟨S2048x6400, .bf16⟩
  | .hbm, ⟨20, _⟩ => ⟨S4096x2048, .f32⟩
  | .local _ .vmem, ⟨0, _⟩ => ⟨S512x1280, .bf16⟩
  | .local _ .vmem, ⟨1, _⟩ => ⟨S512x1280, .bf16⟩
  | .local _ .vmem, ⟨2, _⟩ => ⟨S2048x1280, .bf16⟩
  | .local _ .vmem, ⟨3, _⟩ => ⟨S2048x1280, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 5], ![false, false, false]⟩

def k0_cond2 (i : grid0.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== InXRefIdeal.lean ====
abbrev S4096x2048 : Shape := ⟨2, ![4096, 2048]⟩
abbrev S2048x6160 : Shape := ⟨2, ![2048, 6160]⟩
abbrev S4096x6160 : Shape := ⟨2, ![4096, 6160]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x6160, .f32⟩
  | .hbm, ⟨2, _⟩ => ⟨S4096x6160, .f32⟩
  | .hbm, ⟨3, _⟩ => ⟨S4096x2048, .f32⟩
  | .hbm, ⟨4, _⟩ => ⟨S4096x6160, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== InW.lean ====
abbrev S4096x2048 : Shape := ⟨2, ![4096, 2048]⟩
abbrev S2048x6160 : Shape := ⟨2, ![2048, 6160]⟩
abbrev S4096x6160 : Shape := ⟨2, ![4096, 6160]⟩
abbrev S_ : Shape := ⟨0, ![]⟩
abbrev S4096x128 : Shape := ⟨2, ![4096, 128]⟩
abbrev S4096x112 : Shape := ⟨2, ![4096, 112]⟩
abbrev S4096x3072 : Shape := ⟨2, ![4096, 3072]⟩
abbrev S4096x3088 : Shape := ⟨2, ![4096, 3088]⟩
abbrev S4096x6400 : Shape := ⟨2, ![4096, 6400]⟩
abbrev S2048x6400 : Shape := ⟨2, ![2048, 6400]⟩
abbrev S2048x1024 : Shape := ⟨2, ![2048, 1024]⟩
abbrev S2048x1280 : Shape := ⟨2, ![2048, 1280]⟩
abbrev S1024x1280 : Shape := ⟨2, ![1024, 1280]⟩

abbrev nBuf : Space → Nat
  | .hbm => 13
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x6160, .f32⟩
  | .hbm, ⟨2, _⟩ => ⟨S4096x6160, .f32⟩
  | .hbm, ⟨3, _⟩ => ⟨S4096x2048, .bf16⟩
  | .hbm, ⟨4, _⟩ => ⟨S4096x6160, .bf16⟩
  | .hbm, ⟨5, _⟩ => ⟨S_, .bf16⟩
  | .hbm, ⟨6, _⟩ => ⟨S4096x128, .bf16⟩
  | .hbm, ⟨7, _⟩ => ⟨S_, .bf16⟩
  | .hbm, ⟨8, _⟩ => ⟨S4096x112, .bf16⟩
  | .hbm, ⟨9, _⟩ => ⟨S4096x3072, .bf16⟩
  | .hbm, ⟨10, _⟩ => ⟨S4096x3088, .bf16⟩
  | .hbm, ⟨11, _⟩ => ⟨S4096x6400, .bf16⟩
  | .hbm, ⟨12, _⟩ => ⟨S2048x6400, .f32⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x1280, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWRefIdeal.lean ====
abbrev S4096x2048 : Shape := ⟨2, ![4096, 2048]⟩
abbrev S2048x6160 : Shape := ⟨2, ![2048, 6160]⟩
abbrev S4096x6160 : Shape := ⟨2, ![4096, 6160]⟩
abbrev S6160x2048 : Shape := ⟨2, ![6160, 2048]⟩
abbrev S2048x3072 : Shape := ⟨2, ![2048, 3072]⟩
abbrev S_ : Shape := ⟨0, ![]⟩
abbrev S2048x128 : Shape := ⟨2, ![2048, 128]⟩
abbrev S2048x3088 : Shape := ⟨2, ![2048, 3088]⟩
abbrev S2048x112 : Shape := ⟨2, ![2048, 112]⟩
abbrev S2048x6400 : Shape := ⟨2, ![2048, 6400]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x6160, .f32⟩
  | .hbm, ⟨2, _⟩ => ⟨S4096x6160, .f32⟩
  | .hbm, ⟨3, _⟩ => ⟨S4096x6160, .f32⟩
  | .hbm, ⟨4, _⟩ => ⟨S6160x2048, .f32⟩
  | .hbm, ⟨5, _⟩ => ⟨S2048x6160, .f32⟩
  | .hbm, ⟨6, _⟩ => ⟨S2048x3072, .f32⟩
  | .hbm, ⟨7, _⟩ => ⟨S_, .f32⟩
  | .hbm, ⟨8, _⟩ => ⟨S2048x128, .f32⟩
  | .hbm, ⟨9, _⟩ => ⟨S2048x3088, .f32⟩
  | .hbm, ⟨10, _⟩ => ⟨S_, .f32⟩
  | .hbm, ⟨11, _⟩ => ⟨S2048x112, .f32⟩
  | .hbm, ⟨12, _⟩ => ⟨S2048x6400, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== ProjFwd.lean ====
abbrev S4096x2048 : Shape := ⟨2, ![4096, 2048]⟩
abbrev S2048x6160 : Shape := ⟨2, ![2048, 6160]⟩
abbrev S_ : Shape := ⟨0, ![]⟩
abbrev S2048x128 : Shape := ⟨2, ![2048, 128]⟩
abbrev S2048x112 : Shape := ⟨2, ![2048, 112]⟩
abbrev S2048x3072 : Shape := ⟨2, ![2048, 3072]⟩
abbrev S2048x3088 : Shape := ⟨2, ![2048, 3088]⟩
abbrev S2048x6400 : Shape := ⟨2, ![2048, 6400]⟩
abbrev S4096x6400 : Shape := ⟨2, ![4096, 6400]⟩
abbrev S1024x2048 : Shape := ⟨2, ![1024, 2048]⟩
abbrev S2048x1280 : Shape := ⟨2, ![2048, 1280]⟩
abbrev S1024x1280 : Shape := ⟨2, ![1024, 1280]⟩
abbrev S8x128 : Shape := ⟨2, ![8, 128]⟩

abbrev nBuf : Space → Nat
  | .hbm => 12
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x6160, .f32⟩
  | .hbm, ⟨2, _⟩ => ⟨S4096x2048, .bf16⟩
  | .hbm, ⟨3, _⟩ => ⟨S2048x6160, .bf16⟩
  | .hbm, ⟨4, _⟩ => ⟨S_, .bf16⟩
  | .hbm, ⟨5, _⟩ => ⟨S2048x128, .bf16⟩
  | .hbm, ⟨6, _⟩ => ⟨S_, .bf16⟩
  | .hbm, ⟨7, _⟩ => ⟨S2048x112, .bf16⟩
  | .hbm, ⟨8, _⟩ => ⟨S2048x3072, .bf16⟩
  | .hbm, ⟨9, _⟩ => ⟨S2048x3088, .bf16⟩
  | .hbm, ⟨10, _⟩ => ⟨S2048x6400, .bf16⟩
  | .hbm, ⟨11, _⟩ => ⟨S4096x6400, .f32⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .f32⟩
  | .local _ .vmem, ⟨5, _⟩ => ⟨S1024x1280, .f32⟩
  | .local _ .vmem, ⟨6, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFwdRefIdeal.lean ====
abbrev S4096x2048 : Shape := ⟨2, ![4096, 2048]⟩
abbrev S2048x6160 : Shape := ⟨2, ![2048, 6160]⟩
abbrev S4096x6160 : Shape := ⟨2, ![4096, 6160]⟩
abbrev S4096x3072 : Shape := ⟨2, ![4096, 3072]⟩
abbrev S_ : Shape := ⟨0, ![]⟩
abbrev S4096x128 : Shape := ⟨2, ![4096, 128]⟩
abbrev S4096x3088 : Shape := ⟨2, ![4096, 3088]⟩
abbrev S4096x112 : Shape := ⟨2, ![4096, 112]⟩
abbrev S4096x6400 : Shape := ⟨2, ![4096, 6400]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x6160, .f32⟩
  | .hbm, ⟨2, _⟩ => ⟨S4096x6160, .f32⟩
  | .hbm, ⟨3, _⟩ => ⟨S4096x3072, .f32⟩
  | .hbm, ⟨4, _⟩ => ⟨S_, .f32⟩
  | .hbm, ⟨5, _⟩ => ⟨S4096x128, .f32⟩
  | .hbm, ⟨6, _⟩ => ⟨S4096x3088, .f32⟩
  | .hbm, ⟨7, _⟩ => ⟨S_, .f32⟩
  | .hbm, ⟨8, _⟩ => ⟨S4096x112, .f32⟩
  | .hbm, ⟨9, _⟩ => ⟨S4096x6400, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== FfUp.lean ====
abbrev S4096x2048 : Shape := ⟨2, ![4096, 2048]⟩
abbrev S2048x8192 : Shape := ⟨2, ![2048, 8192]⟩
abbrev S4096x8192 : Shape := ⟨2, ![4096, 8192]⟩
abbrev S2048x8x1024 : Shape := ⟨3, ![2048, 8, 1024]⟩
abbrev S8x2048x1024 : Shape := ⟨3, ![8, 2048, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .bf16⟩
  | .hbm, ⟨3, _⟩ => ⟨S4096x8192, .bf16⟩
  | .hbm, ⟨4, _⟩ => ⟨S2048x8192, .bf16⟩
  | .hbm, ⟨5, _⟩ => ⟨S2048x8x1024, .bf16⟩
  | .hbm, ⟨6, _⟩ => ⟨S8x2048x1024, .bf16⟩
  | .hbm, ⟨7, _⟩ => ⟨S4096x2048, .bf16⟩
  | .hbm, ⟨8, _⟩ => ⟨S4096x8192, .bf16⟩
  | .hbm, ⟨9, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfUpRefIdeal.lean ====
abbrev S4096x2048 : Shape := ⟨2, ![4096, 2048]⟩
abbrev S2048x8192 : Shape := ⟨2, ![2048, 8192]⟩
abbrev S4096x8192 : Shape := ⟨2, ![4096, 8192]⟩
abbrev S2048x4096 : Shape := ⟨2, ![2048, 4096]⟩
abbrev S4096x4096 : Shape := ⟨2, ![4096, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .bf16⟩
  | .hbm, ⟨3, _⟩ => ⟨S4096x8192, .bf16⟩
  | .hbm, ⟨4, _⟩ => ⟨S2048x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4096x4096, .bf16⟩
  | .hbm, ⟨11, _⟩ => ⟨S4096x8192, .bf16⟩
  | .hbm, ⟨12, _⟩ => ⟨S4096x4096, .bf16⟩
  | .hbm, ⟨13, _⟩ => ⟨S4096x4096, .f32⟩
  | .hbm, ⟨14, _⟩ => ⟨S4096x4096, .bf16⟩
  | .hbm, ⟨15, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== MixLn.lean ====
abbrev S4096x2048 : Shape := ⟨2, ![4096, 2048]⟩
abbrev S2048x2048 : Shape := ⟨2, ![2048, 2048]⟩
abbrev S1x2048 : Shape := ⟨2, ![1, 2048]⟩
abbrev S4096x1 : Shape := ⟨2, ![4096, 1]⟩
abbrev S1024x512 : Shape := ⟨2, ![1024, 512]⟩
abbrev S512x2048 : Shape := ⟨2, ![512, 2048]⟩
abbrev S256x2048 : Shape := ⟨2, ![256, 2048]⟩
abbrev S256x1 : Shape := ⟨2, ![256, 1]⟩
abbrev S1024x2048 : Shape := ⟨2, ![1024, 2048]⟩
abbrev S32x2048 : Shape := ⟨2, ![32, 2048]⟩
abbrev S32 : Shape := ⟨1, ![32]⟩
abbrev S32x1 : Shape := ⟨2, ![32, 1]⟩
abbrev S512x512 : Shape := ⟨2, ![512, 512]⟩
abbrev S16x128 : Shape := ⟨2, ![16, 128]⟩
abbrev S512x128 : Shape := ⟨2, ![512, 128]⟩

abbrev nBuf : Space → Nat
  | .hbm => 10
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .bf16⟩
  | .hbm, ⟨6, _⟩ => ⟨S2048x2048, .bf16⟩
  | .hbm, ⟨7, _⟩ => ⟨S4096x2048, .f32⟩
  | .hbm, ⟨8, _⟩ => ⟨S4096x2048, .bf16⟩
  | .hbm, ⟨9, _⟩ => ⟨S4096x1, .f32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S256x1, .f32⟩
  | .local _ .vmem, ⟨13, _⟩ => ⟨S256x1, .f32⟩
  | .local _ .vmem, ⟨14, _⟩ => ⟨S1024x2048, .f32⟩
  | .local _ .vmem, ⟨15, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![5, 4], ![false, false]⟩

def k0_cond2 (i : grid0.Coords) : BitVec 1 :=
  let arg0 : BitVec 32 := BitVec.ofNat 32 (i 0).val
  let c4_i32 : BitVec 32 := 4#32
  let v5 : BitVec 1 := Scalar.cmpi .slt arg0 c4_i32
  let c2_i32 : BitVec 32 := 2#32
  let v6 : BitVec 32 := Scalar.remsi arg0 c2_i32
  let c0_i32_2 : BitVec 32 := 0#32
  let v7 : BitVec 1 := Scalar.cmpi .eq v6 c0_i32_2
  let v8 : BitVec 1 := Scalar.andi v5 v7
  let v9 : BitVec 32 := Scalar.extui v8
  let c0_i32_3 : BitVec 32 := 0#32
  let v10 : BitVec 1 := Scalar.cmpi .ne v9 c0_i32_3
  v10

def k0_mult1 (i : grid0.Coords) : BitVec 32 :=
  let arg1 : BitVec 32 := BitVec.ofNat 32 (i 1).val
  let c256_i32 : BitVec 32 := 256#32
  let v20 : BitVec 32 := Scalar.muli arg1 c256_i32
  v20
def k0_off1 (i : grid0.Coords) : Fin 2 → Nat :=
  let arg1 : BitVec 32 := BitVec.ofNat 32 (i 1).val
  let c256_i32 : BitVec 32 := 256#32
  let v20 : BitVec 32 := Scalar.muli arg1 c256_i32
  let v21 : BitVec 32 := v20
  let v22 : Index := Scalar.indexCast v21
  let c0 : Index := 0#32
  ![v22.toNat, 0]
def k0_cond3 (i : grid0.Coords) : BitVec 1 :=
  let arg0 : BitVec 32 := BitVec.ofNat 32 (i 0).val
  let c4_i32_4 : BitVec 32 := 4#32
  let v11 : BitVec 1 := Scalar.cmpi .slt arg0 c4_i32_4
  let c2_i32_5 : BitVec 32 := 2#32
  let v12 : BitVec 32 := Scalar.remsi arg0 c2_i32_5
  let c1_i32 : BitVec 32 := 1#32
  let v13 : BitVec 1 := Scalar.cmpi .eq v12 c1_i32
  let v14 : BitVec 1 := Scalar.andi v11 v13
  let v15 : BitVec 32 := Scalar.extui v14
  let c0_i32_6 : BitVec 32 := 0#32
  let v16 : BitVec 1 := Scalar.cmpi .ne v15 c0_i32_6
  v16

def k0_mult2 (i : grid0.Coords) : BitVec 32 :=
  let arg1 : BitVec 32 := BitVec.ofNat 32 (i 1).val
  let c256_i32 : BitVec 32 := 256#32
  let v20 : BitVec 32 := Scalar.muli arg1 c256_i32
  v20
def k0_off2 (i : grid0.Coords) : Fin 2 → Nat :=
  let arg1 : BitVec 32 := BitVec.ofNat 32 (i 1).val
  let c256_i32 : BitVec 32 := 256#32
  let v20 : BitVec 32 := Scalar.muli arg1 c256_i32
  let v21 : BitVec 32 := v20
  let v22 : Index := Scalar.indexCast v21
  let c0 : Index := 0#32
  ![v22.toNat, 0]
def k0_cond4 (i : grid0.Coords) : BitVec 1 :=
  let arg0 : BitVec 32 := BitVec.ofNat 32 (i 0).val
  let c4_i32_7 : BitVec 32 := 4#32
  let v17 : BitVec 1 := Scalar.cmpi .eq arg0 c4_i32_7
  let v18 : BitVec 32 := Scalar.extui v17
  let c0_i32_8 : BitVec 32 := 0#32
  let v19 : BitVec 1 := Scalar.cmpi .ne v18 c0_i32_8
  v19

def k0_mult3 (i : grid0.Coords) : BitVec 32 :=
  let arg1 : BitVec 32 := BitVec.ofNat 32 (i 1).val
  let c256_i32 : BitVec 32 := 256#32
  let v20 : BitVec 32 := Scalar.muli arg1 c256_i32
  v20
def k0_off3 (i : grid0.Coords) : Fin 2 → Nat :=
  let arg1 : BitVec 32 := BitVec.ofNat 32 (i 1).val
  let c256_i32 : BitVec 32 := 256#32
  let v20 : BitVec 32 := Scalar.muli arg1 c256_i32
  let v21 : BitVec 32 := v20
  let v22 : Index := Scalar.indexCast v21
  let c0 : Index := 0#32
  ![v22.toNat, 0]
def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c4_i32 : BitVec 32 := 4#32
  let v1 : BitVec 1 := Scalar.cmpi .slt arg0 c4_i32
  let c3_i32_0 : BitVec 32 := 3#32
  let v2 : BitVec 32 := Scalar.select v1 arg1 c3_i32_0
  let c0_i32 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c3_i32 : BitVec 32 := 3#32
  let v1 : BitVec 32 := Scalar.select v0 arg1 c3_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c4_i32 : BitVec 32 := 4#32
  let v1 : BitVec 32 := Scalar.muli v0 c4_i32
  let v2 : BitVec 32 := Scalar.addi v1 arg1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c4_i32 : BitVec 32 := 4#32
  let v1 : BitVec 32 := Scalar.muli v0 c4_i32
  let v2 : BitVec 32 := Scalar.addi v1 arg1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c4_i32 : BitVec 32 := 4#32
  let v1 : BitVec 32 := Scalar.muli v0 c4_i32
  let v2 : BitVec 32 := Scalar.addi v1 arg1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c4_i32 : BitVec 32 := 4#32
  let v1 : BitVec 32 := Scalar.muli v0 c4_i32
  let v2 : BitVec 32 := Scalar.addi v1 arg1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MixLnRefIdeal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Proof.Model.lean ====
/-
  The gradient of gated linear attention over the real numbers, one (chunk, head) tile at a time: what the kernel and
  the reference both compute at finite arguments. A tile has 64 rows; keys have 128 entries, values 256.
-/
module

public import Mathlib.Analysis.SpecialFunctions.Log.Basic
public import Mathlib.Analysis.SpecialFunctions.Pow.Real

@[expose] public section

noncomputable section

namespace Cert.GlaBwd.R

/-- The scale of the queries, the word `0x3DB504F3` read as a real number. -/
abbrev scale : ℝ := 11863283 / 134217728
/-- The constant added under the root, the word `0x358637BD` read as a real number. -/
abbrev eps : ℝ := 8796093 / 8796093022208

/-! ## One tile -/

section tile

variable (b q k : Fin 64 → Fin 128 → ℝ) (o r d v e : Fin 64 → Fin 256 → ℝ) (g : Fin 256 → ℝ) (st t : Fin 256 → Fin 128 → ℝ)

def qd (i : Fin 64) (a : Fin 128) : ℝ := q i a * scale * Real.exp (b i a)
def ki (i : Fin 64) (a : Fin 128) : ℝ := k i a * Real.exp (-b i a)
def ke (i : Fin 64) (a : Fin 128) : ℝ := k i a * Real.exp (b 63 a - b i a)
/-- The causal scores. -/
def att (i j : Fin 64) : ℝ := if j ≤ i then ∑ a, qd b q i a * ki b k j a else 0
/-- The attention's output: the scores within the chunk, and the state before the chunk. -/
def out (i : Fin 64) (c : Fin 256) : ℝ := ∑ j, att b q k i j * v j c + ∑ a, qd b q i a * st c a

def ms (i : Fin 64) : ℝ := (∑ c, o i c * o i c) / 256 + eps
def rinv (i : Fin 64) : ℝ := (Real.sqrt (ms o i))⁻¹
def sg (i : Fin 64) (c : Fin 256) : ℝ := 1 / (1 + Real.exp (-r i c))
def on (i : Fin 64) (c : Fin 256) : ℝ := o i c * rinv o i
def dr (i : Fin 64) (c : Fin 256) : ℝ := d i c * (on o i c * g c) * (sg r i c * (1 + r i c * (1 - sg r i c)))
def don (i : Fin 64) (c : Fin 256) : ℝ := d i c * (r i c * sg r i c)
def dgp (c : Fin 256) : ℝ := ∑ i, don r d i c * on o i c
def tv (i : Fin 64) (c : Fin 256) : ℝ := don r d i c * g c
/-- The gradient of the attention's output, through the norm. -/
def dov (i : Fin 64) (c : Fin 256) : ℝ :=
  rinv o i * tv r d g i c - o i c * (rinv o i * rinv o i * rinv o i) * ((∑ c', o i c' * tv r d g i c') / 256)

def dav (i j : Fin 64) : ℝ := if j ≤ i then ∑ c, e i c * v j c else 0
def dvv (j : Fin 64) (c : Fin 256) : ℝ := ∑ i, att b q k i j * e i c + ∑ a, ke b k j a * t c a
def dqd (i : Fin 64) (a : Fin 128) : ℝ := ∑ j, dav v e i j * ki b k j a + ∑ c, e i c * st c a
def dki (j : Fin 64) (a : Fin 128) : ℝ := ∑ i, dav v e i j * qd b q i a
def dke (j : Fin 64) (a : Fin 128) : ℝ := ∑ c, v j c * t c a
def ddec (a : Fin 128) : ℝ := ∑ c, st c a * t c a
/-- What the chunk adds to the state gradient. -/
def gst (c : Fin 256) (a : Fin 128) : ℝ := ∑ i, e i c * qd b q i a
/-- The state gradient handed to the chunk before. -/
def tnext (c : Fin 256) (a : Fin 128) : ℝ := Real.exp (b 63 a) * t c a + gst b q e c a
def dqv (i : Fin 64) (a : Fin 128) : ℝ := dqd b k v e st i a * Real.exp (b i a) * scale
def dkv (i : Fin 64) (a : Fin 128) : ℝ := dki b q v e i a * Real.exp (-b i a) + dke v t i a * Real.exp (b 63 a - b i a)
def dbv (i : Fin 64) (a : Fin 128) : ℝ :=
  dqd b k v e st i a * qd b q i a - dki b q v e i a * ki b k i a - dke v t i a * ke b k i a
def dblv (a : Fin 128) : ℝ := ∑ i, dke v t i a * ke b k i a + Real.exp (b 63 a) * ddec st t a

end tile

/-! ## Rows and columns -/

/-- Row `i` of chunk `n` of the whole sequence. -/
def tok (n i : Fin 64) : Fin 4096 := ⟨64 * n.val + i.val, by omega⟩
/-- Row `i` of chunk `c` of a grid step. -/
def srow (c : Fin 8) (i : Fin 64) : Fin 512 := ⟨64 * c.val + i.val, by omega⟩
/-- Entry `a` of head `h` of a key. -/
def kc (h : Fin 4) (a : Fin 128) : Fin 512 := ⟨128 * h.val + a.val, by omega⟩
/-- Entry `e` of head `h` of a value. -/
def vc (h : Fin 4) (e : Fin 256) : Fin 1024 := ⟨256 * h.val + e.val, by omega⟩

/-! ## The forget gate -/

/-- The log decay of one gate argument: a sixteenth of the log of the logistic function. -/
def la (z : ℝ) : ℝ := (min z 0 - Real.log (1 + Real.exp (-|z|))) * (1 / 16)
/-- The derivative of sixteen times the log decay. -/
def dla (z : ℝ) : ℝ := 1 / (1 + Real.exp z)

/-- The sum over the rows up to `i`. -/
def cum (f : Fin 64 → ℝ) (i : Fin 64) : ℝ := ∑ j, if j ≤ i then f j else 0
/-- The sum over the rows from `i` on. -/
def rcum (f : Fin 64 → ℝ) (i : Fin 64) : ℝ := ∑ j, if i ≤ j then f j else 0

end Cert.GlaBwd.R
-- ==== Proof.Global.lean ====
/-
  The whole sequence over the real numbers: gated linear attention in 64 chunks of 64 rows and 4 heads, and its
  gradient, the state gradient carried from the last chunk to the first.
-/
module

public import proofs.«01_k».proof.Proof.Model

@[expose] public section

noncomputable section

namespace Cert.GlaBwd.R

/-! ## Rows and columns taken apart -/

def chk (T : Fin 4096) : Fin 64 := ⟨T.val / 64, by omega⟩
def pos (T : Fin 4096) : Fin 64 := ⟨T.val % 64, by omega⟩
def hdk (j : Fin 512) : Fin 4 := ⟨j.val / 128, by omega⟩
def ak (j : Fin 512) : Fin 128 := ⟨j.val % 128, by omega⟩
def hdv (j : Fin 1024) : Fin 4 := ⟨j.val / 256, by omega⟩
def ev (j : Fin 1024) : Fin 256 := ⟨j.val % 256, by omega⟩

@[simp] theorem chk_tok (n i : Fin 64) : chk (tok n i) = n := by apply Fin.ext; simp only [chk, tok]; omega
@[simp] theorem pos_tok (n i : Fin 64) : pos (tok n i) = i := by apply Fin.ext; simp only [pos, tok]; omega
@[simp] theorem hdk_kc (h : Fin 4) (a : Fin 128) : hdk (kc h a) = h := by apply Fin.ext; simp only [hdk, kc]; omega
@[simp] theorem ak_kc (h : Fin 4) (a : Fin 128) : ak (kc h a) = a := by apply Fin.ext; simp only [ak, kc]; omega
@[simp] theorem hdv_vc (h : Fin 4) (e : Fin 256) : hdv (vc h e) = h := by apply Fin.ext; simp only [hdv, vc]; omega
@[simp] theorem ev_vc (h : Fin 4) (e : Fin 256) : ev (vc h e) = e := by apply Fin.ext; simp only [ev, vc]; omega
theorem tok_chk (T : Fin 4096) : tok (chk T) (pos T) = T := by apply Fin.ext; simp only [chk, pos, tok]; omega
theorem kc_hdk (j : Fin 512) : kc (hdk j) (ak j) = j := by apply Fin.ext; simp only [hdk, ak, kc]; omega
theorem vc_hdv (j : Fin 1024) : vc (hdv j) (ev j) = j := by apply Fin.ext; simp only [hdv, ev, vc]; omega

/-- The real entries of the arguments. -/
structure Args where
  q : Fin 4096 → Fin 512 → ℝ
  k : Fin 4096 → Fin 512 → ℝ
  v : Fin 4096 → Fin 1024 → ℝ
  r : Fin 4096 → Fin 1024 → ℝ
  zl : Fin 4096 → Fin 16 → ℝ
  wg : Fin 16 → Fin 512 → ℝ
  gb : Fin 512 → ℝ
  gn : Fin 1024 → ℝ
  d : Fin 4096 → Fin 1024 → ℝ

namespace Args

variable (A : Args)

/-! ## The arguments, by chunk and head -/

def Q (h : Fin 4) (n : Fin 64) (i : Fin 64) (a : Fin 128) : ℝ := A.q (tok n i) (kc h a)
def K (h : Fin 4) (n : Fin 64) (i : Fin 64) (a : Fin 128) : ℝ := A.k (tok n i) (kc h a)
def V (h : Fin 4) (n : Fin 64) (i : Fin 64) (e : Fin 256) : ℝ := A.v (tok n i) (vc h e)
def Rr (h : Fin 4) (n : Fin 64) (i : Fin 64) (e : Fin 256) : ℝ := A.r (tok n i) (vc h e)
def Dd (h : Fin 4) (n : Fin 64) (i : Fin 64) (e : Fin 256) : ℝ := A.d (tok n i) (vc h e)
def Gn (h : Fin 4) (e : Fin 256) : ℝ := A.gn (vc h e)

/-! ## Forward -/

/-- The gate's argument. -/
def z (T : Fin 4096) (j : Fin 512) : ℝ := ∑ l, A.zl T l * A.wg l j + A.gb j
/-- The log decays of a chunk. -/
def LA (h : Fin 4) (n i : Fin 64) (a : Fin 128) : ℝ := la (A.z (tok n i) (kc h a))
/-- The log decays summed from the start of the chunk. -/
def B (h : Fin 4) (n i : Fin 64) (a : Fin 128) : ℝ := cum (fun i' => A.LA h n i' a) i
/-- The log decays summed up to the end of chunk `n`. -/
def tot (h : Fin 4) (n : Fin 64) (a : Fin 128) : ℝ := cum (fun m => A.B h m 63 a) n
/-- What is left at the start of chunk `n` of what chunk `m` added to the state. -/
def car (h : Fin 4) (n m : Fin 64) (a : Fin 128) : ℝ :=
  if m < n then Real.exp (A.tot h n a - A.B h n 63 a - A.tot h m a) else 0
/-- What chunk `m` adds to the state. -/
def delta (h : Fin 4) (m : Fin 64) (e : Fin 256) (a : Fin 128) : ℝ := ∑ i, ke (A.B h m) (A.K h m) i a * A.V h m i e
/-- The state at the start of chunk `n`. -/
def St (h : Fin 4) (n : Fin 64) (e : Fin 256) (a : Fin 128) : ℝ := ∑ m, A.car h n m a * A.delta h m e a
/-- The attention's output. -/
def O (h : Fin 4) (n : Fin 64) : Fin 64 → Fin 256 → ℝ := out (A.B h n) (A.Q h n) (A.K h n) (A.V h n) (A.St h n)

/-! ## Backward -/

/-- The gradient of the attention's output. -/
def E (h : Fin 4) (n : Fin 64) : Fin 64 → Fin 256 → ℝ := dov (A.O h n) (A.Rr h n) (A.Dd h n) (A.Gn h)
/-- The state gradient after the last `j` chunks. -/
def Drec (h : Fin 4) : ℕ → Fin 256 → Fin 128 → ℝ
  | 0 => fun _ _ => 0
  | j + 1 => tnext (A.B h (Fin.ofNat 64 (63 - j))) (A.Q h (Fin.ofNat 64 (63 - j))) (A.E h (Fin.ofNat 64 (63 - j))) (Drec h j)
/-- The state gradient that chunk `n` meets. -/
def D (h : Fin 4) (n : Fin 64) : Fin 256 → Fin 128 → ℝ := A.Drec h (63 - n.val)

def dQ (h : Fin 4) (n : Fin 64) : Fin 64 → Fin 128 → ℝ := dqv (A.B h n) (A.K h n) (A.V h n) (A.E h n) (A.St h n)
def dK (h : Fin 4) (n : Fin 64) : Fin 64 → Fin 128 → ℝ := dkv (A.B h n) (A.Q h n) (A.V h n) (A.E h n) (A.D h n)
def dV (h : Fin 4) (n : Fin 64) : Fin 64 → Fin 256 → ℝ := dvv (A.B h n) (A.Q h n) (A.K h n) (A.E h n) (A.D h n)
def dR (h : Fin 4) (n : Fin 64) : Fin 64 → Fin 256 → ℝ := dr (A.O h n) (A.Rr h n) (A.Dd h n) (A.Gn h)
/-- The gradient of the cumulative log decays. -/
def dB (h : Fin 4) (n i : Fin 64) (a : Fin 128) : ℝ :=
  dbv (A.B h n) (A.Q h n) (A.K h n) (A.V h n) (A.E h n) (A.St h n) (A.D h n) i a
def dBl (h : Fin 4) (n : Fin 64) (a : Fin 128) : ℝ := dblv (A.B h n) (A.K h n) (A.V h n) (A.St h n) (A.D h n) a
/-- The gradient of the log decays. -/
def dLA (h : Fin 4) (n i : Fin 64) (a : Fin 128) : ℝ := rcum (fun j => A.dB h n j a) i + A.dBl h n a
/-- The gradient of the gate's argument. -/
def dz (T : Fin 4096) (j : Fin 512) : ℝ := A.dLA (hdk j) (chk T) (pos T) (ak j) * (1 / 16) * dla (A.z T j)

/-- The gate's low-rank input and weight, with zeros up to 128. -/
def zl128 (T : Fin 4096) (l : Fin 128) : ℝ := if h : l.val < 16 then A.zl T ⟨l.val, h⟩ else 0
def wg128 (l : Fin 128) (j : Fin 512) : ℝ := if h : l.val < 16 then A.wg ⟨l.val, h⟩ j else 0

theorem sum128 (f : Fin 128 → ℝ) (g : Fin 16 → ℝ) (h : ∀ l : Fin 128, f l = if h : l.val < 16 then g ⟨l.val, h⟩ else 0) :
    ∑ l, f l = ∑ l, g l := by
  have e := Fin.sum_univ_add (a := 16) (b := 112) f
  rw [show (∑ l : Fin 128, f l) = _ from e]
  have h0 : ∑ l : Fin 112, f (Fin.natAdd 16 l) = 0 := by
    apply Finset.sum_eq_zero
    intro l _
    rw [h]; rw [dif_neg]; simp [Fin.natAdd]
  rw [h0, add_zero]
  refine Finset.sum_congr rfl fun l _ => ?_
  rw [h, dif_pos (by simp)]
  rfl

theorem z_eq (T : Fin 4096) (j : Fin 512) : ∑ l, A.zl128 T l * A.wg128 l j + A.gb j = A.z T j := by
  unfold z
  congr 1
  refine sum128 _ _ fun l => ?_
  by_cases h : l.val < 16
  · simp only [zl128, wg128, dif_pos h]
  · simp only [zl128, wg128, dif_neg h, mul_zero]

/-- The gradient of the gate's low-rank input. -/
def dzl (T : Fin 4096) (l : Fin 128) : ℝ := ∑ j, A.dz T j * A.wg128 l j
/-- The gradient of the packed projections. -/
def dP (T : Fin 4096) (j : Fin 3200) : ℝ :=
  if h : j.val < 512 then A.dQ (hdk ⟨j.val, h⟩) (chk T) (pos T) (ak ⟨j.val, h⟩)
  else if h : j.val - 512 < 512 then A.dK (hdk ⟨j.val - 512, h⟩) (chk T) (pos T) (ak ⟨j.val - 512, h⟩)
  else if h : j.val - 1024 < 1024 then A.dV (hdv ⟨j.val - 1024, h⟩) (chk T) (pos T) (ev ⟨j.val - 1024, h⟩)
  else if h : j.val - 2048 < 1024 then A.dR (hdv ⟨j.val - 2048, h⟩) (chk T) (pos T) (ev ⟨j.val - 2048, h⟩)
  else A.dzl T ⟨j.val - 3072, by omega⟩

/-- A column of the packed projections. -/
def col (off n : ℕ) (hn : off + n ≤ 3200) (j : Fin n) : Fin 3200 := ⟨off + j.val, by omega⟩

theorem dP_q (T : Fin 4096) (j : Fin 512) : A.dP T (col 0 512 (by omega) j) = A.dQ (hdk j) (chk T) (pos T) (ak j) := by
  unfold dP col
  rw [dif_pos (show 0 + j.val < 512 by omega)]
  simp only [zero_add]
theorem dP_k (T : Fin 4096) (j : Fin 512) : A.dP T (col 512 512 (by omega) j) = A.dK (hdk j) (chk T) (pos T) (ak j) := by
  unfold dP col
  rw [dif_neg (show ¬ 512 + j.val < 512 by omega), dif_pos (show 512 + j.val - 512 < 512 by omega)]
  simp only [Nat.add_sub_cancel_left]
theorem dP_v (T : Fin 4096) (j : Fin 1024) : A.dP T (col 1024 1024 (by omega) j) = A.dV (hdv j) (chk T) (pos T) (ev j) := by
  unfold dP col
  rw [dif_neg (show ¬ 1024 + j.val < 512 by omega), dif_neg (show ¬ 1024 + j.val - 512 < 512 by omega),
    dif_pos (show 1024 + j.val - 1024 < 1024 by omega)]
  simp only [Nat.add_sub_cancel_left]
theorem dP_r (T : Fin 4096) (j : Fin 1024) : A.dP T (col 2048 1024 (by omega) j) = A.dR (hdv j) (chk T) (pos T) (ev j) := by
  unfold dP col
  rw [dif_neg (show ¬ 2048 + j.val < 512 by omega), dif_neg (show ¬ 2048 + j.val - 512 < 512 by omega),
    dif_neg (show ¬ 2048 + j.val - 1024 < 1024 by omega), dif_pos (show 2048 + j.val - 2048 < 1024 by omega)]
  simp only [Nat.add_sub_cancel_left]
theorem dP_z (T : Fin 4096) (l : Fin 128) : A.dP T (col 3072 128 (by omega) l) = A.dzl T l := by
  unfold dP col
  rw [dif_neg (show ¬ 3072 + l.val < 512 by omega), dif_neg (show ¬ 3072 + l.val - 512 < 512 by omega),
    dif_neg (show ¬ 3072 + l.val - 1024 < 1024 by omega), dif_neg (show ¬ 3072 + l.val - 2048 < 1024 by omega)]
  simp only [Nat.add_sub_cancel_left]

/-- Row `r` of grid step `t`, the steps going from the last rows to the first. -/
def row (t : Fin 8) (r : Fin 512) : Fin 4096 := ⟨512 * (7 - t.val) + r.val, by omega⟩
/-- Chunk `c` of grid step `t`. -/
def cks (t : Fin 8) (c : Fin 8) : Fin 64 := ⟨8 * (7 - t.val) + c.val, by omega⟩

theorem row_srow (t c : Fin 8) (i : Fin 64) : row t (srow c i) = tok (cks t c) i := by
  apply Fin.ext; simp only [row, srow, tok, cks]; omega

/-- One step's share of the gradients of the gate's weight and bias and of the norm's gain. -/
def dWs (t : Fin 8) (l : Fin 128) (j : Fin 512) : ℝ := ∑ r, A.zl128 (row t r) l * A.dz (row t r) j
def dbs (t : Fin 8) (j : Fin 512) : ℝ := ∑ r, A.dz (row t r) j
def dgs (t : Fin 8) (h : Fin 4) (e : Fin 256) : ℝ := ∑ c, dgp (A.O h (cks t c)) (A.Rr h (cks t c)) (A.Dd h (cks t c)) e

end Args

end Cert.GlaBwd.R
-- ==== Proof.Coe.lean ====
/-
  Reading ideal values as real numbers: an array whose entries are real, finite sums, the constants of the program.
-/
module

public import proofs.«01_k».proof.Proof.Model
public import Idealize.ShloMosaic.Lib.Pointwise
public import Idealize.ShloMosaic.Lib.IdealHost
public import Idealize.ShloMosaic.Lib.WordCmp

@[expose] public section

noncomputable section

namespace Cert.GlaBwd

open Idealize.ShloMosaic

/-- A two-axis array of ideal values whose entries are the real numbers `f`. -/
abbrev IsR {n m : ℕ} {e : FTy} (X : FVec Ideal ⟨2, ![n, m]⟩ e) (f : Fin n → Fin m → ℝ) : Prop :=
  ∀ (i : Fin n) (j : Fin m), X (ix2 i j) = ((f i j : ℝ) : EReal)

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem c_scale : Ideal.ofBits .f32 0x3DB504F3#32 = ((R.scale : ℝ) : EReal) := by
  simp [Ideal.ofBits, Ideal.ieee, -EReal.coe_mul]; norm_num
theorem c_eps : Ideal.ofBits .f32 0x358637BD#32 = ((R.eps : ℝ) : EReal) := by
  simp [Ideal.ofBits, Ideal.ieee, -EReal.coe_mul]; norm_num
theorem c_256 : Ideal.ofBits .f32 0x43800000#32 = ((256 : ℝ) : EReal) := by
  simp [Ideal.ofBits, Ideal.ieee, -EReal.coe_mul]; norm_num
theorem c_16 : Ideal.ofBits .f32 0x41800000#32 = ((16 : ℝ) : EReal) := by
  simp [Ideal.ofBits, Ideal.ieee, -EReal.coe_mul]; norm_num
theorem c_2 : Ideal.ofBits .f32 0x40000000#32 = ((2 : ℝ) : EReal) := by
  simp [Ideal.ofBits, Ideal.ieee, -EReal.coe_mul]; norm_num
theorem c_1 : Ideal.ofBits .f32 0x3F800000#32 = ((1 : ℝ) : EReal) := by
  simp [Ideal.ofBits, Ideal.ieee, -EReal.coe_mul]; norm_num
theorem c_0 : Ideal.ofBits .f32 0x00000000#32 = ((0 : ℝ) : EReal) := by
  simp [Ideal.ofBits, Ideal.ieee]
theorem c_16th : Ideal.ofBits .f32 0x3D800000#32 = ((1 / 16 : ℝ) : EReal) := by
  simp [Ideal.ofBits, Ideal.ieee, -EReal.coe_mul]; norm_num
theorem c_neg_half : Ideal.ofBits .f32 0xBF000000#32 = ((-(1 / 2) : ℝ) : EReal) := by
  simp [Ideal.ofBits, Ideal.ieee, -EReal.coe_mul, -EReal.coe_neg]; norm_num

/-- Division of reals, the divisor not zero. -/
theorem div_real {x y : ℝ} (h : y ≠ 0) : Ideal.div (x : EReal) (y : EReal) = ((x / y : ℝ) : EReal) := by
  rw [Ideal.div_coe h, ← EReal.coe_mul, mul_one_div]

theorem rsqrt_real {x : ℝ} (h : 0 < x) : Ideal.rsqrt (x : EReal) = (((Real.sqrt x)⁻¹ : ℝ) : EReal) := by
  rw [Ideal.rsqrt_coe, if_neg (not_lt.mpr h.le), if_neg h.ne']

theorem log_real {x : ℝ} (h : 0 < x) : Ideal.log (x : EReal) = ((Real.log x : ℝ) : EReal) := by
  rw [Ideal.log_coe, if_neg (not_le.mpr h)]

/-- A causal selection on the words of two row numbers of a chunk. -/
theorem select_sge {α : Type} (i j : Fin 64) (x y : α) :
    Scalar.select (IntOp.cmpi CmpIPredicate.sge (BitVec.ofNat 32 i.val) (BitVec.ofNat 32 j.val)) x y = if j ≤ i then x else y := by
  rw [WordCmp.cmpi_sge_ofNat (by omega) (by omega)]
  by_cases h : j ≤ i
  · have h' : j.val ≤ i.val := h
    simp [Scalar.select, h, h']
  · have h' : ¬ j.val ≤ i.val := h
    simp [Scalar.select, h, h']

theorem ms_pos (o : Fin 64 → Fin 256 → ℝ) (i : Fin 64) : 0 < R.ms o i := by
  unfold R.ms
  have : 0 ≤ ∑ c, o i c * o i c := Finset.sum_nonneg fun c _ => mul_self_nonneg _
  positivity

theorem one_add_exp_ne (x : ℝ) : (1 + Real.exp x) ≠ 0 := by positivity

end Cert.GlaBwd
-- ==== Proof.Window.lean ====
/-
  Running sums at the ideal instance: a window of 64 positions along one axis, padded by 63 at one end, adds up the
  entries before, or after, a position.
-/
module

public import proofs.«01_k».proof.Proof.Model
public import Idealize.ShloMosaic.Lib.Pointwise
public import Idealize.ShloMosaic.Lib.IdealHost

@[expose] public section

noncomputable section

namespace Cert.GlaBwd

open Idealize.ShloMosaic

theorem foldl_add {n : ℕ} (f : Fin n → EReal) : (List.finRange n).foldl (fun r k => r + f k) 0 = ∑ k, f k := by
  have h : ∀ (l : List (Fin n)) (a : EReal), l.foldl (fun r k => r + f k) a = a + (l.map f).sum := by
    intro l
    induction l with
    | nil => intro a; simp
    | cons x l ih => intro a; rw [List.foldl_cons, ih, List.map_cons, List.sum_cons, add_assoc]
  rw [h, zero_add, Fin.sum_univ_def]

/-- Positions `w` of a window that ends at `j`, taken as the entries up to `j`. -/
theorem sum_upto (g : Fin 64 → EReal) (j : Fin 64) :
    (∑ w : Fin 64, if h : 63 ≤ j.val + w.val then g ⟨j.val + w.val - 63, by omega⟩ else 0) = ∑ i : Fin 64, if i ≤ j then g i else 0 := by
  refine Finset.sum_bij_ne_zero (fun w _ hw => ⟨(j.val + w.val - 63), by omega⟩) (fun _ _ _ => Finset.mem_univ _) ?_ ?_ ?_
  · intro a _ ha b _ hb e
    have e' := congrArg Fin.val e
    simp only at e'
    have h1 : 63 ≤ j.val + a.val := by by_contra h; exact ha (dif_neg h)
    have h2 : 63 ≤ j.val + b.val := by by_contra h; exact hb (dif_neg h)
    apply Fin.ext; omega
  · intro i _ hi
    have h1 : i ≤ j := by by_contra h; exact hi (if_neg h)
    have h1' : i.val ≤ j.val := h1
    have e : (if h : 63 ≤ j.val + (63 + i.val - j.val) then g ⟨j.val + (63 + i.val - j.val) - 63, by omega⟩ else 0) = g i := by
      rw [dif_pos (by omega)]; congr 1; apply Fin.ext; show j.val + (63 + i.val - j.val) - 63 = i.val; omega
    refine ⟨⟨63 + i.val - j.val, by omega⟩, Finset.mem_univ _, ?_, ?_⟩
    · rw [if_pos h1] at hi; exact fun h => hi (e.symm.trans h)
    · apply Fin.ext; show j.val + (63 + i.val - j.val) - 63 = i.val; omega
  · intro w _ hw
    have h1 : 63 ≤ j.val + w.val := by by_contra h; exact hw (dif_neg h)
    rw [dif_pos h1, if_pos (show (⟨j.val + w.val - 63, _⟩ : Fin 64) ≤ j from by show j.val + w.val - 63 ≤ j.val; omega)]

/-- Positions `w` of a window that starts at `j`, taken as the entries from `j` on. -/
theorem sum_from (g : Fin 64 → EReal) (j : Fin 64) :
    (∑ w : Fin 64, if h : j.val + w.val < 64 then g ⟨j.val + w.val, h⟩ else 0) = ∑ i : Fin 64, if j ≤ i then g i else 0 := by
  refine Finset.sum_bij_ne_zero (fun w _ hw => ⟨(j.val + w.val) % 64, by omega⟩) (fun _ _ _ => Finset.mem_univ _) ?_ ?_ ?_
  · intro a _ ha b _ hb e
    have e' := congrArg Fin.val e
    simp only at e'
    have h1 : j.val + a.val < 64 := by by_contra h; exact ha (dif_neg h)
    have h2 : j.val + b.val < 64 := by by_contra h; exact hb (dif_neg h)
    apply Fin.ext; omega
  · intro i _ hi
    have h1 : j ≤ i := by by_contra h; exact hi (if_neg h)
    have h1' : j.val ≤ i.val := h1
    have e : (if h : j.val + (i.val - j.val) < 64 then g ⟨j.val + (i.val - j.val), h⟩ else 0) = g i := by
      rw [dif_pos (by omega)]; congr 1; apply Fin.ext; show j.val + (i.val - j.val) = i.val; omega
    refine ⟨⟨i.val - j.val, by omega⟩, Finset.mem_univ _, ?_, ?_⟩
    · rw [if_pos h1] at hi; exact fun h => hi (e.symm.trans h)
    · apply Fin.ext; show (j.val + (i.val - j.val)) % 64 = i.val; omega
  · intro w _ hw
    have h1 : j.val + w.val < 64 := by by_contra h; exact hw (dif_neg h)
    have e : (⟨(j.val + w.val) % 64, by omega⟩ : Fin 64) = ⟨j.val + w.val, h1⟩ := Fin.ext (Nat.mod_eq_of_lt h1)
    rw [dif_pos h1]
    simp only [e]
    rw [if_pos (show j ≤ (⟨j.val + w.val, h1⟩ : Fin 64) from by show j.val ≤ j.val + w.val; omega)]

/-- The windows' positions along the third of four axes. -/
def win4 : (⟨4, ![1, 1, 64, 1]⟩ : Shape).Idx ≃ Fin 64 where
  toFun y := y 2
  invFun w := ix4 (0 : Fin 1) (0 : Fin 1) w (0 : Fin 1)
  left_inv y := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
  right_inv w := rfl

/-- The windows' positions along the second of three axes. -/
def win3 : (⟨3, ![1, 64, 1]⟩ : Shape).Idx ≃ Fin 64 where
  toFun y := y 1
  invFun w := ix3 (0 : Fin 1) w (0 : Fin 1)
  left_inv y := by
    funext a
    match a with
    | ⟨0, _⟩ => exact Subsingleton.elim (α := Fin 1) _ _
    | ⟨1, _⟩ => rfl
    | ⟨2, _⟩ => exact Subsingleton.elim (α := Fin 1) _ _
  right_inv w := rfl

theorem window_sum {s t : Shape} (window strides lo hi : Fin s.rank → ℕ) (x : s.Idx → EReal) (h : s.ReduceWindows window strides lo hi t)
    (j : t.Idx) : Ideal.hostReduceWindowAdd window strides lo hi h x 0 j
      = ∑ y : (⟨s.rank, window⟩ : Shape).Idx,
          if hin : ∀ a, lo a ≤ (j (a.cast h.1.symm)).val * strides a + (y a).val ∧ (j (a.cast h.1.symm)).val * strides a + (y a).val - lo a < s.size a
          then x (fun a => ⟨(j (a.cast h.1.symm)).val * strides a + (y a).val - lo a, (hin a).2⟩) else 0 := by
  unfold Ideal.hostReduceWindowAdd Host.reduceWindow
  refine (foldl_add _).trans ?_
  rw [← Equiv.sum_comp (⟨s.rank, window⟩ : Shape).rowMajor.symm]
  refine Finset.sum_congr rfl fun n _ => ?_
  by_cases hc : ∀ a, lo a ≤ (j (a.cast h.1.symm)).val * strides a + ((⟨s.rank, window⟩ : Shape).rowMajor.symm n a).val ∧
      (j (a.cast h.1.symm)).val * strides a + ((⟨s.rank, window⟩ : Shape).rowMajor.symm n a).val - lo a < s.size a
  · rw [dif_pos hc]; symm; rw [dif_pos hc]
  · rw [dif_neg hc]; symm; rw [dif_neg hc]

section
variable {φ : FTy}

theorem cum4 (x : FVec Ideal ⟨4, ![4, 64, 64, 128]⟩ φ) (init : (⟨0, ![]⟩ : Shape).Idx → Ideal φ) (hi : ∀ i, init i = (0 : EReal))
    (h : (⟨4, ![4, 64, 64, 128]⟩ : Shape).ReduceWindows ![1, 1, 64, 1] ![1, 1, 1, 1] ![0, 0, 63, 0] ![0, 0, 0, 0] ⟨4, ![4, 64, 64, 128]⟩)
    (hu : 0 < (⟨0, ![]⟩ : Shape).numel) (p : Fin 4) (n j : Fin 64) (a : Fin 128) :
    (Host.reduceWindowAdd ![1, 1, 64, 1] ![1, 1, 1, 1] ![0, 0, 63, 0] ![0, 0, 0, 0] x init h hu (ix4 p n j a) : EReal)
      = ∑ i : Fin 64, if i ≤ j then (x (ix4 p n i a) : EReal) else 0 := by
  show Ideal.hostReduceWindowAdd _ _ _ _ h x (init _) _ = _
  rw [hi, window_sum, ← sum_upto (fun i => (x (ix4 p n i a) : EReal)), ← Equiv.sum_comp win4]
  refine Finset.sum_congr rfl fun y _ => ?_
  have y0 : (y 0).val = 0 := Nat.lt_one_iff.1 (y 0).isLt
  have y1 : (y 1).val = 0 := Nat.lt_one_iff.1 (y 1).isLt
  have y3 : (y 3).val = 0 := Nat.lt_one_iff.1 (y 3).isLt
  have y2 : (y 2).val < 64 := (y 2).isLt
  by_cases hc : 63 ≤ j.val + (win4 y).val
  · have hc' : 63 ≤ j.val + (y 2).val := hc
    rw [dif_pos hc, dif_pos]
    · congr 1
      funext a'
      apply Fin.ext
      match a' with
      | ⟨0, _⟩ => show p.val * 1 + (y 0).val - 0 = p.val; omega
      | ⟨1, _⟩ => show n.val * 1 + (y 1).val - 0 = n.val; omega
      | ⟨2, _⟩ => show j.val * 1 + (y 2).val - 63 = j.val + (y 2).val - 63; omega
      | ⟨3, _⟩ => show a.val * 1 + (y 3).val - 0 = a.val; omega
    · intro a'
      match a' with
      | ⟨0, _⟩ => show 0 ≤ p.val * 1 + (y 0).val ∧ p.val * 1 + (y 0).val - 0 < 4; omega
      | ⟨1, _⟩ => show 0 ≤ n.val * 1 + (y 1).val ∧ n.val * 1 + (y 1).val - 0 < 64; omega
      | ⟨2, _⟩ => show 63 ≤ j.val * 1 + (y 2).val ∧ j.val * 1 + (y 2).val - 63 < 64; omega
      | ⟨3, _⟩ => show 0 ≤ a.val * 1 + (y 3).val ∧ a.val * 1 + (y 3).val - 0 < 128; omega
  · rw [dif_neg hc, dif_neg]
    intro hh
    have h2 : 63 ≤ j.val * 1 + (y 2).val := (hh (2 : Fin 4)).1
    exact hc (by show 63 ≤ j.val + (y 2).val; omega)

theorem rcum4 (x : FVec Ideal ⟨4, ![4, 64, 64, 128]⟩ φ) (init : (⟨0, ![]⟩ : Shape).Idx → Ideal φ) (hi : ∀ i, init i = (0 : EReal))
    (h : (⟨4, ![4, 64, 64, 128]⟩ : Shape).ReduceWindows ![1, 1, 64, 1] ![1, 1, 1, 1] ![0, 0, 0, 0] ![0, 0, 63, 0] ⟨4, ![4, 64, 64, 128]⟩)
    (hu : 0 < (⟨0, ![]⟩ : Shape).numel) (p : Fin 4) (n j : Fin 64) (a : Fin 128) :
    (Host.reduceWindowAdd ![1, 1, 64, 1] ![1, 1, 1, 1] ![0, 0, 0, 0] ![0, 0, 63, 0] x init h hu (ix4 p n j a) : EReal)
      = ∑ i : Fin 64, if j ≤ i then (x (ix4 p n i a) : EReal) else 0 := by
  show Ideal.hostReduceWindowAdd _ _ _ _ h x (init _) _ = _
  rw [hi, window_sum, ← sum_from (fun i => (x (ix4 p n i a) : EReal)), ← Equiv.sum_comp win4]
  refine Finset.sum_congr rfl fun y _ => ?_
  have y0 : (y 0).val = 0 := Nat.lt_one_iff.1 (y 0).isLt
  have y1 : (y 1).val = 0 := Nat.lt_one_iff.1 (y 1).isLt
  have y3 : (y 3).val = 0 := Nat.lt_one_iff.1 (y 3).isLt
  by_cases hc : j.val + (win4 y).val < 64
  · have hc' : j.val + (y 2).val < 64 := hc
    rw [dif_pos hc, dif_pos]
    · congr 1
      funext a'
      apply Fin.ext
      match a' with
      | ⟨0, _⟩ => show p.val * 1 + (y 0).val - 0 = p.val; omega
      | ⟨1, _⟩ => show n.val * 1 + (y 1).val - 0 = n.val; omega
      | ⟨2, _⟩ => show j.val * 1 + (y 2).val - 0 = j.val + (y 2).val; omega
      | ⟨3, _⟩ => show a.val * 1 + (y 3).val - 0 = a.val; omega
    · intro a'
      match a' with
      | ⟨0, _⟩ => show 0 ≤ p.val * 1 + (y 0).val ∧ p.val * 1 + (y 0).val - 0 < 4; omega
      | ⟨1, _⟩ => show 0 ≤ n.val * 1 + (y 1).val ∧ n.val * 1 + (y 1).val - 0 < 64; omega
      | ⟨2, _⟩ => show 0 ≤ j.val * 1 + (y 2).val ∧ j.val * 1 + (y 2).val - 0 < 64; omega
      | ⟨3, _⟩ => show 0 ≤ a.val * 1 + (y 3).val ∧ a.val * 1 + (y 3).val - 0 < 128; omega
  · rw [dif_neg hc, dif_neg]
    intro hh
    have h2 : j.val * 1 + (y 2).val - 0 < 64 := (hh (2 : Fin 4)).2
    exact hc (by show j.val + (y 2).val < 64; omega)

theorem cum3 (x : FVec Ideal ⟨3, ![4, 64, 128]⟩ φ) (init : (⟨0, ![]⟩ : Shape).Idx → Ideal φ) (hi : ∀ i, init i = (0 : EReal))
    (h : (⟨3, ![4, 64, 128]⟩ : Shape).ReduceWindows ![1, 64, 1] ![1, 1, 1] ![0, 63, 0] ![0, 0, 0] ⟨3, ![4, 64, 128]⟩)
    (hu : 0 < (⟨0, ![]⟩ : Shape).numel) (p : Fin 4) (j : Fin 64) (a : Fin 128) :
    (Host.reduceWindowAdd ![1, 64, 1] ![1, 1, 1] ![0, 63, 0] ![0, 0, 0] x init h hu (ix3 p j a) : EReal)
      = ∑ i : Fin 64, if i ≤ j then (x (ix3 p i a) : EReal) else 0 := by
  show Ideal.hostReduceWindowAdd _ _ _ _ h x (init _) _ = _
  rw [hi, window_sum, ← sum_upto (fun i => (x (ix3 p i a) : EReal)), ← Equiv.sum_comp win3]
  refine Finset.sum_congr rfl fun y _ => ?_
  have y0 : (y 0).val = 0 := Nat.lt_one_iff.1 (y 0).isLt
  have y2 : (y 2).val = 0 := Nat.lt_one_iff.1 (y 2).isLt
  have y1 : (y 1).val < 64 := (y 1).isLt
  by_cases hc : 63 ≤ j.val + (win3 y).val
  · have hc' : 63 ≤ j.val + (y 1).val := hc
    rw [dif_pos hc, dif_pos]
    · congr 1
      funext a'
      apply Fin.ext
      match a' with
      | ⟨0, _⟩ => show p.val * 1 + (y 0).val - 0 = p.val; omega
      | ⟨1, _⟩ => show j.val * 1 + (y 1).val - 63 = j.val + (y 1).val - 63; omega
      | ⟨2, _⟩ => show a.val * 1 + (y 2).val - 0 = a.val; omega
    · intro a'
      match a' with
      | ⟨0, _⟩ => show 0 ≤ p.val * 1 + (y 0).val ∧ p.val * 1 + (y 0).val - 0 < 4; omega
      | ⟨1, _⟩ => show 63 ≤ j.val * 1 + (y 1).val ∧ j.val * 1 + (y 1).val - 63 < 64; omega
      | ⟨2, _⟩ => show 0 ≤ a.val * 1 + (y 2).val ∧ a.val * 1 + (y 2).val - 0 < 128; omega
  · rw [dif_neg hc, dif_neg]
    intro hh
    have h2 : 63 ≤ j.val * 1 + (y 1).val := (hh (1 : Fin 3)).1
    exact hc (by show 63 ≤ j.val + (y 1).val; omega)

theorem rcum3 (x : FVec Ideal ⟨3, ![4, 64, 128]⟩ φ) (init : (⟨0, ![]⟩ : Shape).Idx → Ideal φ) (hi : ∀ i, init i = (0 : EReal))
    (h : (⟨3, ![4, 64, 128]⟩ : Shape).ReduceWindows ![1, 64, 1] ![1, 1, 1] ![0, 0, 0] ![0, 63, 0] ⟨3, ![4, 64, 128]⟩)
    (hu : 0 < (⟨0, ![]⟩ : Shape).numel) (p : Fin 4) (j : Fin 64) (a : Fin 128) :
    (Host.reduceWindowAdd ![1, 64, 1] ![1, 1, 1] ![0, 0, 0] ![0, 63, 0] x init h hu (ix3 p j a) : EReal)
      = ∑ i : Fin 64, if j ≤ i then (x (ix3 p i a) : EReal) else 0 := by
  show Ideal.hostReduceWindowAdd _ _ _ _ h x (init _) _ = _
  rw [hi, window_sum, ← sum_from (fun i => (x (ix3 p i a) : EReal)), ← Equiv.sum_comp win3]
  refine Finset.sum_congr rfl fun y _ => ?_
  have y0 : (y 0).val = 0 := Nat.lt_one_iff.1 (y 0).isLt
  have y2 : (y 2).val = 0 := Nat.lt_one_iff.1 (y 2).isLt
  by_cases hc : j.val + (win3 y).val < 64
  · have hc' : j.val + (y 1).val < 64 := hc
    rw [dif_pos hc, dif_pos]
    · congr 1
      funext a'
      apply Fin.ext
      match a' with
      | ⟨0, _⟩ => show p.val * 1 + (y 0).val - 0 = p.val; omega
      | ⟨1, _⟩ => show j.val * 1 + (y 1).val - 0 = j.val + (y 1).val; omega
      | ⟨2, _⟩ => show a.val * 1 + (y 2).val - 0 = a.val; omega
    · intro a'
      match a' with
      | ⟨0, _⟩ => show 0 ≤ p.val * 1 + (y 0).val ∧ p.val * 1 + (y 0).val - 0 < 4; omega
      | ⟨1, _⟩ => show 0 ≤ j.val * 1 + (y 1).val ∧ j.val * 1 + (y 1).val - 0 < 64; omega
      | ⟨2, _⟩ => show 0 ≤ a.val * 1 + (y 2).val ∧ a.val * 1 + (y 2).val - 0 < 128; omega
  · rw [dif_neg hc, dif_neg]
    intro hh
    have h2 : j.val * 1 + (y 1).val - 0 < 64 := (hh (1 : Fin 3)).2
    exact hc (by show j.val + (y 1).val < 64; omega)

end

end Cert.GlaBwd
-- ==== Proof.RefFwd.lean ====
/-
  The reference's forward pass at real arguments: each stage's entries are the real numbers of the model.
-/
module

public import proofs.«01_k».proof.Proof.Gen.ReferenceIdeal.Read
public import proofs.«01_k».proof.Proof.Global
public import proofs.«01_k».proof.Proof.Coe
public import proofs.«01_k».proof.Proof.Window
public import Idealize.ShloMosaic.Lib.Pointwise
public import Idealize.ShloMosaic.Lib.IdealHost

@[expose] public section

set_option maxRecDepth 16384

noncomputable section

namespace Cert.GlaBwd

open Idealize.ShloMosaic Idealize.ShloMosaic.Tactic
open Cert.ReferenceIdeal Cert.ReferenceIdeal.Read

/-- The arguments' entries are the real numbers `A`. -/
structure Reads (A : R.Args) (x0 : (⟨S4096x512, .f32⟩ : BufTy).Contents (Elt Ideal)) (x1 : (⟨S4096x512, .f32⟩ : BufTy).Contents (Elt Ideal)) (x2 : (⟨S4096x1024, .f32⟩ : BufTy).Contents (Elt Ideal)) (x3 : (⟨S4096x1024, .f32⟩ : BufTy).Contents (Elt Ideal)) (x4 : (⟨S4096x16, .f32⟩ : BufTy).Contents (Elt Ideal)) (x5 : (⟨S16x512, .f32⟩ : BufTy).Contents (Elt Ideal)) (x6 : (⟨S512, .f32⟩ : BufTy).Contents (Elt Ideal)) (x7 : (⟨S1024, .f32⟩ : BufTy).Contents (Elt Ideal)) (x8 : (⟨S4096x2048, .f32⟩ : BufTy).Contents (Elt Ideal)) : Prop where
  h0 : ∀ (T : Fin 4096) (j : Fin 512), x0 (ix2 T j) = ((A.q T j : ℝ) : EReal)
  h1 : ∀ (T : Fin 4096) (j : Fin 512), x1 (ix2 T j) = ((A.k T j : ℝ) : EReal)
  h2 : ∀ (T : Fin 4096) (j : Fin 1024), x2 (ix2 T j) = ((A.v T j : ℝ) : EReal)
  h3 : ∀ (T : Fin 4096) (j : Fin 1024), x3 (ix2 T j) = ((A.r T j : ℝ) : EReal)
  h4 : ∀ (T : Fin 4096) (j : Fin 16), x4 (ix2 T j) = ((A.zl T j : ℝ) : EReal)
  h5 : ∀ (l : Fin 16) (j : Fin 512), x5 (ix2 l j) = ((A.wg l j : ℝ) : EReal)
  h6 : ∀ (j : Fin 512), x6 (ix1 j) = ((A.gb j : ℝ) : EReal)
  h7 : ∀ (j : Fin 1024), x7 (ix1 j) = ((A.gn j : ℝ) : EReal)
  h8 : ∀ (T : Fin 4096) (j : Fin 1024), x8 (ix2 T ⟨1024 + j.val, by omega⟩) = ((A.d T j : ℝ) : EReal)

/-! ## Rows and columns -/

theorem tok' (n i : Fin 64) (h : n.val * 64 + i.val < 4096) : (⟨n.val * 64 + i.val, h⟩ : Fin 4096) = R.tok n i := by
  apply Fin.ext; simp only [R.tok]; omega
theorem kc' (p : Fin 4) (a : Fin 128) (h : p.val * 128 + a.val < 512) : (⟨p.val * 128 + a.val, h⟩ : Fin 512) = R.kc p a := by
  apply Fin.ext; simp only [R.kc]; omega
theorem vc' (p : Fin 4) (e : Fin 256) (h : p.val * 256 + e.val < 1024) : (⟨p.val * 256 + e.val, h⟩ : Fin 1024) = R.vc p e := by
  apply Fin.ext; simp only [R.vc]; omega

theorem max_real (x y : ℝ) : max (x : EReal) (y : EReal) = ((max x y : ℝ) : EReal) :=
  (EReal.coe_strictMono.monotone.map_max).symm

section

variable {A : R.Args} {x0 : (⟨S4096x512, .f32⟩ : BufTy).Contents (Elt Ideal)} {x1 : (⟨S4096x512, .f32⟩ : BufTy).Contents (Elt Ideal)} {x2 : (⟨S4096x1024, .f32⟩ : BufTy).Contents (Elt Ideal)} {x3 : (⟨S4096x1024, .f32⟩ : BufTy).Contents (Elt Ideal)} {x4 : (⟨S4096x16, .f32⟩ : BufTy).Contents (Elt Ideal)} {x5 : (⟨S16x512, .f32⟩ : BufTy).Contents (Elt Ideal)} {x6 : (⟨S512, .f32⟩ : BufTy).Contents (Elt Ideal)} {x7 : (⟨S1024, .f32⟩ : BufTy).Contents (Elt Ideal)} {x8 : (⟨S4096x2048, .f32⟩ : BufTy).Contents (Elt Ideal)}

theorem s3 (X : Reads A x0 x1 x2 x3 x4 x5 x6 x7 x8) (T : Fin 4096) (j : Fin 512) :
    val_main_v3 (F := Ideal) x4 x5 x6 (ix2 T j) = ((A.z T j : ℝ) : EReal) := by
  pointwise [val_main_v3, val_main_v0, val_main_v1, val_main_v2]
  simp only [X.h4, X.h5, X.h6, ← EReal.coe_mul, ← coe_sum, ← EReal.coe_add, ← EReal.coe_sub, ← EReal.coe_neg, Ideal.exp_coe] <;> rfl

theorem s6 (X : Reads A x0 x1 x2 x3 x4 x5 x6 x7 x8) (T : Fin 4096) (j : Fin 512) :
    val_main_v6 (F := Ideal) x4 x5 x6 (ix2 T j) = ((R.la (A.z T j) : ℝ) : EReal) := by
  pointwise [val_main_v6, val_main_v5, val_main_cst, val_main_v4_0, val_main_call0_v1_0, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11]
  rw [s3 X T j]
  have habs : FloatOps.absf (F := Ideal) (φ := .f32) (-((A.z T j : ℝ) : EReal)) = ((|A.z T j| : ℝ) : EReal) := by
    show max (-((A.z T j : ℝ) : EReal)) (-(-((A.z T j : ℝ) : EReal))) = _
    rw [← EReal.coe_neg, ← EReal.coe_neg, max_real, neg_neg, max_comm]; rfl
  rw [habs, if_neg (fun h => h rfl), c_16, show (0 : EReal) = ((0 : ℝ) : EReal) from rfl, ← EReal.coe_neg, ← EReal.coe_neg, max_real, Ideal.exp_coe]
  have hl : Ideal.log1p ((Real.exp (-|A.z T j|) : ℝ) : EReal) = ((Real.log (1 + Real.exp (-|A.z T j|)) : ℝ) : EReal) := by
    show Ideal.log (1 + _) = _
    rw [show (1 : EReal) = ((1 : ℝ) : EReal) from rfl, ← EReal.coe_add, log_real (by positivity)]
  rw [hl, ← EReal.coe_add, ← EReal.coe_neg, div_real (by norm_num)]
  have hm : max (-A.z T j) 0 = -min (A.z T j) 0 := by
    have := max_neg_neg (A.z T j) 0
    rwa [neg_zero] at this
  rw [hm]
  congr 1
  unfold R.la
  ring

theorem s16 (X : Reads A x0 x1 x2 x3 x4 x5 x6 x7 x8) (h : Fin 4) (n i : Fin 64) (a : Fin 128) :
    val_main_v16 (F := Ideal) x4 x5 x6 (ix4 h n i a) = ((A.LA h n i a : ℝ) : EReal) := by
  pointwise [val_main_v16, val_main_v15]
  simp only [s6 X, tok', kc', ← EReal.coe_mul, ← coe_sum, ← EReal.coe_add, ← EReal.coe_sub, ← EReal.coe_neg, Ideal.exp_coe] <;> rfl

theorem s10 (X : Reads A x0 x1 x2 x3 x4 x5 x6 x7 x8) (h : Fin 4) (n i : Fin 64) (a : Fin 128) :
    val_main_v10 (F := Ideal) x0 (ix4 h n i a) = ((A.Q h n i a * R.scale : ℝ) : EReal) := by
  pointwise [val_main_v10, val_main_v9, val_main_v8, val_main_v7, val_main_cst_0]
  simp only [X.h0, tok', kc', c_scale, ← EReal.coe_mul, ← coe_sum, ← EReal.coe_add, ← EReal.coe_sub, ← EReal.coe_neg, Ideal.exp_coe] <;> rfl

theorem s12 (X : Reads A x0 x1 x2 x3 x4 x5 x6 x7 x8) (h : Fin 4) (n i : Fin 64) (a : Fin 128) :
    val_main_v12 (F := Ideal) x1 (ix4 h n i a) = ((A.K h n i a : ℝ) : EReal) := by
  pointwise [val_main_v12, val_main_v11]
  simp only [X.h1, tok', kc', ← EReal.coe_mul, ← coe_sum, ← EReal.coe_add, ← EReal.coe_sub, ← EReal.coe_neg, Ideal.exp_coe] <;> rfl

theorem s14 (X : Reads A x0 x1 x2 x3 x4 x5 x6 x7 x8) (h : Fin 4) (n i : Fin 64) (e : Fin 256) :
    val_main_v14 (F := Ideal) x2 (ix4 h n i e) = ((A.V h n i e : ℝ) : EReal) := by
  pointwise [val_main_v14, val_main_v13]
  simp only [X.h2, tok', vc', ← EReal.coe_mul, ← coe_sum, ← EReal.coe_add, ← EReal.coe_sub, ← EReal.coe_neg, Ideal.exp_coe] <;> rfl

theorem s17 (X : Reads A x0 x1 x2 x3 x4 x5 x6 x7 x8) (h : Fin 4) (n i : Fin 64) (a : Fin 128) :
    val_main_v17 (F := Ideal) x4 x5 x6 (ix4 h n i a) = ((A.B h n i a : ℝ) : EReal) := by
  unfold val_main_v17
  refine (cum4 _ _ (fun _ => ?_) _ _ h n i a).trans ?_
  · pointwise [val_main_call1_call0_v0, val_main_call1_call0_cst]
  · simp only [s16 X, R.Args.B, R.cum, coe_sum]
    refine Finset.sum_congr rfl fun i' _ => ?_
    split <;> rfl

theorem s18 (X : Reads A x0 x1 x2 x3 x4 x5 x6 x7 x8) (h : Fin 4) (n : Fin 64) (i : Fin 1) (a : Fin 128) :
    val_main_v18 (F := Ideal) x4 x5 x6 (ix4 h n i a) = ((A.B h n 63 a : ℝ) : EReal) := by
  pointwise [val_main_v18]
  simp only [s17 X, ← EReal.coe_mul, ← coe_sum, ← EReal.coe_add, ← EReal.coe_sub, ← EReal.coe_neg, Ideal.exp_coe] <;> rfl

theorem s19 (X : Reads A x0 x1 x2 x3 x4 x5 x6 x7 x8) (h : Fin 4) (n i : Fin 64) (a : Fin 128) :
    val_main_v19 (F := Ideal) x4 x5 x6 (ix4 h n i a) = ((Real.exp (A.B h n i a) : ℝ) : EReal) := by
  pointwise [val_main_v19]
  simp only [s17 X, ← EReal.coe_mul, ← coe_sum, ← EReal.coe_add, ← EReal.coe_sub, ← EReal.coe_neg, Ideal.exp_coe] <;> rfl

theorem s20 (X : Reads A x0 x1 x2 x3 x4 x5 x6 x7 x8) (h : Fin 4) (n i : Fin 64) (a : Fin 128) :
    val_main_v20 (F := Ideal) x0 x4 x5 x6 (ix4 h n i a) = ((R.qd (A.B h n) (A.Q h n) i a : ℝ) : EReal) := by
  pointwise [val_main_v20]
  simp only [s10 X, s19 X, ← EReal.coe_mul, ← coe_sum, ← EReal.coe_add, ← EReal.coe_sub, ← EReal.coe_neg, Ideal.exp_coe] <;> rfl

theorem s22 (X : Reads A x0 x1 x2 x3 x4 x5 x6 x7 x8) (h : Fin 4) (n i : Fin 64) (a : Fin 128) :
    val_main_v22 (F := Ideal) x4 x5 x6 (ix4 h n i a) = ((Real.exp (-A.B h n i a) : ℝ) : EReal) := by
  pointwise [val_main_v22, val_main_v21]
  simp only [s17 X, ← EReal.coe_mul, ← coe_sum, ← EReal.coe_add, ← EReal.coe_sub, ← EReal.coe_neg, Ideal.exp_coe] <;> rfl

theorem s23 (X : Reads A x0 x1 x2 x3 x4 x5 x6 x7 x8) (h : Fin 4) (n i : Fin 64) (a : Fin 128) :
    val_main_v23 (F := Ideal) x1 x4 x5 x6 (ix4 h n i a) = ((R.ki (A.B h n) (A.K h n) i a : ℝ) : EReal) := by
  pointwise [val_main_v23]
  simp only [s12 X, s22 X, ← EReal.coe_mul, ← coe_sum, ← EReal.coe_add, ← EReal.coe_sub, ← EReal.coe_neg, Ideal.exp_coe] <;> rfl

theorem s26 (X : Reads A x0 x1 x2 x3 x4 x5 x6 x7 x8) (h : Fin 4) (n i : Fin 64) (a : Fin 128) :
    val_main_v26 (F := Ideal) x4 x5 x6 (ix4 h n i a) = ((Real.exp (A.B h n 63 a - A.B h n i a) : ℝ) : EReal) := by
  pointwise [val_main_v26, val_main_v25, val_main_v24]
  simp only [s17 X, s18 X, ← EReal.coe_mul, ← coe_sum, ← EReal.coe_add, ← EReal.coe_sub, ← EReal.coe_neg, Ideal.exp_coe] <;> rfl

theorem s27 (X : Reads A x0 x1 x2 x3 x4 x5 x6 x7 x8) (h : Fin 4) (n i : Fin 64) (a : Fin 128) :
    val_main_v27 (F := Ideal) x1 x4 x5 x6 (ix4 h n i a) = ((R.ke (A.B h n) (A.K h n) i a : ℝ) : EReal) := by
  pointwise [val_main_v27]
  simp only [s12 X, s26 X, ← EReal.coe_mul, ← coe_sum, ← EReal.coe_add, ← EReal.coe_sub, ← EReal.coe_neg, Ideal.exp_coe] <;> rfl

theorem word_pred (k : ℕ) (hk : k < 64) : IntOp.addi (BitVec.ofNat 32 (k + 1)) 4294967295#32 = BitVec.ofNat 32 k := by
  show BitVec.ofNat 32 (k + 1) + 4294967295#32 = BitVec.ofNat 32 k
  rw [BitVec.ofNat_add, BitVec.add_assoc, show (1#32 : BitVec 32) + 4294967295#32 = 0#32 from by decide, BitVec.add_zero]

theorem one_sub_word (n : Fin 64) (m : Fin 64) :
    Scalar.select (IntOp.cmpi CmpIPredicate.sge (IntOp.addi (BitVec.ofNat 32 n.val) 4294967295#32) (BitVec.ofNat 32 m.val)) 1#1 0#1
      = if m < n then 1#1 else 0#1 := by
  by_cases h0 : n.val = 0
  · have h2 : ¬ m < n := by intro h; have := Fin.lt_def.1 h; omega
    have e : IntOp.addi (BitVec.ofNat 32 0) 4294967295#32 = 4294967295#32 := BitVec.zero_add _
    have h1 : ¬ (((BitVec.ofNat 32 m.val).toNat : ℤ) ≤ (4294967295#32 : BitVec 32).toInt) := by
      have : (4294967295#32 : BitVec 32).toInt = -1 := by decide
      rw [this]
      have := Int.natCast_nonneg (BitVec.ofNat 32 m.val).toNat
      omega
    rw [h0, e, WordCmp.cmpi_sge_eq, WordCmp.toInt_eq_toNat_of_lt_half (x := BitVec.ofNat 32 m.val)
      (by rw [BitVec.toNat_ofNat]; have := m.isLt; omega), decide_eq_false h1, if_neg h2]
    rfl
  · obtain ⟨k, hk⟩ : ∃ k, n.val = k + 1 := ⟨n.val - 1, by omega⟩
    have hk' : k < 64 := by omega
    rw [hk, word_pred k hk', show BitVec.ofNat 32 k = BitVec.ofNat 32 (⟨k, hk'⟩ : Fin 64).val from rfl, select_sge]
    by_cases h : m < n
    · rw [if_pos h, if_pos (Fin.le_def.2 (by have := Fin.lt_def.1 h; show m.val ≤ k; omega))]
    · rw [if_neg h, if_neg (fun h' => h (Fin.lt_def.2 (by have : m.val ≤ k := Fin.le_def.1 h'; omega)))]

theorem m31 (h : Fin 4) (n i j : Fin 64) : val_main_v31_1 (F := Ideal) (ix4 h n i j) = if j ≤ i then 1#1 else 0#1 := by
  pointwise [val_main_v31_1, val_main_v29, val_main_call2_v0, val_main_call2_v1, val_main_call2_v2, val_main_call2_v3, val_main_call2_v4, val_main_call2_v5, val_main_call2_c, val_main_call2_c_0, val_main_v28, val_main_c]
  rw [show IntOp.addi (BitVec.ofNat 32 i.val) 0#32 = BitVec.ofNat 32 i.val from BitVec.add_zero _, select_sge]

theorem m48 (h : Fin 4) (n m : Fin 64) (a : Fin 128) : val_main_v48_1 (F := Ideal) (ix4 h n m a) = if m < n then 1#1 else 0#1 := by
  pointwise [val_main_v48_1, val_main_v40, val_main_v39, val_main_call5_v0, val_main_call5_v1, val_main_call5_v2, val_main_call5_v3, val_main_call5_v4, val_main_call5_v5, val_main_call5_c, val_main_call5_c_0, val_main_v38, val_main_c_2]
  rw [one_sub_word]

theorem m46 (h : Fin 4) (n m : Fin 64) (a : Fin 128) : val_main_v46_1 (F := Ideal) (ix4 h n m a) = if m < n then 1#1 else 0#1 :=
  m48 h n m a

theorem z31 (i : S4x64x64x64.Idx) : val_main_call3_v2 (F := Ideal) i = ((0 : ℝ) : EReal) := c_0
theorem z46 (i : S4x64x64x128.Idx) : val_main_call6_v2 (F := Ideal) i = ((0 : ℝ) : EReal) := c_0
theorem z48 (i : S4x64x64x128.Idx) : val_main_call7_v2 (F := Ideal) i = ((0 : ℝ) : EReal) := c_0

/-- A selection between two reals by a mask is the real selected. -/
theorem select_real (p : Prop) [Decidable p] (x y : ℝ) :
    Scalar.select (if p then 1#1 else 0#1) ((x : ℝ) : EReal) ((y : ℝ) : EReal) = ((if p then x else y : ℝ) : EReal) := by
  by_cases h : p
  · simp only [if_pos h]; rfl
  · simp only [if_neg h]; rfl

theorem s30 (X : Reads A x0 x1 x2 x3 x4 x5 x6 x7 x8) (h : Fin 4) (n i j : Fin 64) :
    val_main_v30 (F := Ideal) x0 x1 x4 x5 x6 (ix4 h n i j) = ((∑ a, R.qd (A.B h n) (A.Q h n) i a * R.ki (A.B h n) (A.K h n) j a : ℝ) : EReal) := by
  pointwise [val_main_v30]
  simp only [s20 X, s23 X, ← EReal.coe_mul, ← coe_sum, ← EReal.coe_add, ← EReal.coe_sub, ← EReal.coe_neg, Ideal.exp_coe] <;> rfl

theorem s31 (X : Reads A x0 x1 x2 x3 x4 x5 x6 x7 x8) (h : Fin 4) (n i j : Fin 64) :
    val_main_v31_0 (F := Ideal) x0 x1 x4 x5 x6 (ix4 h n i j) = ((R.att (A.B h n) (A.Q h n) (A.K h n) i j : ℝ) : EReal) := by
  rw [val_main_v31_0_apply, m31, s30 X, z31]
  exact select_real _ _ _

theorem s32 (X : Reads A x0 x1 x2 x3 x4 x5 x6 x7 x8) (h : Fin 4) (n i : Fin 64) (e : Fin 256) :
    val_main_v32 (F := Ideal) x0 x1 x2 x4 x5 x6 (ix4 h n i e) = ((∑ j, R.att (A.B h n) (A.Q h n) (A.K h n) i j * A.V h n j e : ℝ) : EReal) := by
  pointwise [val_main_v32]
  simp only [s31 X, s14 X, ← EReal.coe_mul, ← coe_sum, ← EReal.coe_add, ← EReal.coe_sub, ← EReal.coe_neg, Ideal.exp_coe] <;> rfl

theorem s33 (X : Reads A x0 x1 x2 x3 x4 x5 x6 x7 x8) (h : Fin 4) (n : Fin 64) (a : Fin 128) (e : Fin 256) :
    val_main_v33 (F := Ideal) x1 x2 x4 x5 x6 (ix4 h n a e) = ((A.delta h n e a : ℝ) : EReal) := by
  pointwise [val_main_v33]
  simp only [s27 X, s14 X, ← EReal.coe_mul, ← coe_sum, ← EReal.coe_add, ← EReal.coe_sub, ← EReal.coe_neg, Ideal.exp_coe] <;> rfl

theorem s34 (X : Reads A x0 x1 x2 x3 x4 x5 x6 x7 x8) (h : Fin 4) (n : Fin 64) (a : Fin 128) :
    val_main_v34 (F := Ideal) x4 x5 x6 (ix3 h n a) = ((A.B h n 63 a : ℝ) : EReal) := by
  pointwise [val_main_v34]
  simp only [s18 X, ← EReal.coe_mul, ← coe_sum, ← EReal.coe_add, ← EReal.coe_sub, ← EReal.coe_neg, Ideal.exp_coe] <;> rfl

theorem s35 (X : Reads A x0 x1 x2 x3 x4 x5 x6 x7 x8) (h : Fin 4) (n : Fin 64) (a : Fin 128) :
    val_main_v35 (F := Ideal) x4 x5 x6 (ix3 h n a) = ((A.tot h n a : ℝ) : EReal) := by
  unfold val_main_v35
  refine (cum3 _ _ (fun _ => ?_) _ _ h n a).trans ?_
  · pointwise [val_main_call4_call0_v0, val_main_call4_call0_cst]
  · simp only [s34 X, R.Args.tot, R.cum, coe_sum]
    refine Finset.sum_congr rfl fun i' _ => ?_
    split <;> rfl

theorem s45 (X : Reads A x0 x1 x2 x3 x4 x5 x6 x7 x8) (h : Fin 4) (n m : Fin 64) (a : Fin 128) :
    val_main_v45 (F := Ideal) x4 x5 x6 (ix4 h n m a) = ((A.tot h n a - A.B h n 63 a - A.tot h m a : ℝ) : EReal) := by
  pointwise [val_main_v45, val_main_v44, val_main_v43, val_main_v42, val_main_v41, val_main_v37, val_main_v36]
  simp only [s35 X, s18 X, ← EReal.coe_mul, ← coe_sum, ← EReal.coe_add, ← EReal.coe_sub, ← EReal.coe_neg, Ideal.exp_coe] <;> rfl

theorem s46 (X : Reads A x0 x1 x2 x3 x4 x5 x6 x7 x8) (h : Fin 4) (n m : Fin 64) (a : Fin 128) :
    val_main_v46_0 (F := Ideal) x4 x5 x6 (ix4 h n m a) = ((if m < n then A.tot h n a - A.B h n 63 a - A.tot h m a else 0 : ℝ) : EReal) := by
  rw [val_main_v46_0_apply, m46, s45 X, z46]
  exact select_real _ _ _

theorem s47 (X : Reads A x0 x1 x2 x3 x4 x5 x6 x7 x8) (h : Fin 4) (n m : Fin 64) (a : Fin 128) :
    val_main_v47 (F := Ideal) x4 x5 x6 (ix4 h n m a) = ((Real.exp (if m < n then A.tot h n a - A.B h n 63 a - A.tot h m a else 0) : ℝ) : EReal) := by
  refine (val_main_v47_apply x4 x5 x6 _).trans ?_
  rw [s46 X]
  exact Ideal.exp_coe _

theorem s48 (X : Reads A x0 x1 x2 x3 x4 x5 x6 x7 x8) (h : Fin 4) (n m : Fin 64) (a : Fin 128) :
    val_main_v48_0 (F := Ideal) x4 x5 x6 (ix4 h n m a) = ((A.car h n m a : ℝ) : EReal) := by
  rw [val_main_v48_0_apply, m48, s47 X, z48]
  refine (select_real _ _ _).trans (congrArg _ ?_)
  unfold R.Args.car
  by_cases hm : m < n
  · simp only [if_pos hm]
  · simp only [if_neg hm]

theorem s50 (X : Reads A x0 x1 x2 x3 x4 x5 x6 x7 x8) (h : Fin 4) (n : Fin 64) (a : Fin 128) (e : Fin 256) :
    val_main_v50 (F := Ideal) x1 x2 x4 x5 x6 (ix4 h n a e) = ((A.St h n e a : ℝ) : EReal) := by
  pointwise [val_main_v50, val_main_v49]
  simp only [s33 X, s48 X, ← EReal.coe_mul, ← coe_sum, ← EReal.coe_add, ← EReal.coe_sub, ← EReal.coe_neg, Ideal.exp_coe]
  simp only [R.Args.St, mul_comm]

theorem s52 (X : Reads A x0 x1 x2 x3 x4 x5 x6 x7 x8) (h : Fin 4) (n i : Fin 64) (e : Fin 256) :
    val_main_v52 (F := Ideal) x0 x1 x2 x4 x5 x6 (ix4 h n i e) = ((A.O h n i e : ℝ) : EReal) := by
  pointwise [val_main_v52, val_main_v51]
  simp only [s32 X, s20 X, s50 X, ← EReal.coe_mul, ← coe_sum, ← EReal.coe_add, ← EReal.coe_sub, ← EReal.coe_neg, Ideal.exp_coe] <;> rfl

end

end Cert.GlaBwd
-- ==== Proof.RefNorm.lean ====
/-
  The reference's gradient through the gate and the norm at real arguments: the gradient of the attention's output.
-/
module

public import proofs.«01_k».proof.Proof.RefFwd

@[expose] public section

set_option maxRecDepth 16384

noncomputable section

namespace Cert.GlaBwd

open Idealize.ShloMosaic Idealize.ShloMosaic.Tactic
open Cert.ReferenceIdeal Cert.ReferenceIdeal.Read

section

variable {A : R.Args} {x0 : (⟨S4096x512, .f32⟩ : BufTy).Contents (Elt Ideal)} {x1 : (⟨S4096x512, .f32⟩ : BufTy).Contents (Elt Ideal)} {x2 : (⟨S4096x1024, .f32⟩ : BufTy).Contents (Elt Ideal)} {x3 : (⟨S4096x1024, .f32⟩ : BufTy).Contents (Elt Ideal)} {x4 : (⟨S4096x16, .f32⟩ : BufTy).Contents (Elt Ideal)} {x5 : (⟨S16x512, .f32⟩ : BufTy).Contents (Elt Ideal)} {x6 : (⟨S512, .f32⟩ : BufTy).Contents (Elt Ideal)} {x7 : (⟨S1024, .f32⟩ : BufTy).Contents (Elt Ideal)} {x8 : (⟨S4096x2048, .f32⟩ : BufTy).Contents (Elt Ideal)}

theorem s54 (X : Reads A x0 x1 x2 x3 x4 x5 x6 x7 x8) (T : Fin 4096) (h : Fin 4) (e : Fin 256) :
    val_main_v54 (F := Ideal) x0 x1 x2 x4 x5 x6 (ix3 T h e) = ((A.O h (R.chk T) (R.pos T) e : ℝ) : EReal) := by
  pointwise [val_main_v54, val_main_v53]
  simp only [s52 X, ← EReal.coe_mul, ← coe_sum, ← EReal.coe_add, ← EReal.coe_sub, ← EReal.coe_neg, Ideal.exp_coe] <;> rfl

theorem s63 (X : Reads A x0 x1 x2 x3 x4 x5 x6 x7 x8) (T : Fin 4096) (h : Fin 4) (u : Fin 1) :
    val_main_v63 (F := Ideal) x0 x1 x2 x4 x5 x6 (ix3 T h u) = ((R.ms (A.O h (R.chk T)) (R.pos T) : ℝ) : EReal) := by
  pointwise [val_main_v63, val_main_v62, val_main_cst_8, val_main_v61, val_main_v60, val_main_cst_7, val_main_v59, val_main_v58, val_main_cst_6, val_main_v55]
  simp only [s54 X, ← EReal.coe_mul, ← coe_sum, ← EReal.coe_add, ← EReal.coe_sub, ← EReal.coe_neg, Ideal.exp_coe, c_eps, c_256]
  rw [div_real (by norm_num), ← EReal.coe_add]
  rfl

theorem s64 (X : Reads A x0 x1 x2 x3 x4 x5 x6 x7 x8) (T : Fin 4096) (h : Fin 4) (u : Fin 1) :
    val_main_v64 (F := Ideal) x0 x1 x2 x4 x5 x6 (ix3 T h u) = ((R.rinv (A.O h (R.chk T)) (R.pos T) : ℝ) : EReal) := by
  pointwise [val_main_v64]
  rw [s63 X, rsqrt_real (ms_pos _ _)]
  rfl

theorem s67 (X : Reads A x0 x1 x2 x3 x4 x5 x6 x7 x8) (T : Fin 4096) (h : Fin 4) (u : Fin 1) :
    val_main_v67 (F := Ideal) x0 x1 x2 x4 x5 x6 (ix3 T h u) = ((-(1 / 2) * (R.rinv (A.O h (R.chk T)) (R.pos T) / R.ms (A.O h (R.chk T)) (R.pos T)) : ℝ) : EReal) := by
  pointwise [val_main_v67, val_main_v66, val_main_cst_9, val_main_v65]
  rw [s64 X, s63 X, div_real (ms_pos _ _).ne', c_neg_half, ← EReal.coe_mul]

theorem s69 (X : Reads A x0 x1 x2 x3 x4 x5 x6 x7 x8) (T : Fin 4096) (h : Fin 4) (e : Fin 256) :
    val_main_v69 (F := Ideal) x0 x1 x2 x4 x5 x6 (ix3 T h e) = ((R.on (A.O h (R.chk T)) (R.pos T) e : ℝ) : EReal) := by
  pointwise [val_main_v69, val_main_v68]
  simp only [s54 X, s64 X, ← EReal.coe_mul, ← coe_sum, ← EReal.coe_add, ← EReal.coe_sub, ← EReal.coe_neg, Ideal.exp_coe] <;> rfl

theorem s70 (X : Reads A x0 x1 x2 x3 x4 x5 x6 x7 x8) (T : Fin 4096) (j : Fin 1024) :
    val_main_v70 (F := Ideal) x0 x1 x2 x4 x5 x6 (ix2 T j) = ((R.on (A.O (R.hdv j) (R.chk T)) (R.pos T) (R.ev j) : ℝ) : EReal) := by
  pointwise [val_main_v70]
  simp only [s69 X, ← EReal.coe_mul, ← coe_sum, ← EReal.coe_add, ← EReal.coe_sub, ← EReal.coe_neg, Ideal.exp_coe] <;> rfl

theorem s73 (X : Reads A x0 x1 x2 x3 x4 x5 x6 x7 x8) (T : Fin 4096) (j : Fin 1024) :
    val_main_v73 (F := Ideal) x0 x1 x2 x4 x5 x6 x7 (ix2 T j) = ((R.on (A.O (R.hdv j) (R.chk T)) (R.pos T) (R.ev j) * A.gn j : ℝ) : EReal) := by
  pointwise [val_main_v73, val_main_v72, val_main_v71]
  simp only [s70 X, X.h7, ← EReal.coe_mul, ← coe_sum, ← EReal.coe_add, ← EReal.coe_sub, ← EReal.coe_neg, Ideal.exp_coe] <;> rfl

theorem s742 (X : Reads A x0 x1 x2 x3 x4 x5 x6 x7 x8) (T : Fin 4096) (j : Fin 1024) :
    val_main_v74_2 (F := Ideal) x3 (ix2 T j) = (((1 / (1 + Real.exp (-A.r T j))) : ℝ) : EReal) := by
  pointwise [val_main_v74_2, val_main_call8_v4, val_main_call8_cst_0, val_main_call8_v3, val_main_call8_v2, val_main_call8_cst, val_main_call8_v1, val_main_call8_v0]
  rw [X.h3, ← EReal.coe_neg, Ideal.exp_coe, show (1 : EReal) = ((1 : ℝ) : EReal) from rfl, ← EReal.coe_add, div_real (one_add_exp_ne _)]

theorem s741 (X : Reads A x0 x1 x2 x3 x4 x5 x6 x7 x8) (T : Fin 4096) (j : Fin 1024) :
    val_main_v74_1 (F := Ideal) x3 (ix2 T j) = (((1 / (1 + Real.exp (-A.r T j))) * (1 - (1 / (1 + Real.exp (-A.r T j)))) : ℝ) : EReal) := by
  pointwise [val_main_v74_1, val_main_call8_v7, val_main_call8_v6, val_main_call8_cst_1]
  rw [s742 X, show (1 : EReal) = ((1 : ℝ) : EReal) from rfl, ← EReal.coe_sub, ← EReal.coe_mul]

theorem s740 (X : Reads A x0 x1 x2 x3 x4 x5 x6 x7 x8) (T : Fin 4096) (j : Fin 1024) :
    val_main_v74_0 (F := Ideal) x3 (ix2 T j) = ((A.r T j * (1 / (1 + Real.exp (-A.r T j))) : ℝ) : EReal) := by
  pointwise [val_main_v74_0]
  simp only [s742 X, X.h3, ← EReal.coe_mul, ← coe_sum, ← EReal.coe_add, ← EReal.coe_sub, ← EReal.coe_neg, Ideal.exp_coe] <;> rfl

theorem s76 (X : Reads A x0 x1 x2 x3 x4 x5 x6 x7 x8) (T : Fin 4096) (j : Fin 1024) :
    val_main_v76 (F := Ideal) x8 (ix2 T j) = ((A.d T j : ℝ) : EReal) := by
  pointwise [val_main_v76]
  simp only [X.h8, ← EReal.coe_mul, ← coe_sum, ← EReal.coe_add, ← EReal.coe_sub, ← EReal.coe_neg, Ideal.exp_coe] <;> rfl

theorem s78 (X : Reads A x0 x1 x2 x3 x4 x5 x6 x7 x8) (T : Fin 4096) (j : Fin 1024) :
    val_main_v78 (F := Ideal) x3 x8 (ix2 T j) = ((A.d T j * (A.r T j * (1 / (1 + Real.exp (-A.r T j)))) : ℝ) : EReal) := by
  pointwise [val_main_v78]
  simp only [s76 X, s740 X, ← EReal.coe_mul, ← coe_sum, ← EReal.coe_add, ← EReal.coe_sub, ← EReal.coe_neg, Ideal.exp_coe] <;> rfl

theorem s79 (X : Reads A x0 x1 x2 x3 x4 x5 x6 x7 x8) (T : Fin 4096) (j : Fin 1024) :
    val_main_v79 (F := Ideal) x0 x1 x2 x3 x4 x5 x6 x7 x8 (ix2 T j) = ((A.dR (R.hdv j) (R.chk T) (R.pos T) (R.ev j) : ℝ) : EReal) := by
  pointwise [val_main_v79, val_main_call9_v2, val_main_call9_v1, val_main_call9_v0, val_main_v77]
  simp only [s73 X, s76 X, s742 X, s741 X, X.h3, ← EReal.coe_mul, ← coe_sum, ← EReal.coe_add, ← EReal.coe_sub, ← EReal.coe_neg, Ideal.exp_coe]
  congr 1
  unfold R.Args.dR R.dr R.sg R.Args.Rr R.Args.Dd R.Args.Gn
  rw [R.tok_chk, R.vc_hdv]
  ring

theorem s80 (X : Reads A x0 x1 x2 x3 x4 x5 x6 x7 x8) (T : Fin 4096) (j : Fin 1024) :
    val_main_v80 (F := Ideal) x0 x1 x2 x3 x4 x5 x6 x8 (ix2 T j) = ((R.on (A.O (R.hdv j) (R.chk T)) (R.pos T) (R.ev j) * (A.d T j * (A.r T j * (1 / (1 + Real.exp (-A.r T j))))) : ℝ) : EReal) := by
  pointwise [val_main_v80]
  simp only [s70 X, s78 X, ← EReal.coe_mul, ← coe_sum, ← EReal.coe_add, ← EReal.coe_sub, ← EReal.coe_neg, Ideal.exp_coe] <;> rfl

theorem s85 (X : Reads A x0 x1 x2 x3 x4 x5 x6 x7 x8) (j : Fin 1024) :
    val_main_v85 (F := Ideal) x0 x1 x2 x3 x4 x5 x6 x8 (ix1 j) = ((∑ T, R.on (A.O (R.hdv j) (R.chk T)) (R.pos T) (R.ev j) * (A.d T j * (A.r T j * (1 / (1 + Real.exp (-A.r T j))))) : ℝ) : EReal) := by
  pointwise [val_main_v85, val_main_cst_11, val_main_v82, val_main_v81, val_main_cst_10]
  simp only [s80 X, ← EReal.coe_mul, ← coe_sum, ← EReal.coe_add, ← EReal.coe_sub, ← EReal.coe_neg, Ideal.exp_coe, Finset.sum_const, Finset.card_univ, Fintype.card_fin, one_smul]

theorem s84 (X : Reads A x0 x1 x2 x3 x4 x5 x6 x7 x8) (T : Fin 4096) (j : Fin 1024) :
    val_main_v84 (F := Ideal) x3 x7 x8 (ix2 T j) = ((A.d T j * (A.r T j * (1 / (1 + Real.exp (-A.r T j)))) * A.gn j : ℝ) : EReal) := by
  pointwise [val_main_v84, val_main_v83, val_main_v71]
  simp only [s78 X, X.h7, ← EReal.coe_mul, ← coe_sum, ← EReal.coe_add, ← EReal.coe_sub, ← EReal.coe_neg, Ideal.exp_coe] <;> rfl

theorem s86 (X : Reads A x0 x1 x2 x3 x4 x5 x6 x7 x8) (T : Fin 4096) (h : Fin 4) (e : Fin 256) :
    val_main_v86 (F := Ideal) x3 x7 x8 (ix3 T h e) = ((R.tv (A.Rr h (R.chk T)) (A.Dd h (R.chk T)) (A.Gn h) (R.pos T) e : ℝ) : EReal) := by
  pointwise [val_main_v86]
  simp only [s84 X, vc']
  congr 1
  unfold R.tv R.don R.sg R.Args.Rr R.Args.Dd R.Args.Gn
  rw [R.tok_chk]

theorem s87 (X : Reads A x0 x1 x2 x3 x4 x5 x6 x7 x8) (T : Fin 4096) (h : Fin 4) (e : Fin 256) :
    val_main_v87 (F := Ideal) x0 x1 x2 x3 x4 x5 x6 x7 x8 (ix3 T h e) = ((A.O h (R.chk T) (R.pos T) e * R.tv (A.Rr h (R.chk T)) (A.Dd h (R.chk T)) (A.Gn h) (R.pos T) e : ℝ) : EReal) := by
  pointwise [val_main_v87]
  simp only [s54 X, s86 X, ← EReal.coe_mul, ← coe_sum, ← EReal.coe_add, ← EReal.coe_sub, ← EReal.coe_neg, Ideal.exp_coe] <;> rfl

theorem s88 (X : Reads A x0 x1 x2 x3 x4 x5 x6 x7 x8) (T : Fin 4096) (h : Fin 4) :
    val_main_v88 (F := Ideal) x0 x1 x2 x3 x4 x5 x6 x7 x8 (ix2 T h) = (((∑ e, A.O h (R.chk T) (R.pos T) e * R.tv (A.Rr h (R.chk T)) (A.Dd h (R.chk T)) (A.Gn h) (R.pos T) e) : ℝ) : EReal) := by
  pointwise [val_main_v88, val_main_cst_12]
  simp only [s87 X, ← EReal.coe_mul, ← coe_sum, ← EReal.coe_add, ← EReal.coe_sub, ← EReal.coe_neg, Ideal.exp_coe]

theorem s94 (X : Reads A x0 x1 x2 x3 x4 x5 x6 x7 x8) (T : Fin 4096) (h : Fin 4) (u : Fin 1) :
    val_main_v94 (F := Ideal) x0 x1 x2 x3 x4 x5 x6 x7 x8 (ix3 T h u) = (((∑ e, A.O h (R.chk T) (R.pos T) e * R.tv (A.Rr h (R.chk T)) (A.Dd h (R.chk T)) (A.Gn h) (R.pos T) e) * (-(1 / 2) * (R.rinv (A.O h (R.chk T)) (R.pos T) / R.ms (A.O h (R.chk T)) (R.pos T))) / 256 : ℝ) : EReal) := by
  pointwise [val_main_v94, val_main_v93, val_main_cst_13, val_main_v92, val_main_v89]
  simp only [s88 X, s67 X, ← EReal.coe_mul, ← coe_sum, ← EReal.coe_add, ← EReal.coe_sub, ← EReal.coe_neg, Ideal.exp_coe, c_256]
  rw [div_real (by norm_num)]

theorem s96 (X : Reads A x0 x1 x2 x3 x4 x5 x6 x7 x8) (T : Fin 4096) (h : Fin 4) (e : Fin 256) :
    val_main_v96 (F := Ideal) x0 x1 x2 x3 x4 x5 x6 x7 x8 (ix3 T h e) = (((∑ e, A.O h (R.chk T) (R.pos T) e * R.tv (A.Rr h (R.chk T)) (A.Dd h (R.chk T)) (A.Gn h) (R.pos T) e) * (-(1 / 2) * (R.rinv (A.O h (R.chk T)) (R.pos T) / R.ms (A.O h (R.chk T)) (R.pos T))) / 256 : ℝ) : EReal) := by
  pointwise [val_main_v96, val_main_v95, val_main_cst_14]
  simp only [s94 X, ← EReal.coe_mul, ← coe_sum, ← EReal.coe_add, ← EReal.coe_sub, ← EReal.coe_neg, Ideal.exp_coe, Finset.sum_const, Finset.card_univ, Fintype.card_fin, one_smul]

theorem s98 (X : Reads A x0 x1 x2 x3 x4 x5 x6 x7 x8) (T : Fin 4096) (h : Fin 4) (e : Fin 256) :
    val_main_v98 (F := Ideal) x0 x1 x2 x3 x4 x5 x6 x7 x8 (ix3 T h e) = ((A.E h (R.chk T) (R.pos T) e : ℝ) : EReal) := by
  pointwise [val_main_v98, val_main_v97, val_main_v91, val_main_v90, val_main_v57, val_main_v56, val_main_cst_5]
  simp only [s96 X, s86 X, s64 X, s54 X, c_2, ← EReal.coe_mul, ← coe_sum, ← EReal.coe_add, ← EReal.coe_sub, ← EReal.coe_neg, Ideal.exp_coe]
  congr 1
  unfold R.Args.E R.dov
  have hr : R.rinv (A.O h (R.chk T)) (R.pos T) / R.ms (A.O h (R.chk T)) (R.pos T) = R.rinv (A.O h (R.chk T)) (R.pos T) * R.rinv (A.O h (R.chk T)) (R.pos T) * R.rinv (A.O h (R.chk T)) (R.pos T) := by
    have hp := ms_pos (A.O h (R.chk T)) (R.pos T)
    have hs : R.rinv (A.O h (R.chk T)) (R.pos T) * R.rinv (A.O h (R.chk T)) (R.pos T) = (R.ms (A.O h (R.chk T)) (R.pos T))⁻¹ := by
      unfold R.rinv
      rw [← mul_inv, Real.mul_self_sqrt hp.le]
    rw [mul_assoc, hs, div_eq_mul_inv]
  rw [hr]
  ring

theorem s100 (X : Reads A x0 x1 x2 x3 x4 x5 x6 x7 x8) (h : Fin 4) (n i : Fin 64) (e : Fin 256) :
    val_main_v100 (F := Ideal) x0 x1 x2 x3 x4 x5 x6 x7 x8 (ix4 h n i e) = ((A.E h n i e : ℝ) : EReal) := by
  pointwise [val_main_v100, val_main_v99]
  simp only [s98 X, tok', R.chk_tok, R.pos_tok, ← EReal.coe_mul, ← coe_sum, ← EReal.coe_add, ← EReal.coe_sub, ← EReal.coe_neg, Ideal.exp_coe] <;> rfl

end

end Cert.GlaBwd
-- ==== Proof.Chain.lean ====
/-
  From chunk to chunk over the real numbers: the state gradient as one sum over the later chunks, and what the chunk
  decays' gradient comes to.
-/
module

public import proofs.«01_k».proof.Proof.Global
public import Mathlib.Algebra.BigOperators.Fin
public import Mathlib.Tactic.Ring
public import Mathlib.Tactic.Linarith

@[expose] public section

noncomputable section

namespace Cert.GlaBwd.R.Args

variable (A : Args)

/-- What chunk `n` adds to the state gradient. -/
def G (h : Fin 4) (n : Fin 64) (e : Fin 256) (a : Fin 128) : ℝ := gst (A.B h n) (A.Q h n) (A.E h n) e a

/-! ## Decays between chunks -/

/-- The total decay grows by a chunk's own. -/
theorem tot_succ (h : Fin 4) (a : Fin 128) (n m : Fin 64) (e : m.val + 1 = n.val) : A.tot h n a = A.tot h m a + A.B h n 63 a := by
  unfold tot cum
  have e1 : ∀ j : Fin 64, (if j ≤ n then A.B h j 63 a else 0) = (if j ≤ m then A.B h j 63 a else 0) + if j = n then A.B h n 63 a else 0 := by
    intro j
    by_cases h1 : j = n
    · subst h1
      rw [if_pos le_rfl, if_neg (by rw [Fin.le_def]; omega), if_pos rfl, zero_add]
    · by_cases h2 : j ≤ m
      · rw [if_pos (by rw [Fin.le_def] at *; omega), if_pos h2, if_neg h1, add_zero]
      · rw [if_neg (by have : j.val ≠ n.val := fun h => h1 (Fin.ext h); rw [Fin.le_def] at *; omega), if_neg h2, if_neg h1, add_zero]
  rw [Finset.sum_congr rfl fun j _ => e1 j, Finset.sum_add_distrib, Finset.sum_ite_eq' Finset.univ n, if_pos (Finset.mem_univ _)]

/-- The decay from chunk `m` to chunk `j` goes through any chunk between. -/
theorem car_trans (h : Fin 4) (a : Fin 128) {j n m : Fin 64} (h1 : m < n) (h2 : n < j) :
    A.car h j m a = Real.exp (A.B h n 63 a) * A.car h n m a * A.car h j n a := by
  unfold car
  rw [if_pos h1, if_pos h2, if_pos (h1.trans h2), ← Real.exp_add, ← Real.exp_add]
  congr 1
  ring

theorem car_next (h : Fin 4) (a : Fin 128) (n m : Fin 64) (e : m.val + 1 = n.val) : A.car h n m a = 1 := by
  unfold car
  rw [if_pos (by rw [Fin.lt_def]; omega), A.tot_succ h a n m e]
  rw [show A.tot h m a + A.B h n 63 a - A.B h n 63 a - A.tot h m a = 0 by ring, Real.exp_zero]

/-! ## The state gradient -/

/-- The state gradient that chunk `m` meets, as one sum over the later chunks. -/
def Dsum (h : Fin 4) (m : Fin 64) (e : Fin 256) (a : Fin 128) : ℝ := ∑ n, A.G h n e a * A.car h n m a

theorem Dsum_last (h : Fin 4) (m : Fin 64) (hm : m.val = 63) (e : Fin 256) (a : Fin 128) : A.Dsum h m e a = 0 := by
  refine Finset.sum_eq_zero fun n _ => ?_
  unfold car
  rw [if_neg (by rw [Fin.lt_def]; omega), mul_zero]

theorem Dsum_step (h : Fin 4) (n m : Fin 64) (hm : m.val + 1 = n.val) (e : Fin 256) (a : Fin 128) :
    A.Dsum h m e a = Real.exp (A.B h n 63 a) * A.Dsum h n e a + A.G h n e a := by
  unfold Dsum
  have e1 : ∀ j : Fin 64, A.G h j e a * A.car h j m a
      = Real.exp (A.B h n 63 a) * (A.G h j e a * A.car h j n a) + if j = n then A.G h n e a else 0 := by
    intro j
    rcases lt_trichotomy j n with hj | hj | hj
    · have c1 : A.car h j m a = 0 := by unfold car; rw [if_neg (by rw [Fin.lt_def] at *; omega)]
      have c2 : A.car h j n a = 0 := by unfold car; rw [if_neg (not_lt.2 hj.le)]
      rw [c1, c2, if_neg hj.ne]; ring
    · subst hj
      have c2 : A.car h j j a = 0 := by unfold car; rw [if_neg (lt_irrefl _)]
      rw [A.car_next h a j m hm, c2, if_pos rfl]; ring
    · rw [A.car_trans h a (j := j) (n := n) (m := m) (by rw [Fin.lt_def]; omega) hj, A.car_next h a n m hm, if_neg hj.ne']; ring
  rw [Finset.sum_congr rfl fun j _ => e1 j, Finset.sum_add_distrib, ← Finset.mul_sum, Finset.sum_ite_eq' Finset.univ n, if_pos (Finset.mem_univ _)]

theorem Drec_eq (h : Fin 4) (e : Fin 256) (a : Fin 128) : ∀ (j : ℕ) (hj : j < 64), A.Drec h j e a = A.Dsum h ⟨63 - j, by omega⟩ e a
  | 0, _ => (A.Dsum_last h _ rfl e a).symm
  | j + 1, hj => by
    have hf : (Fin.ofNat 64 (63 - j)) = (⟨63 - j, by omega⟩ : Fin 64) := by
      apply Fin.ext; show (63 - j) % 64 = 63 - j; omega
    have ih := Drec_eq h e a j (by omega)
    rw [A.Dsum_step h ⟨63 - j, by omega⟩ ⟨63 - (j + 1), by omega⟩ (by show 63 - (j + 1) + 1 = 63 - j; omega), ← ih]
    show tnext _ _ _ _ e a = _
    unfold tnext G
    rw [hf]

theorem D_eq (h : Fin 4) (m : Fin 64) (e : Fin 256) (a : Fin 128) : A.D h m e a = A.Dsum h m e a := by
  unfold D
  rw [A.Drec_eq h e a (63 - m.val) (by omega)]
  congr 1
  apply Fin.ext; show 63 - (63 - m.val) = m.val; omega

/-! ## The chunk decays' gradient -/

/-- How much of what chunk `m` added the gradient of chunk `n` sees. -/
def Tn (h : Fin 4) (n m : Fin 64) (a : Fin 128) : ℝ := (∑ e, A.G h n e a * A.delta h m e a) * A.car h n m a

theorem Tn_zero (h : Fin 4) (n m : Fin 64) (a : Fin 128) (hm : ¬ m < n) : A.Tn h n m a = 0 := by
  unfold Tn car; rw [if_neg hm, mul_zero]

/-- The state against the state gradient: the pairs of chunks on either side of chunk `n`. -/
theorem exp_ddec (h : Fin 4) (n : Fin 64) (a : Fin 128) :
    Real.exp (A.B h n 63 a) * ddec (A.St h n) (A.D h n) a = ∑ j, ∑ m, if m < n ∧ n < j then A.Tn h j m a else 0 := by
  have e1 : ∀ j m : Fin 64, (if m < n ∧ n < j then A.Tn h j m a else 0)
      = Real.exp (A.B h n 63 a) * ∑ e, (A.car h n m a * A.delta h m e a) * (A.G h j e a * A.car h j n a) := by
    intro j m
    by_cases hh : m < n ∧ n < j
    · rw [if_pos hh]
      unfold Tn
      rw [A.car_trans h a hh.1 hh.2, Finset.sum_mul, Finset.mul_sum]
      refine Finset.sum_congr rfl fun e _ => ?_
      ring
    · rw [if_neg hh]
      symm
      rw [mul_eq_zero]; right
      refine Finset.sum_eq_zero fun e _ => ?_
      by_cases h1 : m < n
      · have : A.car h j n a = 0 := by unfold car; rw [if_neg fun h2 => hh ⟨h1, h2⟩]
        rw [this]; ring
      · have : A.car h n m a = 0 := by unfold car; rw [if_neg h1]
        rw [this]; ring
  simp only [e1]
  simp only [← Finset.mul_sum]
  congr 1
  unfold ddec
  simp only [D_eq, Dsum, St, Finset.sum_mul_sum]
  symm
  rw [Finset.sum_comm, Finset.sum_congr rfl fun m _ => Finset.sum_comm, Finset.sum_comm]

/-- A chunk decay's gradient, as the derivative of the decays between chunks gives it. -/
theorem decay_eq (h : Fin 4) (n : Fin 64) (a : Fin 128) :
    -(∑ m, A.Tn h n m a) + rcum (fun j => ∑ n', -A.Tn h n' j a + ∑ m, A.Tn h j m a) n
      = Real.exp (A.B h n 63 a) * ddec (A.St h n) (A.D h n) a := by
  rw [exp_ddec]
  have hu : ∑ m, A.Tn h n m a = ∑ j, ∑ m, if j = n then A.Tn h j m a else 0 := by
    rw [Finset.sum_comm]
    refine Finset.sum_congr rfl fun m _ => ?_
    rw [Finset.sum_ite_eq' Finset.univ n fun j => A.Tn h j m a, if_pos (Finset.mem_univ _)]
  have hr : rcum (fun j => ∑ n', -A.Tn h n' j a + ∑ m, A.Tn h j m a) n
      = ∑ j, ∑ m, (if n ≤ j then A.Tn h j m a else 0) - ∑ j, ∑ m, (if n ≤ m then A.Tn h j m a else 0) := by
    rw [Finset.sum_comm (f := fun j m => if n ≤ m then A.Tn h j m a else 0), ← Finset.sum_sub_distrib]
    unfold rcum
    refine Finset.sum_congr rfl fun j _ => ?_
    by_cases hj : n ≤ j
    · simp only [if_pos hj, Finset.sum_neg_distrib]; ring
    · simp only [if_neg hj, Finset.sum_const_zero, sub_zero]
  rw [hu, hr, ← Finset.sum_sub_distrib, ← Finset.sum_neg_distrib, ← Finset.sum_add_distrib]
  refine Finset.sum_congr rfl fun j _ => ?_
  rw [← Finset.sum_sub_distrib, ← Finset.sum_neg_distrib, ← Finset.sum_add_distrib]
  refine Finset.sum_congr rfl fun m _ => ?_
  by_cases hm : m < j
  · rcases lt_trichotomy j n with h1 | h1 | h1
    · rw [if_neg h1.ne, if_neg (not_le.2 h1), if_neg (not_le.2 (hm.trans h1)), if_neg fun h => lt_asymm h1 h.2]; ring
    · rw [if_pos h1, if_pos h1.ge, if_neg (not_le.2 (h1 ▸ hm)), if_neg fun h => (h1 ▸ h.2).ne rfl]; ring
    · rw [if_neg h1.ne', if_pos h1.le]
      by_cases h2 : m < n
      · rw [if_neg (not_le.2 h2), if_pos ⟨h2, h1⟩]; ring
      · rw [if_pos (not_lt.1 h2), if_neg fun h => h2 h.1]; ring
  · simp only [A.Tn_zero h j m a hm, ite_self]; ring

end Cert.GlaBwd.R.Args
-- ==== Proof.RefState.lean ====
/-
  The reference's gradient through the attention at real arguments: the state gradient and the gradient of the chunk decays.
-/
module

public import proofs.«01_k».proof.Proof.RefNorm
public import proofs.«01_k».proof.Proof.Chain

@[expose] public section

set_option maxRecDepth 16384

noncomputable section

namespace Cert.GlaBwd

open Idealize.ShloMosaic Idealize.ShloMosaic.Tactic
open Cert.ReferenceIdeal Cert.ReferenceIdeal.Read

section

variable {A : R.Args} {x0 : (⟨S4096x512, .f32⟩ : BufTy).Contents (Elt Ideal)} {x1 : (⟨S4096x512, .f32⟩ : BufTy).Contents (Elt Ideal)} {x2 : (⟨S4096x1024, .f32⟩ : BufTy).Contents (Elt Ideal)} {x3 : (⟨S4096x1024, .f32⟩ : BufTy).Contents (Elt Ideal)} {x4 : (⟨S4096x16, .f32⟩ : BufTy).Contents (Elt Ideal)} {x5 : (⟨S16x512, .f32⟩ : BufTy).Contents (Elt Ideal)} {x6 : (⟨S512, .f32⟩ : BufTy).Contents (Elt Ideal)} {x7 : (⟨S1024, .f32⟩ : BufTy).Contents (Elt Ideal)} {x8 : (⟨S4096x2048, .f32⟩ : BufTy).Contents (Elt Ideal)}

theorem s102 (X : Reads A x0 x1 x2 x3 x4 x5 x6 x7 x8) (h : Fin 4) (n : Fin 64) (a : Fin 128) (e : Fin 256) :
    val_main_v102 (F := Ideal) x0 x1 x2 x3 x4 x5 x6 x7 x8 (ix4 h n a e) = ((A.G h n e a : ℝ) : EReal) := by
  pointwise [val_main_v102, val_main_v101]
  simp only [s100 X, s20 X, ← EReal.coe_mul, ← coe_sum, ← EReal.coe_add, ← EReal.coe_sub, ← EReal.coe_neg, Ideal.exp_coe] <;> rfl

theorem s103 (X : Reads A x0 x1 x2 x3 x4 x5 x6 x7 x8) (h : Fin 4) (n i : Fin 64) (a : Fin 128) :
    val_main_v103 (F := Ideal) x0 x1 x2 x3 x4 x5 x6 x7 x8 (ix4 h n i a) = ((∑ e, A.E h n i e * A.St h n e a : ℝ) : EReal) := by
  pointwise [val_main_v103]
  simp only [s100 X, s50 X, ← EReal.coe_mul, ← coe_sum, ← EReal.coe_add, ← EReal.coe_sub, ← EReal.coe_neg, Ideal.exp_coe] <;> rfl

theorem s104 (X : Reads A x0 x1 x2 x3 x4 x5 x6 x7 x8) (h : Fin 4) (a : Fin 128) (e : Fin 256) (n : Fin 64) :
    val_main_v104 (F := Ideal) x0 x1 x2 x3 x4 x5 x6 x7 x8 (ix4 h a e n) = ((A.G h n e a : ℝ) : EReal) := by
  pointwise [val_main_v104]
  simp only [s102 X, ← EReal.coe_mul, ← coe_sum, ← EReal.coe_add, ← EReal.coe_sub, ← EReal.coe_neg, Ideal.exp_coe] <;> rfl

theorem s106 (X : Reads A x0 x1 x2 x3 x4 x5 x6 x7 x8) (h : Fin 4) (n m : Fin 64) (a : Fin 128) :
    val_main_v106 (F := Ideal) x0 x1 x2 x3 x4 x5 x6 x7 x8 (ix4 h n m a) = ((∑ e, A.G h n e a * A.delta h m e a : ℝ) : EReal) := by
  pointwise [val_main_v106, val_main_v105]
  simp only [s104 X, s33 X, ← EReal.coe_mul, ← coe_sum, ← EReal.coe_add, ← EReal.coe_sub, ← EReal.coe_neg, Ideal.exp_coe] <;> rfl

theorem s108 (X : Reads A x0 x1 x2 x3 x4 x5 x6 x7 x8) (h : Fin 4) (n : Fin 64) (a : Fin 128) (e : Fin 256) :
    val_main_v108 (F := Ideal) x0 x1 x2 x3 x4 x5 x6 x7 x8 (ix4 h n a e) = ((A.D h n e a : ℝ) : EReal) := by
  pointwise [val_main_v108, val_main_v107]
  simp only [s104 X, s48 X, ← EReal.coe_mul, ← coe_sum, ← EReal.coe_add, ← EReal.coe_sub, ← EReal.coe_neg, Ideal.exp_coe]
  rw [R.Args.D_eq]
  rfl

theorem z109 (i : S4x64x64x128.Idx) : val_main_call10_v0 (F := Ideal) i = ((0 : ℝ) : EReal) := c_0
theorem z111 (i : S4x64x64x128.Idx) : val_main_call11_v0 (F := Ideal) i = ((0 : ℝ) : EReal) := c_0
theorem z133 (i : S4x64x64x64.Idx) : val_main_call13_v0 (F := Ideal) i = ((0 : ℝ) : EReal) := c_0

theorem s109 (X : Reads A x0 x1 x2 x3 x4 x5 x6 x7 x8) (h : Fin 4) (n m : Fin 64) (a : Fin 128) :
    val_main_v109 (F := Ideal) x0 x1 x2 x3 x4 x5 x6 x7 x8 (ix4 h n m a) = ((if m < n then ∑ e, A.G h n e a * A.delta h m e a else 0 : ℝ) : EReal) := by
  rw [val_main_v109_apply, m48, s106 X, z109]
  exact select_real _ _ _

theorem s110 (X : Reads A x0 x1 x2 x3 x4 x5 x6 x7 x8) (h : Fin 4) (n m : Fin 64) (a : Fin 128) :
    val_main_v110 (F := Ideal) x0 x1 x2 x3 x4 x5 x6 x7 x8 (ix4 h n m a) = (((if m < n then ∑ e, A.G h n e a * A.delta h m e a else 0) * Real.exp (if m < n then A.tot h n a - A.B h n 63 a - A.tot h m a else 0) : ℝ) : EReal) := by
  refine (val_main_v110_apply x0 x1 x2 x3 x4 x5 x6 x7 x8 _).trans ?_
  rw [s109 X, s47 X]
  exact (EReal.coe_mul _ _).symm

theorem s111 (X : Reads A x0 x1 x2 x3 x4 x5 x6 x7 x8) (h : Fin 4) (n m : Fin 64) (a : Fin 128) :
    val_main_v111 (F := Ideal) x0 x1 x2 x3 x4 x5 x6 x7 x8 (ix4 h n m a) = ((A.Tn h n m a : ℝ) : EReal) := by
  rw [val_main_v111_apply, m46, s110 X, z111]
  refine (select_real _ _ _).trans (congrArg _ ?_)
  unfold R.Args.Tn R.Args.car
  by_cases hm : m < n
  · simp only [if_pos hm]
  · simp only [if_neg hm, mul_zero]

theorem s118 (X : Reads A x0 x1 x2 x3 x4 x5 x6 x7 x8) (h : Fin 4) (n : Fin 64) (a : Fin 128) :
    val_main_v118 (F := Ideal) x0 x1 x2 x3 x4 x5 x6 x7 x8 (ix3 h n a) = ((∑ m, A.Tn h n m a : ℝ) : EReal) := by
  pointwise [val_main_v118, val_main_cst_18, val_main_v113, val_main_v112, val_main_cst_15]
  simp only [s111 X, ← EReal.coe_mul, ← coe_sum, ← EReal.coe_add, ← EReal.coe_sub, ← EReal.coe_neg, Ideal.exp_coe, Finset.sum_const, Finset.card_univ, Fintype.card_fin, one_smul]

theorem s114 (X : Reads A x0 x1 x2 x3 x4 x5 x6 x7 x8) (h : Fin 4) (n m : Fin 64) (a : Fin 128) :
    val_main_v114 (F := Ideal) x0 x1 x2 x3 x4 x5 x6 x7 x8 (ix4 h n m a) = ((-A.Tn h n m a : ℝ) : EReal) := by
  refine (val_main_v114_apply x0 x1 x2 x3 x4 x5 x6 x7 x8 _).trans ?_
  rw [s111 X]
  exact (EReal.coe_neg _).symm

theorem s115 (X : Reads A x0 x1 x2 x3 x4 x5 x6 x7 x8) (h : Fin 4) (n : Fin 64) (a : Fin 128) :
    val_main_v115 (F := Ideal) x0 x1 x2 x3 x4 x5 x6 x7 x8 (ix3 h n a) = ((∑ j, -A.Tn h j n a : ℝ) : EReal) := by
  pointwise [val_main_v115, val_main_cst_16]
  simp only [s114 X, ← EReal.coe_mul, ← coe_sum, ← EReal.coe_add, ← EReal.coe_sub, ← EReal.coe_neg, Ideal.exp_coe]

theorem s116 (X : Reads A x0 x1 x2 x3 x4 x5 x6 x7 x8) (h : Fin 4) (u : Fin 1) (n : Fin 64) (a : Fin 128) :
    val_main_v116 (F := Ideal) x0 x1 x2 x3 x4 x5 x6 x7 x8 (ix4 h u n a) = ((∑ j, -A.Tn h j n a : ℝ) : EReal) := by
  pointwise [val_main_v116]
  simp only [s115 X, ← EReal.coe_mul, ← coe_sum, ← EReal.coe_add, ← EReal.coe_sub, ← EReal.coe_neg, Ideal.exp_coe] <;> rfl

theorem s117 (X : Reads A x0 x1 x2 x3 x4 x5 x6 x7 x8) (h : Fin 4) (n : Fin 64) (a : Fin 128) :
    val_main_v117 (F := Ideal) x0 x1 x2 x3 x4 x5 x6 x7 x8 (ix3 h n a) = ((∑ j, -A.Tn h j n a : ℝ) : EReal) := by
  pointwise [val_main_v117, val_main_cst_17]
  simp only [s116 X, ← EReal.coe_mul, ← coe_sum, ← EReal.coe_add, ← EReal.coe_sub, ← EReal.coe_neg, Ideal.exp_coe, Finset.sum_const, Finset.card_univ, Fintype.card_fin, one_smul]

theorem s120 (X : Reads A x0 x1 x2 x3 x4 x5 x6 x7 x8) (h : Fin 4) (n : Fin 64) (a : Fin 128) :
    val_main_v120 (F := Ideal) x0 x1 x2 x3 x4 x5 x6 x7 x8 (ix3 h n a) = ((∑ j, -A.Tn h j n a + ∑ m, A.Tn h n m a : ℝ) : EReal) := by
  pointwise [val_main_v120]
  simp only [s117 X, s118 X, ← EReal.coe_mul, ← coe_sum, ← EReal.coe_add, ← EReal.coe_sub, ← EReal.coe_neg, Ideal.exp_coe] <;> rfl

theorem s122 (X : Reads A x0 x1 x2 x3 x4 x5 x6 x7 x8) (h : Fin 4) (n : Fin 64) (a : Fin 128) :
    val_main_v122 (F := Ideal) x0 x1 x2 x3 x4 x5 x6 x7 x8 (ix3 h n a) = ((R.rcum (fun n => ∑ j, -A.Tn h j n a + ∑ m, A.Tn h n m a) n : ℝ) : EReal) := by
  unfold val_main_v122
  refine (rcum3 _ _ (fun _ => ?_) _ _ h n a).trans ?_
  · pointwise [val_main_call12_call0_v0, val_main_call12_call0_cst]
  · simp only [s120 X, R.rcum, coe_sum]
    refine Finset.sum_congr rfl fun i' _ => ?_
    split
    · rw [EReal.coe_add, coe_sum, coe_sum]
    · rfl

theorem s124 (X : Reads A x0 x1 x2 x3 x4 x5 x6 x7 x8) (h : Fin 4) (n : Fin 64) (u : Fin 1) (a : Fin 128) :
    val_main_v124 (F := Ideal) x0 x1 x2 x3 x4 x5 x6 x7 x8 (ix4 h n u a) = ((Real.exp (A.B h n 63 a) * R.ddec (A.St h n) (A.D h n) a : ℝ) : EReal) := by
  pointwise [val_main_v124, val_main_v123, val_main_v121, val_main_v119]
  simp only [s118 X, s122 X, ← EReal.coe_mul, ← coe_sum, ← EReal.coe_add, ← EReal.coe_sub, ← EReal.coe_neg, Ideal.exp_coe]
  rw [← R.Args.decay_eq]

end

end Cert.GlaBwd
-- ==== Proof.RefBwd.lean ====
/-
  The reference's gradient through the attention at real arguments: queries, keys, values and log decays.
-/
module

public import proofs.«01_k».proof.Proof.RefState

@[expose] public section

set_option maxRecDepth 16384

noncomputable section

namespace Cert.GlaBwd

open Idealize.ShloMosaic Idealize.ShloMosaic.Tactic
open Cert.ReferenceIdeal Cert.ReferenceIdeal.Read

section

variable {A : R.Args} {x0 : (⟨S4096x512, .f32⟩ : BufTy).Contents (Elt Ideal)} {x1 : (⟨S4096x512, .f32⟩ : BufTy).Contents (Elt Ideal)} {x2 : (⟨S4096x1024, .f32⟩ : BufTy).Contents (Elt Ideal)} {x3 : (⟨S4096x1024, .f32⟩ : BufTy).Contents (Elt Ideal)} {x4 : (⟨S4096x16, .f32⟩ : BufTy).Contents (Elt Ideal)} {x5 : (⟨S16x512, .f32⟩ : BufTy).Contents (Elt Ideal)} {x6 : (⟨S512, .f32⟩ : BufTy).Contents (Elt Ideal)} {x7 : (⟨S1024, .f32⟩ : BufTy).Contents (Elt Ideal)} {x8 : (⟨S4096x2048, .f32⟩ : BufTy).Contents (Elt Ideal)}

theorem s126 (X : Reads A x0 x1 x2 x3 x4 x5 x6 x7 x8) (h : Fin 4) (n i : Fin 64) (e : Fin 256) :
    val_main_v126 (F := Ideal) x0 x1 x2 x3 x4 x5 x6 x7 x8 (ix4 h n i e) = ((∑ a, R.ke (A.B h n) (A.K h n) i a * A.D h n e a : ℝ) : EReal) := by
  pointwise [val_main_v126, val_main_v125]
  simp only [s108 X, s27 X, ← EReal.coe_mul, ← coe_sum, ← EReal.coe_add, ← EReal.coe_sub, ← EReal.coe_neg, Ideal.exp_coe]
  simp only [mul_comm]

theorem s128 (X : Reads A x0 x1 x2 x3 x4 x5 x6 x7 x8) (h : Fin 4) (n i : Fin 64) (a : Fin 128) :
    val_main_v128 (F := Ideal) x0 x1 x2 x3 x4 x5 x6 x7 x8 (ix4 h n i a) = ((R.dke (A.V h n) (A.D h n) i a : ℝ) : EReal) := by
  pointwise [val_main_v128, val_main_v127]
  simp only [s108 X, s14 X, ← EReal.coe_mul, ← coe_sum, ← EReal.coe_add, ← EReal.coe_sub, ← EReal.coe_neg, Ideal.exp_coe]
  simp only [mul_comm, R.dke]

theorem s130 (X : Reads A x0 x1 x2 x3 x4 x5 x6 x7 x8) (h : Fin 4) (n i : Fin 64) (e : Fin 256) :
    val_main_v130 (F := Ideal) x0 x1 x2 x3 x4 x5 x6 x7 x8 (ix4 h n i e) = ((∑ j, R.att (A.B h n) (A.Q h n) (A.K h n) j i * A.E h n j e : ℝ) : EReal) := by
  pointwise [val_main_v130, val_main_v129]
  simp only [s100 X, s31 X, ← EReal.coe_mul, ← coe_sum, ← EReal.coe_add, ← EReal.coe_sub, ← EReal.coe_neg, Ideal.exp_coe]
  simp only [mul_comm]

theorem s131 (X : Reads A x0 x1 x2 x3 x4 x5 x6 x7 x8) (h : Fin 4) (n i : Fin 64) (e : Fin 256) :
    val_main_v131 (F := Ideal) x0 x1 x2 x3 x4 x5 x6 x7 x8 (ix4 h n i e) = ((A.dV h n i e : ℝ) : EReal) := by
  pointwise [val_main_v131]
  simp only [s126 X, s130 X, ← EReal.coe_mul, ← coe_sum, ← EReal.coe_add, ← EReal.coe_sub, ← EReal.coe_neg, Ideal.exp_coe]
  rw [add_comm]
  rfl

theorem s132 (X : Reads A x0 x1 x2 x3 x4 x5 x6 x7 x8) (h : Fin 4) (n i j : Fin 64) :
    val_main_v132 (F := Ideal) x0 x1 x2 x3 x4 x5 x6 x7 x8 (ix4 h n i j) = ((∑ c, A.E h n i c * A.V h n j c : ℝ) : EReal) := by
  pointwise [val_main_v132]
  simp only [s100 X, s14 X, ← EReal.coe_mul, ← coe_sum, ← EReal.coe_add, ← EReal.coe_sub, ← EReal.coe_neg, Ideal.exp_coe] <;> rfl

theorem s133 (X : Reads A x0 x1 x2 x3 x4 x5 x6 x7 x8) (h : Fin 4) (n i j : Fin 64) :
    val_main_v133 (F := Ideal) x0 x1 x2 x3 x4 x5 x6 x7 x8 (ix4 h n i j) = ((R.dav (A.V h n) (A.E h n) i j : ℝ) : EReal) := by
  rw [val_main_v133_apply, m31, s132 X, z133]
  exact select_real _ _ _

theorem s134 (X : Reads A x0 x1 x2 x3 x4 x5 x6 x7 x8) (h : Fin 4) (n i : Fin 64) (a : Fin 128) :
    val_main_v134 (F := Ideal) x0 x1 x2 x3 x4 x5 x6 x7 x8 (ix4 h n i a) = ((R.dki (A.B h n) (A.Q h n) (A.V h n) (A.E h n) i a : ℝ) : EReal) := by
  pointwise [val_main_v134]
  simp only [s133 X, s20 X, ← EReal.coe_mul, ← coe_sum, ← EReal.coe_add, ← EReal.coe_sub, ← EReal.coe_neg, Ideal.exp_coe] <;> rfl

theorem s135 (X : Reads A x0 x1 x2 x3 x4 x5 x6 x7 x8) (h : Fin 4) (n i : Fin 64) (a : Fin 128) :
    val_main_v135 (F := Ideal) x0 x1 x2 x3 x4 x5 x6 x7 x8 (ix4 h n i a) = ((∑ j, R.dav (A.V h n) (A.E h n) i j * R.ki (A.B h n) (A.K h n) j a : ℝ) : EReal) := by
  pointwise [val_main_v135]
  simp only [s133 X, s23 X, ← EReal.coe_mul, ← coe_sum, ← EReal.coe_add, ← EReal.coe_sub, ← EReal.coe_neg, Ideal.exp_coe] <;> rfl

theorem s136 (X : Reads A x0 x1 x2 x3 x4 x5 x6 x7 x8) (h : Fin 4) (n i : Fin 64) (a : Fin 128) :
    val_main_v136 (F := Ideal) x0 x1 x2 x3 x4 x5 x6 x7 x8 (ix4 h n i a) = ((R.dqd (A.B h n) (A.K h n) (A.V h n) (A.E h n) (A.St h n) i a : ℝ) : EReal) := by
  pointwise [val_main_v136]
  simp only [s103 X, s135 X, ← EReal.coe_mul, ← coe_sum, ← EReal.coe_add, ← EReal.coe_sub, ← EReal.coe_neg, Ideal.exp_coe]
  rw [add_comm]
  rfl

theorem s139 (X : Reads A x0 x1 x2 x3 x4 x5 x6 x7 x8) (h : Fin 4) (n i : Fin 64) (a : Fin 128) :
    val_main_v139 (F := Ideal) x0 x1 x2 x3 x4 x5 x6 x7 x8 (ix4 h n i a) = ((R.dke (A.V h n) (A.D h n) i a * R.ke (A.B h n) (A.K h n) i a : ℝ) : EReal) := by
  pointwise [val_main_v139, val_main_v137]
  simp only [s12 X, s128 X, s26 X, ← EReal.coe_mul, ← coe_sum, ← EReal.coe_add, ← EReal.coe_sub, ← EReal.coe_neg, Ideal.exp_coe]
  congr 1
  unfold R.ke
  ring

theorem s143 (X : Reads A x0 x1 x2 x3 x4 x5 x6 x7 x8) (h : Fin 4) (n : Fin 64) (u : Fin 1) (a : Fin 128) :
    val_main_v143 (F := Ideal) x0 x1 x2 x3 x4 x5 x6 x7 x8 (ix4 h n u a) = ((A.dBl h n a : ℝ) : EReal) := by
  pointwise [val_main_v143, val_main_v141, val_main_v140, val_main_cst_19]
  simp only [s124 X, s139 X, ← EReal.coe_mul, ← coe_sum, ← EReal.coe_add, ← EReal.coe_sub, ← EReal.coe_neg, Ideal.exp_coe]
  rw [add_comm]
  rfl

theorem s146 (X : Reads A x0 x1 x2 x3 x4 x5 x6 x7 x8) (h : Fin 4) (n i : Fin 64) (a : Fin 128) :
    val_main_v146 (F := Ideal) x0 x1 x2 x3 x4 x5 x6 x7 x8 (ix4 h n i a) = ((A.dK h n i a : ℝ) : EReal) := by
  pointwise [val_main_v146, val_main_v145, val_main_v138]
  simp only [s128 X, s26 X, s134 X, s22 X, ← EReal.coe_mul, ← coe_sum, ← EReal.coe_add, ← EReal.coe_sub, ← EReal.coe_neg, Ideal.exp_coe]
  rw [add_comm]
  rfl

theorem s151 (X : Reads A x0 x1 x2 x3 x4 x5 x6 x7 x8) (h : Fin 4) (n i : Fin 64) (a : Fin 128) :
    val_main_v151 (F := Ideal) x0 x1 x2 x3 x4 x5 x6 x7 x8 (ix4 h n i a) = ((R.dqd (A.B h n) (A.K h n) (A.V h n) (A.E h n) (A.St h n) i a * Real.exp (A.B h n i a) : ℝ) : EReal) := by
  pointwise [val_main_v151]
  simp only [s136 X, s19 X, ← EReal.coe_mul, ← coe_sum, ← EReal.coe_add, ← EReal.coe_sub, ← EReal.coe_neg, Ideal.exp_coe] <;> rfl

theorem s153 (X : Reads A x0 x1 x2 x3 x4 x5 x6 x7 x8) (h : Fin 4) (n i : Fin 64) (a : Fin 128) :
    val_main_v153 (F := Ideal) x0 x1 x2 x3 x4 x5 x6 x7 x8 (ix4 h n i a) = ((A.dB h n i a : ℝ) : EReal) := by
  pointwise [val_main_v153, val_main_v152, val_main_v150, val_main_v149, val_main_v148, val_main_v147, val_main_v144, val_main_v142]
  simp only [s136 X, s139 X, s19 X, s10 X, s12 X, s134 X, s22 X, ← EReal.coe_mul, ← coe_sum, ← EReal.coe_add, ← EReal.coe_sub, ← EReal.coe_neg, Ideal.exp_coe]
  congr 1
  unfold R.Args.dB R.dbv R.qd R.ki
  ring

end

end Cert.GlaBwd
-- ==== Proof.RefLog.lean ====
/-
  The reference's gradient through the attention at real arguments: the log decays, and the gradients as rows of the arguments.
-/
module

public import proofs.«01_k».proof.Proof.RefBwd
public import Idealize.ShloMosaic.Lib.KernelVsHost

@[expose] public section

set_option maxRecDepth 16384

noncomputable section

namespace Cert.GlaBwd

open Idealize.ShloMosaic Idealize.ShloMosaic.Tactic
open Cert.ReferenceIdeal Cert.ReferenceIdeal.Read

section

variable {A : R.Args} {x0 : (⟨S4096x512, .f32⟩ : BufTy).Contents (Elt Ideal)} {x1 : (⟨S4096x512, .f32⟩ : BufTy).Contents (Elt Ideal)} {x2 : (⟨S4096x1024, .f32⟩ : BufTy).Contents (Elt Ideal)} {x3 : (⟨S4096x1024, .f32⟩ : BufTy).Contents (Elt Ideal)} {x4 : (⟨S4096x16, .f32⟩ : BufTy).Contents (Elt Ideal)} {x5 : (⟨S16x512, .f32⟩ : BufTy).Contents (Elt Ideal)} {x6 : (⟨S512, .f32⟩ : BufTy).Contents (Elt Ideal)} {x7 : (⟨S1024, .f32⟩ : BufTy).Contents (Elt Ideal)} {x8 : (⟨S4096x2048, .f32⟩ : BufTy).Contents (Elt Ideal)}

theorem s154 (X : Reads A x0 x1 x2 x3 x4 x5 x6 x7 x8) (h : Fin 4) (n i : Fin 64) (a : Fin 128) :
    val_main_v154 (F := Ideal) x0 x1 x2 x3 x4 x5 x6 x7 x8 (ix4 h n i a) = ((if i = 63 then A.dBl h n a else 0 : ℝ) : EReal) := by
  by_cases hi : i = 63
  · subst hi
    refine (pad_apply_of_inside _ _ _ _ _ _ _ (ix4 h n 63 a) (ix4 h n (0 : Fin 1) a) ?_).trans ?_
    · intro x
      match x with
      | 0 => show h.val = 0 + h.val * (0 + 1); omega
      | 1 => show n.val = 0 + n.val * (0 + 1); omega
      | 2 => rfl
      | 3 => show a.val = 0 + a.val * (0 + 1); omega
    · rw [s143 X, if_pos rfl]
  · refine (pad_apply_of_not_inside _ _ _ _ _ _ _ (ix4 h n i a) (2 : Fin 4) ?_).trans ?_
    · rintro ⟨h1, -, -⟩
      have h2 : 63 ≤ i.val := h1
      exact hi (Fin.ext (by show i.val = 63; omega))
    · rw [if_neg hi]
      exact c_0

theorem s155 (X : Reads A x0 x1 x2 x3 x4 x5 x6 x7 x8) (h : Fin 4) (n i : Fin 64) (a : Fin 128) :
    val_main_v155 (F := Ideal) x0 x1 x2 x3 x4 x5 x6 x7 x8 (ix4 h n i a) = ((A.dB h n i a + if i = 63 then A.dBl h n a else 0 : ℝ) : EReal) := by
  pointwise [val_main_v155]
  simp only [s153 X, s154 X, ← EReal.coe_mul, ← coe_sum, ← EReal.coe_add, ← EReal.coe_sub, ← EReal.coe_neg, Ideal.exp_coe] <;> rfl

theorem s156 (X : Reads A x0 x1 x2 x3 x4 x5 x6 x7 x8) (h : Fin 4) (n i : Fin 64) (a : Fin 128) :
    val_main_v156 (F := Ideal) x0 x1 x2 x3 x4 x5 x6 x7 x8 (ix4 h n i a) = ((A.dLA h n i a : ℝ) : EReal) := by
  unfold val_main_v156
  refine (rcum4 _ _ (fun _ => ?_) _ _ h n i a).trans ?_
  · pointwise [val_main_call14_call0_v0, val_main_call14_call0_cst]
  · have e1 : A.dLA h n i a = ∑ j, if i ≤ j then A.dB h n j a + (if j = 63 then A.dBl h n a else 0) else 0 := by
      unfold R.Args.dLA R.rcum
      have e2 : ∀ j : Fin 64, (if i ≤ j then A.dB h n j a + (if j = 63 then A.dBl h n a else 0) else 0)
          = (if i ≤ j then A.dB h n j a else 0) + if j = 63 then A.dBl h n a else 0 := by
        intro j
        by_cases hj : j = 63
        · subst hj
          rw [if_pos (Fin.le_def.2 (by have := i.isLt; show i.val ≤ 63; omega)), if_pos (Fin.le_def.2 (by have := i.isLt; show i.val ≤ 63; omega))]
        · rw [if_neg hj, add_zero, add_zero]
      rw [Finset.sum_congr rfl fun j _ => e2 j, Finset.sum_add_distrib, Finset.sum_ite_eq' Finset.univ 63, if_pos (Finset.mem_univ _)]
    rw [e1, coe_sum]
    refine Finset.sum_congr rfl fun j _ => ?_
    rw [s155 X]
    by_cases hj : i ≤ j
    · rw [if_pos hj, if_pos hj]
    · rw [if_neg hj, if_neg hj]; rfl

theorem s158 (X : Reads A x0 x1 x2 x3 x4 x5 x6 x7 x8) (T : Fin 4096) (j : Fin 512) :
    val_main_v158 (F := Ideal) x0 x1 x2 x3 x4 x5 x6 x7 x8 (ix2 T j) = ((A.dLA (R.hdk j) (R.chk T) (R.pos T) (R.ak j) : ℝ) : EReal) := by
  pointwise [val_main_v158, val_main_v157]
  simp only [s156 X, ← EReal.coe_mul, ← coe_sum, ← EReal.coe_add, ← EReal.coe_sub, ← EReal.coe_neg, Ideal.exp_coe] <;> rfl

theorem s160 (X : Reads A x0 x1 x2 x3 x4 x5 x6 x7 x8) (T : Fin 4096) (j : Fin 1024) :
    val_main_v160 (F := Ideal) x0 x1 x2 x3 x4 x5 x6 x7 x8 (ix2 T j) = ((A.dV (R.hdv j) (R.chk T) (R.pos T) (R.ev j) : ℝ) : EReal) := by
  pointwise [val_main_v160, val_main_v159]
  simp only [s131 X, ← EReal.coe_mul, ← coe_sum, ← EReal.coe_add, ← EReal.coe_sub, ← EReal.coe_neg, Ideal.exp_coe] <;> rfl

theorem s162 (X : Reads A x0 x1 x2 x3 x4 x5 x6 x7 x8) (T : Fin 4096) (j : Fin 512) :
    val_main_v162 (F := Ideal) x0 x1 x2 x3 x4 x5 x6 x7 x8 (ix2 T j) = ((A.dK (R.hdk j) (R.chk T) (R.pos T) (R.ak j) : ℝ) : EReal) := by
  pointwise [val_main_v162, val_main_v161]
  simp only [s146 X, ← EReal.coe_mul, ← coe_sum, ← EReal.coe_add, ← EReal.coe_sub, ← EReal.coe_neg, Ideal.exp_coe] <;> rfl

theorem s166 (X : Reads A x0 x1 x2 x3 x4 x5 x6 x7 x8) (T : Fin 4096) (j : Fin 512) :
    val_main_v166 (F := Ideal) x0 x1 x2 x3 x4 x5 x6 x7 x8 (ix2 T j) = ((A.dQ (R.hdk j) (R.chk T) (R.pos T) (R.ak j) : ℝ) : EReal) := by
  pointwise [val_main_v166, val_main_v165, val_main_v164, val_main_v163, val_main_cst_21]
  simp only [s151 X, c_scale, ← EReal.coe_mul, ← coe_sum, ← EReal.coe_add, ← EReal.coe_sub, ← EReal.coe_neg, Ideal.exp_coe] <;> rfl

/-- The softplus of `-z`. -/
theorem softplus_real (z : ℝ) : max (-z) 0 + Real.log (1 + Real.exp (-|z|)) = Real.log (1 + Real.exp (-z)) := by
  rcases le_total 0 z with h | h
  · rw [max_eq_right (by linarith), abs_of_nonneg h, zero_add]
  · rw [max_eq_left (by linarith), abs_of_nonpos h, neg_neg]
    have e : 1 + Real.exp (-z) = Real.exp (-z) * (1 + Real.exp z) := by
      rw [mul_add, mul_one, ← Real.exp_add, neg_add_cancel, Real.exp_zero, add_comm]
    rw [e, Real.log_mul (Real.exp_ne_zero _) (one_add_exp_ne _), Real.log_exp]

theorem dla_exp (z : ℝ) : Real.exp (-z - Real.log (1 + Real.exp (-z))) = R.dla z := by
  unfold R.dla
  rw [Real.exp_sub, Real.exp_log (by positivity)]
  have e : 1 + Real.exp (-z) = Real.exp (-z) * (1 + Real.exp z) := by
    rw [mul_add, mul_one, ← Real.exp_add, neg_add_cancel, Real.exp_zero, add_comm]
  have h1 := Real.exp_ne_zero (-z)
  have h2 := one_add_exp_ne z
  rw [e, div_mul_eq_div_div, div_self h1]

theorem c_inf : Ideal.ofBits .f32 0x7F800000#32 = (⊤ : EReal) := by
  simp [Ideal.ofBits, Ideal.ieee]

theorem s41 (X : Reads A x0 x1 x2 x3 x4 x5 x6 x7 x8) (T : Fin 4096) (j : Fin 512) :
    val_main_v4_1 (F := Ideal) x4 x5 x6 (ix2 T j) = ((R.dla (A.z T j) : ℝ) : EReal) := by
  pointwise [val_main_v4_1, val_main_call0_v1_0, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_call0_cst_0, val_main_call0_call0_v13, val_main_call0_call0_v14, val_main_call0_call0_cst_1, val_main_call0_call0_v15, val_main_call0_call0_v16, val_main_call0_call0_cst_2, val_main_call0_call0_v17, val_main_call0_call0_v18, val_main_call0_call0_cst_3, val_main_call0_call0_v19, val_main_call0_call0_v20, val_main_call0_call0_v21]
  rw [s3 X T j]
  have habs : FloatOps.absf (F := Ideal) (φ := .f32) (-((A.z T j : ℝ) : EReal)) = ((|A.z T j| : ℝ) : EReal) := by
    show max (-((A.z T j : ℝ) : EReal)) (-(-((A.z T j : ℝ) : EReal))) = _
    rw [← EReal.coe_neg, ← EReal.coe_neg, max_real, neg_neg, max_comm]; rfl
  rw [habs, c_inf, show (0 : EReal) = ((0 : ℝ) : EReal) from rfl, ← EReal.coe_neg, ← EReal.coe_neg, max_real, Ideal.exp_coe]
  have hl : Ideal.log1p ((Real.exp (-|A.z T j|) : ℝ) : EReal) = ((Real.log (1 + Real.exp (-|A.z T j|)) : ℝ) : EReal) := by
    show Ideal.log (1 + _) = _
    rw [show (1 : EReal) = ((1 : ℝ) : EReal) from rfl, ← EReal.coe_add, log_real (by positivity)]
  simp only [ne_eq, not_true_eq_false, if_false]
  rw [hl, ← EReal.coe_add, softplus_real, if_neg (EReal.coe_ne_top _), if_neg (EReal.coe_ne_top _), ← EReal.coe_sub, Ideal.exp_coe, dla_exp]

theorem s169 (X : Reads A x0 x1 x2 x3 x4 x5 x6 x7 x8) (T : Fin 4096) (j : Fin 512) :
    val_main_v169 (F := Ideal) x0 x1 x2 x3 x4 x5 x6 x7 x8 (ix2 T j) = ((A.dz T j : ℝ) : EReal) := by
  pointwise [val_main_v169, val_main_call15_v1, val_main_call15_v0, val_main_v168, val_main_v167, val_main_cst_22]
  rw [s158 X, s41 X, c_16, div_real (by norm_num), ← EReal.coe_neg, ← EReal.coe_mul, ← EReal.coe_neg]
  congr 1
  unfold R.Args.dz
  ring

theorem s172 (X : Reads A x0 x1 x2 x3 x4 x5 x6 x7 x8) (j : Fin 512) :
    val_main_v172 (F := Ideal) x0 x1 x2 x3 x4 x5 x6 x7 x8 (ix1 j) = ((∑ T, A.dz T j : ℝ) : EReal) := by
  pointwise [val_main_v172, val_main_cst_24, val_main_v171, val_main_v170, val_main_cst_23]
  simp only [s169 X, ← EReal.coe_mul, ← coe_sum, ← EReal.coe_add, ← EReal.coe_sub, ← EReal.coe_neg, Ideal.exp_coe, Finset.sum_const, Finset.card_univ, Fintype.card_fin, one_smul]

theorem s174 (X : Reads A x0 x1 x2 x3 x4 x5 x6 x7 x8) (l : Fin 16) (j : Fin 512) :
    val_main_v174 (F := Ideal) x0 x1 x2 x3 x4 x5 x6 x7 x8 (ix2 l j) = ((∑ T, A.dz T j * A.zl T l : ℝ) : EReal) := by
  pointwise [val_main_v174, val_main_v173]
  simp only [s169 X, X.h4, ← EReal.coe_mul, ← coe_sum, ← EReal.coe_add, ← EReal.coe_sub, ← EReal.coe_neg, Ideal.exp_coe] <;> rfl

theorem s175 (X : Reads A x0 x1 x2 x3 x4 x5 x6 x7 x8) (T : Fin 4096) (l : Fin 16) :
    val_main_v175 (F := Ideal) x0 x1 x2 x3 x4 x5 x6 x7 x8 (ix2 T l) = ((∑ j, A.dz T j * A.wg l j : ℝ) : EReal) := by
  pointwise [val_main_v175]
  simp only [s169 X, X.h5, ← EReal.coe_mul, ← coe_sum, ← EReal.coe_add, ← EReal.coe_sub, ← EReal.coe_neg, Ideal.exp_coe] <;> rfl

end

end Cert.GlaBwd
-- ==== Proof.Finite.lean ====
/-
  The precondition: every entry of the arguments it names is a real number.
-/
module

public import proofs.«01_k».proof.Proof.RefLog
public import proofs.«01_k».proof.Pre_finite
public import Idealize.ShloMosaic.Lib.ReduceAll

@[expose] public section

noncomputable section

namespace Cert.GlaBwd

open Idealize.ShloMosaic Idealize.ShloMosaic.Tactic

theorem and_one {x y : IVec ⟨0, ![]⟩ 1} {i : (⟨0, ![]⟩ : Shape).Idx} (h : andi x y i = 1#1) : x i = 1#1 ∧ y i = 1#1 := by
  have h' : x i &&& y i = 1#1 := h
  revert h'
  generalize x i = a
  generalize y i = b
  revert a b
  decide

/-- An array whose entries are all less than infinity in absolute value has real entries. -/
theorem entry_real {s : Shape} (x : FVec Ideal s .f32) {axes : List (Fin s.rank)} (hb : (⟨0, ![]⟩ : Shape).BroadcastsInDim s ![])
    (h : s.ReducesTo axes ⟨0, ![]⟩) (hu : 0 < (⟨0, ![]⟩ : Shape).numel)
    (e : Host.reduce IntOp.andi (cmpf .olt (Host.absf x) (broadcastInDim s ![] hb (constant (⟨0, ![]⟩ : Shape) .f32 0x7F800000#32)))
      (constantI (⟨0, ![]⟩ : Shape) 1 1#1) h hu ix0 = 1#1) (i : s.Idx) : (x i : EReal) = (((x i : EReal).toReal : ℝ) : EReal) := by
  haveI : Subsingleton (⟨0, ![]⟩ : Shape).Idx := ⟨fun a b => funext fun k => k.elim0⟩
  have h1 := Host.reduce_andi_all _ _ h hu ix0 e i
  have h2 : max (x i : EReal) (-(x i : EReal)) < Ideal.ofBits .f32 0x7F800000#32 := by
    by_contra hn
    have h3 : cmpf .olt (Host.absf x) (broadcastInDim s ![] hb (constant (⟨0, ![]⟩ : Shape) .f32 0x7F800000#32)) i = 0#1 := by
      show BitVec.ofBool (decide (max (x i : EReal) (-(x i : EReal)) < Ideal.ofBits .f32 0x7F800000#32)) = 0#1
      rw [decide_eq_false hn]; rfl
    rw [h3] at h1
    exact absurd h1 (by decide)
  rw [c_inf] at h2
  refine (EReal.coe_toReal (fun ht => ?_) (fun hbot => ?_)).symm
  · rw [ht] at h2; exact absurd h2 (by simp)
  · rw [hbot] at h2; exact absurd h2 (by simp)

/-- The real entries of the arguments. -/
def argsOf (x0 : FVec Ideal Cert.Pre_finite.S4096x512 .f32) (x1 : FVec Ideal Cert.Pre_finite.S4096x512 .f32) (x2 : FVec Ideal Cert.Pre_finite.S4096x1024 .f32) (x3 : FVec Ideal Cert.Pre_finite.S4096x1024 .f32) (x4 : FVec Ideal Cert.Pre_finite.S4096x16 .f32) (x5 : FVec Ideal Cert.Pre_finite.S16x512 .f32) (x6 : FVec Ideal Cert.Pre_finite.S512 .f32) (x7 : FVec Ideal Cert.Pre_finite.S1024 .f32) (x8 : FVec Ideal Cert.Pre_finite.S4096x2048 .f32) : R.Args where
  q T j := (x0 (ix2 T j) : EReal).toReal
  k T j := (x1 (ix2 T j) : EReal).toReal
  v T j := (x2 (ix2 T j) : EReal).toReal
  r T j := (x3 (ix2 T j) : EReal).toReal
  zl T l := (x4 (ix2 T l) : EReal).toReal
  wg l j := (x5 (ix2 l j) : EReal).toReal
  gb j := (x6 (ix1 j) : EReal).toReal
  gn j := (x7 (ix1 j) : EReal).toReal
  d T j := (x8 (ix2 T ⟨1024 + j.val, by omega⟩) : EReal).toReal

theorem reads_of_finite [Cert.Pre_finite.Facts] (x0 : FVec Ideal Cert.Pre_finite.S4096x512 .f32) (x1 : FVec Ideal Cert.Pre_finite.S4096x512 .f32) (x2 : FVec Ideal Cert.Pre_finite.S4096x1024 .f32) (x3 : FVec Ideal Cert.Pre_finite.S4096x1024 .f32) (x4 : FVec Ideal Cert.Pre_finite.S4096x16 .f32) (x5 : FVec Ideal Cert.Pre_finite.S16x512 .f32) (x6 : FVec Ideal Cert.Pre_finite.S512 .f32) (x7 : FVec Ideal Cert.Pre_finite.S1024 .f32) (x8 : FVec Ideal Cert.Pre_finite.S4096x2048 .f32) (x9 : FVec Ideal Cert.Pre_finite.S4096x6400 .bf16)
    (h : Cert.Pre_finite.fn (F := Ideal) x0 x1 x2 x3 x4 x5 x6 x7 x8 x9 = fun _ => 1#1) : Reads (argsOf x0 x1 x2 x3 x4 x5 x6 x7 x8) x0 x1 x2 x3 x4 x5 x6 x7 x8 := by
  have e := congrFun h ix0
  simp only [Cert.Pre_finite.fn, Cert.Pre_finite.fn_part1, Cert.Pre_finite.fn_part2] at e
  obtain ⟨e, e8⟩ := and_one e
  obtain ⟨e, e7⟩ := and_one e
  obtain ⟨e, e6⟩ := and_one e
  obtain ⟨e, e5⟩ := and_one e
  obtain ⟨e, e4⟩ := and_one e
  obtain ⟨e, e3⟩ := and_one e
  obtain ⟨e, e2⟩ := and_one e
  obtain ⟨e0, e1⟩ := and_one e
  exact
    { h0 := fun T j => entry_real x0 _ _ _ e0 _
      h1 := fun T j => entry_real x1 _ _ _ e1 _
      h2 := fun T j => entry_real x2 _ _ _ e2 _
      h3 := fun T j => entry_real x3 _ _ _ e3 _
      h4 := fun T l => entry_real x4 _ _ _ e4 _
      h5 := fun l j => entry_real x5 _ _ _ e5 _
      h6 := fun j => entry_real x6 _ _ _ e6 _
      h7 := fun j => entry_real x7 _ _ _ e7 _
      h8 := fun T j => entry_real x8 _ _ _ e8 _ }

end Cert.GlaBwd
-- ==== Proof.Vocab.lean ====
/-
  Names for what one grid step of the gated-linear-attention backward kernel computes, at any reading of floats:
  the per-tile quantities of one (chunk, head) pair, the state gradient carried from chunk to chunk, and the step's
  outputs as functions of the chunk and the head. The kernel's own body writes these out once per chunk and head.
-/
module

public import proofs.«01_k».proof.Proof.Gen.KernelIdeal
public import Idealize.ShloMosaic.Lib.Pipeline.Value

@[expose] public section

noncomputable section

namespace Cert.GlaBwd

open Idealize.ShloMosaic Idealize.ShloMosaic.TcCoe
open Cert.KernelIdeal Cert.KernelIdeal.Facts₀ Cert.KernelIdeal.Facts

variable {F : FTy → Type} [FloatOps F]

/-! ## Slices at a chunk and a head -/

theorem sl512 (c : Fin 8) : S512x512.Slices ![64 * c.val, 0] S64x512 := by revert c; decide
theorem slq (c : Fin 8) : S512x3200.Slices ![64 * c.val, 0] S64x512 := by revert c; decide
theorem slk (c : Fin 8) : S512x3200.Slices ![64 * c.val, 512] S64x512 := by revert c; decide
theorem slv (c : Fin 8) : S512x3200.Slices ![64 * c.val, 1024] S64x1024 := by revert c; decide
theorem slr (c : Fin 8) : S512x3200.Slices ![64 * c.val, 2048] S64x1024 := by revert c; decide
theorem slh (h : Fin 4) : S64x512.Slices ![0, 128 * h.val] S64x128 := by revert h; decide
theorem slw (h : Fin 4) : S64x1024.Slices ![0, 256 * h.val] S64x256 := by revert h; decide
theorem slg (h : Fin 4) : S1x1024.Slices ![0, 256 * h.val] S1x256 := by revert h; decide
/-! ## One tile -/

/-- The causal mask of one chunk: row at least column. -/
def mask : IVec S64x64 1 :=
  cmpi .sge (iota .tc S64x64 32 [0] iota_S64x64_d0_w32) (iota .tc S64x64 32 [1] iota_S64x64_d1_w32)

/-- The ones on and below the diagonal: the matrix of a cumulative sum. -/
def lower : FVec F S64x64 .f32 := sitofp .f32 (extui 32 mask natLt_1_32)

/-- The ones on and above the diagonal: the matrix of a cumulative sum from the end. -/
def upper : FVec F S64x64 .f32 :=
  addf (sitofp .f32 (extui 32 (xori mask (constantI S64x64 1 1#1)) natLt_1_32))
    (sitofp .f32 (extui 32 (cmpi .eq (iota .tc S64x64 32 [0] iota_S64x64_d0_w32) (iota .tc S64x64 32 [1] iota_S64x64_d1_w32)) natLt_1_32))

/-- The last row of a tile of cumulative log decays. -/
def bl (b : FVec F S64x128 .f32) : FVec F S1x128 .f32 := extractStridedSlice S1x128 ![63, 0] b slices_S64x128_o63_0_S1x128
def eb (b : FVec F S64x128 .f32) : FVec F S64x128 .f32 := exp b
def enb (b : FVec F S64x128 .f32) : FVec F S64x128 .f32 := exp (subf (broadcast S64x128 (Scalar.ofBits .f32 0x00000000#32)) b)
def ee (b : FVec F S64x128 .f32) : FVec F S64x128 .f32 := exp (subf (broadcastTo S64x128 (bl b) broadcasts_S1x128_S64x128) b)
def dec (b : FVec F S64x128 .f32) : FVec F S1x128 .f32 := exp (bl b)
def qd (b q : FVec F S64x128 .f32) : FVec F S64x128 .f32 := mulf (mulf q (broadcast S64x128 (Scalar.ofBits .f32 0x3DB504F3#32))) (eb b)
def ki (b k : FVec F S64x128 .f32) : FVec F S64x128 .f32 := mulf k (enb b)
def ke (b k : FVec F S64x128 .f32) : FVec F S64x128 .f32 := mulf k (ee b)

/-- One over the root mean square of each row. -/
def rinv (o : FVec F S64x256 .f32) : FVec F S64x1 .f32 :=
  rsqrt (addf (divf (shapeCast S64x1 (multiReduction .add [1] S64 (mulf o o) 0x00000000#32 reduces_S64x256_S64 (.inl rfl) rfl) shapeCasts_S64_S64x1)
    (broadcast S64x1 (Scalar.ofBits .f32 0x43800000#32))) (broadcast S64x1 (Scalar.ofBits .f32 0x358637BD#32)))
def one256 : FVec F S64x256 .f32 := broadcast S64x256 (Scalar.ofBits .f32 0x3F800000#32)
/-- The logistic function. -/
def sg (r : FVec F S64x256 .f32) : FVec F S64x256 .f32 :=
  divf one256 (addf one256 (exp (subf (broadcast S64x256 (Scalar.ofBits .f32 0x00000000#32)) r)))
def onv (o : FVec F S64x256 .f32) : FVec F S64x256 .f32 := mulf o (broadcastTo S64x256 (rinv o) broadcasts_S64x1_S64x256)
/-- The gradient of the output gate's argument. -/
def drv (o r d : FVec F S64x256 .f32) (g : FVec F S1x256 .f32) : FVec F S64x256 .f32 :=
  mulf (mulf d (mulf (onv o) (broadcastTo S64x256 g broadcasts_S1x256_S64x256)))
    (mulf (sg r) (addf one256 (mulf r (subf one256 (sg r)))))
def donv (r d : FVec F S64x256 .f32) : FVec F S64x256 .f32 := mulf d (mulf r (sg r))
/-- One tile's share of the gradient of the norm's gain. -/
def dgp (o r d : FVec F S64x256 .f32) : FVec F S1x256 .f32 :=
  shapeCast S1x256 (multiReduction .add [0] S256 (mulf (donv r d) (onv o)) 0x00000000#32 reduces_S64x256_S256 (.inl rfl) rfl) shapeCasts_S256_S1x256
def tv (r d : FVec F S64x256 .f32) (g : FVec F S1x256 .f32) : FVec F S64x256 .f32 :=
  mulf (donv r d) (broadcastTo S64x256 g broadcasts_S1x256_S64x256)
/-- The gradient of the attention's output, through the norm. -/
def dov (o r d : FVec F S64x256 .f32) (g : FVec F S1x256 .f32) : FVec F S64x256 .f32 :=
  subf (mulf (broadcastTo S64x256 (rinv o) broadcasts_S64x1_S64x256) (tv r d g))
    (mulf (mulf o (broadcastTo S64x256 (mulf (mulf (rinv o) (rinv o)) (rinv o)) broadcasts_S64x1_S64x256))
      (broadcastTo S64x256 (divf (shapeCast S64x1 (multiReduction .add [1] S64 (mulf o (tv r d g)) 0x00000000#32 reduces_S64x256_S64 (.inl rfl) rfl) shapeCasts_S64_S64x1)
        (broadcast S64x1 (Scalar.ofBits .f32 0x43800000#32))) broadcasts_S64x1_S64x256))

def b16 {s : Shape} (x : FVec F s .f32) : FVec F s .bf16 := truncf .bf16 x bitsLt_bf16_f32
def causal (x : FVec F S64x64 .f32) : FVec F S64x64 .f32 := select mask x (broadcast S64x64 (Scalar.ofBits .f32 0x00000000#32))
def av (b q k : FVec F S64x128 .f32) : FVec F S64x64 .f32 :=
  causal (matmul dot_S64x128_S64x128_S64x64_1_1_0_0_n_n none (b16 (qd b q)) (b16 (ki b k)) (constant S64x64 .f32 0x00000000#32))
def dav (e v : FVec F S64x256 .f32) : FVec F S64x64 .f32 :=
  causal (matmul dot_S64x256_S64x256_S64x64_1_1_0_0_n_n none (b16 e) (b16 v) (constant S64x64 .f32 0x00000000#32))
def dvv (b q k : FVec F S64x128 .f32) (e : FVec F S64x256 .f32) (t : FVec F S256x128 .f32) : FVec F S64x256 .f32 :=
  addf (matmul dot_S64x64_S64x256_S64x256_0_0_1_1_n_n none (b16 (av b q k)) (b16 e) (constant S64x256 .f32 0x00000000#32))
    (matmul dot_S64x128_S256x128_S64x256_1_1_0_0_n_n none (b16 (ke b k)) (b16 t) (constant S64x256 .f32 0x00000000#32))
def dqd (b k : FVec F S64x128 .f32) (e v : FVec F S64x256 .f32) (st : FVec F S256x128 .f32) : FVec F S64x128 .f32 :=
  addf (matmul dot_S64x64_S64x128_S64x128_1_0_0_1_n_n none (b16 (dav e v)) (b16 (ki b k)) (constant S64x128 .f32 0x00000000#32))
    (matmul dot_S64x256_S256x128_S64x128_1_0_0_1_n_n none (b16 e) (b16 st) (constant S64x128 .f32 0x00000000#32))
def dki (b q : FVec F S64x128 .f32) (e v : FVec F S64x256 .f32) : FVec F S64x128 .f32 :=
  matmul dot_S64x64_S64x128_S64x128_0_0_1_1_n_n none (b16 (dav e v)) (b16 (qd b q)) (constant S64x128 .f32 0x00000000#32)
def dke (v : FVec F S64x256 .f32) (t : FVec F S256x128 .f32) : FVec F S64x128 .f32 :=
  matmul dot_S64x256_S256x128_S64x128_1_0_0_1_n_n none (b16 v) (b16 t) (constant S64x128 .f32 0x00000000#32)
def ddec (st t : FVec F S256x128 .f32) : FVec F S1x128 .f32 :=
  shapeCast S1x128 (multiReduction .add [0] S128 (mulf st t) 0x00000000#32 reduces_S256x128_S128 (.inl rfl) rfl) shapeCasts_S128_S1x128
/-- The state gradient handed to the chunk before. -/
def tnext (b q : FVec F S64x128 .f32) (e : FVec F S64x256 .f32) (t : FVec F S256x128 .f32) : FVec F S256x128 .f32 :=
  addf (mulf (broadcastTo S256x128 (dec b) broadcasts_S1x128_S256x128) t)
    (matmul dot_S64x256_S64x128_S256x128_0_0_1_1_n_n none (b16 e) (b16 (qd b q)) (constant S256x128 .f32 0x00000000#32))
def dqv (b k : FVec F S64x128 .f32) (e v : FVec F S64x256 .f32) (st : FVec F S256x128 .f32) : FVec F S64x128 .f32 :=
  mulf (mulf (dqd b k e v st) (eb b)) (broadcast S64x128 (Scalar.ofBits .f32 0x3DB504F3#32))
def dkv (b q k : FVec F S64x128 .f32) (e v : FVec F S64x256 .f32) (t : FVec F S256x128 .f32) : FVec F S64x128 .f32 :=
  addf (mulf (dki b q e v) (enb b)) (mulf (dke v t) (ee b))
def dbv (b q k : FVec F S64x128 .f32) (e v : FVec F S64x256 .f32) (st t : FVec F S256x128 .f32) : FVec F S64x128 .f32 :=
  subf (subf (mulf (dqd b k e v st) (qd b q)) (mulf (dki b q e v) (ki b k))) (mulf (dke v t) (ke b k))
def dblv (b k : FVec F S64x128 .f32) (v : FVec F S64x256 .f32) (st t : FVec F S256x128 .f32) : FVec F S1x128 .f32 :=
  addf (shapeCast S1x128 (multiReduction .add [0] S128 (mulf (dke v t) (ke b k)) 0x00000000#32 reduces_S64x128_S128 (.inl rfl) rfl) shapeCasts_S128_S1x128)
    (mulf (dec b) (ddec st t))

/-! ## One grid step -/

section step

variable (x : Vec F S512x3200 .f32) (wg : Vec F S128x512 .bf16) (gb : Vec F S1x512 .f32) (gn : Vec F S1x1024 .f32)
  (o : Fin 8 → Fin 4 → FVec F S64x256 .f32) (st : Fin 8 → Fin 4 → FVec F S1x1x256x128 .f32)
  (d : Fin 8 → Fin 4 → FVec F S64x256 .f32) (ds : Fin 4 → FVec F S1x256x128 .f32)

def zlt : FVec F S512x128 .f32 := extractStridedSlice S512x128 ![0, 3072] x slices_S512x3200_o0_3072_S512x128
/-- The forget gate's argument. -/
def zt : FVec F S512x512 .f32 :=
  addf (matmul dot_S512x128_S128x512_S512x512_1_0_0_1_n_n none (b16 (zlt x)) wg (constant S512x512 .f32 0x00000000#32))
    (broadcastTo S512x512 gb broadcasts_S1x512_S512x512)
def one512 : FVec F S512x512 .f32 := broadcast S512x512 (Scalar.ofBits .f32 0x3F800000#32)
def zero512 : FVec F S512x512 .f32 := broadcast S512x512 (Scalar.ofBits .f32 0x00000000#32)
def sixteenth : FVec F S512x512 .f32 := broadcast S512x512 (Scalar.ofBits .f32 0x3D800000#32)
/-- The log decays. -/
def lat : FVec F S512x512 .f32 :=
  mulf (subf (minimumf (zt x wg gb) zero512) (log (addf one512 (exp (subf zero512 (absf (zt x wg gb))))))) sixteenth
def lac (c : Fin 8) : FVec F S64x512 .f32 :=
  matmul dot_S64x64_S64x512_S64x512_1_0_0_1_n_n (some .fp32) lower (extractStridedSlice S64x512 ![64 * c.val, 0] (lat x wg gb) (sl512 c))
    (constant S64x512 .f32 0x00000000#32)
/-- The log decays summed from the start of their chunk. -/
def bt : FVec F S512x512 .f32 :=
  concatenate S512x512 0 [⟨S64x512, lac x wg gb 0⟩, ⟨S64x512, lac x wg gb 1⟩, ⟨S64x512, lac x wg gb 2⟩, ⟨S64x512, lac x wg gb 3⟩,
    ⟨S64x512, lac x wg gb 4⟩, ⟨S64x512, lac x wg gb 5⟩, ⟨S64x512, lac x wg gb 6⟩, ⟨S64x512, lac x wg gb 7⟩]
    concatenates_S64x512_S64x512_S64x512_S64x512_S64x512_S64x512_S64x512_S64x512_S512x512_d0

def bh (c : Fin 8) (h : Fin 4) : FVec F S64x128 .f32 :=
  extractStridedSlice S64x128 ![0, 128 * h.val] (extractStridedSlice S64x512 ![64 * c.val, 0] (bt x wg gb) (sl512 c)) (slh h)
def qh (c : Fin 8) (h : Fin 4) : FVec F S64x128 .f32 :=
  extractStridedSlice S64x128 ![0, 128 * h.val] (extractStridedSlice S64x512 ![64 * c.val, 0] x (slq c)) (slh h)
def kh (c : Fin 8) (h : Fin 4) : FVec F S64x128 .f32 :=
  extractStridedSlice S64x128 ![0, 128 * h.val] (extractStridedSlice S64x512 ![64 * c.val, 512] x (slk c)) (slh h)
def vh (c : Fin 8) (h : Fin 4) : FVec F S64x256 .f32 :=
  extractStridedSlice S64x256 ![0, 256 * h.val] (extractStridedSlice S64x1024 ![64 * c.val, 1024] x (slv c)) (slw h)
def rh (c : Fin 8) (h : Fin 4) : FVec F S64x256 .f32 :=
  extractStridedSlice S64x256 ![0, 256 * h.val] (extractStridedSlice S64x1024 ![64 * c.val, 2048] x (slr c)) (slw h)
def gh (h : Fin 4) : FVec F S1x256 .f32 := extractStridedSlice S1x256 ![0, 256 * h.val] gn (slg h)
def sth (c : Fin 8) (h : Fin 4) : FVec F S256x128 .f32 := shapeCast S256x128 (st c h) shapeCasts_S1x1x256x128_S256x128
def dsh (h : Fin 4) : FVec F S256x128 .f32 := shapeCast S256x128 (ds h) shapeCasts_S1x256x128_S256x128

/-- The gradient of the attention's output at chunk `c`, head `h`. -/
def eh (c : Fin 8) (h : Fin 4) : FVec F S64x256 .f32 := dov (o c h) (rh x c h) (d c h) (gh gn h)

/-- The state gradient after `j` chunks, counted from the last. -/
def th (h : Fin 4) : ℕ → FVec F S256x128 .f32
  | 0 => dsh ds h
  | j + 1 => tnext (bh x wg gb (Fin.ofNat 8 (7 - j)) h) (qh x (Fin.ofNat 8 (7 - j)) h) (eh x gn o d (Fin.ofNat 8 (7 - j)) h) (th h j)

/-- The sum of the gain's gradient over the first `j + 1` chunks, counted from the last. -/
def dgs (h : Fin 4) : ℕ → FVec F S1x256 .f32
  | 0 => dgp (o 7 h) (rh x 7 h) (d 7 h)
  | j + 1 => addf (dgs h j) (dgp (o (Fin.ofNat 8 (6 - j)) h) (rh x (Fin.ofNat 8 (6 - j)) h) (d (Fin.ofNat 8 (6 - j)) h))

/-- The state gradient that chunk `c` of the step meets. -/
def tch (c : Fin 8) (h : Fin 4) : FVec F S256x128 .f32 := th x wg gb gn o d ds h (7 - c.val)

def dqh (c : Fin 8) (h : Fin 4) : FVec F S64x128 .f32 :=
  dqv (bh x wg gb c h) (kh x c h) (eh x gn o d c h) (vh x c h) (sth st c h)
def dkh (c : Fin 8) (h : Fin 4) : FVec F S64x128 .f32 :=
  dkv (bh x wg gb c h) (qh x c h) (kh x c h) (eh x gn o d c h) (vh x c h) (tch x wg gb gn o d ds c h)
def dvh (c : Fin 8) (h : Fin 4) : FVec F S64x256 .f32 :=
  dvv (bh x wg gb c h) (qh x c h) (kh x c h) (eh x gn o d c h) (tch x wg gb gn o d ds c h)
def drh (c : Fin 8) (h : Fin 4) : FVec F S64x256 .f32 := drv (o c h) (rh x c h) (d c h) (gh gn h)
def dbh (c : Fin 8) (h : Fin 4) : FVec F S64x128 .f32 :=
  dbv (bh x wg gb c h) (qh x c h) (kh x c h) (eh x gn o d c h) (vh x c h) (sth st c h) (tch x wg gb gn o d ds c h)
def dblh (c : Fin 8) (h : Fin 4) : FVec F S1x128 .f32 :=
  dblv (bh x wg gb c h) (kh x c h) (vh x c h) (sth st c h) (tch x wg gb gn o d ds c h)

def dbc (c : Fin 8) : FVec F S64x512 .f32 :=
  concatenate S64x512 1 [⟨S64x128, dbh x wg gb gn o st d ds c 0⟩, ⟨S64x128, dbh x wg gb gn o st d ds c 1⟩,
    ⟨S64x128, dbh x wg gb gn o st d ds c 2⟩, ⟨S64x128, dbh x wg gb gn o st d ds c 3⟩]
    concatenates_S64x128_S64x128_S64x128_S64x128_S64x512_d1
def dblc (c : Fin 8) : FVec F S64x512 .f32 :=
  broadcastTo S64x512 (shapeCast S1x512 (concatenate S1x512 1 [⟨S1x128, dblh x wg gb gn o st d ds c 0⟩, ⟨S1x128, dblh x wg gb gn o st d ds c 1⟩,
    ⟨S1x128, dblh x wg gb gn o st d ds c 2⟩, ⟨S1x128, dblh x wg gb gn o st d ds c 3⟩]
    concatenates_S1x128_S1x128_S1x128_S1x128_S1x512_d1) shapeCasts_S1x512_S1x512) broadcasts_S1x512_S64x512
def cat8 (f : Fin 8 → FVec F S64x512 .f32) : FVec F S512x512 .f32 :=
  concatenate S512x512 0 [⟨S64x512, f 0⟩, ⟨S64x512, f 1⟩, ⟨S64x512, f 2⟩, ⟨S64x512, f 3⟩, ⟨S64x512, f 4⟩, ⟨S64x512, f 5⟩, ⟨S64x512, f 6⟩, ⟨S64x512, f 7⟩]
    concatenates_S64x512_S64x512_S64x512_S64x512_S64x512_S64x512_S64x512_S64x512_S512x512_d0
def dbt : FVec F S512x512 .f32 := cat8 (dbc x wg gb gn o st d ds)
/-- The gradient of the log decays, summed to the end of the chunk. -/
def dlt : FVec F S512x512 .f32 :=
  addf (cat8 fun c => matmul dot_S64x64_S64x512_S64x512_1_0_0_1_n_n (some .fp32) upper
      (extractStridedSlice S64x512 ![64 * c.val, 0] (dbt x wg gb gn o st d ds) (sl512 c)) (constant S64x512 .f32 0x00000000#32))
    (cat8 (dblc x wg gb gn o st d ds))
/-- The gradient of the forget gate's argument. -/
def dzt : FVec F S512x512 .f32 :=
  mulf (mulf (dlt x wg gb gn o st d ds) sixteenth) (divf one512 (addf one512 (exp (zt x wg gb))))
/-- The gradient of the gate's low-rank input. -/
def dzlt : FVec F S512x128 .f32 :=
  matmul dot_S512x512_S128x512_S512x128_1_1_0_0_n_n none (b16 (dzt x wg gb gn o st d ds)) wg (constant S512x128 .f32 0x00000000#32)
/-- One step's share of the gradient of the gate's weight. -/
def dwt : FVec F S128x512 .f32 :=
  matmul dot_S512x128_S512x512_S128x512_0_0_1_1_n_n none (b16 (zlt x)) (b16 (dzt x wg gb gn o st d ds)) (constant S128x512 .f32 0x00000000#32)
/-- One step's share of the gradient of the gate's bias. -/
def dbiast : FVec F S1x512 .f32 :=
  shapeCast S1x512 (multiReduction .add [0] S512 (dzt x wg gb gn o st d ds) 0x00000000#32 reduces_S512x512_S512 (.inl rfl) rfl) shapeCasts_S512_S1x512

end step

end Cert.GlaBwd
-- ==== Proof.Pieces.lean ====
/-
  What one grid step of the kernel stores, in the words of `Vocab`: the pieces found by running the body, the loads
  they are computed from written out.
-/
module

public import proofs.«01_k».proof.Proof.Gen.KernelIdeal.Frame
public import proofs.«01_k».proof.Proof.Vocab

@[expose] public section

set_option maxRecDepth 16384

noncomputable section

namespace Cert.GlaBwd

open Idealize.ShloMosaic Idealize.ShloMosaic.TcCoe Idealize.ShloMosaic.Tactic
open Cert.KernelIdeal Cert.KernelIdeal.Gen

variable {F : FTy → Type} [FloatOps F]

theorem inbo (c : Fin 8) (h : Fin 4) : ∀ a, (![64 * c.val, 256 * h.val] : Fin 2 → Nat) a + S64x256.size a ≤ S512x1024.size a := by
  revert c h; decide
theorem inbst (c : Fin 8) (h : Fin 4) : ∀ a, (![c.val, h.val, 0, 0] : Fin 4 → Nat) a + S1x1x256x128.size a ≤ S8x4x256x128.size a := by
  revert c h; decide
theorem inbs (h : Fin 4) : ∀ a, (![h.val, 0, 0] : Fin 3 → Nat) a + S1x256x128.size a ≤ S4x256x128.size a := by
  revert h; decide
theorem inbg (h : Fin 4) : ∀ a, (![0, 256 * h.val] : Fin 2 → Nat) a + S1x256.size a ≤ S1x1024.size a := by
  revert h; decide
theorem inbq (c : Fin 8) (h : Fin 4) : ∀ a, (![64 * c.val, 0 + 128 * h.val] : Fin 2 → Nat) a + S64x128.size a ≤ S512x3200.size a := by
  revert c h; decide
theorem inbk (c : Fin 8) (h : Fin 4) : ∀ a, (![64 * c.val, 512 + 128 * h.val] : Fin 2 → Nat) a + S64x128.size a ≤ S512x3200.size a := by
  revert c h; decide
theorem inbv (c : Fin 8) (h : Fin 4) : ∀ a, (![64 * c.val, 1024 + 256 * h.val] : Fin 2 → Nat) a + S64x256.size a ≤ S512x3200.size a := by
  revert c h; decide
theorem inbr (c : Fin 8) (h : Fin 4) : ∀ a, (![64 * c.val, 2048 + 256 * h.val] : Fin 2 → Nat) a + S64x256.size a ≤ S512x3200.size a := by
  revert c h; decide

/-! ## The loads -/

def lx (M : Memref sig .tc .vmem S512x3200 .f32) (hM : M.IsWhole) (x : Vec F S512x3200 .f32) : FVec F S512x3200 .f32 :=
  shapeCast S512x3200 (View.readAt (Elt F) M.view (Rect.unit ![0, 0] S512x3200.size inb_S512x3200_S512x3200_0_0).toLoadRect (hM.unread x)) shapeCasts_S512x3200_S512x3200
def lwg (M : Memref sig .tc .vmem S128x512 .bf16) (hM : M.IsWhole) (x : Vec F S128x512 .bf16) : FVec F S128x512 .bf16 :=
  shapeCast S128x512 (View.readAt (Elt F) M.view (Rect.unit ![0, 0] S128x512.size inb_S128x512_S128x512_0_0).toLoadRect (hM.unread x)) shapeCasts_S128x512_S128x512
def lgb (M : Memref sig .tc .vmem S1x512 .f32) (hM : M.IsWhole) (x : Vec F S1x512 .f32) : FVec F S1x512 .f32 :=
  shapeCast S1x512 (View.readAt (Elt F) M.view (Rect.unit ![0, 0] S1x512.size inb_S1x512_S1x512_0_0).toLoadRect (hM.unread x)) shapeCasts_S1x512_S1x512
def lgn (M : Memref sig .tc .vmem S1x1024 .f32) (hM : M.IsWhole) (x : Vec F S1x1024 .f32) : FVec F S1x1024 .f32 :=
  shapeCast S1x1024 (View.readAt (Elt F) M.view (Rect.unit ![0, 0] S1x1024.size inb_S1x1024_S1x1024_0_0).toLoadRect (hM.unread x)) shapeCasts_S1x1024_S1x1024
def lo (M : Memref sig .tc .vmem S512x1024 .f32) (hM : M.IsWhole) (x : Vec F S512x1024 .f32) (k : Fin 8) (h : Fin 4) : FVec F S64x256 .f32 :=
  shapeCast S64x256 (View.readAt (Elt F) M.view (Rect.unit (s := S512x1024) ![64 * k.val, 256 * h.val] S64x256.size (inbo k h)).toLoadRect (hM.unread x)) shapeCasts_S64x256_S64x256
def lst (M : Memref sig .tc .vmem S8x4x256x128 .f32) (hM : M.IsWhole) (x : Vec F S8x4x256x128 .f32) (k : Fin 8) (h : Fin 4) : FVec F S1x1x256x128 .f32 :=
  View.readAt (Elt F) M.view (Rect.unit (s := S8x4x256x128) ![k.val, h.val, 0, 0] S1x1x256x128.size (inbst k h)).toLoadRect (hM.unread x)
def ld (M : Memref sig .tc .vmem S512x1024 .f32) (hM : M.IsWhole) (x : Vec F S512x1024 .f32) (k : Fin 8) (h : Fin 4) : FVec F S64x256 .f32 :=
  View.readAt (Elt F) M.view (Rect.unit (s := S512x1024) ![64 * k.val, 256 * h.val] S64x256.size (inbo k h)).toLoadRect (hM.unread x)
def lds (M : Memref sig .tc .vmem S4x256x128 .f32) (hM : M.IsWhole) (x : Vec F S4x256x128 .f32) (h : Fin 4) : FVec F S1x256x128 .f32 :=
  View.readAt (Elt F) M.view (Rect.unit (s := S4x256x128) ![h.val, 0, 0] S1x256x128.size (inbs h)).toLoadRect (hM.unread x)

/-! ## The pieces a step stores -/

section pieces

variable (x : Vec F S512x3200 .f32) (wg : Vec F S128x512 .bf16) (gb : Vec F S1x512 .f32) (gn : Vec F S1x1024 .f32)
  (o : Fin 8 → Fin 4 → FVec F S64x256 .f32) (st : Fin 8 → Fin 4 → FVec F S1x1x256x128 .f32)
  (d : Fin 8 → Fin 4 → FVec F S64x256 .f32) (ds : Fin 4 → FVec F S1x256x128 .f32)

/-- The pieces of the gradients at one chunk and head. -/
def P7h (c : Fin 8) (h : Fin 4) : List (View.Piece (Elt F) S512x3200 .bf16) :=
  [⟨Rect.unit (s := S512x3200) ![64 * c.val, 2048 + 256 * h.val] S64x256.size (inbr c h), b16 (drh x gn o d c h)⟩,
    ⟨Rect.unit (s := S512x3200) ![64 * c.val, 1024 + 256 * h.val] S64x256.size (inbv c h), b16 (dvh x wg gb gn o d ds c h)⟩,
    ⟨Rect.unit (s := S512x3200) ![64 * c.val, 512 + 128 * h.val] S64x128.size (inbk c h), b16 (dkh x wg gb gn o d ds c h)⟩,
    ⟨Rect.unit (s := S512x3200) ![64 * c.val, 0 + 128 * h.val] S64x128.size (inbq c h), b16 (dqh x wg gb gn o st d c h)⟩]

/-- The pieces of the gradient of the packed projections. -/
def P7 : List (View.Piece (Elt F) S512x3200 .bf16) :=
  ⟨Rect.unit (s := S512x3200) ![0, 3072] S512x128.size inb_S512x3200_S512x128_0_3072, b16 (dzlt x wg gb gn o st d ds)⟩ ::
    ([0, 1, 2, 3, 4, 5, 6, 7] : List (Fin 8)).flatMap fun c => ([3, 2, 1, 0] : List (Fin 4)).flatMap fun h =>
      P7h x wg gb gn o st d ds c h

/-- The pieces of the carried state gradient. -/
def PS : List (View.Piece (Elt F) S4x256x128 .f32) :=
  ([3, 2, 1, 0] : List (Fin 4)).map fun h => ⟨Rect.unit (s := S4x256x128) ![h.val, 0, 0] S1x256x128.size (inbs h),
    shapeCast S1x256x128 (th x wg gb gn o d ds h 8) shapeCasts_S256x128_S1x256x128⟩

/-- The pieces of the gain's gradient, over what was read for each head. -/
def P10 (z : Fin 4 → FVec F S1x256 .f32) : List (View.Piece (Elt F) S1x1024 .f32) :=
  ([3, 2, 1, 0] : List (Fin 4)).map fun h => ⟨Rect.unit (s := S1x1024) ![0, 256 * h.val] S1x256.size (inbg h),
    addf (shapeCast S1x256 (z h) shapeCasts_S1x256_S1x256) (dgs x o d h 7)⟩

/-- The zeros the first step fills the gain's gradient with, then the pieces of the first `n` heads. -/
def P10A (M : Memref sig .tc .vmem S1x1024 .f32) : ℕ → List (View.Piece (Elt F) S1x1024 .f32)
  | 0 => [⟨Rect.unit (s := S1x1024) ![0, 0] S1x1024.size inb_S1x1024_S1x1024_0_0, k0_pay6⟩]
  | n + 1 => ⟨Rect.unit (s := S1x1024) ![0, 256 * (Fin.ofNat 4 n).val] S1x256.size (inbg (Fin.ofNat 4 n)),
      addf (shapeCast S1x256 (M.view.readCov (P10A M n) (Rect.unit (s := S1x1024) ![0, 256 * (Fin.ofNat 4 n).val] S1x256.size (inbg (Fin.ofNat 4 n))).toLoadRect)
        shapeCasts_S1x256_S1x256) (dgs x o d (Fin.ofNat 4 n) 7)⟩ :: P10A M n

/-- The zeros the first step fills the carried state gradient with. -/
def PZ : List (View.Piece (Elt F) S4x256x128 .f32) :=
  [⟨Rect.unit (s := S4x256x128) ![0, 0, 0] S4x256x128.size inb_S4x256x128_S4x256x128_0_0_0, k0_pay3⟩]
def ldsA (M : Memref sig .tc .vmem S4x256x128 .f32) (h : Fin 4) : FVec F S1x256x128 .f32 :=
  M.view.readCov PZ (Rect.unit (s := S4x256x128) ![h.val, 0, 0] S1x256x128.size (inbs h)).toLoadRect
def PZ8 : List (View.Piece (Elt F) S128x512 .f32) := [⟨Rect.unit (s := S128x512) ![0, 0] S128x512.size inb_S128x512_S128x512_0_0, k0_pay4⟩]
def PZ9 : List (View.Piece (Elt F) S1x512 .f32) := [⟨Rect.unit (s := S1x512) ![0, 0] S1x512.size inb_S1x512_S1x512_0_0, k0_pay5⟩]

end pieces

end Cert.GlaBwd
-- ==== Proof.BridgeA.lean ====
/-
  What one grid step of the kernel stores, in the words of `Vocab`: the pieces found by running the body
  (at the first step, which clears the accumulators).
-/
module

public import proofs.«01_k».proof.Proof.Pieces

@[expose] public section

set_option maxRecDepth 16384

noncomputable section

namespace Cert.GlaBwd

open Idealize.ShloMosaic Idealize.ShloMosaic.TcCoe Idealize.ShloMosaic.Tactic
open Cert.KernelIdeal Cert.KernelIdeal.Gen

variable {F : FTy → Type} [FloatOps F]
variable (c : Dev nD) (i : grid0.Coords) (arg1 : Memref sig .tc .vmem S512x3200 .f32) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S8x4x256x128 .f32) (harg6 : arg6.IsWhole) (arg7 : Memref sig .tc .vmem S512x1024 .f32) (harg7 : arg7.IsWhole) (arg9 : Memref sig .tc .vmem S512x3200 .bf16) (harg9 : arg9.IsWhole) (arg10 : Memref sig .tc .vmem S128x512 .f32) (harg10 : arg10.IsWhole) (arg11 : Memref sig .tc .vmem S1x512 .f32) (harg11 : arg11.IsWhole) (arg12 : Memref sig .tc .vmem S1x1024 .f32) (harg12 : arg12.IsWhole) (arg13 : Memref sig .tc .vmem S4x256x128 .f32) (harg13 : arg13.IsWhole) (hc0 : cond0_0 i)
  (x0 : Vec F S512x3200 .f32) (x1 : Vec F S128x512 .bf16) (x2 : Vec F S1x512 .f32) (x3 : Vec F S1x1024 .f32) (x4 : Vec F S512x1024 .f32) (x5 : Vec F S8x4x256x128 .f32) (x6 : Vec F S512x1024 .f32)

theorem pieces7_A : (kernelRun0_A c i arg1 harg1 arg2 harg2 arg3 harg3 arg4 harg4 arg5 harg5 arg6 harg6 arg7 harg7 arg9 harg9 arg10 harg10 arg11 harg11 arg12 harg12 arg13 harg13 hc0 x0 x1 x2 x3 x4 x5 x6).1 = P7 (lx arg1 harg1 x0) (lwg arg2 harg2 x1) (lgb arg3 harg3 x2) (lgn arg4 harg4 x3) (lo arg5 harg5 x4) (lst arg6 harg6 x5) (ld arg7 harg7 x6) (ldsA arg13) := by
  sl_kernel_rfl

theorem pieces8_A : (kernelRun0_A c i arg1 harg1 arg2 harg2 arg3 harg3 arg4 harg4 arg5 harg5 arg6 harg6 arg7 harg7 arg9 harg9 arg10 harg10 arg11 harg11 arg12 harg12 arg13 harg13 hc0 x0 x1 x2 x3 x4 x5 x6).2.1
    = ⟨(Rect.unit (s := S128x512) ![0, 0] S128x512.size inb_S128x512_S128x512_0_0),
        addf (shapeCast S128x512 (arg10.view.readCov PZ8 (Rect.unit (s := S128x512) ![0, 0] S128x512.size inb_S128x512_S128x512_0_0).toLoadRect) shapeCasts_S128x512_S128x512)
          (dwt (lx arg1 harg1 x0) (lwg arg2 harg2 x1) (lgb arg3 harg3 x2) (lgn arg4 harg4 x3) (lo arg5 harg5 x4) (lst arg6 harg6 x5) (ld arg7 harg7 x6) (ldsA arg13))⟩ :: PZ8 := by
  sl_kernel_rfl

theorem pieces9_A : (kernelRun0_A c i arg1 harg1 arg2 harg2 arg3 harg3 arg4 harg4 arg5 harg5 arg6 harg6 arg7 harg7 arg9 harg9 arg10 harg10 arg11 harg11 arg12 harg12 arg13 harg13 hc0 x0 x1 x2 x3 x4 x5 x6).2.2.1
    = ⟨(Rect.unit (s := S1x512) ![0, 0] S1x512.size inb_S1x512_S1x512_0_0),
        addf (shapeCast S1x512 (arg11.view.readCov PZ9 (Rect.unit (s := S1x512) ![0, 0] S1x512.size inb_S1x512_S1x512_0_0).toLoadRect) shapeCasts_S1x512_S1x512)
          (dbiast (lx arg1 harg1 x0) (lwg arg2 harg2 x1) (lgb arg3 harg3 x2) (lgn arg4 harg4 x3) (lo arg5 harg5 x4) (lst arg6 harg6 x5) (ld arg7 harg7 x6) (ldsA arg13))⟩ :: PZ9 := by
  sl_kernel_rfl

theorem pieces10_A : (kernelRun0_A c i arg1 harg1 arg2 harg2 arg3 harg3 arg4 harg4 arg5 harg5 arg6 harg6 arg7 harg7 arg9 harg9 arg10 harg10 arg11 harg11 arg12 harg12 arg13 harg13 hc0 x0 x1 x2 x3 x4 x5 x6).2.2.2.1 = P10A (lx arg1 harg1 x0) (lo arg5 harg5 x4) (ld arg7 harg7 x6) arg12 4 := by
  sl_kernel_rfl

theorem piecesS_A : (kernelRun0_A c i arg1 harg1 arg2 harg2 arg3 harg3 arg4 harg4 arg5 harg5 arg6 harg6 arg7 harg7 arg9 harg9 arg10 harg10 arg11 harg11 arg12 harg12 arg13 harg13 hc0 x0 x1 x2 x3 x4 x5 x6).2.2.2.2.1 = PS (lx arg1 harg1 x0) (lwg arg2 harg2 x1) (lgb arg3 harg3 x2) (lgn arg4 harg4 x3) (lo arg5 harg5 x4) (ld arg7 harg7 x6) (ldsA arg13) ++ PZ := by
  sl_kernel_rfl

end Cert.GlaBwd
-- ==== Proof.BridgeB.lean ====
/-
  What one grid step of the kernel stores, in the words of `Vocab`: the pieces found by running the body
  (at a later step).
-/
module

public import proofs.«01_k».proof.Proof.Pieces

@[expose] public section

set_option maxRecDepth 16384

noncomputable section

namespace Cert.GlaBwd

open Idealize.ShloMosaic Idealize.ShloMosaic.TcCoe Idealize.ShloMosaic.Tactic
open Cert.KernelIdeal Cert.KernelIdeal.Gen

variable {F : FTy → Type} [FloatOps F]
variable (c : Dev nD) (i : grid0.Coords) (arg1 : Memref sig .tc .vmem S512x3200 .f32) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S8x4x256x128 .f32) (harg6 : arg6.IsWhole) (arg7 : Memref sig .tc .vmem S512x1024 .f32) (harg7 : arg7.IsWhole) (arg9 : Memref sig .tc .vmem S512x3200 .bf16) (harg9 : arg9.IsWhole) (arg10 : Memref sig .tc .vmem S128x512 .f32) (harg10 : arg10.IsWhole) (arg11 : Memref sig .tc .vmem S1x512 .f32) (harg11 : arg11.IsWhole) (arg12 : Memref sig .tc .vmem S1x1024 .f32) (harg12 : arg12.IsWhole) (arg13 : Memref sig .tc .vmem S4x256x128 .f32) (harg13 : arg13.IsWhole) (hc0 : ¬cond0_0 i)
  (x0 : Vec F S512x3200 .f32) (x1 : Vec F S128x512 .bf16) (x2 : Vec F S1x512 .f32) (x3 : Vec F S1x1024 .f32) (x4 : Vec F S512x1024 .f32) (x5 : Vec F S8x4x256x128 .f32) (x6 : Vec F S512x1024 .f32) (xo8 : Vec F S128x512 .f32) (xo9 : Vec F S1x512 .f32) (xo10 : Vec F S1x1024 .f32) (xs0 : Vec F S4x256x128 .f32)

theorem pieces7_B : (kernelRun0_B c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xs0).1 = P7 (lx arg1 harg1 x0) (lwg arg2 harg2 x1) (lgb arg3 harg3 x2) (lgn arg4 harg4 x3) (lo arg5 harg5 x4) (lst arg6 harg6 x5) (ld arg7 harg7 x6) (lds arg13 harg13 xs0) := by
  sl_kernel_rfl

theorem pieces8_B : (kernelRun0_B c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xs0).2.1
    = ⟨(Rect.unit (s := S128x512) ![0, 0] S128x512.size inb_S128x512_S128x512_0_0),
        addf (shapeCast S128x512 (View.readAt (Elt F) arg10.view (Rect.unit (s := S128x512) ![0, 0] S128x512.size inb_S128x512_S128x512_0_0).toLoadRect (harg10.unread xo8)) shapeCasts_S128x512_S128x512)
          (dwt (lx arg1 harg1 x0) (lwg arg2 harg2 x1) (lgb arg3 harg3 x2) (lgn arg4 harg4 x3) (lo arg5 harg5 x4) (lst arg6 harg6 x5) (ld arg7 harg7 x6) (lds arg13 harg13 xs0))⟩ :: [] := by
  sl_kernel_rfl

theorem pieces9_B : (kernelRun0_B c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xs0).2.2.1
    = ⟨(Rect.unit (s := S1x512) ![0, 0] S1x512.size inb_S1x512_S1x512_0_0),
        addf (shapeCast S1x512 (View.readAt (Elt F) arg11.view (Rect.unit (s := S1x512) ![0, 0] S1x512.size inb_S1x512_S1x512_0_0).toLoadRect (harg11.unread xo9)) shapeCasts_S1x512_S1x512)
          (dbiast (lx arg1 harg1 x0) (lwg arg2 harg2 x1) (lgb arg3 harg3 x2) (lgn arg4 harg4 x3) (lo arg5 harg5 x4) (lst arg6 harg6 x5) (ld arg7 harg7 x6) (lds arg13 harg13 xs0))⟩ :: [] := by
  sl_kernel_rfl

theorem pieces10_B : (kernelRun0_B c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xs0).2.2.2.1 = P10 (lx arg1 harg1 x0) (lo arg5 harg5 x4) (ld arg7 harg7 x6) (fun h => View.readAt (Elt F) arg12.view (Rect.unit (s := S1x1024) ![0, 256 * h.val] S1x256.size (inbg h)).toLoadRect (harg12.unread xo10)) := by
  sl_kernel_rfl

theorem piecesS_B : (kernelRun0_B c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xs0).2.2.2.2.1 = PS (lx arg1 harg1 x0) (lwg arg2 harg2 x1) (lgb arg3 harg3 x2) (lgn arg4 harg4 x3) (lo arg5 harg5 x4) (ld arg7 harg7 x6) (lds arg13 harg13 xs0) := by
  sl_kernel_rfl

end Cert.GlaBwd
-- ==== Proof.TileRead.lean ====
/-
  The tile quantities of `Vocab` over the reals: at finite tiles each is the quantity of `Model`, entry by entry.
-/
module

public import proofs.«01_k».proof.Proof.Vocab
public import proofs.«01_k».proof.Proof.Coe

@[expose] public section

noncomputable section

namespace Cert.GlaBwd

open Idealize.ShloMosaic Idealize.ShloMosaic.TcCoe
open Cert.KernelIdeal Cert.KernelIdeal.Facts₀ Cert.KernelIdeal.Facts

section tile

variable {b q k : FVec Ideal S64x128 .f32} {o r d v e : FVec Ideal S64x256 .f32} {g : FVec Ideal S1x256 .f32}
  {st t : FVec Ideal S256x128 .f32}
  {fb fq fk : Fin 64 → Fin 128 → ℝ} {fo fr fd fv fe : Fin 64 → Fin 256 → ℝ} {fg : Fin 256 → ℝ} {fst ft : Fin 256 → Fin 128 → ℝ}

theorem b16_apply {n m : ℕ} {X : FVec Ideal ⟨2, ![n, m]⟩ .f32} {f : Fin n → Fin m → ℝ} (h : IsR X f) : IsR (b16 X) f := by
  intro i j
  have := h i j
  pointwise [b16]
  exact this

theorem eb_apply (hb : IsR b fb) : IsR (eb b) (fun i a => Real.exp (fb i a)) := by
  intro i a
  pointwise [eb]
  rw [hb, Ideal.exp_coe]

theorem enb_apply (hb : IsR b fb) : IsR (enb b) (fun i a => Real.exp (-fb i a)) := by
  intro i a
  pointwise [enb]
  rw [hb, zero_sub, ← EReal.coe_neg, Ideal.exp_coe]

theorem ee_apply (hb : IsR b fb) : IsR (ee b) (fun i a => Real.exp (fb 63 a - fb i a)) := by
  intro i a
  pointwise [ee, bl]
  rw [hb, hb, ← EReal.coe_sub, Ideal.exp_coe]
  try rfl

theorem dec_apply (hb : IsR b fb) : IsR (dec b) (fun _ a => Real.exp (fb 63 a)) := by
  intro i a
  pointwise [dec, bl]
  rw [hb, Ideal.exp_coe]
  try rfl

theorem qd_apply (hb : IsR b fb) (hq : IsR q fq) : IsR (qd b q) (R.qd fb fq) := by
  intro i a
  pointwise [qd]
  simp only [hq i a, eb_apply hb i a, c_scale, ← EReal.coe_mul, R.qd]

theorem ki_apply (hb : IsR b fb) (hk : IsR k fk) : IsR (ki b k) (R.ki fb fk) := by
  intro i a
  pointwise [ki]
  simp only [hk i a, enb_apply hb i a, ← EReal.coe_mul, R.ki]

theorem ke_apply (hb : IsR b fb) (hk : IsR k fk) : IsR (ke b k) (R.ke fb fk) := by
  intro i a
  pointwise [ke]
  simp only [hk i a, ee_apply hb i a, ← EReal.coe_mul, R.ke]

theorem rinv_apply (ho : IsR o fo) : IsR (rinv o) (fun i _ => R.rinv fo i) := by
  intro i a
  pointwise [rinv]
  simp only [ho i _, c_256, c_eps, ← EReal.coe_mul, ← coe_sum, div_real (show (256 : ℝ) ≠ 0 by norm_num), ← EReal.coe_add]
  exact rsqrt_real (ms_pos fo i)

theorem sg_apply (hr : IsR r fr) : IsR (sg r) (R.sg fr) := by
  intro i c
  pointwise [sg, one256]
  simp only [hr i c, c_1, zero_sub, ← EReal.coe_neg, Ideal.exp_coe, ← EReal.coe_add]
  rw [show (1 : EReal) = ((1 : ℝ) : EReal) from rfl, ← EReal.coe_add, div_real (one_add_exp_ne _)]
  rfl

theorem onv_apply (ho : IsR o fo) : IsR (onv o) (R.on fo) := by
  intro i c
  pointwise [onv]
  simp only [ho i c, rinv_apply ho i 0, ← EReal.coe_mul, R.on]

theorem drv_apply (ho : IsR o fo) (hr : IsR r fr) (hd : IsR d fd) (hg : IsR g fun _ => fg) :
    IsR (drv o r d g) (R.dr fo fr fd fg) := by
  intro i c
  pointwise [drv, one256]
  simp only [hd i c, onv_apply ho i c, hg 0 c, sg_apply hr i c, hr i c]
  rw [show (1 : EReal) = ((1 : ℝ) : EReal) from rfl]
  simp only [← EReal.coe_mul, ← EReal.coe_add, ← EReal.coe_sub, R.dr]

theorem donv_apply (hr : IsR r fr) (hd : IsR d fd) : IsR (donv r d) (R.don fr fd) := by
  intro i c
  pointwise [donv]
  simp only [hd i c, hr i c, sg_apply hr i c, ← EReal.coe_mul, R.don]

theorem dgp_apply (ho : IsR o fo) (hr : IsR r fr) (hd : IsR d fd) : IsR (dgp o r d) (fun _ => R.dgp fo fr fd) := by
  intro i c
  pointwise [dgp]
  simp only [donv_apply hr hd _ c, onv_apply ho _ c, ← EReal.coe_mul, ← coe_sum, R.dgp]

theorem tv_apply (hr : IsR r fr) (hd : IsR d fd) (hg : IsR g fun _ => fg) : IsR (tv r d g) (R.tv fr fd fg) := by
  intro i c
  pointwise [tv]
  simp only [donv_apply hr hd i c, hg 0 c, ← EReal.coe_mul, R.tv]

theorem dov_apply (ho : IsR o fo) (hr : IsR r fr) (hd : IsR d fd) (hg : IsR g fun _ => fg) :
    IsR (dov o r d g) (R.dov fo fr fd fg) := by
  intro i c
  pointwise [dov]
  simp only [rinv_apply ho i 0, tv_apply hr hd hg i _, ho i _, c_256, ← EReal.coe_mul, ← coe_sum,
    div_real (show (256 : ℝ) ≠ 0 by norm_num), ← EReal.coe_sub, R.dov]

theorem av_apply (hb : IsR b fb) (hq : IsR q fq) (hk : IsR k fk) : IsR (av b q k) (R.att fb fq fk) := by
  intro i j
  pointwise [av, causal, mask]
  rw [select_sge]
  simp only [b16_apply (qd_apply hb hq) i _, b16_apply (ki_apply hb hk) j _, ← EReal.coe_mul, ← coe_sum, R.att]
  split <;> rfl

theorem dav_apply (he : IsR e fe) (hv : IsR v fv) : IsR (dav e v) (R.dav fv fe) := by
  intro i j
  pointwise [dav, causal, mask]
  rw [select_sge]
  simp only [b16_apply he i _, b16_apply hv j _, ← EReal.coe_mul, ← coe_sum, R.dav]
  split <;> rfl

theorem dvv_apply (hb : IsR b fb) (hq : IsR q fq) (hk : IsR k fk) (he : IsR e fe) (ht : IsR t ft) :
    IsR (dvv b q k e t) (R.dvv fb fq fk fe ft) := by
  intro j c
  pointwise [dvv]
  simp only [b16_apply (av_apply hb hq hk) _ j, b16_apply he _ c, b16_apply (ke_apply hb hk) j _, b16_apply ht c _,
    ← EReal.coe_mul, ← coe_sum, ← EReal.coe_add, R.dvv]

theorem dqd_apply (hb : IsR b fb) (hk : IsR k fk) (he : IsR e fe) (hv : IsR v fv) (hs : IsR st fst) :
    IsR (dqd b k e v st) (R.dqd fb fk fv fe fst) := by
  intro i a
  pointwise [dqd]
  simp only [b16_apply (dav_apply he hv) i _, b16_apply (ki_apply hb hk) _ a, b16_apply he i _, b16_apply hs _ a,
    ← EReal.coe_mul, ← coe_sum, ← EReal.coe_add, R.dqd]

theorem dki_apply (hb : IsR b fb) (hq : IsR q fq) (he : IsR e fe) (hv : IsR v fv) :
    IsR (dki b q e v) (R.dki fb fq fv fe) := by
  intro i a
  pointwise [dki]
  simp only [b16_apply (dav_apply he hv) _ i, b16_apply (qd_apply hb hq) _ a, ← EReal.coe_mul, ← coe_sum, R.dki]

theorem dke_apply (hv : IsR v fv) (ht : IsR t ft) : IsR (dke v t) (R.dke fv ft) := by
  intro i a
  pointwise [dke]
  simp only [b16_apply hv i _, b16_apply ht _ a, ← EReal.coe_mul, ← coe_sum, R.dke]

theorem ddec_apply (hs : IsR st fst) (ht : IsR t ft) : IsR (ddec st t) (fun _ => R.ddec fst ft) := by
  intro i a
  pointwise [ddec]
  simp only [hs _ a, ht _ a, ← EReal.coe_mul, ← coe_sum, R.ddec]

theorem tnext_apply (hb : IsR b fb) (hq : IsR q fq) (he : IsR e fe) (ht : IsR t ft) :
    IsR (tnext b q e t) (R.tnext fb fq fe ft) := by
  intro c a
  pointwise [tnext]
  simp only [dec_apply hb 0 a, ht c a, b16_apply he _ c, b16_apply (qd_apply hb hq) _ a, ← EReal.coe_mul, ← coe_sum,
    ← EReal.coe_add, R.tnext, R.gst]

theorem dqv_apply (hb : IsR b fb) (hk : IsR k fk) (he : IsR e fe) (hv : IsR v fv) (hs : IsR st fst) :
    IsR (dqv b k e v st) (R.dqv fb fk fv fe fst) := by
  intro i a
  pointwise [dqv]
  simp only [dqd_apply hb hk he hv hs i a, eb_apply hb i a, c_scale, ← EReal.coe_mul, R.dqv]

theorem dkv_apply (hb : IsR b fb) (hq : IsR q fq) (he : IsR e fe) (hv : IsR v fv) (ht : IsR t ft) :
    IsR (dkv b q k e v t) (R.dkv fb fq fv fe ft) := by
  intro i a
  pointwise [dkv]
  simp only [dki_apply hb hq he hv i a, enb_apply hb i a, dke_apply hv ht i a, ee_apply hb i a, ← EReal.coe_mul,
    ← EReal.coe_add, R.dkv]

theorem dbv_apply (hb : IsR b fb) (hq : IsR q fq) (hk : IsR k fk) (he : IsR e fe) (hv : IsR v fv) (hs : IsR st fst) (ht : IsR t ft) :
    IsR (dbv b q k e v st t) (R.dbv fb fq fk fv fe fst ft) := by
  intro i a
  pointwise [dbv]
  simp only [dqd_apply hb hk he hv hs i a, qd_apply hb hq i a, dki_apply hb hq he hv i a, ki_apply hb hk i a,
    dke_apply hv ht i a, ke_apply hb hk i a, ← EReal.coe_mul, ← EReal.coe_sub, R.dbv]

theorem dblv_apply (hb : IsR b fb) (hk : IsR k fk) (hv : IsR v fv) (hs : IsR st fst) (ht : IsR t ft) :
    IsR (dblv b k v st t) (fun _ => R.dblv fb fk fv fst ft) := by
  intro i a
  pointwise [dblv]
  simp only [dke_apply hv ht _ a, ke_apply hb hk _ a, dec_apply hb 0 a, dec_apply hb i a, ddec_apply hs ht i a, ← EReal.coe_mul,
    ← coe_sum, ← EReal.coe_add, R.dblv]

end tile

end Cert.GlaBwd
-- ==== Proof.StepRead.lean ====
/-
  One grid step of `Vocab` over the reals: the log decays, the state gradient from chunk to chunk, the gate's gradient.
-/
module

public import proofs.«01_k».proof.Proof.TileRead

@[expose] public section

noncomputable section

namespace Cert.GlaBwd

open Idealize.ShloMosaic Idealize.ShloMosaic.TcCoe
open Cert.KernelIdeal Cert.KernelIdeal.Facts₀ Cert.KernelIdeal.Facts

/-! ## The triangular matrices -/

theorem lower_apply : IsR (lower (F := Ideal)) (fun i j => if j ≤ i then 1 else 0) := by
  intro i j
  pointwise [lower, mask]
  rw [WordCmp.cmpi_sge_ofNat (by omega) (by omega)]
  show (((BitVec.setWidth 32 _).toInt : ℝ) : EReal) = _
  by_cases h : j ≤ i
  · have h' : j.val ≤ i.val := h
    simp [h, h']
  · have h' : ¬ j.val ≤ i.val := h
    simp [h, h']

theorem upper_apply : IsR (upper (F := Ideal)) (fun i j => if i ≤ j then 1 else 0) := by
  intro i j
  pointwise [upper, mask]
  rw [WordCmp.cmpi_sge_ofNat (by omega) (by omega), WordCmp.cmpi_eq_ofNat (by omega) (by omega)]
  show (((BitVec.setWidth 32 _).toInt : ℝ) : EReal) + (((BitVec.setWidth 32 _).toInt : ℝ) : EReal) = _
  rw [← EReal.coe_add]
  rcases lt_trichotomy i j with h | h | h
  · have h1 : ¬ j.val ≤ i.val := by omega
    have h2 : i.val ≠ j.val := by omega
    simp [h.le, h1, h2, IntOp.xori]
  · subst h
    simp [IntOp.xori]
  · have h1 : j.val ≤ i.val := by omega
    have h2 : i.val ≠ j.val := by omega
    have h3 : ¬ i ≤ j := not_le.mpr h
    simp [h1, h2, h3, IntOp.xori]

/-! ## Tiles laid side by side -/

theorem cat8_apply (f : Fin 8 → FVec Ideal S64x512 .f32) (c : Fin 8) (i : Fin 64) (j : Fin 512) :
    cat8 f (ix2 (R.srow c i) j) = f c (ix2 i j) := by
  fin_cases c <;> pointwise [cat8, R.srow]
  all_goals
    repeat rw [dif_neg (by omega)]
    try rw [dif_pos (by omega)]
    congr 2
    apply Fin.ext
    simp only []
    omega

theorem cat4_apply (f : Fin 4 → FVec Ideal S64x128 .f32) (h : Fin 4) (i : Fin 64) (a : Fin 128) :
    concatenate S64x512 1 [⟨S64x128, f 0⟩, ⟨S64x128, f 1⟩, ⟨S64x128, f 2⟩, ⟨S64x128, f 3⟩]
      concatenates_S64x128_S64x128_S64x128_S64x128_S64x512_d1 (ix2 i (R.kc h a)) = f h (ix2 i a) := by
  fin_cases h <;> pointwise [R.kc]
  all_goals
    repeat rw [dif_neg (by omega)]
    try rw [dif_pos (by omega)]
    congr 2
    apply Fin.ext
    simp only []
    omega

theorem cat1_apply (f : Fin 4 → FVec Ideal S1x128 .f32) (h : Fin 4) (i : Fin 1) (a : Fin 128) :
    concatenate S1x512 1 [⟨S1x128, f 0⟩, ⟨S1x128, f 1⟩, ⟨S1x128, f 2⟩, ⟨S1x128, f 3⟩]
      concatenates_S1x128_S1x128_S1x128_S1x128_S1x512_d1 (ix2 i (R.kc h a)) = f h (ix2 i a) := by
  obtain rfl : i = 0 := Subsingleton.elim _ _
  fin_cases h <;> pointwise [R.kc]
  all_goals
    repeat rw [dif_neg (by omega)]
    try rw [dif_pos (by omega)]
    congr 2
    apply Fin.ext
    simp only []
    omega

section step

variable {x : Vec Ideal S512x3200 .f32} {wg : Vec Ideal S128x512 .bf16} {gb : Vec Ideal S1x512 .f32} {gn : Vec Ideal S1x1024 .f32}
  {o : Fin 8 → Fin 4 → FVec Ideal S64x256 .f32} {st : Fin 8 → Fin 4 → FVec Ideal S1x1x256x128 .f32}
  {d : Fin 8 → Fin 4 → FVec Ideal S64x256 .f32} {ds : Fin 4 → FVec Ideal S1x256x128 .f32}

/-! ## The slices -/

/-- A column of the packed projections of a step. -/
def xcol (off n : ℕ) (hn : off + n ≤ 3200) (j : Fin n) : Fin 3200 := ⟨off + j.val, by omega⟩

theorem qh_apply (c : Fin 8) (h : Fin 4) (i : Fin 64) (a : Fin 128) :
    qh x c h (ix2 i a) = x (ix2 (R.srow c i) (xcol 0 512 (by omega) (R.kc h a))) := by
  pointwise [qh, R.srow, R.kc, xcol]
theorem kh_apply (c : Fin 8) (h : Fin 4) (i : Fin 64) (a : Fin 128) :
    kh x c h (ix2 i a) = x (ix2 (R.srow c i) (xcol 512 512 (by omega) (R.kc h a))) := by
  pointwise [kh, R.srow, R.kc, xcol]
theorem vh_apply (c : Fin 8) (h : Fin 4) (i : Fin 64) (e : Fin 256) :
    vh x c h (ix2 i e) = x (ix2 (R.srow c i) (xcol 1024 1024 (by omega) (R.vc h e))) := by
  pointwise [vh, R.srow, R.vc, xcol]
theorem rh_apply (c : Fin 8) (h : Fin 4) (i : Fin 64) (e : Fin 256) :
    rh x c h (ix2 i e) = x (ix2 (R.srow c i) (xcol 2048 1024 (by omega) (R.vc h e))) := by
  pointwise [rh, R.srow, R.vc, xcol]
theorem zlt_apply (r : Fin 512) (l : Fin 128) : zlt x (ix2 r l) = x (ix2 r (xcol 3072 128 (by omega) l)) := by
  pointwise [zlt, xcol]
theorem gh_apply (h : Fin 4) (i : Fin 1) (e : Fin 256) : gh gn h (ix2 i e) = gn (ix2 i (R.vc h e)) := by
  obtain rfl : i = 0 := Subsingleton.elim _ _
  pointwise [gh, R.vc]

/-! ## The log decays -/

theorem zt_apply {fzl : Fin 512 → Fin 128 → ℝ} {fw : Fin 128 → Fin 512 → ℝ} {fgb : Fin 512 → ℝ}
    (hl : IsR (zlt x) fzl) (hw : IsR (e := .bf16) wg fw) (hg : IsR (e := .f32) gb fun _ => fgb) :
    IsR (zt x wg gb) (fun r j => ∑ l, fzl r l * fw l j + fgb j) := by
  intro r j
  pointwise [zt]
  simp only [b16_apply hl r _, hw _ j, hg 0 j, ← EReal.coe_mul, ← coe_sum, ← EReal.coe_add]

theorem lat_apply {fz : Fin 512 → Fin 512 → ℝ} (hz : IsR (zt x wg gb) fz) : IsR (lat x wg gb) (fun r j => R.la (fz r j)) := by
  intro r j
  pointwise [lat, one512, zero512, sixteenth]
  rw [hz r j]
  have habs : FloatOps.absf (F := Ideal) (φ := .f32) ((fz r j : ℝ) : EReal) = ((|fz r j| : ℝ) : EReal) := by
    show max ((fz r j : ℝ) : EReal) (-((fz r j : ℝ) : EReal)) = _
    rw [← EReal.coe_neg, ← EReal.coe_strictMono.monotone.map_max]; rfl
  rw [habs, zero_sub, ← EReal.coe_neg, Ideal.exp_coe, show (1 : EReal) = ((1 : ℝ) : EReal) from rfl, ← EReal.coe_add,
    log_real (by positivity), show (0 : EReal) = ((0 : ℝ) : EReal) from rfl, ← EReal.coe_strictMono.monotone.map_min, ← EReal.coe_sub, c_16th, ← EReal.coe_mul]
  rfl

theorem lac_apply {fz : Fin 512 → Fin 512 → ℝ} (hz : IsR (zt x wg gb) fz) (c : Fin 8) :
    IsR (lac x wg gb c) (fun i j => R.cum (fun i' => R.la (fz (R.srow c i') j)) i) := by
  intro i j
  pointwise [lac]
  have hl : ∀ i' : Fin 64, lat x wg gb (ix2 ⟨64 * c.val + i'.val, by omega⟩ j) = ((R.la (fz (R.srow c i') j) : ℝ) : EReal) :=
    fun i' => lat_apply hz (R.srow c i') j
  simp only [lower_apply i _, hl, ← EReal.coe_mul, ← coe_sum, R.cum, ite_mul, one_mul, zero_mul]

theorem bh_apply {fz : Fin 512 → Fin 512 → ℝ} (hz : IsR (zt x wg gb) fz) (c : Fin 8) (h : Fin 4) :
    IsR (bh x wg gb c h) (fun i a => R.cum (fun i' => R.la (fz (R.srow c i') (R.kc h a))) i) := by
  intro i a
  have e : bh x wg gb c h (ix2 i a) = cat8 (lac x wg gb) (ix2 (R.srow c i) (R.kc h a)) := by
    pointwise [bh, R.srow, R.kc]
    rfl
  rw [e, cat8_apply, lac_apply hz c i (R.kc h a)]

/-! ## From chunk to chunk -/

variable {fb fq fk : Fin 8 → Fin 4 → Fin 64 → Fin 128 → ℝ} {fv fr fo fd : Fin 8 → Fin 4 → Fin 64 → Fin 256 → ℝ}
  {fg : Fin 4 → Fin 256 → ℝ} {fst : Fin 8 → Fin 4 → Fin 256 → Fin 128 → ℝ} {fds : Fin 4 → Fin 256 → Fin 128 → ℝ}

/-- The gradient of the attention's output in a step. -/
def R.stepE (fo fr fd : Fin 8 → Fin 4 → Fin 64 → Fin 256 → ℝ) (fg : Fin 4 → Fin 256 → ℝ) (c : Fin 8) (h : Fin 4) :
    Fin 64 → Fin 256 → ℝ := R.dov (fo c h) (fr c h) (fd c h) (fg h)

/-- The state gradient of a step after `j` of its chunks, counted from the last. -/
def R.stepT (fb fq : Fin 8 → Fin 4 → Fin 64 → Fin 128 → ℝ) (fe : Fin 8 → Fin 4 → Fin 64 → Fin 256 → ℝ)
    (fds : Fin 4 → Fin 256 → Fin 128 → ℝ) (h : Fin 4) : ℕ → Fin 256 → Fin 128 → ℝ
  | 0 => fds h
  | j + 1 => R.tnext (fb (Fin.ofNat 8 (7 - j)) h) (fq (Fin.ofNat 8 (7 - j)) h) (fe (Fin.ofNat 8 (7 - j)) h) (R.stepT fb fq fe fds h j)

theorem eh_apply (hr : ∀ c h, IsR (rh x c h) (fr c h)) (ho : ∀ c h, IsR (o c h) (fo c h)) (hd : ∀ c h, IsR (d c h) (fd c h))
    (hg : ∀ h, IsR (gh gn h) fun _ => fg h) (c : Fin 8) (h : Fin 4) : IsR (eh x gn o d c h) (R.stepE fo fr fd fg c h) :=
  dov_apply (ho c h) (hr c h) (hd c h) (hg h)

theorem th_apply (hb : ∀ c h, IsR (bh x wg gb c h) (fb c h)) (hq : ∀ c h, IsR (qh x c h) (fq c h))
    (hr : ∀ c h, IsR (rh x c h) (fr c h)) (ho : ∀ c h, IsR (o c h) (fo c h)) (hd : ∀ c h, IsR (d c h) (fd c h))
    (hg : ∀ h, IsR (gh gn h) fun _ => fg h) (hds : ∀ h, IsR (dsh ds h) (fds h)) (h : Fin 4) :
    ∀ j : ℕ, IsR (th x wg gb gn o d ds h j) (R.stepT fb fq (R.stepE fo fr fd fg) fds h j)
  | 0 => hds h
  | j + 1 => tnext_apply (hb _ h) (hq _ h) (eh_apply hr ho hd hg _ h) (th_apply hb hq hr ho hd hg hds h j)

theorem dgs_apply (hr : ∀ c h, IsR (rh x c h) (fr c h)) (ho : ∀ c h, IsR (o c h) (fo c h)) (hd : ∀ c h, IsR (d c h) (fd c h))
    (h : Fin 4) : IsR (dgs x o d h 7) (fun _ e => ∑ c, R.dgp (fo c h) (fr c h) (fd c h) e) := by
  intro i e
  have hg := fun c => dgp_apply (ho c h) (hr c h) (hd c h) i e
  pointwise [dgs]
  rw [hg, hg, hg, hg, hg, hg, hg, hg]
  simp only [← EReal.coe_add, Fin.sum_univ_eight]
  congr 1
  show R.dgp (fo 7 h) (fr 7 h) (fd 7 h) e + R.dgp (fo 6 h) (fr 6 h) (fd 6 h) e + R.dgp (fo 5 h) (fr 5 h) (fd 5 h) e
    + R.dgp (fo 4 h) (fr 4 h) (fd 4 h) e + R.dgp (fo 3 h) (fr 3 h) (fd 3 h) e + R.dgp (fo 2 h) (fr 2 h) (fd 2 h) e
    + R.dgp (fo 1 h) (fr 1 h) (fd 1 h) e + R.dgp (fo 0 h) (fr 0 h) (fd 0 h) e = _
  ring

/-! ## The gate's gradient -/

section gate

variable (hb : ∀ c h, IsR (bh x wg gb c h) (fb c h)) (hq : ∀ c h, IsR (qh x c h) (fq c h)) (hk : ∀ c h, IsR (kh x c h) (fk c h))
  (hv : ∀ c h, IsR (vh x c h) (fv c h)) (hs : ∀ c h, IsR (sth st c h) (fst c h))
  {fe : Fin 8 → Fin 4 → Fin 64 → Fin 256 → ℝ} (he : ∀ c h, IsR (eh x gn o d c h) (fe c h))
  {ft : Fin 8 → Fin 4 → Fin 256 → Fin 128 → ℝ} (ht : ∀ c h, IsR (tch x wg gb gn o d ds c h) (ft c h))

include hb hq hk hv hs he ht

/-- The gradient of the log decays, at a row of a step and an entry of a head. -/
theorem dlt_apply (c : Fin 8) (h : Fin 4) (i : Fin 64) (a : Fin 128) :
    dlt x wg gb gn o st d ds (ix2 (R.srow c i) (R.kc h a))
      = ((R.rcum (fun j => R.dbv (fb c h) (fq c h) (fk c h) (fv c h) (fe c h) (fst c h) (ft c h) j a) i
          + R.dblv (fb c h) (fk c h) (fv c h) (fst c h) (ft c h) a : ℝ) : EReal) := by
  have h1 : ∀ i' : Fin 64, dbt x wg gb gn o st d ds (ix2 (R.srow c i') (R.kc h a))
      = ((R.dbv (fb c h) (fq c h) (fk c h) (fv c h) (fe c h) (fst c h) (ft c h) i' a : ℝ) : EReal) := by
    intro i'
    unfold dbt
    rw [cat8_apply]
    unfold dbc
    rw [cat4_apply (fun h => dbh x wg gb gn o st d ds c h)]
    exact dbv_apply (hb c h) (hq c h) (hk c h) (he c h) (hv c h) (hs c h) (ht c h) i' a
  have h2 : dblc x wg gb gn o st d ds c (ix2 i (R.kc h a))
      = ((R.dblv (fb c h) (fk c h) (fv c h) (fst c h) (ft c h) a : ℝ) : EReal) := by
    have := dblv_apply (hb c h) (hk c h) (hv c h) (hs c h) (ht c h) 0 a
    rw [← this]
    have e := cat1_apply (fun h => dblh x wg gb gn o st d ds c h) h 0 a
    rw [show dblv _ _ _ _ _ (ix2 0 a) = dblh x wg gb gn o st d ds c h (ix2 0 a) from rfl, ← e]
    unfold dblc
    generalize concatenate S1x512 1 _ _ = Y
    pointwise
  unfold dlt
  have h3 : ∀ X Y : FVec Ideal S512x512 .f32, addf X Y (ix2 (R.srow c i) (R.kc h a)) = X (ix2 (R.srow c i) (R.kc h a)) + Y (ix2 (R.srow c i) (R.kc h a)) := by
    intro X Y; pointwise
  rw [h3, cat8_apply, cat8_apply, h2]
  have h4 : ∀ i' : Fin 64, dbt x wg gb gn o st d ds (ix2 ⟨64 * c.val + i'.val, by omega⟩ (R.kc h a))
      = ((R.dbv (fb c h) (fq c h) (fk c h) (fv c h) (fe c h) (fst c h) (ft c h) i' a : ℝ) : EReal) := h1
  pointwise
  simp only [upper_apply i _, h4, ← EReal.coe_mul, ← coe_sum, ← EReal.coe_add, R.rcum, ite_mul, one_mul, zero_mul]

end gate

theorem dzt_apply {fl fz : Fin 512 → Fin 512 → ℝ} (hl : IsR (dlt x wg gb gn o st d ds) fl) (hz : IsR (zt x wg gb) fz) :
    IsR (dzt x wg gb gn o st d ds) (fun r j => fl r j * (1 / 16) * R.dla (fz r j)) := by
  intro r j
  pointwise [dzt, sixteenth, one512]
  rw [hl r j, hz r j, c_16th, Ideal.exp_coe, show (1 : EReal) = ((1 : ℝ) : EReal) from rfl, ← EReal.coe_add,
    div_real (one_add_exp_ne _), ← EReal.coe_mul, ← EReal.coe_mul]
  rfl

theorem dzlt_apply {fz : Fin 512 → Fin 512 → ℝ} {fw : Fin 128 → Fin 512 → ℝ} (hz : IsR (dzt x wg gb gn o st d ds) fz) (hw : IsR (e := .bf16) wg fw) :
    IsR (dzlt x wg gb gn o st d ds) (fun r l => ∑ j, fz r j * fw l j) := by
  intro r l
  pointwise [dzlt]
  simp only [b16_apply hz r _, hw l _, ← EReal.coe_mul, ← coe_sum]

theorem dwt_apply {fz : Fin 512 → Fin 512 → ℝ} {fl : Fin 512 → Fin 128 → ℝ} (hz : IsR (dzt x wg gb gn o st d ds) fz) (hl : IsR (zlt x) fl) :
    IsR (dwt x wg gb gn o st d ds) (fun l j => ∑ r, fl r l * fz r j) := by
  intro l j
  pointwise [dwt]
  simp only [b16_apply hz _ j, b16_apply hl _ l, ← EReal.coe_mul, ← coe_sum]

theorem dbiast_apply {fz : Fin 512 → Fin 512 → ℝ} (hz : IsR (dzt x wg gb gn o st d ds) fz) :
    IsR (dbiast x wg gb gn o st d ds) (fun _ j => ∑ r, fz r j) := by
  intro i j
  pointwise [dbiast]
  simp only [hz _ j, ← coe_sum]

end step

end Cert.GlaBwd
-- ==== Proof.Step.lean ====
/-
  What one grid step computes over the real numbers, from the arguments of its chunks and the state gradient carried
  into it: the rows of the whole sequence's gradient that belong to the step.
-/
module

public import proofs.«01_k».proof.Proof.StepRead
public import proofs.«01_k».proof.Proof.Global

@[expose] public section

noncomputable section

namespace Cert.GlaBwd

open Idealize.ShloMosaic Idealize.ShloMosaic.TcCoe
open Cert.KernelIdeal R R.Args

/-- What grid step `t` finds: its blocks of the arguments and of what the forward pass saved, and the state gradient
    after the steps before. -/
structure Finds (A : R.Args) (t : Fin 8) (x : Vec Ideal S512x3200 .f32) (wg : Vec Ideal S128x512 .bf16) (gb : Vec Ideal S1x512 .f32)
    (gn : Vec Ideal S1x1024 .f32) (o : Fin 8 → Fin 4 → FVec Ideal S64x256 .f32) (st : Fin 8 → Fin 4 → FVec Ideal S1x1x256x128 .f32)
    (d : Fin 8 → Fin 4 → FVec Ideal S64x256 .f32) (ds : Fin 4 → FVec Ideal S1x256x128 .f32) : Prop where
  hq : ∀ c h, IsR (qh x c h) (A.Q h (cks t c))
  hk : ∀ c h, IsR (kh x c h) (A.K h (cks t c))
  hv : ∀ c h, IsR (vh x c h) (A.V h (cks t c))
  hr : ∀ c h, IsR (rh x c h) (A.Rr h (cks t c))
  hz : IsR (zlt x) (fun r => A.zl128 (row t r))
  hw : IsR (e := .bf16) wg A.wg128
  hb : IsR (e := .f32) gb (fun _ => A.gb)
  hg : ∀ h, IsR (gh gn h) (fun _ => A.Gn h)
  ho : ∀ c h, IsR (o c h) (A.O h (cks t c))
  hs : ∀ c h, IsR (sth st c h) (A.St h (cks t c))
  hd : ∀ c h, IsR (d c h) (A.Dd h (cks t c))
  hc : ∀ h, IsR (dsh ds h) (A.Drec h (8 * t.val))

variable {A : R.Args} {t : Fin 8} {x : Vec Ideal S512x3200 .f32} {wg : Vec Ideal S128x512 .bf16} {gb : Vec Ideal S1x512 .f32}
    {gn : Vec Ideal S1x1024 .f32} {o : Fin 8 → Fin 4 → FVec Ideal S64x256 .f32} {st : Fin 8 → Fin 4 → FVec Ideal S1x1x256x128 .f32}
    {d : Fin 8 → Fin 4 → FVec Ideal S64x256 .f32} {ds : Fin 4 → FVec Ideal S1x256x128 .f32}

namespace Finds

variable (H : Finds A t x wg gb gn o st d ds)
include H

theorem z : IsR (zt x wg gb) (fun r => A.z (row t r)) := by
  intro r j
  rw [zt_apply H.hz H.hw H.hb r j]
  exact congrArg _ (A.z_eq _ _)

theorem b (c : Fin 8) (h : Fin 4) : IsR (bh x wg gb c h) (A.B h (cks t c)) := by
  intro i a
  rw [bh_apply H.z c h i a]
  simp only [row_srow]
  rfl

theorem e (c : Fin 8) (h : Fin 4) : IsR (eh x gn o d c h) (A.E h (cks t c)) := eh_apply H.hr H.ho H.hd H.hg c h

theorem stepT (h : Fin 4) : ∀ j : ℕ, j ≤ 8 → R.stepT (fun c h => A.B h (cks t c)) (fun c h => A.Q h (cks t c)) (fun c h => A.E h (cks t c))
    (fun h => A.Drec h (8 * t.val)) h j = A.Drec h (8 * t.val + j)
  | 0, _ => rfl
  | j + 1, hj => by
    have e : cks t (Fin.ofNat 8 (7 - j)) = Fin.ofNat 64 (63 - (8 * t.val + j)) := by
      apply Fin.ext
      have := t.isLt
      simp only [cks, Fin.ofNat, Nat.mod_eq_of_lt (show 7 - j < 8 by omega), Nat.mod_eq_of_lt (show 63 - (8 * t.val + j) < 64 by omega)]
      omega
    show R.tnext (A.B h (cks t _)) (A.Q h (cks t _)) (A.E h (cks t _)) (R.stepT _ _ _ _ h j)
      = R.tnext (A.B h (Fin.ofNat 64 (63 - (8 * t.val + j)))) (A.Q h (Fin.ofNat 64 (63 - (8 * t.val + j)))) (A.E h (Fin.ofNat 64 (63 - (8 * t.val + j)))) (A.Drec h (8 * t.val + j))
    rw [stepT h j (by omega), e]

theorem th (h : Fin 4) (j : ℕ) (hj : j ≤ 8) : IsR (th x wg gb gn o d ds h j) (A.Drec h (8 * t.val + j)) := by
  have := th_apply H.b H.hq H.hr H.ho H.hd H.hg H.hc h j
  rw [← H.stepT h j hj]
  exact this

theorem tch (c : Fin 8) (h : Fin 4) : IsR (tch x wg gb gn o d ds c h) (A.D h (cks t c)) := by
  have e : 8 * t.val + (7 - c.val) = 63 - (cks t c).val := by
    have := t.isLt; have := c.isLt; simp only [cks]; omega
  have := H.th h (7 - c.val) (by omega)
  rw [e] at this
  exact this

theorem dq (c : Fin 8) (h : Fin 4) : IsR (dqh x wg gb gn o st d c h) (A.dQ h (cks t c)) :=
  dqv_apply (H.b c h) (H.hk c h) (H.e c h) (H.hv c h) (H.hs c h)
theorem dk (c : Fin 8) (h : Fin 4) : IsR (dkh x wg gb gn o d ds c h) (A.dK h (cks t c)) :=
  dkv_apply (H.b c h) (H.hq c h) (H.e c h) (H.hv c h) (H.tch c h)
theorem dv (c : Fin 8) (h : Fin 4) : IsR (dvh x wg gb gn o d ds c h) (A.dV h (cks t c)) :=
  dvv_apply (H.b c h) (H.hq c h) (H.hk c h) (H.e c h) (H.tch c h)
theorem dr (c : Fin 8) (h : Fin 4) : IsR (drh x gn o d c h) (A.dR h (cks t c)) :=
  drv_apply (H.ho c h) (H.hr c h) (H.hd c h) (H.hg h)

theorem dz : IsR (dzt x wg gb gn o st d ds) (fun r => A.dz (row t r)) := by
  have hl : IsR (dlt x wg gb gn o st d ds) (fun r j => A.dLA (hdk j) (chk (row t r)) (pos (row t r)) (ak j)) := by
    intro r j
    obtain ⟨c, i, rfl⟩ : ∃ c i, r = srow c i :=
      ⟨⟨r.val / 64, by omega⟩, ⟨r.val % 64, by omega⟩, by apply Fin.ext; simp only [srow]; omega⟩
    obtain ⟨h, a, rfl⟩ : ∃ h a, j = kc h a := ⟨hdk j, ak j, (kc_hdk j).symm⟩
    rw [dlt_apply H.b H.hq H.hk H.hv H.hs H.e H.tch c h i a]
    simp only [row_srow, chk_tok, pos_tok, hdk_kc, ak_kc]
    rfl
  exact dzt_apply hl H.z

theorem dzl : IsR (dzlt x wg gb gn o st d ds) (fun r => A.dzl (row t r)) := dzlt_apply H.dz H.hw
theorem dw : IsR (dwt x wg gb gn o st d ds) (A.dWs t) := dwt_apply H.dz H.hz
theorem dbias : IsR (dbiast x wg gb gn o st d ds) (fun _ => A.dbs t) := dbiast_apply H.dz
theorem dg (h : Fin 4) : IsR (Cert.GlaBwd.dgs x o d h 7) (fun _ => A.dgs t h) := dgs_apply H.hr H.ho H.hd h

end Finds

end Cert.GlaBwd
-- ==== Proof.Reads.lean ====
/-
  What one grid step of the kernel leaves in its outputs and in the carried scratch, over the real numbers.
-/
module

public import proofs.«01_k».proof.Proof.BridgeA
public import proofs.«01_k».proof.Proof.BridgeB
public import proofs.«01_k».proof.Proof.Step
public import Idealize.ShloMosaic.Lib.Pipeline.ReadBack
public import Idealize.ShloMosaic.Lib.Pipeline.ValueKit.Geometry

@[expose] public section

set_option maxRecDepth 16384

noncomputable section

namespace Cert.GlaBwd

open Idealize.ShloMosaic Idealize.ShloMosaic.TcCoe Idealize.ShloMosaic.Tactic
open Cert.KernelIdeal Cert.KernelIdeal.Gen R R.Args

/-! ## Where a piece lies -/

theorem emb2 {n0 n1 m0 m1 : ℕ} (off : Fin 2 → ℕ) (inb : ∀ a, off a + (![m0, m1] : Fin 2 → ℕ) a ≤ (⟨2, ![n0, n1]⟩ : Shape).size a)
    (i : Fin m0) (j : Fin m1) (i' : Fin n0) (j' : Fin n1) (h0 : off 0 + i.val = i'.val) (h1 : off 1 + j.val = j'.val) :
    (Rect.unit (s := ⟨2, ![n0, n1]⟩) off ![m0, m1] inb).emb (ix2 i j) = ix2 i' j' := by
  funext a
  apply Fin.ext
  rw [ValueKit.rect_emb_unit_val]
  match a with
  | ⟨0, _⟩ => exact h0
  | ⟨1, _⟩ => exact h1

theorem emb3 {n0 n1 n2 m0 m1 m2 : ℕ} (off : Fin 3 → ℕ) (inb : ∀ a, off a + (![m0, m1, m2] : Fin 3 → ℕ) a ≤ (⟨3, ![n0, n1, n2]⟩ : Shape).size a)
    (i : Fin m0) (j : Fin m1) (k : Fin m2) (i' : Fin n0) (j' : Fin n1) (k' : Fin n2)
    (h0 : off 0 + i.val = i'.val) (h1 : off 1 + j.val = j'.val) (h2 : off 2 + k.val = k'.val) :
    (Rect.unit (s := ⟨3, ![n0, n1, n2]⟩) off ![m0, m1, m2] inb).emb (ix3 i j k) = ix3 i' j' k' := by
  funext a
  apply Fin.ext
  rw [ValueKit.rect_emb_unit_val]
  match a with
  | ⟨0, _⟩ => exact h0
  | ⟨1, _⟩ => exact h1
  | ⟨2, _⟩ => exact h2

theorem emb4 {n0 n1 n2 n3 m0 m1 m2 m3 : ℕ} (off : Fin 4 → ℕ)
    (inb : ∀ a, off a + (![m0, m1, m2, m3] : Fin 4 → ℕ) a ≤ (⟨4, ![n0, n1, n2, n3]⟩ : Shape).size a)
    (i : Fin m0) (j : Fin m1) (k : Fin m2) (l : Fin m3) (i' : Fin n0) (j' : Fin n1) (k' : Fin n2) (l' : Fin n3)
    (h0 : off 0 + i.val = i'.val) (h1 : off 1 + j.val = j'.val) (h2 : off 2 + k.val = k'.val) (h3 : off 3 + l.val = l'.val) :
    (Rect.unit (s := ⟨4, ![n0, n1, n2, n3]⟩) off ![m0, m1, m2, m3] inb).emb (ix4 i j k l) = ix4 i' j' k' l' := by
  funext a
  apply Fin.ext
  rw [ValueKit.rect_emb_unit_val]
  match a with
  | ⟨0, _⟩ => exact h0
  | ⟨1, _⟩ => exact h1
  | ⟨2, _⟩ => exact h2
  | ⟨3, _⟩ => exact h3

theorem piece2 {α : Type} {n0 n1 m0 m1 : ℕ} (G : (⟨2, ![n0, n1]⟩ : Shape).Idx → α) (off : Fin 2 → ℕ)
    (inb : ∀ a, off a + (![m0, m1] : Fin 2 → ℕ) a ≤ (⟨2, ![n0, n1]⟩ : Shape).size a) (w : (⟨2, ![m0, m1]⟩ : Shape).Idx → α)
    (I : Fin m0 → Fin n0) (J : Fin m1 → Fin n1) (h0 : ∀ i, off 0 + i.val = (I i).val) (h1 : ∀ j, off 1 + j.val = (J j).val)
    (hw : ∀ i j, w (ix2 i j) = G (ix2 (I i) (J j))) (y : (⟨2, ![m0, m1]⟩ : Shape).Idx) :
    w y = G ((Rect.unit (s := ⟨2, ![n0, n1]⟩) off ![m0, m1] inb).emb y) := by
  obtain ⟨i, j, rfl⟩ : ∃ (i : Fin m0) (j : Fin m1), y = ix2 i j := ⟨y 0, y 1, eq_ix2 y⟩
  rw [emb2 off inb i j (I i) (J j) (h0 i) (h1 j)]; exact hw i j

theorem piece3 {α : Type} {n0 n1 n2 m0 m1 m2 : ℕ} (G : (⟨3, ![n0, n1, n2]⟩ : Shape).Idx → α) (off : Fin 3 → ℕ)
    (inb : ∀ a, off a + (![m0, m1, m2] : Fin 3 → ℕ) a ≤ (⟨3, ![n0, n1, n2]⟩ : Shape).size a) (w : (⟨3, ![m0, m1, m2]⟩ : Shape).Idx → α)
    (I : Fin m0 → Fin n0) (J : Fin m1 → Fin n1) (K : Fin m2 → Fin n2) (h0 : ∀ i, off 0 + i.val = (I i).val)
    (h1 : ∀ j, off 1 + j.val = (J j).val) (h2 : ∀ j, off 2 + j.val = (K j).val)
    (hw : ∀ i j k, w (ix3 i j k) = G (ix3 (I i) (J j) (K k))) (y : (⟨3, ![m0, m1, m2]⟩ : Shape).Idx) :
    w y = G ((Rect.unit (s := ⟨3, ![n0, n1, n2]⟩) off ![m0, m1, m2] inb).emb y) := by
  obtain ⟨i, j, k, rfl⟩ : ∃ (i : Fin m0) (j : Fin m1) (k : Fin m2), y = ix3 i j k := ⟨y 0, y 1, y 2, eq_ix3 y⟩
  rw [emb3 off inb i j k (I i) (J j) (K k) (h0 i) (h1 j) (h2 k)]; exact hw i j k

/-! ## What the loads read -/

theorem off2 : (![0, 0] : Fin 2 → ℕ) = fun _ => 0 := by funext a; fin_cases a <;> rfl
theorem off3 : (![0, 0, 0] : Fin 3 → ℕ) = fun _ => 0 := by funext a; fin_cases a <;> rfl

theorem lx_eq (M : Memref sig .tc .vmem S512x3200 .f32) (hM : M.IsWhole) (x : Vec Ideal S512x3200 .f32) : lx M hM x = x := by
  unfold lx; refine (shapeCast_self _ _).trans ?_; erw [View.readAt_eq_ld]; rw [hM.read_unread]; exact View.ld_unit_zero off2 _ _
theorem lwg_eq (M : Memref sig .tc .vmem S128x512 .bf16) (hM : M.IsWhole) (x : Vec Ideal S128x512 .bf16) : lwg M hM x = x := by
  unfold lwg; refine (shapeCast_self _ _).trans ?_; erw [View.readAt_eq_ld]; rw [hM.read_unread]; exact View.ld_unit_zero off2 _ _
theorem lgb_eq (M : Memref sig .tc .vmem S1x512 .f32) (hM : M.IsWhole) (x : Vec Ideal S1x512 .f32) : lgb M hM x = x := by
  unfold lgb; refine (shapeCast_self _ _).trans ?_; erw [View.readAt_eq_ld]; rw [hM.read_unread]; exact View.ld_unit_zero off2 _ _
theorem lgn_eq (M : Memref sig .tc .vmem S1x1024 .f32) (hM : M.IsWhole) (x : Vec Ideal S1x1024 .f32) : lgn M hM x = x := by
  unfold lgn; refine (shapeCast_self _ _).trans ?_; erw [View.readAt_eq_ld]; rw [hM.read_unread]; exact View.ld_unit_zero off2 _ _

theorem lo_apply (M : Memref sig .tc .vmem S512x1024 .f32) (hM : M.IsWhole) (x : Vec Ideal S512x1024 .f32) (k : Fin 8) (h : Fin 4)
    (i : Fin 64) (e : Fin 256) : lo M hM x k h (ix2 i e) = x (ix2 (srow k i) (vc h e)) := by
  unfold lo; refine (congrFun (shapeCast_self _ _) _).trans ?_; erw [View.readAt_eq_ld]; rw [hM.read_unread]
  exact congrArg x (emb2 _ _ i e _ _ rfl rfl)
theorem ld_apply (M : Memref sig .tc .vmem S512x1024 .f32) (hM : M.IsWhole) (x : Vec Ideal S512x1024 .f32) (k : Fin 8) (h : Fin 4)
    (i : Fin 64) (e : Fin 256) : ld M hM x k h (ix2 i e) = x (ix2 (srow k i) (vc h e)) := by
  unfold ld; erw [View.readAt_eq_ld]; rw [hM.read_unread]
  exact congrArg x (emb2 _ _ i e _ _ rfl rfl)
theorem lst_apply (M : Memref sig .tc .vmem S8x4x256x128 .f32) (hM : M.IsWhole) (x : Vec Ideal S8x4x256x128 .f32) (k : Fin 8) (h : Fin 4)
    (e : Fin 256) (a : Fin 128) : sth (lst M hM x) k h (ix2 e a) = x (ix4 k h e a) := by
  have e1 : sth (lst M hM x) k h (ix2 e a) = lst M hM x k h (ix4 0 0 e a) := by pointwise [sth]
  rw [e1]
  unfold lst; erw [View.readAt_eq_ld]; rw [hM.read_unread]
  exact congrArg x (emb4 _ _ 0 0 e a _ _ _ _ rfl rfl (Nat.zero_add _) (Nat.zero_add _))
theorem lds_apply (M : Memref sig .tc .vmem S4x256x128 .f32) (hM : M.IsWhole) (x : Vec Ideal S4x256x128 .f32) (h : Fin 4)
    (e : Fin 256) (a : Fin 128) : dsh (lds M hM x) h (ix2 e a) = x (ix3 h e a) := by
  have e1 : dsh (lds M hM x) h (ix2 e a) = lds M hM x h (ix3 0 e a) := by pointwise [dsh]
  rw [e1]
  unfold lds; erw [View.readAt_eq_ld]; rw [hM.read_unread]
  exact congrArg x (emb3 _ _ 0 e a _ _ _ rfl (Nat.zero_add _) (Nat.zero_add _))
theorem ldsA_apply (M : Memref sig .tc .vmem S4x256x128 .f32) (h : Fin 4) (e : Fin 256) (a : Fin 128) :
    dsh (ldsA (F := Ideal) M) h (ix2 e a) = ((0 : ℝ) : EReal) := by
  have e1 : dsh (ldsA (F := Ideal) M) h (ix2 e a) = ldsA (F := Ideal) M h (ix3 0 e a) := by pointwise [dsh]
  rw [e1]
  unfold ldsA PZ
  rw [View.readCov_fill _ _ _ _ _ (fun a => by fin_cases a <;> rfl)]
  show k0_pay3 (F := Ideal) _ = _
  unfold k0_pay3
  dsimp only
  rw [shapeCast_self]
  exact c_0

/-! ## The pieces of the gradient of the packed projections -/

section canon

variable {A : R.Args} {t : Fin 8} {x : Vec Ideal S512x3200 .f32} {wg : Vec Ideal S128x512 .bf16} {gb : Vec Ideal S1x512 .f32}
    {gn : Vec Ideal S1x1024 .f32} {o : Fin 8 → Fin 4 → FVec Ideal S64x256 .f32} {st : Fin 8 → Fin 4 → FVec Ideal S1x1x256x128 .f32}
    {d : Fin 8 → Fin 4 → FVec Ideal S64x256 .f32} {ds : Fin 4 → FVec Ideal S1x256x128 .f32}

/-- The gradient of the packed projections of step `t`, as one function of the index. -/
def G7 (A : R.Args) (t : Fin 8) : (⟨2, ![512, 3200]⟩ : Shape).Idx → EReal := fun y => ((A.dP (row t (y 0)) (y 1) : ℝ) : EReal)
def GS (A : R.Args) (t : Fin 8) : (⟨3, ![4, 256, 128]⟩ : Shape).Idx → EReal :=
  fun y => ((A.Drec (y 0) (8 * (t.val + 1)) (y 1) (y 2) : ℝ) : EReal)
def G10 (A : R.Args) (t : Fin 8) (fz : Fin 4 → Fin 256 → ℝ) : (⟨2, ![1, 1024]⟩ : Shape).Idx → EReal :=
  fun y => ((fz (hdv (y 1)) (ev (y 1)) + A.dgs t (hdv (y 1)) (ev (y 1)) : ℝ) : EReal)
theorem G7_ix (A : R.Args) (t : Fin 8) (r : Fin 512) (j : Fin 3200) : G7 A t (ix2 r j) = ((A.dP (row t r) j : ℝ) : EReal) := rfl
theorem GS_ix (A : R.Args) (t : Fin 8) (h : Fin 4) (e : Fin 256) (a : Fin 128) :
    GS A t (ix3 h e a) = ((A.Drec h (8 * (t.val + 1)) e a : ℝ) : EReal) := rfl
theorem G10_ix (A : R.Args) (t : Fin 8) (fz : Fin 4 → Fin 256 → ℝ) (i : Fin 1) (h : Fin 4) (e : Fin 256) :
    G10 A t fz (ix2 i (vc h e)) = ((fz h e + A.dgs t h e : ℝ) : EReal) := by
  show ((fz (hdv (vc h e)) (ev (vc h e)) + A.dgs t (hdv (vc h e)) (ev (vc h e)) : ℝ) : EReal) = _
  rw [hdv_vc, ev_vc]

theorem canon7 (H : Finds A t x wg gb gn o st d ds) (hc : ∀ y, ∃ p ∈ P7 x wg gb gn o st d ds, y ∈ p.1.set) :
    IsR (e := .bf16) (View.canon (P7 x wg gb gn o st d ds)) (fun r => A.dP (row t r)) := by
  intro r j
  refine View.canon_apply_of_pieces (Val := Elt Ideal) (G7 A t) _ ?_ _ (hc _)
  intro p hp
  simp only [P7, List.mem_cons, List.mem_flatMap] at hp
  rcases hp with rfl | ⟨c, -, h, -, hp⟩
  · exact piece2 (G7 A t) ![0, 3072] inb_S512x3200_S512x128_0_3072 (b16 (dzlt x wg gb gn o st d ds)) id (col 3072 128 (by omega)) (fun i => Nat.zero_add _) (fun i => rfl)
      (fun i a => by rw [b16_apply H.dzl, G7_ix, dP_z]; rfl)
  · simp only [P7h, List.mem_cons, List.not_mem_nil, or_false] at hp
    rcases hp with rfl | rfl | rfl | rfl
    · exact piece2 (G7 A t) ![64 * c.val, 2048 + 256 * h.val] (inbr c h) (b16 (drh x gn o d c h)) (srow c) (fun e => col 2048 1024 (by omega) (vc h e)) (fun i => rfl)
        (fun i => by simp only [col, vc]; exact Nat.add_assoc _ _ _)
        (fun i a => by rw [b16_apply (H.dr c h), G7_ix, row_srow, dP_r, chk_tok, pos_tok, hdv_vc, ev_vc])
    · exact piece2 (G7 A t) ![64 * c.val, 1024 + 256 * h.val] (inbv c h) (b16 (dvh x wg gb gn o d ds c h)) (srow c) (fun e => col 1024 1024 (by omega) (vc h e)) (fun i => rfl)
        (fun i => by simp only [col, vc]; exact Nat.add_assoc _ _ _)
        (fun i a => by rw [b16_apply (H.dv c h), G7_ix, row_srow, dP_v, chk_tok, pos_tok, hdv_vc, ev_vc])
    · exact piece2 (G7 A t) ![64 * c.val, 512 + 128 * h.val] (inbk c h) (b16 (dkh x wg gb gn o d ds c h)) (srow c) (fun e => col 512 512 (by omega) (kc h e)) (fun i => rfl)
        (fun i => by simp only [col, kc]; exact Nat.add_assoc _ _ _)
        (fun i a => by rw [b16_apply (H.dk c h), G7_ix, row_srow, dP_k, chk_tok, pos_tok, hdk_kc, ak_kc])
    · exact piece2 (G7 A t) ![64 * c.val, 0 + 128 * h.val] (inbq c h) (b16 (dqh x wg gb gn o st d c h)) (srow c) (fun e => col 0 512 (by omega) (kc h e)) (fun i => rfl)
        (fun i => by simp only [col, kc]; exact Nat.add_assoc _ _ _)
        (fun i a => by rw [b16_apply (H.dq c h), G7_ix, row_srow, dP_q, chk_tok, pos_tok, hdk_kc, ak_kc])

/-- The pieces of the carried state gradient. -/
theorem canonS (H : Finds A t x wg gb gn o st d ds) (L : List (View.Piece (Elt Ideal) S4x256x128 .f32)) (h : Fin 4) (e : Fin 256) (a : Fin 128) :
    View.canon (PS x wg gb gn o d ds ++ L) (ix3 h e a) = ((A.Drec h (8 * (t.val + 1)) e a : ℝ) : EReal) := by
  rw [← GS_ix]
  refine View.canon_append_of_pieces (Val := Elt Ideal) (GS A t) L (PS x wg gb gn o d ds) ?_ _ ?_
  · intro p hp
    simp only [PS, List.mem_map] at hp
    obtain ⟨h, -, rfl⟩ := hp
    have e1 : ∀ (X : FVec Ideal S256x128 .f32) i e a, shapeCast S1x256x128 X shapeCasts_S256x128_S1x256x128 (ix3 i e a) = X (ix2 e a) := by
      intro X i e a; obtain rfl : i = 0 := Subsingleton.elim _ _; pointwise
    exact piece3 (GS A t) ![h.val, 0, 0] (inbs h) (shapeCast S1x256x128 (Cert.GlaBwd.th x wg gb gn o d ds h 8) shapeCasts_S256x128_S1x256x128)
      (fun _ => h) id id (fun i => by obtain rfl : i = 0 := Subsingleton.elim _ _; rfl) (fun _ => Nat.zero_add _) (fun _ => Nat.zero_add _)
      (fun i e a => (e1 _ i e a).trans (H.th h 8 (le_refl _) e a))
  · refine ⟨⟨Rect.unit (s := S4x256x128) ![h.val, 0, 0] S1x256x128.size (inbs h), _⟩, List.mem_map.mpr ⟨h, ?_, rfl⟩, ?_⟩
    · fin_cases h <;> decide
    · rw [← emb3 (m0 := 1) (m1 := 256) (m2 := 128) ![h.val, 0, 0] (inbs h) 0 e a h e a rfl (Nat.zero_add _) (Nat.zero_add _)]
      rw [← Rect.map_emb_univ]; exact Finset.mem_map_of_mem _ (Finset.mem_univ _)

/-- The pieces of the gain's gradient, over what was read for each head. -/
theorem canon10 (H : Finds A t x wg gb gn o st d ds) (z : Fin 4 → FVec Ideal S1x256 .f32) (fz : Fin 4 → Fin 256 → ℝ)
    (hz : ∀ h, IsR (z h) (fun _ => fz h)) (L : List (View.Piece (Elt Ideal) S1x1024 .f32)) (h : Fin 4) (e : Fin 256) :
    View.canon (P10 x o d z ++ L) (ix2 0 (vc h e)) = ((fz h e + A.dgs t h e : ℝ) : EReal) := by
  rw [← G10_ix A t fz 0 h e]
  refine View.canon_append_of_pieces (Val := Elt Ideal) (G10 A t fz) L (P10 x o d z) ?_ _ ?_
  · intro p hp
    simp only [P10, List.mem_map] at hp
    obtain ⟨h, -, rfl⟩ := hp
    exact piece2 (G10 A t fz) ![0, 256 * h.val] (inbg h) (addf (shapeCast S1x256 (z h) shapeCasts_S1x256_S1x256) (Cert.GlaBwd.dgs x o d h 7)) id (vc h)
      (fun i => Nat.zero_add _) (fun _ => rfl)
      (fun i e => by
        rw [id, G10_ix, shapeCast_self]
        show z h (ix2 i e) + Cert.GlaBwd.dgs x o d h 7 (ix2 i e) = _
        rw [hz h i e, H.dg h i e, EReal.coe_add])
  · refine ⟨⟨Rect.unit (s := S1x1024) ![0, 256 * h.val] S1x256.size (inbg h), _⟩, List.mem_map.mpr ⟨h, ?_, rfl⟩, ?_⟩
    · fin_cases h <;> decide
    · rw [← emb2 (m0 := 1) (m1 := 256) ![0, 256 * h.val] (inbg h) 0 e 0 (vc h e) (Nat.zero_add _) rfl]
      rw [← Rect.map_emb_univ]; exact Finset.mem_map_of_mem _ (Finset.mem_univ _)

end canon

/-! ## The gain's pieces at the first step -/

section first

variable (x : Vec Ideal S512x3200 .f32) (gn : Vec Ideal S1x1024 .f32) (o : Fin 8 → Fin 4 → FVec Ideal S64x256 .f32)
    (d : Fin 8 → Fin 4 → FVec Ideal S64x256 .f32) (M : Memref sig .tc .vmem S1x1024 .f32)

/-- What the first step reads back of head `h`'s part of the gain's gradient. -/
def z10A (h : Fin 4) : FVec Ideal S1x256 .f32 :=
  M.view.readCov (P10A x o d M h.val) (Rect.unit (s := S1x1024) ![0, 256 * h.val] S1x256.size (inbg h)).toLoadRect

theorem P10A_eq : P10A x o d M 4 = P10 x o d (z10A x o d M) ++ [⟨Rect.unit (s := S1x1024) ![0, 0] S1x1024.size inb_S1x1024_S1x1024_0_0, (k0_pay6 (F := Ideal))⟩] := rfl

theorem P10A_read (k : Fin 4) : ∀ n : ℕ, n ≤ k.val →
    IsR (e := .f32) (M.view.readCov (P10A x o d M n) (Rect.unit (s := S1x1024) ![0, 256 * k.val] S1x256.size (inbg k)).toLoadRect : FVec Ideal S1x256 .f32) (fun _ _ => 0)
  | 0, _ => by
    intro i e
    unfold P10A
    rw [View.readCov_fill _ _ _ _ _ (fun a => by fin_cases a <;> rfl)]
    exact c_0
  | n + 1, hn => by
    have ih := P10A_read k n (by omega)
    unfold P10A
    rw [View.readCov_skip]
    · exact ih
    · have h1 : k.val < 4 := k.isLt
      have : n = 0 ∧ k = 1 ∨ n = 0 ∧ k = 2 ∨ n = 0 ∧ k = 3 ∨ n = 1 ∧ k = 2 ∨ n = 1 ∧ k = 3 ∨ n = 2 ∧ k = 3 := by
        simp only [Fin.ext_iff, Fin.val_one, Fin.val_two]
        show n = 0 ∧ k.val = 1 ∨ n = 0 ∧ k.val = 2 ∨ n = 0 ∧ k.val = 3 ∨ n = 1 ∧ k.val = 2 ∨ n = 1 ∧ k.val = 3 ∨ n = 2 ∧ k.val = 3
        omega
      rcases this with ⟨rfl, rfl⟩ | ⟨rfl, rfl⟩ | ⟨rfl, rfl⟩ | ⟨rfl, rfl⟩ | ⟨rfl, rfl⟩ | ⟨rfl, rfl⟩ <;> decide

theorem z10A_zero (h : Fin 4) : IsR (z10A x o d M h) (fun _ => (fun _ _ => 0 : Fin 4 → Fin 256 → ℝ) h) := P10A_read x o d M h h.val (le_refl _)

end first

/-! ## A step's blocks -/

/-- The blocks of step `t`: its rows of the arguments and of what the forward pass saved. -/
structure Block (A : R.Args) (t : Fin 8) (x0 : Vec Ideal S512x3200 .f32) (x1 : Vec Ideal S128x512 .bf16) (x2 : Vec Ideal S1x512 .f32)
    (x3 : Vec Ideal S1x1024 .f32) (x4 : Vec Ideal S512x1024 .f32) (x5 : Vec Ideal S8x4x256x128 .f32) (x6 : Vec Ideal S512x1024 .f32) : Prop where
  hq : ∀ r a, x0 (ix2 r (xcol 0 512 (by omega) a)) = ((A.q (row t r) a : ℝ) : EReal)
  hk : ∀ r a, x0 (ix2 r (xcol 512 512 (by omega) a)) = ((A.k (row t r) a : ℝ) : EReal)
  hv : ∀ r a, x0 (ix2 r (xcol 1024 1024 (by omega) a)) = ((A.v (row t r) a : ℝ) : EReal)
  hr : ∀ r a, x0 (ix2 r (xcol 2048 1024 (by omega) a)) = ((A.r (row t r) a : ℝ) : EReal)
  hz : ∀ r a, x0 (ix2 r (xcol 3072 128 (by omega) a)) = ((A.zl128 (row t r) a : ℝ) : EReal)
  hw : ∀ l j, x1 (ix2 l j) = ((A.wg128 l j : ℝ) : EReal)
  hb : ∀ i j, x2 (ix2 i j) = ((A.gb j : ℝ) : EReal)
  hg : ∀ i j, x3 (ix2 i j) = ((A.gn j : ℝ) : EReal)
  ho : ∀ c h i e, x4 (ix2 (srow c i) (vc h e)) = ((A.O h (cks t c) i e : ℝ) : EReal)
  hs : ∀ c h e a, x5 (ix4 c h e a) = ((A.St h (cks t c) e a : ℝ) : EReal)
  hd : ∀ r j, x6 (ix2 r j) = ((A.d (row t r) j : ℝ) : EReal)

/-- A sum over the steps up to the `n`-th. -/
def acc (f : Fin 8 → ℝ) : ℕ → ℝ
  | 0 => f 0
  | n + 1 => acc f n + f (Fin.ofNat 8 (n + 1))

theorem acc0 (f : Fin 8 → ℝ) : f 0 = acc f (0 : Fin 8).val := rfl
theorem accS (f : Fin 8 → ℝ) (n k : ℕ) (hk : k = n + 1) : acc f n + f (Fin.ofNat 8 (n + 1)) = acc f k := by subst hk; rfl

theorem acc7 (f : Fin 8 → ℝ) : acc f 7 = ∑ t, f t := by
  rw [Fin.sum_univ_eight]; rfl

/-- What step `t` leaves in the staging buffers and in the scratch. -/
structure Left (A : R.Args) (t : Fin 8) (o7 : Vec Ideal S512x3200 .bf16) (o8 : Vec Ideal S128x512 .f32) (o9 : Vec Ideal S1x512 .f32)
    (o10 : Vec Ideal S1x1024 .f32) (s : Vec Ideal S4x256x128 .f32) : Prop where
  h7 : IsR (e := .bf16) o7 (fun r => A.dP (row t r))
  h8 : IsR (e := .f32) o8 (fun l j => acc (fun s => A.dWs s l j) t.val)
  h9 : IsR (e := .f32) o9 (fun _ j => acc (fun s => A.dbs s j) t.val)
  h10 : ∀ h e, o10 (ix2 0 (vc h e)) = ((acc (fun s => A.dgs s h e) t.val : ℝ) : EReal)
  hS : ∀ h e a, s (ix3 h e a) = ((A.Drec h (8 * (t.val + 1)) e a : ℝ) : EReal)

section steps

variable {A : R.Args} {t : Fin 8}
variable (c : Dev nD) (i : grid0.Coords) (arg1 : Memref sig .tc .vmem S512x3200 .f32) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S8x4x256x128 .f32) (harg6 : arg6.IsWhole) (arg7 : Memref sig .tc .vmem S512x1024 .f32) (harg7 : arg7.IsWhole) (arg9 : Memref sig .tc .vmem S512x3200 .bf16) (harg9 : arg9.IsWhole) (arg10 : Memref sig .tc .vmem S128x512 .f32) (harg10 : arg10.IsWhole) (arg11 : Memref sig .tc .vmem S1x512 .f32) (harg11 : arg11.IsWhole) (arg12 : Memref sig .tc .vmem S1x1024 .f32) (harg12 : arg12.IsWhole) (arg13 : Memref sig .tc .vmem S4x256x128 .f32) (harg13 : arg13.IsWhole)
  (x0 : Vec Ideal S512x3200 .f32) (x1 : Vec Ideal S128x512 .bf16) (x2 : Vec Ideal S1x512 .f32) (x3 : Vec Ideal S1x1024 .f32) (x4 : Vec Ideal S512x1024 .f32) (x5 : Vec Ideal S8x4x256x128 .f32) (x6 : Vec Ideal S512x1024 .f32)

theorem Block.finds (BL : Block A t x0 x1 x2 x3 x4 x5 x6) (ds : Fin 4 → FVec Ideal S1x256x128 .f32) (hc : ∀ h, IsR (dsh ds h) (A.Drec h (8 * t.val))) :
    Finds A t (lx arg1 harg1 x0) (lwg arg2 harg2 x1) (lgb arg3 harg3 x2) (lgn arg4 harg4 x3) (lo arg5 harg5 x4) (lst arg6 harg6 x5) (ld arg7 harg7 x6) ds where
  hq c h i a := by rw [lx_eq, qh_apply, BL.hq, row_srow]; rfl
  hk c h i a := by rw [lx_eq, kh_apply, BL.hk, row_srow]; rfl
  hv c h i a := by rw [lx_eq, vh_apply, BL.hv, row_srow]; rfl
  hr c h i a := by rw [lx_eq, rh_apply, BL.hr, row_srow]; rfl
  hz r l := by rw [lx_eq, zlt_apply, BL.hz]
  hw l j := by rw [lwg_eq, BL.hw]
  hb l j := by rw [lgb_eq, BL.hb]
  hg h i e := by rw [lgn_eq, gh_apply, BL.hg]; rfl
  ho c h i e := by rw [lo_apply, BL.ho]
  hs c h e a := by rw [lst_apply, BL.hs]
  hd c h i e := by rw [ld_apply, BL.hd, row_srow]; rfl
  hc := hc

theorem drec0 (h : Fin 4) (ht : t = 0) : IsR (dsh (ldsA (F := Ideal) arg13) h) (A.Drec h (8 * t.val)) := by
  subst ht; intro e a; rw [ldsA_apply]; rfl
include harg13 in
theorem drecS (xs0 : Vec Ideal S4x256x128 .f32) (hs : ∀ h e a, xs0 (ix3 h e a) = ((A.Drec h (8 * t.val) e a : ℝ) : EReal)) (h : Fin 4) :
    IsR (dsh (lds arg13 harg13 xs0) h) (A.Drec h (8 * t.val)) := by
  intro e a; rw [lds_apply, hs]

theorem step7_A (hc0 : cond0_0 i) (BL : Block A t x0 x1 x2 x3 x4 x5 x6) (ht : t = 0) :
    IsR (e := .bf16) (out0_A_7 c i arg1 harg1 arg2 harg2 arg3 harg3 arg4 harg4 arg5 harg5 arg6 harg6 arg7 harg7 arg9 harg9 arg10 harg10 arg11 harg11 arg12 harg12 arg13 harg13 hc0 x0 x1 x2 x3 x4 x5 x6) (fun r => A.dP (row t r)) := by
  have F := (Block.finds arg1 harg1 arg2 harg2 arg3 harg3 arg4 harg4 arg5 harg5 arg6 harg6 arg7 harg7 x0 x1 x2 x3 x4 x5 x6 BL (ldsA arg13) (fun h => drec0 arg13 h ht))
  unfold out0_A_7
  rw [View.read_writes_junk_eq_canon, pieces7_A]
  exact canon7 F (by rw [← pieces7_A c i arg1 harg1 arg2 harg2 arg3 harg3 arg4 harg4 arg5 harg5 arg6 harg6 arg7 harg7 arg9 harg9 arg10 harg10 arg11 harg11 arg12 harg12 arg13 harg13 hc0 x0 x1 x2 x3 x4 x5 x6]; exact cover0_A_7 c i arg1 harg1 arg2 harg2 arg3 harg3 arg4 harg4 arg5 harg5 arg6 harg6 arg7 harg7 arg9 harg9 arg10 harg10 arg11 harg11 arg12 harg12 arg13 harg13 hc0 x0 x1 x2 x3 x4 x5 x6)

theorem stepS_A (hc0 : cond0_0 i) (BL : Block A t x0 x1 x2 x3 x4 x5 x6) (ht : t = 0) (h : Fin 4) (e : Fin 256) (a : Fin 128) :
    sout0_A_0 c i arg1 harg1 arg2 harg2 arg3 harg3 arg4 harg4 arg5 harg5 arg6 harg6 arg7 harg7 arg9 harg9 arg10 harg10 arg11 harg11 arg12 harg12 arg13 harg13 hc0 x0 x1 x2 x3 x4 x5 x6 (ix3 h e a) = ((A.Drec h (8 * (t.val + 1)) e a : ℝ) : EReal) := by
  have F := (Block.finds arg1 harg1 arg2 harg2 arg3 harg3 arg4 harg4 arg5 harg5 arg6 harg6 arg7 harg7 x0 x1 x2 x3 x4 x5 x6 BL (ldsA arg13) (fun h => drec0 arg13 h ht))
  unfold sout0_A_0
  rw [View.read_writes_junk_eq_canon, piecesS_A]
  exact canonS F _ h e a

theorem step8_A (hc0 : cond0_0 i) (BL : Block A t x0 x1 x2 x3 x4 x5 x6) (ht : t = 0) :
    IsR (e := .f32) (out0_A_8 c i arg1 harg1 arg2 harg2 arg3 harg3 arg4 harg4 arg5 harg5 arg6 harg6 arg7 harg7 arg9 harg9 arg10 harg10 arg11 harg11 arg12 harg12 arg13 harg13 hc0 x0 x1 x2 x3 x4 x5 x6) (A.dWs t) := by
  have F := (Block.finds arg1 harg1 arg2 harg2 arg3 harg3 arg4 harg4 arg5 harg5 arg6 harg6 arg7 harg7 x0 x1 x2 x3 x4 x5 x6 BL (ldsA arg13) (fun h => drec0 arg13 h ht))
  unfold out0_A_8
  rw [View.read_writes_junk_eq_canon, pieces8_A]
  intro l j
  rw [View.canon_cons_unit_zero off2]
  refine (congrArg (· + _) ((congrFun (shapeCast_self _ _) (ix2 l j)).trans (?_ : _ = ((0 : ℝ) : EReal)))).trans ?_
  · rw [PZ8, View.readCov_fill _ _ _ _ _ (fun a => by fin_cases a <;> rfl)]; exact c_0
  rw [F.dw l j, EReal.coe_zero, zero_add]

theorem step9_A (hc0 : cond0_0 i) (BL : Block A t x0 x1 x2 x3 x4 x5 x6) (ht : t = 0) :
    IsR (e := .f32) (out0_A_9 c i arg1 harg1 arg2 harg2 arg3 harg3 arg4 harg4 arg5 harg5 arg6 harg6 arg7 harg7 arg9 harg9 arg10 harg10 arg11 harg11 arg12 harg12 arg13 harg13 hc0 x0 x1 x2 x3 x4 x5 x6) (fun _ => A.dbs t) := by
  have F := (Block.finds arg1 harg1 arg2 harg2 arg3 harg3 arg4 harg4 arg5 harg5 arg6 harg6 arg7 harg7 x0 x1 x2 x3 x4 x5 x6 BL (ldsA arg13) (fun h => drec0 arg13 h ht))
  unfold out0_A_9
  rw [View.read_writes_junk_eq_canon, pieces9_A]
  intro l j
  rw [View.canon_cons_unit_zero off2]
  refine (congrArg (· + _) ((congrFun (shapeCast_self _ _) (ix2 l j)).trans (?_ : _ = ((0 : ℝ) : EReal)))).trans ?_
  · rw [PZ9, View.readCov_fill _ _ _ _ _ (fun a => by fin_cases a <;> rfl)]; exact c_0
  rw [F.dbias l j, EReal.coe_zero, zero_add]

theorem step10_A (hc0 : cond0_0 i) (BL : Block A t x0 x1 x2 x3 x4 x5 x6) (ht : t = 0) (h : Fin 4) (e : Fin 256) :
    out0_A_10 c i arg1 harg1 arg2 harg2 arg3 harg3 arg4 harg4 arg5 harg5 arg6 harg6 arg7 harg7 arg9 harg9 arg10 harg10 arg11 harg11 arg12 harg12 arg13 harg13 hc0 x0 x1 x2 x3 x4 x5 x6 (ix2 0 (vc h e)) = ((A.dgs t h e : ℝ) : EReal) := by
  have F := (Block.finds arg1 harg1 arg2 harg2 arg3 harg3 arg4 harg4 arg5 harg5 arg6 harg6 arg7 harg7 x0 x1 x2 x3 x4 x5 x6 BL (ldsA arg13) (fun h => drec0 arg13 h ht))
  unfold out0_A_10
  rw [View.read_writes_junk_eq_canon, pieces10_A, P10A_eq]
  refine (canon10 F _ (fun _ _ => 0) (z10A_zero _ _ _ _) _ h e).trans ?_
  rw [zero_add]

theorem step7_B (hc0 : ¬cond0_0 i) (xo8 : Vec Ideal S128x512 .f32) (xo9 : Vec Ideal S1x512 .f32) (xo10 : Vec Ideal S1x1024 .f32) (xs0 : Vec Ideal S4x256x128 .f32) (BL : Block A t x0 x1 x2 x3 x4 x5 x6) (hs : ∀ h e a, xs0 (ix3 h e a) = ((A.Drec h (8 * t.val) e a : ℝ) : EReal)) :
    IsR (e := .bf16) (out0_B_7 c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xs0) (fun r => A.dP (row t r)) := by
  have F := (Block.finds arg1 harg1 arg2 harg2 arg3 harg3 arg4 harg4 arg5 harg5 arg6 harg6 arg7 harg7 x0 x1 x2 x3 x4 x5 x6 BL (lds arg13 harg13 xs0) (drecS arg13 harg13 xs0 hs))
  unfold out0_B_7
  rw [View.read_writes_junk_eq_canon, pieces7_B]
  exact canon7 F (by rw [← pieces7_B c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xs0]; exact cover0_B_7 c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xs0)

theorem stepS_B (hc0 : ¬cond0_0 i) (xo8 : Vec Ideal S128x512 .f32) (xo9 : Vec Ideal S1x512 .f32) (xo10 : Vec Ideal S1x1024 .f32) (xs0 : Vec Ideal S4x256x128 .f32) (BL : Block A t x0 x1 x2 x3 x4 x5 x6) (hs : ∀ h e a, xs0 (ix3 h e a) = ((A.Drec h (8 * t.val) e a : ℝ) : EReal)) (h : Fin 4) (e : Fin 256) (a : Fin 128) :
    sout0_B_0 c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xs0 (ix3 h e a) = ((A.Drec h (8 * (t.val + 1)) e a : ℝ) : EReal) := by
  have F := (Block.finds arg1 harg1 arg2 harg2 arg3 harg3 arg4 harg4 arg5 harg5 arg6 harg6 arg7 harg7 x0 x1 x2 x3 x4 x5 x6 BL (lds arg13 harg13 xs0) (drecS arg13 harg13 xs0 hs))
  unfold sout0_B_0
  rw [View.read_writes_junk_eq_canon, piecesS_B, ← List.append_nil (PS _ _ _ _ _ _ _)]
  exact canonS F _ h e a

theorem step8_B (hc0 : ¬cond0_0 i) (xo8 : Vec Ideal S128x512 .f32) (xo9 : Vec Ideal S1x512 .f32) (xo10 : Vec Ideal S1x1024 .f32) (xs0 : Vec Ideal S4x256x128 .f32) (BL : Block A t x0 x1 x2 x3 x4 x5 x6) (hs : ∀ h e a, xs0 (ix3 h e a) = ((A.Drec h (8 * t.val) e a : ℝ) : EReal)) (f8 : Fin 128 → Fin 512 → ℝ) (h8 : IsR (e := .f32) xo8 f8) :
    IsR (e := .f32) (out0_B_8 c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xs0) (fun l j => f8 l j + A.dWs t l j) := by
  have F := (Block.finds arg1 harg1 arg2 harg2 arg3 harg3 arg4 harg4 arg5 harg5 arg6 harg6 arg7 harg7 x0 x1 x2 x3 x4 x5 x6 BL (lds arg13 harg13 xs0) (drecS arg13 harg13 xs0 hs))
  unfold out0_B_8
  rw [View.read_writes_junk_eq_canon, pieces8_B]
  intro l j
  rw [View.canon_cons_unit_zero off2]
  refine (congrArg (· + _) ((congrFun (shapeCast_self _ _) (ix2 l j)).trans (?_ : _ = ((f8 l j : ℝ) : EReal)))).trans ?_
  · erw [View.readAt_eq_ld]; rw [harg10.read_unread]; erw [View.ld_unit_zero off2 _ _]; exact h8 l j
  rw [F.dw l j, EReal.coe_add]

theorem step9_B (hc0 : ¬cond0_0 i) (xo8 : Vec Ideal S128x512 .f32) (xo9 : Vec Ideal S1x512 .f32) (xo10 : Vec Ideal S1x1024 .f32) (xs0 : Vec Ideal S4x256x128 .f32) (BL : Block A t x0 x1 x2 x3 x4 x5 x6) (hs : ∀ h e a, xs0 (ix3 h e a) = ((A.Drec h (8 * t.val) e a : ℝ) : EReal)) (f8 : Fin 1 → Fin 512 → ℝ) (h8 : IsR (e := .f32) xo9 f8) :
    IsR (e := .f32) (out0_B_9 c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xs0) (fun l j => f8 l j + A.dbs t j) := by
  have F := (Block.finds arg1 harg1 arg2 harg2 arg3 harg3 arg4 harg4 arg5 harg5 arg6 harg6 arg7 harg7 x0 x1 x2 x3 x4 x5 x6 BL (lds arg13 harg13 xs0) (drecS arg13 harg13 xs0 hs))
  unfold out0_B_9
  rw [View.read_writes_junk_eq_canon, pieces9_B]
  intro l j
  rw [View.canon_cons_unit_zero off2]
  refine (congrArg (· + _) ((congrFun (shapeCast_self _ _) (ix2 l j)).trans (?_ : _ = ((f8 l j : ℝ) : EReal)))).trans ?_
  · erw [View.readAt_eq_ld]; rw [harg11.read_unread]; erw [View.ld_unit_zero off2 _ _]; exact h8 l j
  rw [F.dbias l j, EReal.coe_add]

theorem step10_B (hc0 : ¬cond0_0 i) (xo8 : Vec Ideal S128x512 .f32) (xo9 : Vec Ideal S1x512 .f32) (xo10 : Vec Ideal S1x1024 .f32) (xs0 : Vec Ideal S4x256x128 .f32) (BL : Block A t x0 x1 x2 x3 x4 x5 x6) (hs : ∀ h e a, xs0 (ix3 h e a) = ((A.Drec h (8 * t.val) e a : ℝ) : EReal)) (fz : Fin 4 → Fin 256 → ℝ) (h10 : ∀ h e, xo10 (ix2 0 (vc h e)) = ((fz h e : ℝ) : EReal)) (h : Fin 4) (e : Fin 256) :
    out0_B_10 c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xs0 (ix2 0 (vc h e)) = ((fz h e + A.dgs t h e : ℝ) : EReal) := by
  have F := (Block.finds arg1 harg1 arg2 harg2 arg3 harg3 arg4 harg4 arg5 harg5 arg6 harg6 arg7 harg7 x0 x1 x2 x3 x4 x5 x6 BL (lds arg13 harg13 xs0) (drecS arg13 harg13 xs0 hs))
  unfold out0_B_10
  rw [View.read_writes_junk_eq_canon, pieces10_B, ← List.append_nil (P10 _ _ _ _)]
  refine canon10 F _ fz ?_ _ h e
  intro h i e
  obtain rfl : i = 0 := Subsingleton.elim _ _
  erw [View.readAt_eq_ld]; rw [harg12.read_unread]
  exact (congrArg xo10 (emb2 _ _ 0 e 0 (vc h e) rfl rfl)).trans (h10 h e)

theorem left_A (hc0 : cond0_0 i) (BL : Block A t x0 x1 x2 x3 x4 x5 x6) (ht : t = 0) :
    Left A t (out0_A_7 c i arg1 harg1 arg2 harg2 arg3 harg3 arg4 harg4 arg5 harg5 arg6 harg6 arg7 harg7 arg9 harg9 arg10 harg10 arg11 harg11 arg12 harg12 arg13 harg13 hc0 x0 x1 x2 x3 x4 x5 x6) (out0_A_8 c i arg1 harg1 arg2 harg2 arg3 harg3 arg4 harg4 arg5 harg5 arg6 harg6 arg7 harg7 arg9 harg9 arg10 harg10 arg11 harg11 arg12 harg12 arg13 harg13 hc0 x0 x1 x2 x3 x4 x5 x6) (out0_A_9 c i arg1 harg1 arg2 harg2 arg3 harg3 arg4 harg4 arg5 harg5 arg6 harg6 arg7 harg7 arg9 harg9 arg10 harg10 arg11 harg11 arg12 harg12 arg13 harg13 hc0 x0 x1 x2 x3 x4 x5 x6) (out0_A_10 c i arg1 harg1 arg2 harg2 arg3 harg3 arg4 harg4 arg5 harg5 arg6 harg6 arg7 harg7 arg9 harg9 arg10 harg10 arg11 harg11 arg12 harg12 arg13 harg13 hc0 x0 x1 x2 x3 x4 x5 x6) (sout0_A_0 c i arg1 harg1 arg2 harg2 arg3 harg3 arg4 harg4 arg5 harg5 arg6 harg6 arg7 harg7 arg9 harg9 arg10 harg10 arg11 harg11 arg12 harg12 arg13 harg13 hc0 x0 x1 x2 x3 x4 x5 x6) where
  h7 := step7_A c i arg1 harg1 arg2 harg2 arg3 harg3 arg4 harg4 arg5 harg5 arg6 harg6 arg7 harg7 arg9 harg9 arg10 harg10 arg11 harg11 arg12 harg12 arg13 harg13 x0 x1 x2 x3 x4 x5 x6 hc0 BL ht
  h8 := fun l j => (step8_A c i arg1 harg1 arg2 harg2 arg3 harg3 arg4 harg4 arg5 harg5 arg6 harg6 arg7 harg7 arg9 harg9 arg10 harg10 arg11 harg11 arg12 harg12 arg13 harg13 x0 x1 x2 x3 x4 x5 x6 hc0 BL ht l j).trans (congrArg _ (by subst ht; exact acc0 (fun s => A.dWs s l j)))
  h9 := fun l j => (step9_A c i arg1 harg1 arg2 harg2 arg3 harg3 arg4 harg4 arg5 harg5 arg6 harg6 arg7 harg7 arg9 harg9 arg10 harg10 arg11 harg11 arg12 harg12 arg13 harg13 x0 x1 x2 x3 x4 x5 x6 hc0 BL ht l j).trans (congrArg _ (by subst ht; exact acc0 (fun s => A.dbs s j)))
  h10 := fun h e => (step10_A c i arg1 harg1 arg2 harg2 arg3 harg3 arg4 harg4 arg5 harg5 arg6 harg6 arg7 harg7 arg9 harg9 arg10 harg10 arg11 harg11 arg12 harg12 arg13 harg13 x0 x1 x2 x3 x4 x5 x6 hc0 BL ht h e).trans (congrArg _ (by subst ht; exact acc0 (fun s => A.dgs s h e)))
  hS := stepS_A c i arg1 harg1 arg2 harg2 arg3 harg3 arg4 harg4 arg5 harg5 arg6 harg6 arg7 harg7 arg9 harg9 arg10 harg10 arg11 harg11 arg12 harg12 arg13 harg13 x0 x1 x2 x3 x4 x5 x6 hc0 BL ht

theorem left_B (hc0 : ¬cond0_0 i) (xo7 : Vec Ideal S512x3200 .bf16) (xo8 : Vec Ideal S128x512 .f32) (xo9 : Vec Ideal S1x512 .f32) (xo10 : Vec Ideal S1x1024 .f32) (xs0 : Vec Ideal S4x256x128 .f32) (BL : Block A t x0 x1 x2 x3 x4 x5 x6) (n : ℕ) (hn : n + 1 < 8) (ht : t.val = n + 1)
    (L : Left A ⟨n, Nat.lt_of_succ_lt hn⟩ xo7 xo8 xo9 xo10 xs0) :
    Left A t (out0_B_7 c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xs0) (out0_B_8 c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xs0) (out0_B_9 c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xs0) (out0_B_10 c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xs0) (sout0_B_0 c i arg1 harg1 arg2 harg2 arg3 harg3 arg4 harg4 arg5 harg5 arg6 harg6 arg7 harg7 arg9 harg9 arg10 harg10 arg11 harg11 arg12 harg12 arg13 harg13 hc0 x0 x1 x2 x3 x4 x5 x6 xo8 xo9 xo10 xs0) := by
  obtain rfl : t = Fin.ofNat 8 (n + 1) := Fin.ext (ht.trans (Nat.mod_eq_of_lt hn).symm)
  have hs : ∀ h e a, xs0 (ix3 h e a) = ((A.Drec h (8 * (Fin.ofNat 8 (n + 1) : Fin 8).val) e a : ℝ) : EReal) := by
    intro h e a; rw [L.hS, ht]
  have e8 := step8_B c i arg1 harg1 arg2 harg2 arg3 harg3 arg4 harg4 arg5 harg5 arg6 harg6 arg7 harg7 arg9 harg9 arg10 harg10 arg11 harg11 arg12 harg12 arg13 harg13 x0 x1 x2 x3 x4 x5 x6 hc0 xo8 xo9 xo10 xs0 BL hs _ L.h8
  have e9 := step9_B c i arg1 harg1 arg2 harg2 arg3 harg3 arg4 harg4 arg5 harg5 arg6 harg6 arg7 harg7 arg9 harg9 arg10 harg10 arg11 harg11 arg12 harg12 arg13 harg13 x0 x1 x2 x3 x4 x5 x6 hc0 xo8 xo9 xo10 xs0 BL hs _ L.h9
  have e10 := step10_B c i arg1 harg1 arg2 harg2 arg3 harg3 arg4 harg4 arg5 harg5 arg6 harg6 arg7 harg7 arg9 harg9 arg10 harg10 arg11 harg11 arg12 harg12 arg13 harg13 x0 x1 x2 x3 x4 x5 x6 hc0 xo8 xo9 xo10 xs0 BL hs _ L.h10
  refine ⟨step7_B c i arg1 harg1 arg2 harg2 arg3 harg3 arg4 harg4 arg5 harg5 arg6 harg6 arg7 harg7 arg9 harg9 arg10 harg10 arg11 harg11 arg12 harg12 arg13 harg13 x0 x1 x2 x3 x4 x5 x6 hc0 xo8 xo9 xo10 xs0 BL hs, ?_, ?_, ?_, stepS_B c i arg1 harg1 arg2 harg2 arg3 harg3 arg4 harg4 arg5 harg5 arg6 harg6 arg7 harg7 arg9 harg9 arg10 harg10 arg11 harg11 arg12 harg12 arg13 harg13 x0 x1 x2 x3 x4 x5 x6 hc0 xo8 xo9 xo10 xs0 BL hs⟩
  · exact fun l j => (e8 l j).trans (congrArg _ (accS (fun s => A.dWs s l j) n _ ht))
  · exact fun l j => (e9 l j).trans (congrArg _ (accS (fun s => A.dbs s j) n _ ht))
  · exact fun h e => (e10 h e).trans (congrArg _ (accS (fun s => A.dgs s h e) n _ ht))

end steps

end Cert.GlaBwd
-- ==== Proof.Grid.lean ====
/-
  The eight grid steps: what each leaves, by induction, and the four arrays the kernel returns.
-/
module

public import proofs.«01_k».proof.Proof.Reads
public import proofs.«01_k».proof.Proof.Gen.KernelIdeal.Value
public import Idealize.ShloMosaic.Lib.Claim
public import Idealize.ShloMosaic.Lib.Pipeline.ValueKit.Point

@[expose] public section

set_option maxRecDepth 16384

noncomputable section

namespace Cert.GlaBwd

open Idealize.ShloMosaic Idealize.ShloMosaic.TcCoe Idealize.ShloMosaic.Tactic
open Cert.KernelIdeal Cert.KernelIdeal.Gen R R.Args

theorem idx : ∀ t : Fin grid0.N, win0_0.index t = ![7 - t.val, 1] ∧ win0_1.index t = ![0, 0] ∧ win0_2.index t = ![0, 0]
    ∧ win0_3.index t = ![0, 0] ∧ win0_4.index t = ![7 - t.val, 0] ∧ win0_5.index t = ![7 - t.val, 0, 0, 0] ∧ win0_6.index t = ![7 - t.val, 1]
    ∧ win0_7.index t = ![7 - t.val, 1] ∧ win0_8.index t = ![0, 0] ∧ win0_9.index t = ![0, 0] ∧ win0_10.index t = ![0, 0] := by
  decide +kernel

/-- A grid step as a number. -/
def gt (t : Fin cfg0.N) : Fin 8 := ⟨t.val, t.isLt⟩

/-- A column of the right half of the packed projections. -/
def rcol (j : Fin 3200) : Fin 6400 := ⟨3200 + j.val, by omega⟩
def dcol (j : Fin 1024) : Fin 2048 := ⟨1024 + j.val, by omega⟩

section blocks

variable {F : FTy → Type} [FloatOps F]
variable (m : (ℓ : Loc nD τ sig) → Buf (Elt F) ℓ) (c : Dev nD)

theorem iblk0 (t : Fin cfg0.N) (r : Fin 512) (j : Fin 3200) : iblk m c 0 t (ix2 r j) = V m c main_v58 (ix2 (row (gt t) r) (rcol j)) := by
  blk_ext [iblk, row, gt, rcol, (idx t).1]
theorem iblk1 (t : Fin cfg0.N) (r : Fin 128) (j : Fin 512) : iblk m c 1 t (ix2 r j) = V m c main_v60 (ix2 r j) := by
  blk_ext [iblk, (idx t).2.1]
theorem iblk2 (t : Fin cfg0.N) (r : Fin 1) (j : Fin 512) : iblk m c 2 t (ix2 r j) = V m c main_v61 (ix2 r j) := by
  blk_ext [iblk, (idx t).2.2.1]
theorem iblk3 (t : Fin cfg0.N) (r : Fin 1) (j : Fin 1024) : iblk m c 3 t (ix2 r j) = V m c main_v62 (ix2 r j) := by
  blk_ext [iblk, (idx t).2.2.2.1]
theorem iblk4 (t : Fin cfg0.N) (r : Fin 512) (j : Fin 1024) : iblk m c 4 t (ix2 r j) = V m c main_v54 (ix2 (row (gt t) r) j) := by
  blk_ext [iblk, row, gt, (idx t).2.2.2.2.1]
theorem iblk5 (t : Fin cfg0.N) (k : Fin 8) (h : Fin 4) (e : Fin 256) (a : Fin 128) :
    iblk m c 5 t (ix4 k h e a) = V m c main_v55 (ix4 (cks (gt t) k) h e a) := by
  blk_ext [iblk, cks, gt, (idx t).2.2.2.2.2.1]
theorem iblk6 (t : Fin cfg0.N) (r : Fin 512) (j : Fin 1024) : iblk m c 6 t (ix2 r j) = V m c main_arg8 (ix2 (row (gt t) r) (dcol j)) := by
  blk_ext [iblk, row, gt, dcol, (idx t).2.2.2.2.2.2.1]

end blocks

variable {m : (ℓ : Loc nD τ sig) → Buf (Elt Ideal) ℓ} {c : Dev nD} {A : R.Args}

/-- What the kernel finds in the arrays it is given. -/
structure Entry (A : R.Args) (m : (ℓ : Loc nD τ sig) → Buf (Elt Ideal) ℓ) (c : Dev nD) : Prop where
  hq : ∀ T a, V m c main_v58 (ix2 T (rcol (xcol 0 512 (by omega) a))) = ((A.q T a : ℝ) : EReal)
  hk : ∀ T a, V m c main_v58 (ix2 T (rcol (xcol 512 512 (by omega) a))) = ((A.k T a : ℝ) : EReal)
  hv : ∀ T a, V m c main_v58 (ix2 T (rcol (xcol 1024 1024 (by omega) a))) = ((A.v T a : ℝ) : EReal)
  hr : ∀ T a, V m c main_v58 (ix2 T (rcol (xcol 2048 1024 (by omega) a))) = ((A.r T a : ℝ) : EReal)
  hz : ∀ T a, V m c main_v58 (ix2 T (rcol (xcol 3072 128 (by omega) a))) = ((A.zl128 T a : ℝ) : EReal)
  hw : ∀ l j, V m c main_v60 (ix2 l j) = ((A.wg128 l j : ℝ) : EReal)
  hb : ∀ i j, V m c main_v61 (ix2 i j) = ((A.gb j : ℝ) : EReal)
  hg : ∀ i j, V m c main_v62 (ix2 i j) = ((A.gn j : ℝ) : EReal)
  ho : ∀ n h i e, V m c main_v54 (ix2 (tok n i) (vc h e)) = ((A.O h n i e : ℝ) : EReal)
  hs : ∀ n h e a, V m c main_v55 (ix4 n h e a) = ((A.St h n e a : ℝ) : EReal)
  hd : ∀ T j, V m c main_arg8 (ix2 T (dcol j)) = ((A.d T j : ℝ) : EReal)

theorem Entry.block (E : Entry A m c) (t : Fin cfg0.N) : Block A (gt t) (iblk m c 0 t) (iblk m c 1 t) (iblk m c 2 t) (iblk m c 3 t)
    (iblk m c 4 t) (iblk m c 5 t) (iblk m c 6 t) where
  hq r a := (iblk0 m c t _ _).trans (E.hq _ _)
  hk r a := (iblk0 m c t _ _).trans (E.hk _ _)
  hv r a := (iblk0 m c t _ _).trans (E.hv _ _)
  hr r a := (iblk0 m c t _ _).trans (E.hr _ _)
  hz r a := (iblk0 m c t _ _).trans (E.hz _ _)
  hw l j := (iblk1 m c t _ _).trans (E.hw _ _)
  hb l j := (iblk2 m c t _ _).trans (E.hb _ _)
  hg l j := (iblk3 m c t _ _).trans (E.hg _ _)
  ho k h i e := ((iblk4 m c t _ _).trans (by rw [row_srow])).trans (E.ho _ _ _ _)
  hs k h e a := (iblk5 m c t _ _ _ _).trans (E.hs _ _ _ _)
  hd r j := (iblk6 m c t _ _).trans (E.hd _ _)

theorem left (E : Entry A m c) : ∀ (n : ℕ) (hn : n < cfg0.N), Left A (gt ⟨n, hn⟩) (outsAt0 m c n hn).1 (outsAt0 m c n hn).2.1 (outsAt0 m c n hn).2.2.1 (outsAt0 m c n hn).2.2.2.1 (outsAt0 m c n hn).2.2.2.2
  | 0, hn => by
    have h0 : (⟨0, hn⟩ : Fin cfg0.N).val % 8 = 0 := Nat.zero_mod _
    have e := outsAt0_A m c ⟨0, hn⟩ h0
    have L := left_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) ((hcond0_0 ⟨0, hn⟩).mpr h0) (E.block ⟨0, hn⟩) rfl
    rw [show outsAt0 m c 0 hn = _ from e]
    dsimp only
    exact L
  | n + 1, hn => by
    have hn8 : n + 1 < 8 := hn
    have h0 : ¬ (⟨n + 1, hn⟩ : Fin cfg0.N).val % 8 = 0 := by show ¬ (n + 1) % 8 = 0; omega
    have ih := left E n (Nat.lt_of_succ_lt hn)
    have e := outsAt0_B m c ⟨n + 1, hn⟩ h0
    have L := left_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (fun h => h0 ((hcond0_0 ⟨n + 1, hn⟩).mp h)) _ _ _ _ _ (E.block ⟨n + 1, hn⟩) n hn8 rfl ih
    rw [show outsAt0 m c (n + 1) hn = _ from e]
    dsimp only
    exact L

end Cert.GlaBwd
-- ==== Proof.Packed.lean ====
/-
  The packed array, read at a column: which of its seven pieces, and at which of that piece's columns.
-/
module

public import proofs.«01_k».proof.Proof.Grid
public import Idealize.ShloMosaic.Lib.Pointwise

@[expose] public section

set_option maxRecDepth 16384

noncomputable section

namespace Cert.GlaBwd

open Idealize.ShloMosaic Idealize.ShloMosaic.Tactic
open Cert.KernelIdeal R

variable {α : Type} (x : S4096x3200.Idx → α) (q k : S4096x512.Idx → α) (v r : S4096x1024.Idx → α) (z : S4096x16.Idx → α) (y : S4096x112.Idx → α)
variable (h : Shape.Concatenates ([⟨S4096x3200, x⟩, ⟨S4096x512, q⟩, ⟨S4096x512, k⟩, ⟨S4096x1024, v⟩, ⟨S4096x1024, r⟩, ⟨S4096x16, z⟩, ⟨S4096x112, y⟩].map
  (·.1 : ((s : Shape) × (s.Idx → α)) → Shape)) S4096x6400 1)

/-- The seven pieces side by side. -/
def packed : S4096x6400.Idx → α :=
  concatenate S4096x6400 1 [⟨S4096x3200, x⟩, ⟨S4096x512, q⟩, ⟨S4096x512, k⟩, ⟨S4096x1024, v⟩, ⟨S4096x1024, r⟩, ⟨S4096x16, z⟩, ⟨S4096x112, y⟩] h

theorem packed_x (T : Fin 4096) (a : Fin 3200) : packed x q k v r z y h (ix2 T ⟨a.val, by omega⟩) = x (ix2 T a) := by
  pointwise [packed]
theorem packed_q (T : Fin 4096) (a : Fin 512) : packed x q k v r z y h (ix2 T (rcol (xcol 0 512 (by omega) a))) = q (ix2 T a) := by
  pointwise [packed, rcol, xcol]
theorem packed_k (T : Fin 4096) (a : Fin 512) : packed x q k v r z y h (ix2 T (rcol (xcol 512 512 (by omega) a))) = k (ix2 T a) := by
  pointwise [packed, rcol, xcol]
theorem packed_v (T : Fin 4096) (a : Fin 1024) : packed x q k v r z y h (ix2 T (rcol (xcol 1024 1024 (by omega) a))) = v (ix2 T a) := by
  pointwise [packed, rcol, xcol]
  rw [dif_neg (by omega), dif_neg (by omega), dif_pos (by omega)]
  exact congrArg v (congrArg (ix2 T) (Fin.ext (by show _ = a.val; dsimp only; omega)))
theorem packed_r (T : Fin 4096) (a : Fin 1024) : packed x q k v r z y h (ix2 T (rcol (xcol 2048 1024 (by omega) a))) = r (ix2 T a) := by
  pointwise [packed, rcol, xcol]
  rw [dif_neg (by omega), dif_neg (by omega), dif_neg (by omega), dif_pos (by omega)]
  exact congrArg r (congrArg (ix2 T) (Fin.ext (by show _ = a.val; dsimp only; omega)))
theorem packed_z (T : Fin 4096) (l : Fin 128) : packed x q k v r z y h (ix2 T (rcol (xcol 3072 128 (by omega) l)))
    = if hl : l.val < 16 then z (ix2 T ⟨l.val, hl⟩) else y (ix2 T ⟨l.val - 16, by omega⟩) := by
  pointwise [packed, rcol, xcol]
  rw [dif_neg (by omega), dif_neg (by omega), dif_neg (by omega), dif_neg (by omega)]
  by_cases hl : l.val < 16
  · rw [dif_pos (by omega), dif_pos hl]
    exact congrArg z (congrArg (ix2 T) (Fin.ext (by show _ = l.val; dsimp only; omega)))
  · rw [dif_neg (by omega), dif_neg hl]
    exact congrArg y (congrArg (ix2 T) (Fin.ext (by show _ = l.val - 16; dsimp only; omega)))

end Cert.GlaBwd
-- ==== Proof.Host.lean ====
/-
  The arrays the kernel is given, as functions of the arguments: its host operations run the reference's forward pass
  first, so each buffer holds the reference's stage of the same number.
-/
module

public import proofs.«01_k».proof.Proof.Gen.KernelIdeal.Value
public import proofs.«01_k».proof.Proof.Gen.ReferenceIdeal.Read
public import Idealize.ShloMosaic.Lib.Claim
public import Idealize.ShloMosaic.Lib.StableHlo.RunRead

@[expose] public section

set_option maxRecDepth 100000

noncomputable section

namespace Cert.GlaBwd

open Idealize.ShloMosaic Idealize.ShloMosaic.TcCoe Idealize.ShloMosaic.Tactic Idealize.ShloMosaic.StableHlo
open Cert.KernelIdeal Cert.KernelIdeal.Gen

variable {F : FTy → Type} [FloatOps F]

/-- The contents of one core's buffers. -/
abbrev Vl (F : FTy → Type) := Valuation τ sig (Elt F)

variable (V₀ : Vl F)

/-- After the host operations, part A. -/
def WA (V₀ : Vl F) : Vl F := after (hostOps0 ++ hostOps0_1) V₀
/-- After the host operations, part B. -/
def WB (V₀ : Vl F) : Vl F := after (hostOps0_2 ++ hostOps0_3) (WA V₀)
/-- After the host operations, part C. -/
def WC (V₀ : Vl F) : Vl F := after (hostOps0_4) (WB V₀)
/-- After the host operations, part D. -/
def WD (V₀ : Vl F) : Vl F := after (hostOps0_5 ++ hostOps0_6 ++ hostOps0_7) (WC V₀)
/-- After the host operations, part E. -/
def WE (V₀ : Vl F) : Vl F := after (hostOps0_8 ++ hostOps0_9) (WD V₀)
/-- After the host operations, part F. -/
def WF (V₀ : Vl F) : Vl F := after (hostOps0_10 ++ hostOps0_11) (WE V₀)
/-- After the host operations, part G. -/
def WG (V₀ : Vl F) : Vl F := after (hostOps0_12 ++ hostOps0_13) (WF V₀)
/-- After the host operations, part H. -/
def WH (V₀ : Vl F) : Vl F := after (hostOps0_14 ++ hostOps0_15) (WG V₀)
/-- After the host operations, part I. -/
def WI (V₀ : Vl F) : Vl F := after (hostOps0_16 ++ hostOps0_17 ++ hostOps0_18) (WH V₀)

theorem WA_arg0 : WA V₀ (Proc.devRef .tc main_arg0) = V₀ (Proc.devRef .tc main_arg0) := by
  unfold WA
  simp only [hostOps0, hostOps0_1, List.cons_append, List.nil_append]
  after_reads_simp
theorem WA_arg1 : WA V₀ (Proc.devRef .tc main_arg1) = V₀ (Proc.devRef .tc main_arg1) := by
  unfold WA
  simp only [hostOps0, hostOps0_1, List.cons_append, List.nil_append]
  after_reads_simp
theorem WA_arg2 : WA V₀ (Proc.devRef .tc main_arg2) = V₀ (Proc.devRef .tc main_arg2) := by
  unfold WA
  simp only [hostOps0, hostOps0_1, List.cons_append, List.nil_append]
  after_reads_simp
theorem WA_arg3 : WA V₀ (Proc.devRef .tc main_arg3) = V₀ (Proc.devRef .tc main_arg3) := by
  unfold WA
  simp only [hostOps0, hostOps0_1, List.cons_append, List.nil_append]
  after_reads_simp
theorem WA_arg4 : WA V₀ (Proc.devRef .tc main_arg4) = V₀ (Proc.devRef .tc main_arg4) := by
  unfold WA
  simp only [hostOps0, hostOps0_1, List.cons_append, List.nil_append]
  after_reads_simp
theorem WA_arg5 : WA V₀ (Proc.devRef .tc main_arg5) = V₀ (Proc.devRef .tc main_arg5) := by
  unfold WA
  simp only [hostOps0, hostOps0_1, List.cons_append, List.nil_append]
  after_reads_simp
theorem WA_arg6 : WA V₀ (Proc.devRef .tc main_arg6) = V₀ (Proc.devRef .tc main_arg6) := by
  unfold WA
  simp only [hostOps0, hostOps0_1, List.cons_append, List.nil_append]
  after_reads_simp
theorem WA_arg7 : WA V₀ (Proc.devRef .tc main_arg7) = V₀ (Proc.devRef .tc main_arg7) := by
  unfold WA
  simp only [hostOps0, hostOps0_1, List.cons_append, List.nil_append]
  after_reads_simp
theorem WA_arg8 : WA V₀ (Proc.devRef .tc main_arg8) = V₀ (Proc.devRef .tc main_arg8) := by
  unfold WA
  simp only [hostOps0, hostOps0_1, List.cons_append, List.nil_append]
  after_reads_simp
theorem WA_arg9 : WA V₀ (Proc.devRef .tc main_arg9) = V₀ (Proc.devRef .tc main_arg9) := by
  unfold WA
  simp only [hostOps0, hostOps0_1, List.cons_append, List.nil_append]
  after_reads_simp
theorem WA_v4 : WA V₀ (Proc.devRef .tc main_v4) = Cert.ReferenceIdeal.Read.val_main_v4_0 (F := F) (V₀ (Proc.devRef .tc main_arg4)) (V₀ (Proc.devRef .tc main_arg5)) (V₀ (Proc.devRef .tc main_arg6)) := by
  unfold WA
  simp only [hostOps0, hostOps0_1, List.cons_append, List.nil_append]
  after_reads_simp
  rfl
theorem WB_arg0 : WB V₀ (Proc.devRef .tc main_arg0) = V₀ (Proc.devRef .tc main_arg0) := by
  unfold WB
  generalize hW : WA V₀ = W
  simp only [hostOps0_2, hostOps0_3, List.cons_append, List.nil_append]
  after_reads_simp
  subst hW
  rw [WA_arg0]
theorem WB_arg1 : WB V₀ (Proc.devRef .tc main_arg1) = V₀ (Proc.devRef .tc main_arg1) := by
  unfold WB
  generalize hW : WA V₀ = W
  simp only [hostOps0_2, hostOps0_3, List.cons_append, List.nil_append]
  after_reads_simp
  subst hW
  rw [WA_arg1]
theorem WB_arg2 : WB V₀ (Proc.devRef .tc main_arg2) = V₀ (Proc.devRef .tc main_arg2) := by
  unfold WB
  generalize hW : WA V₀ = W
  simp only [hostOps0_2, hostOps0_3, List.cons_append, List.nil_append]
  after_reads_simp
  subst hW
  rw [WA_arg2]
theorem WB_arg3 : WB V₀ (Proc.devRef .tc main_arg3) = V₀ (Proc.devRef .tc main_arg3) := by
  unfold WB
  generalize hW : WA V₀ = W
  simp only [hostOps0_2, hostOps0_3, List.cons_append, List.nil_append]
  after_reads_simp
  subst hW
  rw [WA_arg3]
theorem WB_arg4 : WB V₀ (Proc.devRef .tc main_arg4) = V₀ (Proc.devRef .tc main_arg4) := by
  unfold WB
  generalize hW : WA V₀ = W
  simp only [hostOps0_2, hostOps0_3, List.cons_append, List.nil_append]
  after_reads_simp
  subst hW
  rw [WA_arg4]
theorem WB_arg5 : WB V₀ (Proc.devRef .tc main_arg5) = V₀ (Proc.devRef .tc main_arg5) := by
  unfold WB
  generalize hW : WA V₀ = W
  simp only [hostOps0_2, hostOps0_3, List.cons_append, List.nil_append]
  after_reads_simp
  subst hW
  rw [WA_arg5]
theorem WB_arg6 : WB V₀ (Proc.devRef .tc main_arg6) = V₀ (Proc.devRef .tc main_arg6) := by
  unfold WB
  generalize hW : WA V₀ = W
  simp only [hostOps0_2, hostOps0_3, List.cons_append, List.nil_append]
  after_reads_simp
  subst hW
  rw [WA_arg6]
theorem WB_arg7 : WB V₀ (Proc.devRef .tc main_arg7) = V₀ (Proc.devRef .tc main_arg7) := by
  unfold WB
  generalize hW : WA V₀ = W
  simp only [hostOps0_2, hostOps0_3, List.cons_append, List.nil_append]
  after_reads_simp
  subst hW
  rw [WA_arg7]
theorem WB_arg8 : WB V₀ (Proc.devRef .tc main_arg8) = V₀ (Proc.devRef .tc main_arg8) := by
  unfold WB
  generalize hW : WA V₀ = W
  simp only [hostOps0_2, hostOps0_3, List.cons_append, List.nil_append]
  after_reads_simp
  subst hW
  rw [WA_arg8]
theorem WB_arg9 : WB V₀ (Proc.devRef .tc main_arg9) = V₀ (Proc.devRef .tc main_arg9) := by
  unfold WB
  generalize hW : WA V₀ = W
  simp only [hostOps0_2, hostOps0_3, List.cons_append, List.nil_append]
  after_reads_simp
  subst hW
  rw [WA_arg9]
theorem WB_v10 : WB V₀ (Proc.devRef .tc main_v10) = Cert.ReferenceIdeal.Read.val_main_v10 (F := F) (V₀ (Proc.devRef .tc main_arg0)) := by
  unfold WB
  generalize hW : WA V₀ = W
  simp only [hostOps0_2, hostOps0_3, List.cons_append, List.nil_append]
  after_reads_simp
  subst hW
  try rw [WA_arg0]
  try rw [WA_arg1]
  try rw [WA_arg2]
  try rw [WA_arg4]
  try rw [WA_arg5]
  try rw [WA_arg6]
  rfl
theorem WB_v12 : WB V₀ (Proc.devRef .tc main_v12) = Cert.ReferenceIdeal.Read.val_main_v12 (F := F) (V₀ (Proc.devRef .tc main_arg1)) := by
  unfold WB
  generalize hW : WA V₀ = W
  simp only [hostOps0_2, hostOps0_3, List.cons_append, List.nil_append]
  after_reads_simp
  subst hW
  try rw [WA_arg0]
  try rw [WA_arg1]
  try rw [WA_arg2]
  try rw [WA_arg4]
  try rw [WA_arg5]
  try rw [WA_arg6]
  rfl
theorem WB_v14 : WB V₀ (Proc.devRef .tc main_v14) = Cert.ReferenceIdeal.Read.val_main_v14 (F := F) (V₀ (Proc.devRef .tc main_arg2)) := by
  unfold WB
  generalize hW : WA V₀ = W
  simp only [hostOps0_2, hostOps0_3, List.cons_append, List.nil_append]
  after_reads_simp
  subst hW
  try rw [WA_arg0]
  try rw [WA_arg1]
  try rw [WA_arg2]
  try rw [WA_arg4]
  try rw [WA_arg5]
  try rw [WA_arg6]
  rfl
theorem WB_v17 : WB V₀ (Proc.devRef .tc main_v17) = Cert.ReferenceIdeal.Read.val_main_v17 (F := F) (V₀ (Proc.devRef .tc main_arg4)) (V₀ (Proc.devRef .tc main_arg5)) (V₀ (Proc.devRef .tc main_arg6)) := by
  unfold WB
  generalize hW : WA V₀ = W
  simp only [hostOps0_2, hostOps0_3, List.cons_append, List.nil_append]
  after_reads_simp
  subst hW
  try rw [WA_v4]
  try rw [WA_arg0]
  try rw [WA_arg1]
  try rw [WA_arg2]
  try rw [WA_arg4]
  try rw [WA_arg5]
  try rw [WA_arg6]
  rfl
theorem WC_arg0 : WC V₀ (Proc.devRef .tc main_arg0) = V₀ (Proc.devRef .tc main_arg0) := by
  unfold WC
  generalize hW : WB V₀ = W
  simp only [hostOps0_4, List.cons_append, List.nil_append]
  after_reads_simp
  subst hW
  rw [WB_arg0]
theorem WC_arg1 : WC V₀ (Proc.devRef .tc main_arg1) = V₀ (Proc.devRef .tc main_arg1) := by
  unfold WC
  generalize hW : WB V₀ = W
  simp only [hostOps0_4, List.cons_append, List.nil_append]
  after_reads_simp
  subst hW
  rw [WB_arg1]
theorem WC_arg2 : WC V₀ (Proc.devRef .tc main_arg2) = V₀ (Proc.devRef .tc main_arg2) := by
  unfold WC
  generalize hW : WB V₀ = W
  simp only [hostOps0_4, List.cons_append, List.nil_append]
  after_reads_simp
  subst hW
  rw [WB_arg2]
theorem WC_arg3 : WC V₀ (Proc.devRef .tc main_arg3) = V₀ (Proc.devRef .tc main_arg3) := by
  unfold WC
  generalize hW : WB V₀ = W
  simp only [hostOps0_4, List.cons_append, List.nil_append]
  after_reads_simp
  subst hW
  rw [WB_arg3]
theorem WC_arg4 : WC V₀ (Proc.devRef .tc main_arg4) = V₀ (Proc.devRef .tc main_arg4) := by
  unfold WC
  generalize hW : WB V₀ = W
  simp only [hostOps0_4, List.cons_append, List.nil_append]
  after_reads_simp
  subst hW
  rw [WB_arg4]
theorem WC_arg5 : WC V₀ (Proc.devRef .tc main_arg5) = V₀ (Proc.devRef .tc main_arg5) := by
  unfold WC
  generalize hW : WB V₀ = W
  simp only [hostOps0_4, List.cons_append, List.nil_append]
  after_reads_simp
  subst hW
  rw [WB_arg5]
theorem WC_arg6 : WC V₀ (Proc.devRef .tc main_arg6) = V₀ (Proc.devRef .tc main_arg6) := by
  unfold WC
  generalize hW : WB V₀ = W
  simp only [hostOps0_4, List.cons_append, List.nil_append]
  after_reads_simp
  subst hW
  rw [WB_arg6]
theorem WC_arg7 : WC V₀ (Proc.devRef .tc main_arg7) = V₀ (Proc.devRef .tc main_arg7) := by
  unfold WC
  generalize hW : WB V₀ = W
  simp only [hostOps0_4, List.cons_append, List.nil_append]
  after_reads_simp
  subst hW
  rw [WB_arg7]
theorem WC_arg8 : WC V₀ (Proc.devRef .tc main_arg8) = V₀ (Proc.devRef .tc main_arg8) := by
  unfold WC
  generalize hW : WB V₀ = W
  simp only [hostOps0_4, List.cons_append, List.nil_append]
  after_reads_simp
  subst hW
  rw [WB_arg8]
theorem WC_arg9 : WC V₀ (Proc.devRef .tc main_arg9) = V₀ (Proc.devRef .tc main_arg9) := by
  unfold WC
  generalize hW : WB V₀ = W
  simp only [hostOps0_4, List.cons_append, List.nil_append]
  after_reads_simp
  subst hW
  rw [WB_arg9]
theorem WC_v18 : WC V₀ (Proc.devRef .tc main_v18) = Cert.ReferenceIdeal.Read.val_main_v18 (F := F) (V₀ (Proc.devRef .tc main_arg4)) (V₀ (Proc.devRef .tc main_arg5)) (V₀ (Proc.devRef .tc main_arg6)) := by
  unfold WC
  generalize hW : WB V₀ = W
  simp only [hostOps0_4, List.cons_append, List.nil_append]
  after_reads_simp
  subst hW
  try rw [WB_v17]
  try rw [WB_arg0]
  try rw [WB_arg1]
  try rw [WB_arg2]
  try rw [WB_arg4]
  try rw [WB_arg5]
  try rw [WB_arg6]
  rfl
theorem WC_v20 : WC V₀ (Proc.devRef .tc main_v20) = Cert.ReferenceIdeal.Read.val_main_v20 (F := F) (V₀ (Proc.devRef .tc main_arg0)) (V₀ (Proc.devRef .tc main_arg4)) (V₀ (Proc.devRef .tc main_arg5)) (V₀ (Proc.devRef .tc main_arg6)) := by
  unfold WC
  generalize hW : WB V₀ = W
  simp only [hostOps0_4, List.cons_append, List.nil_append]
  after_reads_simp
  subst hW
  try rw [WB_v10]
  try rw [WB_v17]
  try rw [WB_arg0]
  try rw [WB_arg1]
  try rw [WB_arg2]
  try rw [WB_arg4]
  try rw [WB_arg5]
  try rw [WB_arg6]
  rfl
theorem WC_v23 : WC V₀ (Proc.devRef .tc main_v23) = Cert.ReferenceIdeal.Read.val_main_v23 (F := F) (V₀ (Proc.devRef .tc main_arg1)) (V₀ (Proc.devRef .tc main_arg4)) (V₀ (Proc.devRef .tc main_arg5)) (V₀ (Proc.devRef .tc main_arg6)) := by
  unfold WC
  generalize hW : WB V₀ = W
  simp only [hostOps0_4, List.cons_append, List.nil_append]
  after_reads_simp
  subst hW
  try rw [WB_v12]
  try rw [WB_v17]
  try rw [WB_arg0]
  try rw [WB_arg1]
  try rw [WB_arg2]
  try rw [WB_arg4]
  try rw [WB_arg5]
  try rw [WB_arg6]
  rfl
theorem WC_v27 : WC V₀ (Proc.devRef .tc main_v27) = Cert.ReferenceIdeal.Read.val_main_v27 (F := F) (V₀ (Proc.devRef .tc main_arg1)) (V₀ (Proc.devRef .tc main_arg4)) (V₀ (Proc.devRef .tc main_arg5)) (V₀ (Proc.devRef .tc main_arg6)) := by
  unfold WC
  generalize hW : WB V₀ = W
  simp only [hostOps0_4, List.cons_append, List.nil_append]
  after_reads_simp
  subst hW
  try rw [WB_v12]
  try rw [WB_v17]
  try rw [WB_arg0]
  try rw [WB_arg1]
  try rw [WB_arg2]
  try rw [WB_arg4]
  try rw [WB_arg5]
  try rw [WB_arg6]
  rfl
theorem WC_v28 : WC V₀ (Proc.devRef .tc main_v28) = Cert.ReferenceIdeal.Read.val_main_v28 (F := F) := by
  unfold WC
  generalize hW : WB V₀ = W
  simp only [hostOps0_4, List.cons_append, List.nil_append]
  after_reads_simp
  subst hW
  try rw [WB_arg0]
  try rw [WB_arg1]
  try rw [WB_arg2]
  try rw [WB_arg4]
  try rw [WB_arg5]
  try rw [WB_arg6]
  rfl
theorem WC_v14 : WC V₀ (Proc.devRef .tc main_v14) = Cert.ReferenceIdeal.Read.val_main_v14 (F := F) (V₀ (Proc.devRef .tc main_arg2)) := by
  unfold WC
  generalize hW : WB V₀ = W
  simp only [hostOps0_4, List.cons_append, List.nil_append]
  after_reads_simp
  subst hW
  rw [WB_v14]
theorem WD_arg0 : WD V₀ (Proc.devRef .tc main_arg0) = V₀ (Proc.devRef .tc main_arg0) := by
  unfold WD
  generalize hW : WC V₀ = W
  simp only [hostOps0_5, hostOps0_6, hostOps0_7, List.cons_append, List.nil_append]
  after_reads_simp
  subst hW
  rw [WC_arg0]
theorem WD_arg1 : WD V₀ (Proc.devRef .tc main_arg1) = V₀ (Proc.devRef .tc main_arg1) := by
  unfold WD
  generalize hW : WC V₀ = W
  simp only [hostOps0_5, hostOps0_6, hostOps0_7, List.cons_append, List.nil_append]
  after_reads_simp
  subst hW
  rw [WC_arg1]
theorem WD_arg2 : WD V₀ (Proc.devRef .tc main_arg2) = V₀ (Proc.devRef .tc main_arg2) := by
  unfold WD
  generalize hW : WC V₀ = W
  simp only [hostOps0_5, hostOps0_6, hostOps0_7, List.cons_append, List.nil_append]
  after_reads_simp
  subst hW
  rw [WC_arg2]
theorem WD_arg3 : WD V₀ (Proc.devRef .tc main_arg3) = V₀ (Proc.devRef .tc main_arg3) := by
  unfold WD
  generalize hW : WC V₀ = W
  simp only [hostOps0_5, hostOps0_6, hostOps0_7, List.cons_append, List.nil_append]
  after_reads_simp
  subst hW
  rw [WC_arg3]
theorem WD_arg4 : WD V₀ (Proc.devRef .tc main_arg4) = V₀ (Proc.devRef .tc main_arg4) := by
  unfold WD
  generalize hW : WC V₀ = W
  simp only [hostOps0_5, hostOps0_6, hostOps0_7, List.cons_append, List.nil_append]
  after_reads_simp
  subst hW
  rw [WC_arg4]
theorem WD_arg5 : WD V₀ (Proc.devRef .tc main_arg5) = V₀ (Proc.devRef .tc main_arg5) := by
  unfold WD
  generalize hW : WC V₀ = W
  simp only [hostOps0_5, hostOps0_6, hostOps0_7, List.cons_append, List.nil_append]
  after_reads_simp
  subst hW
  rw [WC_arg5]
theorem WD_arg6 : WD V₀ (Proc.devRef .tc main_arg6) = V₀ (Proc.devRef .tc main_arg6) := by
  unfold WD
  generalize hW : WC V₀ = W
  simp only [hostOps0_5, hostOps0_6, hostOps0_7, List.cons_append, List.nil_append]
  after_reads_simp
  subst hW
  rw [WC_arg6]
theorem WD_arg7 : WD V₀ (Proc.devRef .tc main_arg7) = V₀ (Proc.devRef .tc main_arg7) := by
  unfold WD
  generalize hW : WC V₀ = W
  simp only [hostOps0_5, hostOps0_6, hostOps0_7, List.cons_append, List.nil_append]
  after_reads_simp
  subst hW
  rw [WC_arg7]
theorem WD_arg8 : WD V₀ (Proc.devRef .tc main_arg8) = V₀ (Proc.devRef .tc main_arg8) := by
  unfold WD
  generalize hW : WC V₀ = W
  simp only [hostOps0_5, hostOps0_6, hostOps0_7, List.cons_append, List.nil_append]
  after_reads_simp
  subst hW
  rw [WC_arg8]
theorem WD_arg9 : WD V₀ (Proc.devRef .tc main_arg9) = V₀ (Proc.devRef .tc main_arg9) := by
  unfold WD
  generalize hW : WC V₀ = W
  simp only [hostOps0_5, hostOps0_6, hostOps0_7, List.cons_append, List.nil_append]
  after_reads_simp
  subst hW
  rw [WC_arg9]
theorem WD_v31 : WD V₀ (Proc.devRef .tc main_v31) = Cert.ReferenceIdeal.Read.val_main_v31_0 (F := F) (V₀ (Proc.devRef .tc main_arg0)) (V₀ (Proc.devRef .tc main_arg1)) (V₀ (Proc.devRef .tc main_arg4)) (V₀ (Proc.devRef .tc main_arg5)) (V₀ (Proc.devRef .tc main_arg6)) := by
  unfold WD
  generalize hW : WC V₀ = W
  simp only [hostOps0_5, hostOps0_6, hostOps0_7, List.cons_append, List.nil_append]
  after_reads_simp
  subst hW
  try rw [WC_v20]
  try rw [WC_v23]
  try rw [WC_v28]
  try rw [WC_arg0]
  try rw [WC_arg1]
  try rw [WC_arg2]
  try rw [WC_arg4]
  try rw [WC_arg5]
  try rw [WC_arg6]
  rfl
theorem WD_v14 : WD V₀ (Proc.devRef .tc main_v14) = Cert.ReferenceIdeal.Read.val_main_v14 (F := F) (V₀ (Proc.devRef .tc main_arg2)) := by
  unfold WD
  generalize hW : WC V₀ = W
  simp only [hostOps0_5, hostOps0_6, hostOps0_7, List.cons_append, List.nil_append]
  after_reads_simp
  subst hW
  rw [WC_v14]
theorem WD_v18 : WD V₀ (Proc.devRef .tc main_v18) = Cert.ReferenceIdeal.Read.val_main_v18 (F := F) (V₀ (Proc.devRef .tc main_arg4)) (V₀ (Proc.devRef .tc main_arg5)) (V₀ (Proc.devRef .tc main_arg6)) := by
  unfold WD
  generalize hW : WC V₀ = W
  simp only [hostOps0_5, hostOps0_6, hostOps0_7, List.cons_append, List.nil_append]
  after_reads_simp
  subst hW
  rw [WC_v18]
theorem WD_v20 : WD V₀ (Proc.devRef .tc main_v20) = Cert.ReferenceIdeal.Read.val_main_v20 (F := F) (V₀ (Proc.devRef .tc main_arg0)) (V₀ (Proc.devRef .tc main_arg4)) (V₀ (Proc.devRef .tc main_arg5)) (V₀ (Proc.devRef .tc main_arg6)) := by
  unfold WD
  generalize hW : WC V₀ = W
  simp only [hostOps0_5, hostOps0_6, hostOps0_7, List.cons_append, List.nil_append]
  after_reads_simp
  subst hW
  rw [WC_v20]
theorem WD_v27 : WD V₀ (Proc.devRef .tc main_v27) = Cert.ReferenceIdeal.Read.val_main_v27 (F := F) (V₀ (Proc.devRef .tc main_arg1)) (V₀ (Proc.devRef .tc main_arg4)) (V₀ (Proc.devRef .tc main_arg5)) (V₀ (Proc.devRef .tc main_arg6)) := by
  unfold WD
  generalize hW : WC V₀ = W
  simp only [hostOps0_5, hostOps0_6, hostOps0_7, List.cons_append, List.nil_append]
  after_reads_simp
  subst hW
  rw [WC_v27]
theorem WE_arg0 : WE V₀ (Proc.devRef .tc main_arg0) = V₀ (Proc.devRef .tc main_arg0) := by
  unfold WE
  generalize hW : WD V₀ = W
  simp only [hostOps0_8, hostOps0_9, List.cons_append, List.nil_append]
  after_reads_simp
  subst hW
  rw [WD_arg0]
theorem WE_arg1 : WE V₀ (Proc.devRef .tc main_arg1) = V₀ (Proc.devRef .tc main_arg1) := by
  unfold WE
  generalize hW : WD V₀ = W
  simp only [hostOps0_8, hostOps0_9, List.cons_append, List.nil_append]
  after_reads_simp
  subst hW
  rw [WD_arg1]
theorem WE_arg2 : WE V₀ (Proc.devRef .tc main_arg2) = V₀ (Proc.devRef .tc main_arg2) := by
  unfold WE
  generalize hW : WD V₀ = W
  simp only [hostOps0_8, hostOps0_9, List.cons_append, List.nil_append]
  after_reads_simp
  subst hW
  rw [WD_arg2]
theorem WE_arg3 : WE V₀ (Proc.devRef .tc main_arg3) = V₀ (Proc.devRef .tc main_arg3) := by
  unfold WE
  generalize hW : WD V₀ = W
  simp only [hostOps0_8, hostOps0_9, List.cons_append, List.nil_append]
  after_reads_simp
  subst hW
  rw [WD_arg3]
theorem WE_arg4 : WE V₀ (Proc.devRef .tc main_arg4) = V₀ (Proc.devRef .tc main_arg4) := by
  unfold WE
  generalize hW : WD V₀ = W
  simp only [hostOps0_8, hostOps0_9, List.cons_append, List.nil_append]
  after_reads_simp
  subst hW
  rw [WD_arg4]
theorem WE_arg5 : WE V₀ (Proc.devRef .tc main_arg5) = V₀ (Proc.devRef .tc main_arg5) := by
  unfold WE
  generalize hW : WD V₀ = W
  simp only [hostOps0_8, hostOps0_9, List.cons_append, List.nil_append]
  after_reads_simp
  subst hW
  rw [WD_arg5]
theorem WE_arg6 : WE V₀ (Proc.devRef .tc main_arg6) = V₀ (Proc.devRef .tc main_arg6) := by
  unfold WE
  generalize hW : WD V₀ = W
  simp only [hostOps0_8, hostOps0_9, List.cons_append, List.nil_append]
  after_reads_simp
  subst hW
  rw [WD_arg6]
theorem WE_arg7 : WE V₀ (Proc.devRef .tc main_arg7) = V₀ (Proc.devRef .tc main_arg7) := by
  unfold WE
  generalize hW : WD V₀ = W
  simp only [hostOps0_8, hostOps0_9, List.cons_append, List.nil_append]
  after_reads_simp
  subst hW
  rw [WD_arg7]
theorem WE_arg8 : WE V₀ (Proc.devRef .tc main_arg8) = V₀ (Proc.devRef .tc main_arg8) := by
  unfold WE
  generalize hW : WD V₀ = W
  simp only [hostOps0_8, hostOps0_9, List.cons_append, List.nil_append]
  after_reads_simp
  subst hW
  rw [WD_arg8]
theorem WE_arg9 : WE V₀ (Proc.devRef .tc main_arg9) = V₀ (Proc.devRef .tc main_arg9) := by
  unfold WE
  generalize hW : WD V₀ = W
  simp only [hostOps0_8, hostOps0_9, List.cons_append, List.nil_append]
  after_reads_simp
  subst hW
  rw [WD_arg9]
theorem WE_v32 : WE V₀ (Proc.devRef .tc main_v32) = Cert.ReferenceIdeal.Read.val_main_v32 (F := F) (V₀ (Proc.devRef .tc main_arg0)) (V₀ (Proc.devRef .tc main_arg1)) (V₀ (Proc.devRef .tc main_arg2)) (V₀ (Proc.devRef .tc main_arg4)) (V₀ (Proc.devRef .tc main_arg5)) (V₀ (Proc.devRef .tc main_arg6)) := by
  unfold WE
  generalize hW : WD V₀ = W
  simp only [hostOps0_8, hostOps0_9, List.cons_append, List.nil_append]
  after_reads_simp
  subst hW
  try rw [WD_v31]
  try rw [WD_v14]
  try rw [WD_arg0]
  try rw [WD_arg1]
  try rw [WD_arg2]
  try rw [WD_arg4]
  try rw [WD_arg5]
  try rw [WD_arg6]
  rfl
theorem WE_v33 : WE V₀ (Proc.devRef .tc main_v33) = Cert.ReferenceIdeal.Read.val_main_v33 (F := F) (V₀ (Proc.devRef .tc main_arg1)) (V₀ (Proc.devRef .tc main_arg2)) (V₀ (Proc.devRef .tc main_arg4)) (V₀ (Proc.devRef .tc main_arg5)) (V₀ (Proc.devRef .tc main_arg6)) := by
  unfold WE
  generalize hW : WD V₀ = W
  simp only [hostOps0_8, hostOps0_9, List.cons_append, List.nil_append]
  after_reads_simp
  subst hW
  try rw [WD_v27]
  try rw [WD_v14]
  try rw [WD_arg0]
  try rw [WD_arg1]
  try rw [WD_arg2]
  try rw [WD_arg4]
  try rw [WD_arg5]
  try rw [WD_arg6]
  rfl
theorem WE_v35 : WE V₀ (Proc.devRef .tc main_v35) = Cert.ReferenceIdeal.Read.val_main_v35 (F := F) (V₀ (Proc.devRef .tc main_arg4)) (V₀ (Proc.devRef .tc main_arg5)) (V₀ (Proc.devRef .tc main_arg6)) := by
  unfold WE
  generalize hW : WD V₀ = W
  simp only [hostOps0_8, hostOps0_9, List.cons_append, List.nil_append]
  after_reads_simp
  subst hW
  try rw [WD_v18]
  try rw [WD_arg0]
  try rw [WD_arg1]
  try rw [WD_arg2]
  try rw [WD_arg4]
  try rw [WD_arg5]
  try rw [WD_arg6]
  rfl
theorem WE_v18 : WE V₀ (Proc.devRef .tc main_v18) = Cert.ReferenceIdeal.Read.val_main_v18 (F := F) (V₀ (Proc.devRef .tc main_arg4)) (V₀ (Proc.devRef .tc main_arg5)) (V₀ (Proc.devRef .tc main_arg6)) := by
  unfold WE
  generalize hW : WD V₀ = W
  simp only [hostOps0_8, hostOps0_9, List.cons_append, List.nil_append]
  after_reads_simp
  subst hW
  rw [WD_v18]
theorem WE_v20 : WE V₀ (Proc.devRef .tc main_v20) = Cert.ReferenceIdeal.Read.val_main_v20 (F := F) (V₀ (Proc.devRef .tc main_arg0)) (V₀ (Proc.devRef .tc main_arg4)) (V₀ (Proc.devRef .tc main_arg5)) (V₀ (Proc.devRef .tc main_arg6)) := by
  unfold WE
  generalize hW : WD V₀ = W
  simp only [hostOps0_8, hostOps0_9, List.cons_append, List.nil_append]
  after_reads_simp
  subst hW
  rw [WD_v20]
theorem WF_arg0 : WF V₀ (Proc.devRef .tc main_arg0) = V₀ (Proc.devRef .tc main_arg0) := by
  unfold WF
  generalize hW : WE V₀ = W
  simp only [hostOps0_10, hostOps0_11, List.cons_append, List.nil_append]
  after_reads_simp
  subst hW
  rw [WE_arg0]
theorem WF_arg1 : WF V₀ (Proc.devRef .tc main_arg1) = V₀ (Proc.devRef .tc main_arg1) := by
  unfold WF
  generalize hW : WE V₀ = W
  simp only [hostOps0_10, hostOps0_11, List.cons_append, List.nil_append]
  after_reads_simp
  subst hW
  rw [WE_arg1]
theorem WF_arg2 : WF V₀ (Proc.devRef .tc main_arg2) = V₀ (Proc.devRef .tc main_arg2) := by
  unfold WF
  generalize hW : WE V₀ = W
  simp only [hostOps0_10, hostOps0_11, List.cons_append, List.nil_append]
  after_reads_simp
  subst hW
  rw [WE_arg2]
theorem WF_arg3 : WF V₀ (Proc.devRef .tc main_arg3) = V₀ (Proc.devRef .tc main_arg3) := by
  unfold WF
  generalize hW : WE V₀ = W
  simp only [hostOps0_10, hostOps0_11, List.cons_append, List.nil_append]
  after_reads_simp
  subst hW
  rw [WE_arg3]
theorem WF_arg4 : WF V₀ (Proc.devRef .tc main_arg4) = V₀ (Proc.devRef .tc main_arg4) := by
  unfold WF
  generalize hW : WE V₀ = W
  simp only [hostOps0_10, hostOps0_11, List.cons_append, List.nil_append]
  after_reads_simp
  subst hW
  rw [WE_arg4]
theorem WF_arg5 : WF V₀ (Proc.devRef .tc main_arg5) = V₀ (Proc.devRef .tc main_arg5) := by
  unfold WF
  generalize hW : WE V₀ = W
  simp only [hostOps0_10, hostOps0_11, List.cons_append, List.nil_append]
  after_reads_simp
  subst hW
  rw [WE_arg5]
theorem WF_arg6 : WF V₀ (Proc.devRef .tc main_arg6) = V₀ (Proc.devRef .tc main_arg6) := by
  unfold WF
  generalize hW : WE V₀ = W
  simp only [hostOps0_10, hostOps0_11, List.cons_append, List.nil_append]
  after_reads_simp
  subst hW
  rw [WE_arg6]
theorem WF_arg7 : WF V₀ (Proc.devRef .tc main_arg7) = V₀ (Proc.devRef .tc main_arg7) := by
  unfold WF
  generalize hW : WE V₀ = W
  simp only [hostOps0_10, hostOps0_11, List.cons_append, List.nil_append]
  after_reads_simp
  subst hW
  rw [WE_arg7]
theorem WF_arg8 : WF V₀ (Proc.devRef .tc main_arg8) = V₀ (Proc.devRef .tc main_arg8) := by
  unfold WF
  generalize hW : WE V₀ = W
  simp only [hostOps0_10, hostOps0_11, List.cons_append, List.nil_append]
  after_reads_simp
  subst hW
  rw [WE_arg8]
theorem WF_arg9 : WF V₀ (Proc.devRef .tc main_arg9) = V₀ (Proc.devRef .tc main_arg9) := by
  unfold WF
  generalize hW : WE V₀ = W
  simp only [hostOps0_10, hostOps0_11, List.cons_append, List.nil_append]
  after_reads_simp
  subst hW
  rw [WE_arg9]
theorem WF_v37 : WF V₀ (Proc.devRef .tc main_v37) = Cert.ReferenceIdeal.Read.val_main_v37 (F := F) (V₀ (Proc.devRef .tc main_arg4)) (V₀ (Proc.devRef .tc main_arg5)) (V₀ (Proc.devRef .tc main_arg6)) := by
  unfold WF
  generalize hW : WE V₀ = W
  simp only [hostOps0_10, hostOps0_11, List.cons_append, List.nil_append]
  after_reads_simp
  subst hW
  try rw [WE_v35]
  try rw [WE_v18]
  try rw [WE_arg0]
  try rw [WE_arg1]
  try rw [WE_arg2]
  try rw [WE_arg4]
  try rw [WE_arg5]
  try rw [WE_arg6]
  rfl
theorem WF_v39 : WF V₀ (Proc.devRef .tc main_v39) = Cert.ReferenceIdeal.Read.val_main_v39 (F := F) := by
  unfold WF
  generalize hW : WE V₀ = W
  simp only [hostOps0_10, hostOps0_11, List.cons_append, List.nil_append]
  after_reads_simp
  subst hW
  try rw [WE_arg0]
  try rw [WE_arg1]
  try rw [WE_arg2]
  try rw [WE_arg4]
  try rw [WE_arg5]
  try rw [WE_arg6]
  try simp only [StableHlo.TRef.ofBuf_toBuf]
  try simp only [StableHlo.TRef.toBuf, StableHlo.TRef.ofBuf, cast_eq]
  unfold Cert.ReferenceIdeal.Read.val_main_v39 Cert.ReferenceIdeal.Read.val_main_v38 Cert.ReferenceIdeal.Read.val_main_c_2 Cert.ReferenceIdeal.Read.val_main_call5_v5 Cert.ReferenceIdeal.Read.val_main_call5_c_0 Cert.ReferenceIdeal.Read.val_main_call5_v4 Cert.ReferenceIdeal.Read.val_main_call5_v3 Cert.ReferenceIdeal.Read.val_main_call5_v2 Cert.ReferenceIdeal.Read.val_main_call5_v0 Cert.ReferenceIdeal.Read.val_main_call5_v1 Cert.ReferenceIdeal.Read.val_main_call5_c
  rfl
theorem WF_v20 : WF V₀ (Proc.devRef .tc main_v20) = Cert.ReferenceIdeal.Read.val_main_v20 (F := F) (V₀ (Proc.devRef .tc main_arg0)) (V₀ (Proc.devRef .tc main_arg4)) (V₀ (Proc.devRef .tc main_arg5)) (V₀ (Proc.devRef .tc main_arg6)) := by
  unfold WF
  generalize hW : WE V₀ = W
  simp only [hostOps0_10, hostOps0_11, List.cons_append, List.nil_append]
  after_reads_simp
  subst hW
  rw [WE_v20]
theorem WF_v32 : WF V₀ (Proc.devRef .tc main_v32) = Cert.ReferenceIdeal.Read.val_main_v32 (F := F) (V₀ (Proc.devRef .tc main_arg0)) (V₀ (Proc.devRef .tc main_arg1)) (V₀ (Proc.devRef .tc main_arg2)) (V₀ (Proc.devRef .tc main_arg4)) (V₀ (Proc.devRef .tc main_arg5)) (V₀ (Proc.devRef .tc main_arg6)) := by
  unfold WF
  generalize hW : WE V₀ = W
  simp only [hostOps0_10, hostOps0_11, List.cons_append, List.nil_append]
  after_reads_simp
  subst hW
  rw [WE_v32]
theorem WF_v33 : WF V₀ (Proc.devRef .tc main_v33) = Cert.ReferenceIdeal.Read.val_main_v33 (F := F) (V₀ (Proc.devRef .tc main_arg1)) (V₀ (Proc.devRef .tc main_arg2)) (V₀ (Proc.devRef .tc main_arg4)) (V₀ (Proc.devRef .tc main_arg5)) (V₀ (Proc.devRef .tc main_arg6)) := by
  unfold WF
  generalize hW : WE V₀ = W
  simp only [hostOps0_10, hostOps0_11, List.cons_append, List.nil_append]
  after_reads_simp
  subst hW
  rw [WE_v33]
theorem WF_v35 : WF V₀ (Proc.devRef .tc main_v35) = Cert.ReferenceIdeal.Read.val_main_v35 (F := F) (V₀ (Proc.devRef .tc main_arg4)) (V₀ (Proc.devRef .tc main_arg5)) (V₀ (Proc.devRef .tc main_arg6)) := by
  unfold WF
  generalize hW : WE V₀ = W
  simp only [hostOps0_10, hostOps0_11, List.cons_append, List.nil_append]
  after_reads_simp
  subst hW
  rw [WE_v35]
theorem WG_arg0 : WG V₀ (Proc.devRef .tc main_arg0) = V₀ (Proc.devRef .tc main_arg0) := by
  unfold WG
  generalize hW : WF V₀ = W
  simp only [hostOps0_12, hostOps0_13, List.cons_append, List.nil_append]
  after_reads_simp
  subst hW
  rw [WF_arg0]
theorem WG_arg1 : WG V₀ (Proc.devRef .tc main_arg1) = V₀ (Proc.devRef .tc main_arg1) := by
  unfold WG
  generalize hW : WF V₀ = W
  simp only [hostOps0_12, hostOps0_13, List.cons_append, List.nil_append]
  after_reads_simp
  subst hW
  rw [WF_arg1]
theorem WG_arg2 : WG V₀ (Proc.devRef .tc main_arg2) = V₀ (Proc.devRef .tc main_arg2) := by
  unfold WG
  generalize hW : WF V₀ = W
  simp only [hostOps0_12, hostOps0_13, List.cons_append, List.nil_append]
  after_reads_simp
  subst hW
  rw [WF_arg2]
theorem WG_arg3 : WG V₀ (Proc.devRef .tc main_arg3) = V₀ (Proc.devRef .tc main_arg3) := by
  unfold WG
  generalize hW : WF V₀ = W
  simp only [hostOps0_12, hostOps0_13, List.cons_append, List.nil_append]
  after_reads_simp
  subst hW
  rw [WF_arg3]
theorem WG_arg4 : WG V₀ (Proc.devRef .tc main_arg4) = V₀ (Proc.devRef .tc main_arg4) := by
  unfold WG
  generalize hW : WF V₀ = W
  simp only [hostOps0_12, hostOps0_13, List.cons_append, List.nil_append]
  after_reads_simp
  subst hW
  rw [WF_arg4]
theorem WG_arg5 : WG V₀ (Proc.devRef .tc main_arg5) = V₀ (Proc.devRef .tc main_arg5) := by
  unfold WG
  generalize hW : WF V₀ = W
  simp only [hostOps0_12, hostOps0_13, List.cons_append, List.nil_append]
  after_reads_simp
  subst hW
  rw [WF_arg5]
theorem WG_arg6 : WG V₀ (Proc.devRef .tc main_arg6) = V₀ (Proc.devRef .tc main_arg6) := by
  unfold WG
  generalize hW : WF V₀ = W
  simp only [hostOps0_12, hostOps0_13, List.cons_append, List.nil_append]
  after_reads_simp
  subst hW
  rw [WF_arg6]
theorem WG_arg7 : WG V₀ (Proc.devRef .tc main_arg7) = V₀ (Proc.devRef .tc main_arg7) := by
  unfold WG
  generalize hW : WF V₀ = W
  simp only [hostOps0_12, hostOps0_13, List.cons_append, List.nil_append]
  after_reads_simp
  subst hW
  rw [WF_arg7]
theorem WG_arg8 : WG V₀ (Proc.devRef .tc main_arg8) = V₀ (Proc.devRef .tc main_arg8) := by
  unfold WG
  generalize hW : WF V₀ = W
  simp only [hostOps0_12, hostOps0_13, List.cons_append, List.nil_append]
  after_reads_simp
  subst hW
  rw [WF_arg8]
theorem WG_arg9 : WG V₀ (Proc.devRef .tc main_arg9) = V₀ (Proc.devRef .tc main_arg9) := by
  unfold WG
  generalize hW : WF V₀ = W
  simp only [hostOps0_12, hostOps0_13, List.cons_append, List.nil_append]
  after_reads_simp
  subst hW
  rw [WF_arg9]
theorem WG_v40 : WG V₀ (Proc.devRef .tc main_v40) = Cert.ReferenceIdeal.Read.val_main_v40 (F := F) := by
  unfold WG
  generalize hW : WF V₀ = W
  simp only [hostOps0_12, hostOps0_13, List.cons_append, List.nil_append]
  after_reads_simp
  subst hW
  try rw [WF_v39]
  try rw [WF_arg0]
  try rw [WF_arg1]
  try rw [WF_arg2]
  try rw [WF_arg4]
  try rw [WF_arg5]
  try rw [WF_arg6]
  try simp only [StableHlo.TRef.ofBuf_toBuf]
  try simp only [StableHlo.TRef.toBuf, StableHlo.TRef.ofBuf, cast_eq]
  unfold Cert.ReferenceIdeal.Read.val_main_v40
  rfl
theorem WG_v46 : WG V₀ (Proc.devRef .tc main_v46) = Cert.ReferenceIdeal.Read.val_main_v46_0 (F := F) (V₀ (Proc.devRef .tc main_arg4)) (V₀ (Proc.devRef .tc main_arg5)) (V₀ (Proc.devRef .tc main_arg6)) := by
  unfold WG
  generalize hW : WF V₀ = W
  simp only [hostOps0_12, hostOps0_13, List.cons_append, List.nil_append]
  after_reads_simp
  subst hW
  try rw [WF_v39]
  try rw [WF_v37]
  try rw [WF_v35]
  try rw [WF_arg0]
  try rw [WF_arg1]
  try rw [WF_arg2]
  try rw [WF_arg4]
  try rw [WF_arg5]
  try rw [WF_arg6]
  try simp only [StableHlo.TRef.ofBuf_toBuf]
  try simp only [StableHlo.TRef.toBuf, StableHlo.TRef.ofBuf, cast_eq]
  unfold Cert.ReferenceIdeal.Read.val_main_v46_0 Cert.ReferenceIdeal.Read.val_main_v46_1 Cert.ReferenceIdeal.Read.val_main_v45 Cert.ReferenceIdeal.Read.val_main_call6_v2 Cert.ReferenceIdeal.Read.val_main_call6_v0 Cert.ReferenceIdeal.Read.val_main_cst_3 Cert.ReferenceIdeal.Read.val_main_v44 Cert.ReferenceIdeal.Read.val_main_v43 Cert.ReferenceIdeal.Read.val_main_v42 Cert.ReferenceIdeal.Read.val_main_v41 Cert.ReferenceIdeal.Read.val_main_v40
  rfl
theorem WG_v20 : WG V₀ (Proc.devRef .tc main_v20) = Cert.ReferenceIdeal.Read.val_main_v20 (F := F) (V₀ (Proc.devRef .tc main_arg0)) (V₀ (Proc.devRef .tc main_arg4)) (V₀ (Proc.devRef .tc main_arg5)) (V₀ (Proc.devRef .tc main_arg6)) := by
  unfold WG
  generalize hW : WF V₀ = W
  simp only [hostOps0_12, hostOps0_13, List.cons_append, List.nil_append]
  after_reads_simp
  subst hW
  rw [WF_v20]
theorem WG_v32 : WG V₀ (Proc.devRef .tc main_v32) = Cert.ReferenceIdeal.Read.val_main_v32 (F := F) (V₀ (Proc.devRef .tc main_arg0)) (V₀ (Proc.devRef .tc main_arg1)) (V₀ (Proc.devRef .tc main_arg2)) (V₀ (Proc.devRef .tc main_arg4)) (V₀ (Proc.devRef .tc main_arg5)) (V₀ (Proc.devRef .tc main_arg6)) := by
  unfold WG
  generalize hW : WF V₀ = W
  simp only [hostOps0_12, hostOps0_13, List.cons_append, List.nil_append]
  after_reads_simp
  subst hW
  rw [WF_v32]
theorem WG_v33 : WG V₀ (Proc.devRef .tc main_v33) = Cert.ReferenceIdeal.Read.val_main_v33 (F := F) (V₀ (Proc.devRef .tc main_arg1)) (V₀ (Proc.devRef .tc main_arg2)) (V₀ (Proc.devRef .tc main_arg4)) (V₀ (Proc.devRef .tc main_arg5)) (V₀ (Proc.devRef .tc main_arg6)) := by
  unfold WG
  generalize hW : WF V₀ = W
  simp only [hostOps0_12, hostOps0_13, List.cons_append, List.nil_append]
  after_reads_simp
  subst hW
  rw [WF_v33]
theorem WH_arg0 : WH V₀ (Proc.devRef .tc main_arg0) = V₀ (Proc.devRef .tc main_arg0) := by
  unfold WH
  generalize hW : WG V₀ = W
  simp only [hostOps0_14, hostOps0_15, List.cons_append, List.nil_append]
  after_reads_simp
  subst hW
  rw [WG_arg0]
theorem WH_arg1 : WH V₀ (Proc.devRef .tc main_arg1) = V₀ (Proc.devRef .tc main_arg1) := by
  unfold WH
  generalize hW : WG V₀ = W
  simp only [hostOps0_14, hostOps0_15, List.cons_append, List.nil_append]
  after_reads_simp
  subst hW
  rw [WG_arg1]
theorem WH_arg2 : WH V₀ (Proc.devRef .tc main_arg2) = V₀ (Proc.devRef .tc main_arg2) := by
  unfold WH
  generalize hW : WG V₀ = W
  simp only [hostOps0_14, hostOps0_15, List.cons_append, List.nil_append]
  after_reads_simp
  subst hW
  rw [WG_arg2]
theorem WH_arg3 : WH V₀ (Proc.devRef .tc main_arg3) = V₀ (Proc.devRef .tc main_arg3) := by
  unfold WH
  generalize hW : WG V₀ = W
  simp only [hostOps0_14, hostOps0_15, List.cons_append, List.nil_append]
  after_reads_simp
  subst hW
  rw [WG_arg3]
theorem WH_arg4 : WH V₀ (Proc.devRef .tc main_arg4) = V₀ (Proc.devRef .tc main_arg4) := by
  unfold WH
  generalize hW : WG V₀ = W
  simp only [hostOps0_14, hostOps0_15, List.cons_append, List.nil_append]
  after_reads_simp
  subst hW
  rw [WG_arg4]
theorem WH_arg5 : WH V₀ (Proc.devRef .tc main_arg5) = V₀ (Proc.devRef .tc main_arg5) := by
  unfold WH
  generalize hW : WG V₀ = W
  simp only [hostOps0_14, hostOps0_15, List.cons_append, List.nil_append]
  after_reads_simp
  subst hW
  rw [WG_arg5]
theorem WH_arg6 : WH V₀ (Proc.devRef .tc main_arg6) = V₀ (Proc.devRef .tc main_arg6) := by
  unfold WH
  generalize hW : WG V₀ = W
  simp only [hostOps0_14, hostOps0_15, List.cons_append, List.nil_append]
  after_reads_simp
  subst hW
  rw [WG_arg6]
theorem WH_arg7 : WH V₀ (Proc.devRef .tc main_arg7) = V₀ (Proc.devRef .tc main_arg7) := by
  unfold WH
  generalize hW : WG V₀ = W
  simp only [hostOps0_14, hostOps0_15, List.cons_append, List.nil_append]
  after_reads_simp
  subst hW
  rw [WG_arg7]
theorem WH_arg8 : WH V₀ (Proc.devRef .tc main_arg8) = V₀ (Proc.devRef .tc main_arg8) := by
  unfold WH
  generalize hW : WG V₀ = W
  simp only [hostOps0_14, hostOps0_15, List.cons_append, List.nil_append]
  after_reads_simp
  subst hW
  rw [WG_arg8]
theorem WH_arg9 : WH V₀ (Proc.devRef .tc main_arg9) = V₀ (Proc.devRef .tc main_arg9) := by
  unfold WH
  generalize hW : WG V₀ = W
  simp only [hostOps0_14, hostOps0_15, List.cons_append, List.nil_append]
  after_reads_simp
  subst hW
  rw [WG_arg9]
theorem WH_v48 : WH V₀ (Proc.devRef .tc main_v48) = Cert.ReferenceIdeal.Read.val_main_v48_0 (F := F) (V₀ (Proc.devRef .tc main_arg4)) (V₀ (Proc.devRef .tc main_arg5)) (V₀ (Proc.devRef .tc main_arg6)) := by
  unfold WH
  generalize hW : WG V₀ = W
  simp only [hostOps0_14, hostOps0_15, List.cons_append, List.nil_append]
  after_reads_simp
  subst hW
  try rw [WG_v40]
  try rw [WG_v46]
  try rw [WG_arg0]
  try rw [WG_arg1]
  try rw [WG_arg2]
  try rw [WG_arg4]
  try rw [WG_arg5]
  try rw [WG_arg6]
  try simp only [StableHlo.TRef.ofBuf_toBuf]
  try simp only [StableHlo.TRef.toBuf, StableHlo.TRef.ofBuf, cast_eq]
  unfold Cert.ReferenceIdeal.Read.val_main_v48_0 Cert.ReferenceIdeal.Read.val_main_v48_1 Cert.ReferenceIdeal.Read.val_main_call7_v2 Cert.ReferenceIdeal.Read.val_main_call7_v0 Cert.ReferenceIdeal.Read.val_main_cst_4 Cert.ReferenceIdeal.Read.val_main_v47
  rfl
theorem WH_v20 : WH V₀ (Proc.devRef .tc main_v20) = Cert.ReferenceIdeal.Read.val_main_v20 (F := F) (V₀ (Proc.devRef .tc main_arg0)) (V₀ (Proc.devRef .tc main_arg4)) (V₀ (Proc.devRef .tc main_arg5)) (V₀ (Proc.devRef .tc main_arg6)) := by
  unfold WH
  generalize hW : WG V₀ = W
  simp only [hostOps0_14, hostOps0_15, List.cons_append, List.nil_append]
  after_reads_simp
  subst hW
  rw [WG_v20]
theorem WH_v32 : WH V₀ (Proc.devRef .tc main_v32) = Cert.ReferenceIdeal.Read.val_main_v32 (F := F) (V₀ (Proc.devRef .tc main_arg0)) (V₀ (Proc.devRef .tc main_arg1)) (V₀ (Proc.devRef .tc main_arg2)) (V₀ (Proc.devRef .tc main_arg4)) (V₀ (Proc.devRef .tc main_arg5)) (V₀ (Proc.devRef .tc main_arg6)) := by
  unfold WH
  generalize hW : WG V₀ = W
  simp only [hostOps0_14, hostOps0_15, List.cons_append, List.nil_append]
  after_reads_simp
  subst hW
  rw [WG_v32]
theorem WH_v33 : WH V₀ (Proc.devRef .tc main_v33) = Cert.ReferenceIdeal.Read.val_main_v33 (F := F) (V₀ (Proc.devRef .tc main_arg1)) (V₀ (Proc.devRef .tc main_arg2)) (V₀ (Proc.devRef .tc main_arg4)) (V₀ (Proc.devRef .tc main_arg5)) (V₀ (Proc.devRef .tc main_arg6)) := by
  unfold WH
  generalize hW : WG V₀ = W
  simp only [hostOps0_14, hostOps0_15, List.cons_append, List.nil_append]
  after_reads_simp
  subst hW
  rw [WG_v33]
theorem WI_arg0 : WI V₀ (Proc.devRef .tc main_arg0) = V₀ (Proc.devRef .tc main_arg0) := by
  unfold WI
  generalize hW : WH V₀ = W
  simp only [hostOps0_16, hostOps0_17, hostOps0_18, List.cons_append, List.nil_append]
  after_reads_simp
  subst hW
  rw [WH_arg0]
theorem WI_arg1 : WI V₀ (Proc.devRef .tc main_arg1) = V₀ (Proc.devRef .tc main_arg1) := by
  unfold WI
  generalize hW : WH V₀ = W
  simp only [hostOps0_16, hostOps0_17, hostOps0_18, List.cons_append, List.nil_append]
  after_reads_simp
  subst hW
  rw [WH_arg1]
theorem WI_arg2 : WI V₀ (Proc.devRef .tc main_arg2) = V₀ (Proc.devRef .tc main_arg2) := by
  unfold WI
  generalize hW : WH V₀ = W
  simp only [hostOps0_16, hostOps0_17, hostOps0_18, List.cons_append, List.nil_append]
  after_reads_simp
  subst hW
  rw [WH_arg2]
theorem WI_arg3 : WI V₀ (Proc.devRef .tc main_arg3) = V₀ (Proc.devRef .tc main_arg3) := by
  unfold WI
  generalize hW : WH V₀ = W
  simp only [hostOps0_16, hostOps0_17, hostOps0_18, List.cons_append, List.nil_append]
  after_reads_simp
  subst hW
  rw [WH_arg3]
theorem WI_arg4 : WI V₀ (Proc.devRef .tc main_arg4) = V₀ (Proc.devRef .tc main_arg4) := by
  unfold WI
  generalize hW : WH V₀ = W
  simp only [hostOps0_16, hostOps0_17, hostOps0_18, List.cons_append, List.nil_append]
  after_reads_simp
  subst hW
  rw [WH_arg4]
theorem WI_arg5 : WI V₀ (Proc.devRef .tc main_arg5) = V₀ (Proc.devRef .tc main_arg5) := by
  unfold WI
  generalize hW : WH V₀ = W
  simp only [hostOps0_16, hostOps0_17, hostOps0_18, List.cons_append, List.nil_append]
  after_reads_simp
  subst hW
  rw [WH_arg5]
theorem WI_arg6 : WI V₀ (Proc.devRef .tc main_arg6) = V₀ (Proc.devRef .tc main_arg6) := by
  unfold WI
  generalize hW : WH V₀ = W
  simp only [hostOps0_16, hostOps0_17, hostOps0_18, List.cons_append, List.nil_append]
  after_reads_simp
  subst hW
  rw [WH_arg6]
theorem WI_arg7 : WI V₀ (Proc.devRef .tc main_arg7) = V₀ (Proc.devRef .tc main_arg7) := by
  unfold WI
  generalize hW : WH V₀ = W
  simp only [hostOps0_16, hostOps0_17, hostOps0_18, List.cons_append, List.nil_append]
  after_reads_simp
  subst hW
  rw [WH_arg7]
theorem WI_arg8 : WI V₀ (Proc.devRef .tc main_arg8) = V₀ (Proc.devRef .tc main_arg8) := by
  unfold WI
  generalize hW : WH V₀ = W
  simp only [hostOps0_16, hostOps0_17, hostOps0_18, List.cons_append, List.nil_append]
  after_reads_simp
  subst hW
  rw [WH_arg8]
theorem WI_arg9 : WI V₀ (Proc.devRef .tc main_arg9) = V₀ (Proc.devRef .tc main_arg9) := by
  unfold WI
  generalize hW : WH V₀ = W
  simp only [hostOps0_16, hostOps0_17, hostOps0_18, List.cons_append, List.nil_append]
  after_reads_simp
  subst hW
  rw [WH_arg9]

theorem WI_v54 : WI V₀ (Proc.devRef .tc main_v54) = shapeCast S4096x1024 (Cert.ReferenceIdeal.Read.val_main_v53 (F := F) (V₀ (Proc.devRef .tc main_arg0)) (V₀ (Proc.devRef .tc main_arg1)) (V₀ (Proc.devRef .tc main_arg2)) (V₀ (Proc.devRef .tc main_arg4)) (V₀ (Proc.devRef .tc main_arg5)) (V₀ (Proc.devRef .tc main_arg6))) shapeCasts_S64x64x4x256_S4096x1024 := by
  unfold WI
  generalize hW : WH V₀ = W
  simp only [hostOps0_16, hostOps0_17, hostOps0_18, List.cons_append, List.nil_append]
  after_reads_simp
  subst hW
  rw [WH_v32, WH_v20, WH_v33, WH_v48]
  rfl

theorem WI_v55 : WI V₀ (Proc.devRef .tc main_v55) = transpose S64x4x256x128 [1, 0, 3, 2] (Cert.ReferenceIdeal.Read.val_main_v50 (F := F) (V₀ (Proc.devRef .tc main_arg1)) (V₀ (Proc.devRef .tc main_arg2)) (V₀ (Proc.devRef .tc main_arg4)) (V₀ (Proc.devRef .tc main_arg5)) (V₀ (Proc.devRef .tc main_arg6))) transposes_S4x64x128x256_S64x4x256x128_1_0_3_2 := by
  unfold WI
  generalize hW : WH V₀ = W
  simp only [hostOps0_16, hostOps0_17, hostOps0_18, List.cons_append, List.nil_append]
  after_reads_simp
  subst hW
  rw [WH_v33, WH_v48]
  rfl

theorem WI_v58 : WI V₀ (Proc.devRef .tc main_v58) = concatenate S4096x6400 1 [⟨S4096x3200, broadcastInDim S4096x3200 ![] bcast_S_S4096x3200 (constant (F := F) S_ .f32 0x00000000#32)⟩,
    ⟨S4096x512, V₀ (Proc.devRef .tc main_arg0)⟩, ⟨S4096x512, V₀ (Proc.devRef .tc main_arg1)⟩, ⟨S4096x1024, V₀ (Proc.devRef .tc main_arg2)⟩, ⟨S4096x1024, V₀ (Proc.devRef .tc main_arg3)⟩,
    ⟨S4096x16, V₀ (Proc.devRef .tc main_arg4)⟩, ⟨S4096x112, broadcastInDim S4096x112 ![] bcast_S_S4096x112 (constant (F := F) S_ .f32 0x00000000#32)⟩]
    concatenates_S4096x3200_S4096x512_S4096x512_S4096x1024_S4096x1024_S4096x16_S4096x112_S4096x6400_d1 := by
  unfold WI
  generalize hW : WH V₀ = W
  simp only [hostOps0_16, hostOps0_17, hostOps0_18, List.cons_append, List.nil_append]
  after_reads_simp
  subst hW
  generalize hU : upto _ (WH V₀) 11 = U
  have hv56 : U (Proc.devRef .tc main_v56) = broadcastInDim S4096x3200 ![] bcast_S_S4096x3200 (constant (F := F) S_ .f32 0x00000000#32) := by subst hU; after_reads_simp
  have hv57 : U (Proc.devRef .tc main_v57) = broadcastInDim S4096x112 ![] bcast_S_S4096x112 (constant (F := F) S_ .f32 0x00000000#32) := by subst hU; after_reads_simp
  have harg0 : U (Proc.devRef .tc main_arg0) = V₀ (Proc.devRef .tc main_arg0) := by subst hU; after_reads_simp; rw [WH_arg0]
  have harg1 : U (Proc.devRef .tc main_arg1) = V₀ (Proc.devRef .tc main_arg1) := by subst hU; after_reads_simp; rw [WH_arg1]
  have harg2 : U (Proc.devRef .tc main_arg2) = V₀ (Proc.devRef .tc main_arg2) := by subst hU; after_reads_simp; rw [WH_arg2]
  have harg3 : U (Proc.devRef .tc main_arg3) = V₀ (Proc.devRef .tc main_arg3) := by subst hU; after_reads_simp; rw [WH_arg3]
  have harg4 : U (Proc.devRef .tc main_arg4) = V₀ (Proc.devRef .tc main_arg4) := by subst hU; after_reads_simp; rw [WH_arg4]
  change concatenate S4096x6400 1 [⟨S4096x3200, U (Proc.devRef .tc main_v56)⟩,
    ⟨S4096x512, U (Proc.devRef .tc main_arg0)⟩, ⟨S4096x512, U (Proc.devRef .tc main_arg1)⟩, ⟨S4096x1024, U (Proc.devRef .tc main_arg2)⟩, ⟨S4096x1024, U (Proc.devRef .tc main_arg3)⟩,
    ⟨S4096x16, U (Proc.devRef .tc main_arg4)⟩, ⟨S4096x112, U (Proc.devRef .tc main_v57)⟩] _ = _
  rw [hv56, hv57, harg0, harg1, harg2, harg3, harg4]

theorem WI_v60 : WI V₀ (Proc.devRef .tc main_v60) = truncf (F := F) .bf16 (pad S128x512 ![0, 0] ![112, 0] ![0, 0] (V₀ (Proc.devRef .tc main_arg5) : (⟨S16x512, .f32⟩ : BufTy).Contents (Elt F))
    (sitofp .f32 (constantI S_ 32 0#32)) pads_S16x512_S128x512_01120_000 h_S_) bitsLt_bf16_f32 := by
  unfold WI
  generalize hW : WH V₀ = W
  simp only [hostOps0_16, hostOps0_17, hostOps0_18, List.cons_append, List.nil_append]
  after_reads_simp
  subst hW
  try simp only [StableHlo.TRef.ofBuf_toBuf]
  try simp only [StableHlo.TRef.toBuf, StableHlo.TRef.ofBuf, cast_eq]
  rw [WH_arg5]

theorem WI_v61 : WI V₀ (Proc.devRef .tc main_v61) = broadcastInDim S1x512 ![1] bcast_S512_S1x512_1 (V₀ (Proc.devRef .tc main_arg6)) := by
  unfold WI
  generalize hW : WH V₀ = W
  simp only [hostOps0_16, hostOps0_17, hostOps0_18, List.cons_append, List.nil_append]
  after_reads_simp
  subst hW
  rw [WH_arg6]

theorem WI_v62 : WI V₀ (Proc.devRef .tc main_v62) = broadcastInDim S1x1024 ![1] bcast_S1024_S1x1024_1 (V₀ (Proc.devRef .tc main_arg7)) := by
  unfold WI
  generalize hW : WH V₀ = W
  simp only [hostOps0_16, hostOps0_17, hostOps0_18, List.cons_append, List.nil_append]
  after_reads_simp
  subst hW
  rw [WH_arg7]

theorem WI_v63 : WI V₀ (Proc.devRef .tc main_v63_0) = V₀ (Proc.devRef .tc main_arg9) := by
  unfold WI
  generalize hW : WH V₀ = W
  simp only [hostOps0_16, hostOps0_17, hostOps0_18, List.cons_append, List.nil_append]
  after_reads_simp
  subst hW
  rw [WH_arg9]
  rfl

theorem V_eq (m : (ℓ : Loc nD τ sig) → Buf (Elt F) ℓ) (c : Dev nD) (b : Ref sig .tc) : V m c b = WI (fun b => m (c, b)) (Proc.devRef .tc b) := by
  unfold V WI WH WG WF WE WD WC WB WA
  simp only [← after_append]
  rfl

end Cert.GlaBwd
-- ==== Proof.Entry.lean ====
/-
  What the kernel finds in the arrays it is given, the arguments being real: its host operations' results.
-/
module

public import proofs.«01_k».proof.Proof.Packed
public import proofs.«01_k».proof.Proof.Host
public import proofs.«01_k».proof.Proof.RefFwd
public import Idealize.ShloMosaic.Lib.KernelVsHost

@[expose] public section

set_option maxRecDepth 16384

noncomputable section

namespace Cert.GlaBwd

open Idealize.ShloMosaic Idealize.ShloMosaic.TcCoe Idealize.ShloMosaic.Tactic
open Cert.KernelIdeal Cert.KernelIdeal.Gen

variable {m : (ℓ : Loc nD τ sig) → Buf (Elt Ideal) ℓ} {c : Dev nD} {A : R.Args}

/-- The arguments of one device are the real numbers `A`. -/
abbrev Given (A : R.Args) (m : (ℓ : Loc nD τ sig) → Buf (Elt Ideal) ℓ) (c : Dev nD) : Prop :=
  Reads A (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (m (c.tc.loc main_arg8))

theorem v58_eq (m : (ℓ : Loc nD τ sig) → Buf (Elt Ideal) ℓ) (c : Dev nD) : V m c main_v58
    = packed (broadcastInDim S4096x3200 ![] Gen.facts.bcast_S_S4096x3200 (constant (F := Ideal) S_ .f32 0x00000000#32))
      (m (c.tc.loc main_arg0)) (m (c.tc.loc main_arg1)) (m (c.tc.loc main_arg2)) (m (c.tc.loc main_arg3)) (m (c.tc.loc main_arg4))
      (broadcastInDim S4096x112 ![] Gen.facts.bcast_S_S4096x112 (constant (F := Ideal) S_ .f32 0x00000000#32))
      Gen.facts.concatenates_S4096x3200_S4096x512_S4096x512_S4096x1024_S4096x1024_S4096x16_S4096x112_S4096x6400_d1 :=
  (V_eq m c main_v58).trans (WI_v58 _)

theorem v60_eq (m : (ℓ : Loc nD τ sig) → Buf (Elt Ideal) ℓ) (c : Dev nD) : V m c main_v60
    = truncf (F := Ideal) .bf16 (pad S128x512 ![0, 0] ![112, 0] ![0, 0] (m (c.tc.loc main_arg5) : (⟨S16x512, .f32⟩ : BufTy).Contents (Elt Ideal))
    (sitofp .f32 (constantI S_ 32 0#32)) Gen.facts.pads_S16x512_S128x512_01120_000 Gen.facts.h_S_) Gen.facts.bitsLt_bf16_f32 :=
  (V_eq m c main_v60).trans (WI_v60 _)
theorem v61_eq (m : (ℓ : Loc nD τ sig) → Buf (Elt Ideal) ℓ) (c : Dev nD) : V m c main_v61
    = broadcastInDim S1x512 ![1] Gen.facts.bcast_S512_S1x512_1 (m (c.tc.loc main_arg6) : (⟨S512, .f32⟩ : BufTy).Contents (Elt Ideal)) :=
  (V_eq m c main_v61).trans (WI_v61 _)
theorem v62_eq (m : (ℓ : Loc nD τ sig) → Buf (Elt Ideal) ℓ) (c : Dev nD) : V m c main_v62
    = broadcastInDim S1x1024 ![1] Gen.facts.bcast_S1024_S1x1024_1 (m (c.tc.loc main_arg7) : (⟨S1024, .f32⟩ : BufTy).Contents (Elt Ideal)) :=
  (V_eq m c main_v62).trans (WI_v62 _)
theorem v54_eq (m : (ℓ : Loc nD τ sig) → Buf (Elt Ideal) ℓ) (c : Dev nD) : V m c main_v54
    = shapeCast S4096x1024 (Cert.ReferenceIdeal.Read.val_main_v53 (F := Ideal) (m (c.tc.loc main_arg0)) (m (c.tc.loc main_arg1)) (m (c.tc.loc main_arg2)) (m (c.tc.loc main_arg4)) (m (c.tc.loc main_arg5)) (m (c.tc.loc main_arg6))) Gen.facts.shapeCasts_S64x64x4x256_S4096x1024 :=
  (V_eq m c main_v54).trans (WI_v54 _)
theorem v55_eq (m : (ℓ : Loc nD τ sig) → Buf (Elt Ideal) ℓ) (c : Dev nD) : V m c main_v55
    = transpose S64x4x256x128 [1, 0, 3, 2] (Cert.ReferenceIdeal.Read.val_main_v50 (F := Ideal) (m (c.tc.loc main_arg1)) (m (c.tc.loc main_arg2)) (m (c.tc.loc main_arg4)) (m (c.tc.loc main_arg5)) (m (c.tc.loc main_arg6))) Gen.facts.transposes_S4x64x128x256_S64x4x256x128_1_0_3_2 :=
  (V_eq m c main_v55).trans (WI_v55 _)
theorem arg8_eq (m : (ℓ : Loc nD τ sig) → Buf (Elt Ideal) ℓ) (c : Dev nD) : V m c main_arg8 = m (c.tc.loc main_arg8) :=
  (V_eq m c main_arg8).trans (WI_arg8 _)

theorem w60 (X : Given A m c) (l : Fin 128) (j : Fin 512) : V m c main_v60 (ix2 l j) = ((A.wg128 l j : ℝ) : EReal) := by
  rw [v60_eq]
  show pad S128x512 ![0, 0] ![112, 0] ![0, 0] (m (c.tc.loc main_arg5) : (⟨S16x512, .f32⟩ : BufTy).Contents (Elt Ideal)) (sitofp (F := Ideal) .f32 (constantI S_ 32 0#32)) Gen.facts.pads_S16x512_S128x512_01120_000 Gen.facts.h_S_ (ix2 l j) = _
  unfold R.Args.wg128
  by_cases h : l.val < 16
  · rw [dif_pos h, ← X.h5]
    refine pad_apply_of_inside _ _ _ _ _ _ _ _ (ix2 (⟨l.val, h⟩ : Fin 16) j) (fun a => ?_)
    match a with
    | 0 => show l.val = 0 + l.val * (0 + 1); omega
    | 1 => show j.val = 0 + j.val * (0 + 1); omega
  · rw [dif_neg h]
    refine (pad_apply_of_not_inside _ _ _ _ _ _ _ _ 0 (fun hin => ?_)).trans ?_
    · have e : (l.val - 0) / (0 + 1) < 16 := hin.2.2
      omega
    · show ((((0#32 : BitVec 32).toInt : ℝ)) : EReal) = _
      simp

theorem w54 (X : Given A m c) (n : Fin 64) (h : Fin 4) (i : Fin 64) (e : Fin 256) :
    V m c main_v54 (ix2 (R.tok n i) (R.vc h e)) = ((A.O h n i e : ℝ) : EReal) := by
  rw [v54_eq]
  refine (shapeCast_apply _ _ (ix2 (R.tok n i) (R.vc h e)) (ix4 n i h e) ?_).trans ?_
  · rw [Shape.rowMajor_val_four, Shape.rowMajor_val_two]
    show ((n.val * 64 + i.val) * 4 + h.val) * 256 + e.val = (R.tok n i).val * 1024 + (R.vc h e).val
    simp only [R.tok, R.vc]; omega
  · rw [Cert.ReferenceIdeal.Read.val_main_v53_apply]
    exact (congrArg _ (by funext b; match b with | 0 => rfl | 1 => rfl | 2 => rfl | 3 => rfl)).trans (s52 X h n i e)

theorem w55 (X : Given A m c) (n : Fin 64) (h : Fin 4) (e : Fin 256) (a : Fin 128) :
    V m c main_v55 (ix4 n h e a) = ((A.St h n e a : ℝ) : EReal) := by
  rw [v55_eq, ← s50 X]
  generalize Cert.ReferenceIdeal.Read.val_main_v50 (F := Ideal) _ _ _ _ _ = y
  pointwise

theorem entry (X : Given A m c) : Entry A m c where
  hq T a := by rw [v58_eq, packed_q]; exact X.h0 T a
  hk T a := by rw [v58_eq, packed_k]; exact X.h1 T a
  hv T a := by rw [v58_eq, packed_v]; exact X.h2 T a
  hr T a := by rw [v58_eq, packed_r]; exact X.h3 T a
  hz T l := by
    rw [v58_eq, packed_z]
    unfold R.Args.zl128
    by_cases h : l.val < 16
    · rw [dif_pos h, dif_pos h]; exact X.h4 T _
    · rw [dif_neg h, dif_neg h]
      pointwise
      exact EReal.coe_zero.symm
  hw := w60 X
  hb i j := by rw [v61_eq, ← X.h6]; pointwise
  hg i j := by rw [v62_eq, ← X.h7]; pointwise
  ho n h i e := w54 X n h i e
  hs n h e a := w55 X n h e a
  hd T j := by rw [arg8_eq]; exact X.h8 T j

end Cert.GlaBwd
-- ==== Proof.Arrays.lean ====
/-
  The four arrays the kernel returns.
-/
module

public import proofs.«01_k».proof.Proof.Grid
public import Idealize.ShloMosaic.Lib.Pipeline.ValueKit.Partial

@[expose] public section

set_option maxRecDepth 16384

noncomputable section

namespace Cert.GlaBwd

open Idealize.ShloMosaic Idealize.ShloMosaic.TcCoe Idealize.ShloMosaic.Tactic
open Cert.KernelIdeal Cert.KernelIdeal.Gen R R.Args

variable {m : (ℓ : Loc nD τ sig) → Buf (Elt Ideal) ℓ} {c : Dev nD} {A : R.Args}

theorem emb8 (t : Fin cfg0.N) (l : Fin 128) (j : Fin 512) : ((cfg0.win 8).blk t).view.emb (ix2 l j) = (ix2 l j : (⟨2, ![128, 512]⟩ : Shape).Idx) := by
  blk_ext [(idx t).2.2.2.2.2.2.2.2.1]
theorem emb9 (t : Fin cfg0.N) (l : Fin 1) (j : Fin 512) : ((cfg0.win 9).blk t).view.emb (ix2 l j) = (ix2 l j : (⟨2, ![1, 512]⟩ : Shape).Idx) := by
  blk_ext [(idx t).2.2.2.2.2.2.2.2.2.1]
theorem emb10 (t : Fin cfg0.N) (l : Fin 1) (j : Fin 1024) : ((cfg0.win 10).blk t).view.emb (ix2 l j) = (ix2 l j : (⟨2, ![1, 1024]⟩ : Shape).Idx) := by
  blk_ext [(idx t).2.2.2.2.2.2.2.2.2.2]
theorem emb7 (t : Fin cfg0.N) (l : Fin 512) (j : Fin 3200) : ((cfg0.win 7).blk t).view.emb (ix2 l j) = (ix2 (row (gt t) l) (rcol j) : (⟨2, ![4096, 6400]⟩ : Shape).Idx) := by
  blk_ext [row, gt, rcol, (idx t).2.2.2.2.2.2.2.1]

/-- The gradient of the gate's weight. -/
def A8 (A : R.Args) : (⟨2, ![128, 512]⟩ : Shape).Idx → EReal := fun i => ((∑ t, A.dWs t (i 0) (i 1) : ℝ) : EReal)
/-- The gradient of the gate's bias. -/
def A9 (A : R.Args) : (⟨2, ![1, 512]⟩ : Shape).Idx → EReal := fun i => ((∑ t, A.dbs t (i 1) : ℝ) : EReal)
/-- The gradient of the norm's gain. -/
def A10 (A : R.Args) : (⟨2, ![1, 1024]⟩ : Shape).Idx → EReal := fun i => ((∑ t, A.dgs t (hdv (i 1)) (ev (i 1)) : ℝ) : EReal)
/-- The gradient of the packed projections, over what the array held. -/
def A7 (A : R.Args) (X : (⟨2, ![4096, 6400]⟩ : Shape).Idx → EReal) : (⟨2, ![4096, 6400]⟩ : Shape).Idx → EReal := fun i =>
  if h : 3200 ≤ (i 1).val then ((A.dP (i 0) ⟨(i 1).val - 3200, by have : (i 1).val < 6400 := (i 1).isLt; omega⟩ : ℝ) : EReal) else X i

theorem arr8 (E : Entry A m c) : (dats m 0 c).arrAt 8 cfg0.N = A8 A := by
  refine (dats m 0 c).arrAt_eq_of_covers 8 _ (by decide +kernel) fun t hf y => ?_
  have ht : (gt t).val = 7 := by
    have h1 := (flush0_8 t).mp hf
    have h2 : t.val < 8 := t.isLt
    show t.val = 7
    omega
  blk_simp
  obtain ⟨l, j, rfl⟩ : ∃ (l : Fin 128) (j : Fin 512), y = ix2 l j := ⟨y 0, y 1, eq_ix2 y⟩
  rw [after0_8]
  refine ((left E t.val t.isLt).h8 l j).trans ?_
  refine Eq.trans ?_ (congrArg (A8 A) (emb8 _ l j)).symm
  exact congrArg _ ((congrArg (acc _) ht).trans (acc7 (fun s => A.dWs s l j)))

theorem arr9 (E : Entry A m c) : (dats m 0 c).arrAt 9 cfg0.N = A9 A := by
  refine (dats m 0 c).arrAt_eq_of_covers 9 _ (by decide +kernel) fun t hf y => ?_
  have ht : (gt t).val = 7 := by
    have h1 := (flush0_9 t).mp hf
    have h2 : t.val < 8 := t.isLt
    show t.val = 7
    omega
  blk_simp
  obtain ⟨l, j, rfl⟩ : ∃ (l : Fin 1) (j : Fin 512), y = ix2 l j := ⟨y 0, y 1, eq_ix2 y⟩
  rw [after0_9]
  refine ((left E t.val t.isLt).h9 l j).trans ?_
  refine Eq.trans ?_ (congrArg (A9 A) (emb9 _ l j)).symm
  exact congrArg _ ((congrArg (acc _) ht).trans (acc7 (fun s => A.dbs s j)))

theorem arr10 (E : Entry A m c) : (dats m 0 c).arrAt 10 cfg0.N = A10 A := by
  refine (dats m 0 c).arrAt_eq_of_covers 10 _ (by decide +kernel) fun t hf y => ?_
  have ht : (gt t).val = 7 := by
    have h1 := (flush0_10 t).mp hf
    have h2 : t.val < 8 := t.isLt
    show t.val = 7
    omega
  blk_simp
  obtain ⟨l, j, rfl⟩ : ∃ (l : Fin 1) (j : Fin 1024), y = ix2 l j := ⟨y 0, y 1, eq_ix2 y⟩
  obtain rfl : l = 0 := Subsingleton.elim _ _
  rw [after0_10]
  refine Eq.trans ?_ (congrArg (A10 A) (emb10 _ 0 j)).symm
  have h := (left E t.val t.isLt).h10 (hdv j) (ev j)
  rw [vc_hdv] at h
  refine h.trans ?_
  exact congrArg _ ((congrArg (acc _) ht).trans (acc7 (fun s => A.dgs s (hdv j) (ev j))))

theorem arr7 (E : Entry A m c) : (dats m 0 c).arrAt 7 cfg0.N = A7 A (V m c (Pipeline.arrRef spec0 7)) := by
  refine (dats m 0 c).arrAt_eq_of_coversWhere_of_agree 7 (A7 A (V m c (Pipeline.arrRef spec0 7))) (fun β => β (1 : Fin 2) = 1) (by decide +kernel)
    (fun t hf y => ?_) (fun j hj => ?_)
  · blk_simp
    obtain ⟨l, j, rfl⟩ : ∃ (l : Fin 512) (j : Fin 3200), y = ix2 l j := ⟨y 0, y 1, eq_ix2 y⟩
    rw [after0_7]
    refine ((left E t.val t.isLt).h7 l j).trans ?_
    refine Eq.trans ?_ (congrArg (A7 A _) (emb7 _ l j)).symm
    have h : 3200 ≤ ((ix2 (row (gt t) l) (rcol j) : (⟨2, ![4096, 6400]⟩ : Shape).Idx) 1).val := by show 3200 ≤ 3200 + j.val; omega
    refine Eq.trans ?_ (dif_pos h).symm
    refine congrArg _ (congrArg (A.dP (row (gt t) l)) (Fin.ext ?_))
    show j.val = 3200 + j.val - 3200
    omega
  · have hj' : ¬ (j (1 : Fin 2)).val / 3200 = 1 := hj
    have hl : (j (1 : Fin 2)).val < 6400 := (j (1 : Fin 2)).isLt
    rw [A_eq]
    refine Eq.symm (dif_neg ?_)
    show ¬ 3200 ≤ (j (1 : Fin 2)).val
    omega

end Cert.GlaBwd
-- ==== Proof.Sums.lean ====
/-
  The sums over the rows of the whole sequence, taken grid step by grid step and chunk by chunk.
-/
module

public import proofs.«01_k».proof.Proof.Global

@[expose] public section

noncomputable section

namespace Cert.GlaBwd.R.Args

/-- The rows of the sequence: the grid step and the row within it. -/
def rowEquiv : Fin 8 × Fin 512 ≃ Fin 4096 where
  toFun p := row p.1 p.2
  invFun T := (⟨7 - T.val / 512, by omega⟩, ⟨T.val % 512, by omega⟩)
  left_inv p := by
    obtain ⟨t, r⟩ := p
    refine Prod.ext (Fin.ext ?_) (Fin.ext ?_)
    · show 7 - (512 * (7 - t.val) + r.val) / 512 = t.val
      omega
    · show (512 * (7 - t.val) + r.val) % 512 = r.val
      omega
  right_inv T := by
    apply Fin.ext
    show 512 * (7 - (7 - T.val / 512)) + T.val % 512 = T.val
    omega

/-- The rows of a grid step: the chunk and the row within it. -/
def srowEquiv : Fin 8 × Fin 64 ≃ Fin 512 where
  toFun p := srow p.1 p.2
  invFun r := (⟨r.val / 64, by omega⟩, ⟨r.val % 64, by omega⟩)
  left_inv p := by
    obtain ⟨c, i⟩ := p
    refine Prod.ext (Fin.ext ?_) (Fin.ext ?_)
    · show (srow c i).val / 64 = c.val
      simp only [srow]; omega
    · show (srow c i).val % 64 = i.val
      simp only [srow]; omega
  right_inv r := by
    apply Fin.ext
    simp only [srow]; omega

theorem sum_rows (f : Fin 4096 → ℝ) : ∑ t, ∑ r, f (row t r) = ∑ T, f T := by
  rw [← Fintype.sum_prod_type' (fun t r => f (row t r))]
  exact Equiv.sum_comp rowEquiv f

theorem sum_srows (f : Fin 512 → ℝ) : ∑ c, ∑ i, f (srow c i) = ∑ r, f r := by
  rw [← Fintype.sum_prod_type' (fun c i => f (srow c i))]
  exact Equiv.sum_comp srowEquiv f

theorem sum_chunks (f : Fin 4096 → ℝ) : ∑ t, ∑ c, ∑ i, f (tok (cks t c) i) = ∑ T, f T := by
  rw [← sum_rows]
  refine Finset.sum_congr rfl fun t _ => ?_
  rw [← sum_srows]
  simp only [row_srow]

variable (A : Args)

theorem sum_dbs (j : Fin 512) : ∑ t, A.dbs t j = ∑ T, A.dz T j := sum_rows fun T => A.dz T j

theorem sum_dWs (l : Fin 128) (j : Fin 512) :
    ∑ t, A.dWs t l j = if h : l.val < 16 then ∑ T, A.dz T j * A.zl T ⟨l.val, h⟩ else 0 := by
  have e : ∑ t, A.dWs t l j = ∑ T, A.zl128 T l * A.dz T j := sum_rows fun T => A.zl128 T l * A.dz T j
  rw [e]
  by_cases h : l.val < 16
  · rw [dif_pos h]
    refine Finset.sum_congr rfl fun T _ => ?_
    rw [zl128, dif_pos h, mul_comm]
  · rw [dif_neg h]
    refine Finset.sum_eq_zero fun T _ => ?_
    rw [zl128, dif_neg h, zero_mul]

theorem dzl_eq (T : Fin 4096) (l : Fin 128) : A.dzl T l = if h : l.val < 16 then ∑ j, A.dz T j * A.wg ⟨l.val, h⟩ j else 0 := by
  unfold dzl
  by_cases h : l.val < 16
  · rw [dif_pos h]
    refine Finset.sum_congr rfl fun j _ => ?_
    rw [wg128, dif_pos h]
  · rw [dif_neg h]
    refine Finset.sum_eq_zero fun j _ => ?_
    rw [wg128, dif_neg h, mul_zero]

theorem sum_dgs (j : Fin 1024) : ∑ t, A.dgs t (hdv j) (ev j)
    = ∑ T, on (A.O (hdv j) (chk T)) (pos T) (ev j) * (A.d T j * (A.r T j * (1 / (1 + Real.exp (-A.r T j))))) := by
  rw [← sum_chunks]
  refine Finset.sum_congr rfl fun t _ => Finset.sum_congr rfl fun c _ => Finset.sum_congr rfl fun i _ => ?_
  simp only [chk_tok, pos_tok, don, sg, Rr, Dd, vc_hdv]
  ring

end Cert.GlaBwd.R.Args
-- ==== Proof.Results.lean ====
/-
  The four arrays the kernel returns are the reference's four results.
-/
module

public import proofs.«01_k».proof.Proof.Arrays
public import proofs.«01_k».proof.Proof.Packed
public import proofs.«01_k».proof.Proof.Sums
public import proofs.«01_k».proof.Proof.RefLog

@[expose] public section

set_option maxRecDepth 16384

noncomputable section

namespace Cert.GlaBwd

open Idealize.ShloMosaic Idealize.ShloMosaic.Tactic
open Cert.ReferenceIdeal Cert.ReferenceIdeal.Read

variable {A : R.Args} {x0 : (⟨S4096x512, .f32⟩ : BufTy).Contents (Elt Ideal)} {x1 : (⟨S4096x512, .f32⟩ : BufTy).Contents (Elt Ideal)} {x2 : (⟨S4096x1024, .f32⟩ : BufTy).Contents (Elt Ideal)} {x3 : (⟨S4096x1024, .f32⟩ : BufTy).Contents (Elt Ideal)} {x4 : (⟨S4096x16, .f32⟩ : BufTy).Contents (Elt Ideal)} {x5 : (⟨S16x512, .f32⟩ : BufTy).Contents (Elt Ideal)} {x6 : (⟨S512, .f32⟩ : BufTy).Contents (Elt Ideal)} {x7 : (⟨S1024, .f32⟩ : BufTy).Contents (Elt Ideal)} {x8 : (⟨S4096x2048, .f32⟩ : BufTy).Contents (Elt Ideal)}

theorem res8 (X : Reads A x0 x1 x2 x3 x4 x5 x6 x7 x8) : A8 A = val_main_v185 (F := Ideal) x0 x1 x2 x3 x4 x5 x6 x7 x8 := by
  funext i
  obtain ⟨l, j, rfl⟩ : ∃ (l : Fin 128) (j : Fin 512), i = ix2 l j := ⟨i 0, i 1, eq_ix2 i⟩
  refine (congrArg (fun r : ℝ => (r : EReal)) (A.sum_dWs l j)).trans ?_
  unfold val_main_v185
  have e := fun l j => s174 X l j
  revert e
  generalize val_main_v174 (F := Ideal) x0 x1 x2 x3 x4 x5 x6 x7 x8 = y
  intro e
  pointwise [val_main_v184, val_main_cst_26]
  by_cases h : l.val < 16
  · rw [dif_pos h, dif_pos h, e]
  · rw [dif_neg h, dif_neg h]
    exact EReal.coe_zero

theorem res9 (X : Reads A x0 x1 x2 x3 x4 x5 x6 x7 x8) : A9 A = val_main_v186 (F := Ideal) x0 x1 x2 x3 x4 x5 x6 x7 x8 := by
  funext i
  obtain ⟨l, j, rfl⟩ : ∃ (l : Fin 1) (j : Fin 512), i = ix2 l j := ⟨i 0, i 1, eq_ix2 i⟩
  refine (congrArg (fun r : ℝ => (r : EReal)) (A.sum_dbs j)).trans ?_
  rw [val_main_v186_apply]
  exact (s172 X j).symm.trans (congrArg _ (by funext a; match a with | 0 => rfl))

theorem res10 (X : Reads A x0 x1 x2 x3 x4 x5 x6 x7 x8) : A10 A = val_main_v187 (F := Ideal) x0 x1 x2 x3 x4 x5 x6 x8 := by
  funext i
  obtain ⟨l, j, rfl⟩ : ∃ (l : Fin 1) (j : Fin 1024), i = ix2 l j := ⟨i 0, i 1, eq_ix2 i⟩
  refine (congrArg (fun r : ℝ => (r : EReal)) (A.sum_dgs j)).trans ?_
  rw [val_main_v187_apply]
  exact (s85 X j).symm.trans (congrArg _ (by funext a; match a with | 0 => rfl))

theorem A7_right (X : (⟨2, ![4096, 6400]⟩ : Shape).Idx → EReal) (T : Fin 4096) (off n : ℕ) (hn : off + n ≤ 3200) (a : Fin n) :
    A7 A X (ix2 T (rcol (xcol off n hn a))) = ((A.dP T (R.Args.col off n hn a) : ℝ) : EReal) := by
  have h : 3200 ≤ (rcol (xcol off n hn a)).val := Nat.le_add_right _ _
  refine (dif_pos h).trans ?_
  refine congrArg (fun r : ℝ => (r : EReal)) (congrArg (A.dP T) (Fin.ext ?_))
  show 3200 + (off + a.val) - 3200 = off + a.val
  omega

theorem res7 (X : Reads A x0 x1 x2 x3 x4 x5 x6 x7 x8) (x9 : (⟨S4096x6400, .bf16⟩ : BufTy).Contents (Elt Ideal)) :
    A7 A x9 = val_main_v183 (F := Ideal) x0 x1 x2 x3 x4 x5 x6 x7 x8 x9 := by
  funext i
  obtain ⟨T, J, rfl⟩ : ∃ (T : Fin 4096) (J : Fin 6400), i = ix2 T J := ⟨i 0, i 1, eq_ix2 i⟩
  have ev : val_main_v183 (F := Ideal) x0 x1 x2 x3 x4 x5 x6 x7 x8 x9 = packed (val_main_v182 (F := Ideal) x9) (val_main_v166 (F := Ideal) x0 x1 x2 x3 x4 x5 x6 x7 x8)
      (val_main_v162 (F := Ideal) x0 x1 x2 x3 x4 x5 x6 x7 x8) (val_main_v160 (F := Ideal) x0 x1 x2 x3 x4 x5 x6 x7 x8) (val_main_v79 (F := Ideal) x0 x1 x2 x3 x4 x5 x6 x7 x8)
      (val_main_v175 (F := Ideal) x0 x1 x2 x3 x4 x5 x6 x7 x8) (val_main_v176 (F := Ideal)) Gen.facts.concatenates_S4096x3200_S4096x512_S4096x512_S4096x1024_S4096x1024_S4096x16_S4096x112_S4096x6400_d1 := rfl
  rw [ev]
  have hJ : J.val < 3200 ∨ (∃ a, J = rcol (xcol 0 512 (by omega) a)) ∨ (∃ a, J = rcol (xcol 512 512 (by omega) a)) ∨ (∃ a, J = rcol (xcol 1024 1024 (by omega) a))
      ∨ (∃ a, J = rcol (xcol 2048 1024 (by omega) a)) ∨ (∃ a, J = rcol (xcol 3072 128 (by omega) a)) := by
    have hl := J.isLt
    by_cases h0 : J.val < 3200
    · exact .inl h0
    by_cases h1 : J.val < 3712
    · exact .inr (.inl ⟨⟨J.val - 3200, by omega⟩, Fin.ext (by show J.val = 3200 + (0 + (J.val - 3200)); omega)⟩)
    by_cases h2 : J.val < 4224
    · exact .inr (.inr (.inl ⟨⟨J.val - 3712, by omega⟩, Fin.ext (by show J.val = 3200 + (512 + (J.val - 3712)); omega)⟩))
    by_cases h3 : J.val < 5248
    · exact .inr (.inr (.inr (.inl ⟨⟨J.val - 4224, by omega⟩, Fin.ext (by show J.val = 3200 + (1024 + (J.val - 4224)); omega)⟩)))
    by_cases h4 : J.val < 6272
    · exact .inr (.inr (.inr (.inr (.inl ⟨⟨J.val - 5248, by omega⟩, Fin.ext (by show J.val = 3200 + (2048 + (J.val - 5248)); omega)⟩))))
    · exact .inr (.inr (.inr (.inr (.inr ⟨⟨J.val - 6272, by omega⟩, Fin.ext (by show J.val = 3200 + (3072 + (J.val - 6272)); omega)⟩))))
  rcases hJ with h | ⟨a, rfl⟩ | ⟨a, rfl⟩ | ⟨a, rfl⟩ | ⟨a, rfl⟩ | ⟨a, rfl⟩
  · refine Eq.trans ?_ (packed_x _ _ _ _ _ _ _ _ T ⟨J.val, h⟩).symm
    rw [val_main_v182_apply]
    refine (dif_neg (by show ¬ 3200 ≤ J.val; omega)).trans ?_
    exact congrArg x9 (by funext b; match b with | 0 => rfl | 1 => rfl)
  · rw [packed_q, A7_right, A.dP_q]; exact (s166 X T a).symm
  · rw [packed_k, A7_right, A.dP_k]; exact (s162 X T a).symm
  · rw [packed_v, A7_right, A.dP_v]; exact (s160 X T a).symm
  · rw [packed_r, A7_right, A.dP_r]; exact (s79 X T a).symm
  · rw [packed_z, A7_right, A.dP_z, A.dzl_eq]
    by_cases h : a.val < 16
    · rw [dif_pos h, dif_pos h]; exact (s175 X T ⟨a.val, h⟩).symm
    · rw [dif_neg h, dif_neg h, val_main_v176_apply, val_main_cst_25_apply]
      exact (Ideal.ofBits_zero _).symm

end Cert.GlaBwd
-- ==== Proof.MlpBwd.lean ====
/-
  The cotangent of the MLP's pre-activations: each block of the kernel's result is one product of a block of rows of the
  cotangent with a block of rows of the weight, times twice the activations.
-/
module

public import proofs.«01_k».proof.Defs
public import proofs.«01_k».proof.Proof.Gen.MlpBwd.Frame
public import proofs.«01_k».proof.Proof.Gen.MlpBwdIdeal.Value
public import proofs.«01_k».proof.Proof.Gen.MlpBwdRefIdeal.Run
public import proofs.«01_k».proof.Proof.Gen.MlpBwdRefIdeal.Read
public import Idealize.ShloMosaic.Lib.Claim
public import Idealize.ShloMosaic.Lib.StableHlo.RunRead
public import Idealize.ShloMosaic.Lib.Pointwise
public import Idealize.ShloMosaic.Lib.Pipeline.ValueKit.Point

@[expose] public section

set_option maxRecDepth 16384

noncomputable section

namespace Cert.MlpGrad

open Idealize.ShloMosaic Idealize.ShloMosaic.TcCoe Idealize.ShloMosaic.Tactic
open Cert.MlpBwdIdeal Cert.MlpBwdIdeal.Gen

theorem idx : ∀ t : Fin grid0.N, win0_0.index t = ![t.val / 8, 0] ∧ win0_1.index t = ![t.val % 8, 0] ∧ win0_2.index t = ![t.val / 8, t.val % 8]
    ∧ win0_3.index t = ![t.val / 8, t.val % 8] := by
  decide +kernel

theorem ilt (t : Fin cfg0.N) : t.val / 8 < 4 := by have h : t.val < 32 := t.isLt; omega
theorem jlt (t : Fin cfg0.N) : t.val % 8 < 8 := by omega

/-- Token `r` of block `b`. -/
def tok (b : ℕ) (hb : b < 4) (r : Fin 1024) : Fin 4096 := ⟨b * 1024 + r.val, by omega⟩
/-- Hidden unit `r` of block `b`. -/
def hid (b : ℕ) (hb : b < 8) (r : Fin 1024) : Fin 8192 := ⟨b * 1024 + r.val, by omega⟩

/-- The positive part. -/
def pos (x : EReal) : EReal := max x 0
/-- The factor of a square's derivative, as the programs write it. -/
def two : EReal := Scalar.ofBits (F := Ideal) .f32 0x40000000#32

/-- The cotangent against the rows of the weight, times the derivative of the squared activation. -/
def G (a : S4096x8192.Idx → EReal) (w : S8192x2048.Idx → EReal) (d : S4096x2048.Idx → EReal) : S4096x8192.Idx → EReal := fun i =>
  (∑ k : Fin 2048, d (ix2 (i 0) k) * w (ix2 (i 1) k)) * (two * pos (a (ix2 (i 0) (i 1))))

variable (m : (ℓ : Loc nD τ sig) → Buf (Elt Ideal) ℓ) (c : Dev nD)

theorem v0 : (V m c main_v0 : S4096x2048.Idx → EReal) = m (c.tc.loc main_arg2) := by
  entry_read
  rfl
theorem v1 : (V m c main_v1 : S8192x2048.Idx → EReal) = m (c.tc.loc main_arg1) := by
  entry_read
  rfl
theorem v3 (k : Fin 4096) (r : Fin 8192) : (V m c main_v3 : S4096x8192.Idx → EReal) (ix2 k r) = pos ((m (c.tc.loc main_arg0) : S4096x8192.Idx → EReal) (ix2 k r)) := by
  unfold V
  simp only [hostOps0, hostOps0_1, hostOps0_2, List.flatten_cons, List.flatten_nil, List.append_nil, List.cons_append, List.nil_append]
  after_reads_simp
  simp only [StableHlo.TRef.ofBuf_toBuf]
  simp only [StableHlo.TRef.toBuf, StableHlo.TRef.ofBuf, cast_eq]
  generalize m (c.tc.loc main_arg0) = a
  pointwise [pos]

theorem iblk0 (t : Fin cfg0.N) (r : Fin 1024) (k : Fin 2048) : iblk m c 0 t (ix2 r k) = V m c main_v0 (ix2 (tok _ (ilt t) r) k) := by
  blk_ext [iblk, tok, (idx t).1]
theorem iblk1 (t : Fin cfg0.N) (r : Fin 1024) (k : Fin 2048) : iblk m c 1 t (ix2 r k) = V m c main_v1 (ix2 (hid _ (jlt t) r) k) := by
  blk_ext [iblk, hid, (idx t).2.1]
theorem iblk2 (t : Fin cfg0.N) (r j : Fin 1024) : iblk m c 2 t (ix2 r j) = V m c main_v3 (ix2 (tok _ (ilt t) r) (hid _ (jlt t) j)) := by
  blk_ext [iblk, tok, hid, (idx t).2.2.1]
theorem emb3 (t : Fin cfg0.N) (r j : Fin 1024) : ((cfg0.win 3).blk t).view.emb (ix2 r j) = (ix2 (tok _ (ilt t) r) (hid _ (jlt t) j) : S4096x8192.Idx) := by
  blk_ext [tok, hid, (idx t).2.2.2]

theorem pay (x y : Vec Ideal S1024x2048 .bf16) (a : Vec Ideal S1024x1024 .bf16) (r j : Fin 1024) : k0_pay2 (k0_pay1 x y) a (ix2 r j)
    = (∑ k : Fin 2048, x (ix2 r k) * y (ix2 j k)) * (two * a (ix2 r j)) := by
  pointwise [k0_pay1, k0_pay2, two]

theorem arr : (dats m 0 c).arrAt 3 cfg0.N = G (m (c.tc.loc main_arg0)) (m (c.tc.loc main_arg1)) (m (c.tc.loc main_arg2)) := by
  refine (dats m 0 c).arrAt_eq_of_covers 3 _ (by decide +kernel) fun t hf y => ?_
  blk_simp
  obtain ⟨r, j, rfl⟩ : ∃ (r j : Fin 1024), y = ix2 r j := ⟨y 0, y 1, eq_ix2 y⟩
  rw [after0_3]
  unfold outsAt0
  frame_out
  refine (pay _ _ _ r j).trans ?_
  refine Eq.trans ?_ (congrArg (G _ _ _) (emb3 t r j)).symm
  refine congrArg₂ (· * ·) (Finset.sum_congr rfl fun k _ => ?_) ?_
  · rw [iblk0, iblk1, v0, v1]
    rfl
  · rw [iblk2, v3]
    rfl

/-- A derivative that is zero left of the origin: multiplying by twice the positive part gives zero there by itself. -/
theorem gated (x s : EReal) : (if x > 0 then s * (two * pos x) else 0) = s * (two * pos x) := by
  split
  · rfl
  · rename_i h
    rw [pos, max_eq_right (not_lt.mp h), mul_zero, mul_zero]

/-- The reference's result is the same sum times the same factor. -/
theorem ref (a : S4096x8192.Idx → EReal) (w : S8192x2048.Idx → EReal) (d : S4096x2048.Idx → EReal) :
    Cert.MlpBwdRefIdeal.Read.val_main_v12 (F := Ideal) a w d = G a w d := by
  funext i
  obtain ⟨t, r, rfl⟩ : ∃ (t : Fin 4096) (r : Fin 8192), i = ix2 t r := ⟨i 0, i 1, eq_ix2 i⟩
  have e : Cert.MlpBwdRefIdeal.Read.val_main_v8 (F := Ideal) w d (ix2 t r) = ∑ k : Fin 2048, d (ix2 t k) * w (ix2 r k) := by
    rw [Cert.MlpBwdRefIdeal.Read.val_main_v8_apply]
    exact Finset.sum_congr rfl fun k _ => congrArg₂ (· * ·) (congrArg d (eq_ix2 _)) (congrArg w (eq_ix2 _))
  show _ = (∑ k : Fin 2048, d (ix2 t k) * w (ix2 r k)) * (two * pos (a (ix2 t r)))
  rw [← e, ← gated, Cert.MlpBwdRefIdeal.Read.val_main_v12_apply, Cert.MlpBwdRefIdeal.Read.val_main_v11_apply, Cert.MlpBwdRefIdeal.Read.val_main_v9_apply]
  generalize Cert.MlpBwdRefIdeal.Read.val_main_v8 (F := Ideal) w d (ix2 t r) = s
  pointwise [two, pos, Cert.MlpBwdRefIdeal.Read.val_main_v6, Cert.MlpBwdRefIdeal.Read.val_main_v5, Cert.MlpBwdRefIdeal.Read.val_main_v2, Cert.MlpBwdRefIdeal.Read.val_main_v1,
    Cert.MlpBwdRefIdeal.Read.val_main_v10, Cert.MlpBwdRefIdeal.Read.val_main_v0, Cert.MlpBwdRefIdeal.Read.val_main_call0_v0,
    Cert.MlpBwdRefIdeal.Read.val_main_call0_cst, Cert.MlpBwdRefIdeal.Read.val_main_cst, Cert.MlpBwdRefIdeal.Read.val_main_cst_1, Cert.MlpBwdRefIdeal.Read.val_main_cst_2]

/-- Equal arguments give equal results. -/
theorem value : Cert.algebraic_MlpBwdIdeal_MlpBwdRefIdeal (hMlpBwdIdeal := Cert.MlpBwdIdeal.Gen.facts) (hMlpBwdRefIdeal := Cert.MlpBwdRefIdeal.Gen.facts) := by
  intro m ρ m' ρ' _ hagree
  refine ⟨fun c => G (m (c.tc.loc main_arg0)) (m (c.tc.loc main_arg1)) (m (c.tc.loc main_arg2)), ?_, ?_⟩
  · exact (θ_run Cert.MlpBwdIdeal.defs _ _).mono (fun r h c => ⟨(h c).1.trans (arr m c), (h c).2⟩) (Cert.MlpBwdIdeal.Value.run_blocks (F := Ideal) m ρ)
  · refine (θ_run Cert.MlpBwdRefIdeal.defs _ _).mono (fun r h c => ⟨(h c).1.trans ?_, (h c).2⟩) (Cert.MlpBwdRefIdeal.Value.run (F := Ideal) m' ρ')
    obtain ⟨a0, a1, a2⟩ := hagree c
    refine (Cert.MlpBwdRefIdeal.Read.val_main_v12_eq (F := Ideal) _ _ _).trans ((ref _ _ _).trans ?_)
    rw [a0, a1, a2]

/-- The reference alone. -/
theorem frame_ref : Cert.quiescent_MlpBwdRefIdeal (hMlpBwdRefIdeal := Cert.MlpBwdRefIdeal.Gen.facts) := fun m ρ _ =>
  (θ_run Cert.MlpBwdRefIdeal.defs _ _).mono (fun r h => ⟨fun c => (h c).2, sem_eq_zero_of_no_sems (by decide) r.2⟩) (Cert.MlpBwdRefIdeal.Value.run (F := Ideal) m ρ)

end Cert.MlpGrad
-- ==== Proof.DownW.lean ====
/-
  The gradient of the MLP's second weight: each block of the kernel's result is one product of a block of columns of the
  squared activations with a block of columns of the cotangent.
-/
module

public import proofs.«01_k».proof.Defs
public import proofs.«01_k».proof.Proof.Gen.DownW.Frame
public import proofs.«01_k».proof.Proof.Gen.DownWIdeal.Value
public import proofs.«01_k».proof.Proof.Gen.DownWRefIdeal.Run
public import proofs.«01_k».proof.Proof.Gen.DownWRefIdeal.Read
public import Idealize.ShloMosaic.Lib.Claim
public import Idealize.ShloMosaic.Lib.StableHlo.RunRead
public import Idealize.ShloMosaic.Lib.Pointwise
public import Idealize.ShloMosaic.Lib.Pipeline.ValueKit.Point

@[expose] public section

set_option maxRecDepth 16384

noncomputable section

namespace Cert.DownWGrad

open Idealize.ShloMosaic Idealize.ShloMosaic.TcCoe Idealize.ShloMosaic.Tactic
open Cert.DownWIdeal Cert.DownWIdeal.Gen

theorem idx : ∀ t : Fin grid0.N, win0_0.index t = ![0, t.val / 2] ∧ win0_1.index t = ![0, t.val % 2] ∧ win0_2.index t = ![t.val / 2, t.val % 2] := by
  decide +kernel

theorem ilt (t : Fin cfg0.N) : t.val / 2 < 8 := by have h : t.val < 16 := t.isLt; omega
theorem jlt (t : Fin cfg0.N) : t.val % 2 < 2 := by omega

/-- Hidden unit `r` of block `b`. -/
def hid (b : ℕ) (hb : b < 8) (r : Fin 1024) : Fin 8192 := ⟨b * 1024 + r.val, by omega⟩
/-- Column `r` of block `b`. -/
def col (b : ℕ) (hb : b < 2) (r : Fin 1024) : Fin 2048 := ⟨b * 1024 + r.val, by omega⟩

/-- The squared activations times the cotangent, summed over the tokens. -/
def G (a : S4096x8192.Idx → EReal) (d : S4096x2048.Idx → EReal) : S8192x2048.Idx → EReal := fun i =>
  ∑ k : Fin 4096, (max (a (ix2 k (i 0))) 0 * max (a (ix2 k (i 0))) 0) * d (ix2 k (i 1))

/-- The square of the positive part. -/
def sq (x : EReal) : EReal := max x 0 * max x 0

variable (m : (ℓ : Loc nD τ sig) → Buf (Elt Ideal) ℓ) (c : Dev nD)

theorem v2 (k : Fin 4096) (r : Fin 8192) : (V m c main_v2 : S4096x8192.Idx → EReal) (ix2 k r)
    = sq ((m (c.tc.loc main_arg0) : S4096x8192.Idx → EReal) (ix2 k r)) := by
  unfold V
  simp only [hostOps0, hostOps0_1, List.flatten_cons, List.flatten_nil, List.append_nil, List.cons_append, List.nil_append]
  after_reads_simp
  simp only [StableHlo.TRef.ofBuf_toBuf]
  simp only [StableHlo.TRef.toBuf, StableHlo.TRef.ofBuf, cast_eq]
  generalize m (c.tc.loc main_arg0) = a
  pointwise [sq]
theorem v3 : (V m c main_v3 : S4096x2048.Idx → EReal) = m (c.tc.loc main_arg2) := by
  entry_read
  rfl

theorem iblk0 (t : Fin cfg0.N) (k : Fin 4096) (r : Fin 1024) : iblk m c 0 t (ix2 k r) = V m c main_v2 (ix2 k (hid _ (ilt t) r)) := by
  blk_ext [iblk, hid, (idx t).1]
theorem iblk1 (t : Fin cfg0.N) (k : Fin 4096) (r : Fin 1024) : iblk m c 1 t (ix2 k r) = V m c main_v3 (ix2 k (col _ (jlt t) r)) := by
  blk_ext [iblk, col, (idx t).2.1]
theorem emb2 (t : Fin cfg0.N) (r j : Fin 1024) : ((cfg0.win 2).blk t).view.emb (ix2 r j) = (ix2 (hid _ (ilt t) r) (col _ (jlt t) j) : S8192x2048.Idx) := by
  blk_ext [hid, col, (idx t).2.2]

theorem pay (x y : Vec Ideal S4096x1024 .bf16) (r j : Fin 1024) : k0_pay1 x y (ix2 r j) = ∑ k : Fin 4096, x (ix2 k r) * y (ix2 k j) := by
  pointwise [k0_pay1]

theorem arr : (dats m 0 c).arrAt 2 cfg0.N = G (m (c.tc.loc main_arg0)) (m (c.tc.loc main_arg2)) := by
  refine (dats m 0 c).arrAt_eq_of_covers 2 _ (by decide +kernel) fun t hf y => ?_
  blk_simp
  obtain ⟨r, j, rfl⟩ : ∃ (r j : Fin 1024), y = ix2 r j := ⟨y 0, y 1, eq_ix2 y⟩
  rw [after0_2]
  unfold outsAt0
  frame_out
  refine (pay _ _ r j).trans ?_
  refine Eq.trans ?_ (congrArg (G _ _) (emb2 t r j)).symm
  refine Finset.sum_congr rfl fun k _ => ?_
  rw [iblk0, iblk1, v2, v3]
  rfl

theorem square (a : S4096x8192.Idx → EReal) (i : S4096x8192.Idx) : Cert.DownWRefIdeal.Read.val_main_v1 (F := Ideal) a i = max (a i) 0 * max (a i) 0 := by
  obtain ⟨k, r, rfl⟩ : ∃ (k : Fin 4096) (r : Fin 8192), i = ix2 k r := ⟨i 0, i 1, eq_ix2 i⟩
  pointwise [Cert.DownWRefIdeal.Read.val_main_v1, Cert.DownWRefIdeal.Read.val_main_v0, Cert.DownWRefIdeal.Read.val_main_call0_v0, Cert.DownWRefIdeal.Read.val_main_call0_cst]

/-- The reference's result is the same sum. -/
theorem ref (a : S4096x8192.Idx → EReal) (d : S4096x2048.Idx → EReal) : Cert.DownWRefIdeal.Read.val_main_v4 (F := Ideal) a d = G a d := by
  funext i
  rw [Cert.DownWRefIdeal.Read.val_main_v4_apply, Cert.DownWRefIdeal.Read.val_main_v3_apply]
  refine Finset.sum_congr rfl fun k _ => ?_
  rw [square]
  refine (mul_comm _ _).trans (congrArg₂ (· * ·) ?_ (congrArg d (eq_ix2 _)))
  exact congrArg (fun i => max (a i) 0 * max (a i) 0) (eq_ix2 _)

/-- Equal arguments give equal results. -/
theorem value : Cert.algebraic_DownWIdeal_DownWRefIdeal (hDownWIdeal := Cert.DownWIdeal.Gen.facts) (hDownWRefIdeal := Cert.DownWRefIdeal.Gen.facts) := by
  intro m ρ m' ρ' _ hagree
  refine ⟨fun c => G (m (c.tc.loc main_arg0)) (m (c.tc.loc main_arg2)), ?_, ?_⟩
  · exact (θ_run Cert.DownWIdeal.defs _ _).mono (fun r h c => ⟨(h c).1.trans (arr m c), (h c).2⟩) (Cert.DownWIdeal.Value.run_blocks (F := Ideal) m ρ)
  · refine (θ_run Cert.DownWRefIdeal.defs _ _).mono (fun r h c => ⟨(h c).1.trans ?_, (h c).2⟩) (Cert.DownWRefIdeal.Value.run (F := Ideal) m' ρ')
    obtain ⟨a0, a1, a2⟩ := hagree c
    refine (Cert.DownWRefIdeal.Read.val_main_v4_eq (F := Ideal) _ _).trans ((ref _ _).trans ?_)
    rw [a0, a2]

/-- The reference alone. -/
theorem frame_ref : Cert.quiescent_DownWRefIdeal (hDownWRefIdeal := Cert.DownWRefIdeal.Gen.facts) := fun m ρ _ =>
  (θ_run Cert.DownWRefIdeal.defs _ _).mono (fun r h => ⟨fun c => (h c).2, sem_eq_zero_of_no_sems (by decide) r.2⟩) (Cert.DownWRefIdeal.Value.run (F := Ideal) m ρ)

end Cert.DownWGrad
-- ==== Proof.UpW.lean ====
/-
  The gradient of the MLP's first weight, split into eight groups of columns: each block of the kernel's result is one product
  of a block of columns of the input with a group of columns of the cotangent.
-/
module

public import proofs.«01_k».proof.Defs
public import proofs.«01_k».proof.Proof.Gen.UpW.Frame
public import proofs.«01_k».proof.Proof.Gen.UpWIdeal.Value
public import proofs.«01_k».proof.Proof.Gen.UpWRefIdeal.Run
public import proofs.«01_k».proof.Proof.Gen.UpWRefIdeal.Read
public import Idealize.ShloMosaic.Lib.Claim
public import Idealize.ShloMosaic.Lib.Pointwise
public import Idealize.ShloMosaic.Lib.Pipeline.ValueKit.Point

@[expose] public section

set_option maxRecDepth 16384

noncomputable section

namespace Cert.UpWGrad

open Idealize.ShloMosaic Idealize.ShloMosaic.TcCoe Idealize.ShloMosaic.Tactic
open Cert.UpWIdeal Cert.UpWIdeal.Gen

theorem idx : ∀ t : Fin grid0.N, win0_0.index t = ![0, t.val / 8] ∧ win0_1.index t = ![0, t.val % 8] ∧ win0_2.index t = ![t.val % 8, t.val / 8, 0] := by
  decide +kernel

theorem ilt (t : Fin cfg0.N) : t.val / 8 < 2 := by have h : t.val < 16 := t.isLt; omega
theorem jlt (t : Fin cfg0.N) : t.val % 8 < 8 := by omega

/-- Hidden unit `r` of group `b`. -/
def hid (b : ℕ) (hb : b < 8) (r : Fin 1024) : Fin 8192 := ⟨b * 1024 + r.val, by omega⟩
/-- Row `r` of block `b` of the weight. -/
def row (b : ℕ) (hb : b < 2) (r : Fin 1024) : Fin 2048 := ⟨b * 1024 + r.val, by omega⟩

/-- The input times the cotangent, summed over the tokens. -/
def G (x : S4096x2048.Idx → EReal) (d : S4096x8192.Idx → EReal) : S8x2048x1024.Idx → EReal := fun i =>
  ∑ k : Fin 4096, x (ix2 k (i 1)) * d (ix2 k (hid (i 0).val (i 0).isLt (i 2)))

variable (m : (ℓ : Loc nD τ sig) → Buf (Elt Ideal) ℓ) (c : Dev nD)

theorem v0 : (V m c main_v0 : S4096x2048.Idx → EReal) = m (c.tc.loc main_arg0) := by
  entry_read
  rfl
theorem v1 : (V m c main_v1 : S4096x8192.Idx → EReal) = m (c.tc.loc main_arg2) := by
  entry_read
  rfl

theorem iblk0 (t : Fin cfg0.N) (k : Fin 4096) (r : Fin 1024) : iblk m c 0 t (ix2 k r) = V m c main_v0 (ix2 k (row _ (ilt t) r)) := by
  blk_ext [iblk, row, (idx t).1]
theorem iblk1 (t : Fin cfg0.N) (k : Fin 4096) (r : Fin 1024) : iblk m c 1 t (ix2 k r) = V m c main_v1 (ix2 k (hid _ (jlt t) r)) := by
  blk_ext [iblk, hid, (idx t).2.1]
theorem emb2 (t : Fin cfg0.N) (z : Fin 1) (r j : Fin 1024) : ((cfg0.win 2).blk t).view.emb (ix3 z r j) = (ix3 ⟨t.val % 8, jlt t⟩ (row _ (ilt t) r) j : S8x2048x1024.Idx) := by
  blk_ext [row, (idx t).2.2]

theorem pay (x y : Vec Ideal S4096x1024 .bf16) (z : Fin 1) (r j : Fin 1024) : k0_pay1 x y (ix3 z r j) = ∑ k : Fin 4096, x (ix2 k r) * y (ix2 k j) := by
  pointwise [k0_pay1]

theorem arr : (dats m 0 c).arrAt 2 cfg0.N = G (m (c.tc.loc main_arg0)) (m (c.tc.loc main_arg2)) := by
  refine (dats m 0 c).arrAt_eq_of_covers 2 _ (by decide +kernel) fun t hf y => ?_
  blk_simp
  obtain ⟨z, r, j, rfl⟩ : ∃ (z : Fin 1) (r j : Fin 1024), y = ix3 z r j := ⟨y 0, y 1, y 2, eq_ix3 y⟩
  rw [after0_2]
  unfold outsAt0
  frame_out
  refine (pay _ _ z r j).trans ?_
  refine Eq.trans ?_ (congrArg (G _ _) (emb2 t z r j)).symm
  refine Finset.sum_congr rfl fun k _ => ?_
  rw [iblk0, iblk1, v0, v1]
  rfl

/-- The reference's result is the same sum. -/
theorem ref (x : S4096x2048.Idx → EReal) (d : S4096x8192.Idx → EReal) : Cert.UpWRefIdeal.Read.val_main_v4 (F := Ideal) x d = G x d := by
  funext i
  obtain ⟨g, r, j, rfl⟩ : ∃ (g : Fin 8) (r : Fin 2048) (j : Fin 1024), i = ix3 g r j := ⟨i 0, i 1, i 2, eq_ix3 i⟩
  rw [Cert.UpWRefIdeal.Read.val_main_v4_apply, Cert.UpWRefIdeal.Read.val_main_v3_apply, Cert.UpWRefIdeal.Read.val_main_v2_apply,
    Cert.UpWRefIdeal.Read.val_main_v1_apply]
  refine Finset.sum_congr rfl fun k _ => (mul_comm _ _).trans (congrArg₂ (· * ·) (congrArg x ((eq_ix2 _).trans ?_)) (congrArg d ((eq_ix2 _).trans ?_)))
  · refine congrArg (ix2 k) (Fin.ext ?_)
    show ((r.val * 8 + g.val) * 1024 + j.val) / 8192 = r.val
    omega
  · refine congrArg (ix2 k) (Fin.ext ?_)
    show ((r.val * 8 + g.val) * 1024 + j.val) % 8192 = g.val * 1024 + j.val
    omega

/-- Equal arguments give equal results. -/
theorem value : Cert.algebraic_UpWIdeal_UpWRefIdeal (hUpWIdeal := Cert.UpWIdeal.Gen.facts) (hUpWRefIdeal := Cert.UpWRefIdeal.Gen.facts) := by
  intro m ρ m' ρ' _ hagree
  refine ⟨fun c => G (m (c.tc.loc main_arg0)) (m (c.tc.loc main_arg2)), ?_, ?_⟩
  · exact (θ_run Cert.UpWIdeal.defs _ _).mono (fun r h c => ⟨(h c).1.trans (arr m c), (h c).2⟩) (Cert.UpWIdeal.Value.run_blocks (F := Ideal) m ρ)
  · refine (θ_run Cert.UpWRefIdeal.defs _ _).mono (fun r h c => ⟨(h c).1.trans ?_, (h c).2⟩) (Cert.UpWRefIdeal.Value.run (F := Ideal) m' ρ')
    obtain ⟨a0, a1, a2⟩ := hagree c
    refine (Cert.UpWRefIdeal.Read.val_main_v4_eq (F := Ideal) _ _).trans ((ref _ _).trans ?_)
    rw [a0, a2]

/-- The reference alone. -/
theorem frame_ref : Cert.quiescent_UpWRefIdeal (hUpWRefIdeal := Cert.UpWRefIdeal.Gen.facts) := fun m ρ _ =>
  (θ_run Cert.UpWRefIdeal.defs _ _).mono (fun r h => ⟨fun c => (h c).2, sem_eq_zero_of_no_sems (by decide) r.2⟩) (Cert.UpWRefIdeal.Value.run (F := Ideal) m ρ)

end Cert.UpWGrad
-- ==== Proof.OutW.lean ====
/-
  The gradient of the output projection's weight: each block of the kernel's result is one product of a block of columns of
  the mixer's output with a block of columns of its cotangent.
-/
module

public import proofs.«01_k».proof.Defs
public import proofs.«01_k».proof.Proof.Gen.OutW.Frame
public import proofs.«01_k».proof.Proof.Gen.OutWIdeal.Value
public import proofs.«01_k».proof.Proof.Gen.OutWRefIdeal.Run
public import proofs.«01_k».proof.Proof.Gen.OutWRefIdeal.Read
public import Idealize.ShloMosaic.Lib.Claim
public import Idealize.ShloMosaic.Lib.Pointwise
public import Idealize.ShloMosaic.Lib.Pipeline.ValueKit.Point

@[expose] public section

set_option maxRecDepth 16384

noncomputable section

namespace Cert.OutWGrad

open Idealize.ShloMosaic Idealize.ShloMosaic.TcCoe Idealize.ShloMosaic.Tactic
open Cert.OutWIdeal Cert.OutWIdeal.Gen

theorem idx : ∀ t : Fin grid0.N, win0_0.index t = ![0, t.val / 2] ∧ win0_1.index t = ![0, t.val % 2] ∧ win0_2.index t = ![t.val / 2, t.val % 2] := by
  decide +kernel

/-- Row (or column) `r` of block `b`. -/
def at2 (b : ℕ) (hb : b < 2) (r : Fin 1024) : Fin 2048 := ⟨b * 1024 + r.val, by omega⟩

theorem ilt (t : Fin cfg0.N) : t.val / 2 < 2 := by have h : t.val < 4 := t.isLt; omega
theorem jlt (t : Fin cfg0.N) : t.val % 2 < 2 := by omega

/-- The product summed over the rows. -/
def G (y d : S4096x2048.Idx → EReal) : S2048x2048.Idx → EReal := fun i => ∑ k : Fin 4096, y (ix2 k (i 0)) * d (ix2 k (i 1))

variable (m : (ℓ : Loc nD τ sig) → Buf (Elt Ideal) ℓ) (c : Dev nD)

theorem v0 : (V m c main_v0 : S4096x2048.Idx → EReal) = m (c.tc.loc main_arg0) := by
  entry_read
  rfl
theorem v1 : (V m c main_v1 : S4096x2048.Idx → EReal) = m (c.tc.loc main_arg2) := by
  entry_read
  rfl

theorem iblk0 (t : Fin cfg0.N) (k : Fin 4096) (r : Fin 1024) : iblk m c 0 t (ix2 k r) = V m c main_v0 (ix2 k (at2 _ (ilt t) r)) := by
  blk_ext [iblk, at2, (idx t).1]
theorem iblk1 (t : Fin cfg0.N) (k : Fin 4096) (r : Fin 1024) : iblk m c 1 t (ix2 k r) = V m c main_v1 (ix2 k (at2 _ (jlt t) r)) := by
  blk_ext [iblk, at2, (idx t).2.1]
theorem emb2 (t : Fin cfg0.N) (r j : Fin 1024) : ((cfg0.win 2).blk t).view.emb (ix2 r j) = (ix2 (at2 _ (ilt t) r) (at2 _ (jlt t) j) : S2048x2048.Idx) := by
  blk_ext [at2, (idx t).2.2]

theorem pay (x y : Vec Ideal S4096x1024 .bf16) (r j : Fin 1024) : k0_pay1 x y (ix2 r j) = ∑ k : Fin 4096, x (ix2 k r) * y (ix2 k j) := by
  pointwise [k0_pay1]

theorem arr : (dats m 0 c).arrAt 2 cfg0.N = G (m (c.tc.loc main_arg0)) (m (c.tc.loc main_arg2)) := by
  refine (dats m 0 c).arrAt_eq_of_covers 2 _ (by decide +kernel) fun t hf y => ?_
  blk_simp
  obtain ⟨r, j, rfl⟩ : ∃ (r j : Fin 1024), y = ix2 r j := ⟨y 0, y 1, eq_ix2 y⟩
  rw [after0_2]
  unfold outsAt0
  frame_out
  refine (pay _ _ r j).trans ?_
  refine Eq.trans ?_ (congrArg (G _ _) (emb2 t r j)).symm
  refine Finset.sum_congr rfl fun k _ => ?_
  rw [iblk0, iblk1, v0, v1]
  rfl

/-- The reference's result is the same sum. -/
theorem ref (y d : S4096x2048.Idx → EReal) : Cert.OutWRefIdeal.Read.val_main_v2 (F := Ideal) y d = G y d := by
  funext i
  rw [Cert.OutWRefIdeal.Read.val_main_v2_apply, Cert.OutWRefIdeal.Read.val_main_v1_apply]
  exact Finset.sum_congr rfl fun k _ => (mul_comm _ _).trans (congrArg₂ (· * ·) (congrArg y (eq_ix2 _)) (congrArg d (eq_ix2 _)))

/-- Equal arguments give equal results. -/
theorem value : Cert.algebraic_OutWIdeal_OutWRefIdeal (hOutWIdeal := Cert.OutWIdeal.Gen.facts) (hOutWRefIdeal := Cert.OutWRefIdeal.Gen.facts) := by
  intro m ρ m' ρ' _ hagree
  refine ⟨fun c => G (m (c.tc.loc main_arg0)) (m (c.tc.loc main_arg2)), ?_, ?_⟩
  · exact (θ_run Cert.OutWIdeal.defs _ _).mono (fun r h c => ⟨(h c).1.trans (arr m c), (h c).2⟩) (Cert.OutWIdeal.Value.run_blocks (F := Ideal) m ρ)
  · refine (θ_run Cert.OutWRefIdeal.defs _ _).mono (fun r h c => ⟨(h c).1.trans ?_, (h c).2⟩) (Cert.OutWRefIdeal.Value.run (F := Ideal) m' ρ')
    obtain ⟨a0, a1, a2⟩ := hagree c
    refine (Cert.OutWRefIdeal.Read.val_main_v2_eq (F := Ideal) _ _).trans ((ref _ _).trans ?_)
    rw [a0, a2]

/-- The reference alone. -/
theorem frame_ref : Cert.quiescent_OutWRefIdeal (hOutWRefIdeal := Cert.OutWRefIdeal.Gen.facts) := fun m ρ _ =>
  (θ_run Cert.OutWRefIdeal.defs _ _).mono (fun r h => ⟨fun c => (h c).2, sem_eq_zero_of_no_sems (by decide) r.2⟩) (Cert.OutWRefIdeal.Value.run (F := Ideal) m ρ)

end Cert.OutWGrad
-- ==== Proof.OutY.lean ====
/-
  The cotangent of the output projection's input: each block of the kernel's result is one product of a block of rows of the
  cotangent with a block of rows of the weight.
-/
module

public import proofs.«01_k».proof.Defs
public import proofs.«01_k».proof.Proof.Gen.OutY.Frame
public import proofs.«01_k».proof.Proof.Gen.OutYIdeal.Value
public import proofs.«01_k».proof.Proof.Gen.OutYRefIdeal.Run
public import proofs.«01_k».proof.Proof.Gen.OutYRefIdeal.Read
public import Idealize.ShloMosaic.Lib.Claim
public import Idealize.ShloMosaic.Lib.Pointwise
public import Idealize.ShloMosaic.Lib.Pipeline.ValueKit.Point

@[expose] public section

set_option maxRecDepth 16384

noncomputable section

namespace Cert.OutYGrad

open Idealize.ShloMosaic Idealize.ShloMosaic.TcCoe Idealize.ShloMosaic.Tactic
open Cert.OutYIdeal Cert.OutYIdeal.Gen

theorem idx : ∀ t : Fin grid0.N, win0_0.index t = ![t.val / 2, 0] ∧ win0_1.index t = ![t.val % 2, 0] ∧ win0_2.index t = ![t.val / 2, t.val % 2] := by
  decide +kernel

theorem ilt (t : Fin cfg0.N) : t.val / 2 < 4 := by have h : t.val < 8 := t.isLt; omega
theorem jlt (t : Fin cfg0.N) : t.val % 2 < 2 := by omega

/-- Token `r` of block `b`. -/
def tok (b : ℕ) (hb : b < 4) (r : Fin 1024) : Fin 4096 := ⟨b * 1024 + r.val, by omega⟩
/-- Column `r` of block `b`. -/
def col (b : ℕ) (hb : b < 2) (r : Fin 1024) : Fin 2048 := ⟨b * 1024 + r.val, by omega⟩

/-- The cotangent against the rows of the weight. -/
def G (d : S4096x2048.Idx → EReal) (w : S2048x2048.Idx → EReal) : S4096x2048.Idx → EReal := fun i => ∑ k : Fin 2048, d (ix2 (i 0) k) * w (ix2 (i 1) k)

variable (m : (ℓ : Loc nD τ sig) → Buf (Elt Ideal) ℓ) (c : Dev nD)

theorem v0 : (V m c main_v0 : S4096x2048.Idx → EReal) = m (c.tc.loc main_arg2) := by
  entry_read
  rfl
theorem v1 : (V m c main_v1 : S2048x2048.Idx → EReal) = m (c.tc.loc main_arg1) := by
  entry_read
  rfl

theorem iblk0 (t : Fin cfg0.N) (r : Fin 1024) (k : Fin 2048) : iblk m c 0 t (ix2 r k) = V m c main_v0 (ix2 (tok _ (ilt t) r) k) := by
  blk_ext [iblk, tok, (idx t).1]
theorem iblk1 (t : Fin cfg0.N) (r : Fin 1024) (k : Fin 2048) : iblk m c 1 t (ix2 r k) = V m c main_v1 (ix2 (col _ (jlt t) r) k) := by
  blk_ext [iblk, col, (idx t).2.1]
theorem emb2 (t : Fin cfg0.N) (r j : Fin 1024) : ((cfg0.win 2).blk t).view.emb (ix2 r j) = (ix2 (tok _ (ilt t) r) (col _ (jlt t) j) : S4096x2048.Idx) := by
  blk_ext [tok, col, (idx t).2.2]

theorem pay (x y : Vec Ideal S1024x2048 .bf16) (r j : Fin 1024) : k0_pay1 x y (ix2 r j) = ∑ k : Fin 2048, x (ix2 r k) * y (ix2 j k) := by
  pointwise [k0_pay1]

theorem arr : (dats m 0 c).arrAt 2 cfg0.N = G (m (c.tc.loc main_arg2)) (m (c.tc.loc main_arg1)) := by
  refine (dats m 0 c).arrAt_eq_of_covers 2 _ (by decide +kernel) fun t hf y => ?_
  blk_simp
  obtain ⟨r, j, rfl⟩ : ∃ (r j : Fin 1024), y = ix2 r j := ⟨y 0, y 1, eq_ix2 y⟩
  rw [after0_2]
  unfold outsAt0
  frame_out
  refine (pay _ _ r j).trans ?_
  refine Eq.trans ?_ (congrArg (G _ _) (emb2 t r j)).symm
  refine Finset.sum_congr rfl fun k _ => ?_
  rw [iblk0, iblk1, v0, v1]
  rfl

/-- The reference's result is the same sum. -/
theorem ref (w : S2048x2048.Idx → EReal) (d : S4096x2048.Idx → EReal) : Cert.OutYRefIdeal.Read.val_main_v1 (F := Ideal) w d = G d w := by
  funext i
  rw [Cert.OutYRefIdeal.Read.val_main_v1_apply]
  exact Finset.sum_congr rfl fun k _ => congrArg₂ (· * ·) (congrArg d (eq_ix2 _)) (congrArg w (eq_ix2 _))

/-- Equal arguments give equal results. -/
theorem value : Cert.algebraic_OutYIdeal_OutYRefIdeal (hOutYIdeal := Cert.OutYIdeal.Gen.facts) (hOutYRefIdeal := Cert.OutYRefIdeal.Gen.facts) := by
  intro m ρ m' ρ' _ hagree
  refine ⟨fun c => G (m (c.tc.loc main_arg2)) (m (c.tc.loc main_arg1)), ?_, ?_⟩
  · exact (θ_run Cert.OutYIdeal.defs _ _).mono (fun r h c => ⟨(h c).1.trans (arr m c), (h c).2⟩) (Cert.OutYIdeal.Value.run_blocks (F := Ideal) m ρ)
  · refine (θ_run Cert.OutYRefIdeal.defs _ _).mono (fun r h c => ⟨(h c).1.trans ?_, (h c).2⟩) (Cert.OutYRefIdeal.Value.run (F := Ideal) m' ρ')
    obtain ⟨a0, a1, a2⟩ := hagree c
    refine (Cert.OutYRefIdeal.Read.val_main_v1_eq (F := Ideal) _ _).trans ((ref _ _).trans ?_)
    rw [a1, a2]

/-- The reference alone. -/
theorem frame_ref : Cert.quiescent_OutYRefIdeal (hOutYRefIdeal := Cert.OutYRefIdeal.Gen.facts) := fun m ρ _ =>
  (θ_run Cert.OutYRefIdeal.defs _ _).mono (fun r h => ⟨fun c => (h c).2, sem_eq_zero_of_no_sems (by decide) r.2⟩) (Cert.OutYRefIdeal.Value.run (F := Ideal) m ρ)

end Cert.OutYGrad
-- ==== Proof.Columns.lean ====
/-
  The projections' columns with a gap of zeros between the two groups of heads and another at the end: sums over the wider
  range are sums over the columns themselves.
-/
module

public import proofs.«01_k».proof.Defs
public import Idealize.ShloMosaic.Lib.Pointwise

@[expose] public section

set_option maxRecDepth 16384

noncomputable section

namespace Cert.Columns

open Idealize.ShloMosaic Idealize.ShloMosaic.Tactic

/-- The 6160 entries laid out over 6400 places: 3072 of them, 128 zeros, the other 3088, 112 zeros. -/
def spread (f : Fin 6160 → EReal) : Fin 6400 → EReal := fun k =>
  if h : k.val < 3072 then f ⟨k.val, by omega⟩
  else if k.val < 3200 then 0
  else if h : k.val < 6288 then f ⟨k.val - 128, by omega⟩
  else 0

theorem spread_mul (f g : Fin 6160 → EReal) (k : Fin 6400) : spread f k * spread g k = spread (fun j => f j * g j) k := by
  unfold spread
  split_ifs <;> simp

theorem spread_sum {n : ℕ} (x : Fin n → EReal) (f : Fin n → Fin 6160 → EReal) (k : Fin 6400) :
    ∑ i, x i * spread (f i) k = spread (fun j => ∑ i, x i * f i j) k := by
  unfold spread
  split_ifs <;> simp

theorem sum_spread (f : Fin 6160 → EReal) : ∑ k, spread f k = ∑ j, f j := by
  show ∑ k : Fin (3072 + (128 + (3088 + 112))), spread f k = ∑ j : Fin (3072 + 3088), f j
  rw [Fin.sum_univ_add, Fin.sum_univ_add, Fin.sum_univ_add, Fin.sum_univ_add]
  have h1 : ∀ i : Fin 3072, spread f (Fin.castAdd (128 + (3088 + 112)) i : Fin (3072 + (128 + (3088 + 112)))) = f (Fin.castAdd 3088 i : Fin (3072 + 3088)) := fun i =>
    dif_pos (show i.val < 3072 from i.isLt)
  have h2 : ∀ i : Fin 128, spread f (Fin.natAdd 3072 (Fin.castAdd (3088 + 112) i) : Fin (3072 + (128 + (3088 + 112)))) = 0 := fun i =>
    (dif_neg (show ¬ 3072 + i.val < 3072 by omega)).trans (if_pos (show 3072 + i.val < 3200 by omega))
  have h3 : ∀ i : Fin 3088, spread f (Fin.natAdd 3072 (Fin.natAdd 128 (Fin.castAdd 112 i)) : Fin (3072 + (128 + (3088 + 112)))) = f (Fin.natAdd 3072 i : Fin (3072 + 3088)) := fun i =>
    (dif_neg (show ¬ 3072 + (128 + i.val) < 3072 by omega)).trans ((if_neg (show ¬ 3072 + (128 + i.val) < 3200 by omega)).trans
      ((dif_pos (show 3072 + (128 + i.val) < 6288 by omega)).trans (congrArg f (Fin.ext (show 3072 + (128 + i.val) - 128 = 3072 + i.val by omega)))))
  have h4 : ∀ i : Fin 112, spread f (Fin.natAdd 3072 (Fin.natAdd 128 (Fin.natAdd 3088 i)) : Fin (3072 + (128 + (3088 + 112)))) = 0 := fun i =>
    (dif_neg (show ¬ 3072 + (128 + (3088 + i.val)) < 3072 by omega)).trans ((if_neg (show ¬ 3072 + (128 + (3088 + i.val)) < 3200 by omega)).trans
      (dif_neg (show ¬ 3072 + (128 + (3088 + i.val)) < 6288 by omega)))
  simp only [h1, h2, h3, h4, Finset.sum_const_zero, add_zero, zero_add]

/-- A sum over the wider range, of two factors that are zero in the gaps. -/
theorem sum_mul (f g : Fin 6160 → EReal) : ∑ k, spread f k * spread g k = ∑ j, f j * g j :=
  (Finset.sum_congr rfl fun k _ => spread_mul f g k).trans (sum_spread _)

section
variable {n : ℕ} (a : (⟨2, ![n, 3072]⟩ : Shape).Idx → EReal) (z : (⟨2, ![n, 128]⟩ : Shape).Idx → EReal)
  (b : (⟨2, ![n, 3088]⟩ : Shape).Idx → EReal) (e : (⟨2, ![n, 112]⟩ : Shape).Idx → EReal)
variable (h : Shape.Concatenates ([⟨⟨2, ![n, 3072]⟩, a⟩, ⟨⟨2, ![n, 128]⟩, z⟩, ⟨⟨2, ![n, 3088]⟩, b⟩, ⟨⟨2, ![n, 112]⟩, e⟩].map
  (·.1 : ((s : Shape) × (s.Idx → EReal)) → Shape)) ⟨2, ![n, 6400]⟩ 1)

/-- Four pieces side by side, the second and the last of them zero. -/
theorem pieces (k : Fin n) (f : Fin 6160 → EReal) (ha : ∀ j : Fin 3072, a (ix2 k j) = f ⟨j.val, by omega⟩) (hz : ∀ j, z (ix2 k j) = 0)
    (hb : ∀ j : Fin 3088, b (ix2 k j) = f ⟨3072 + j.val, by omega⟩) (he : ∀ j, e (ix2 k j) = 0) (j : Fin 6400) :
    concatenate ⟨2, ![n, 6400]⟩ 1 [⟨⟨2, ![n, 3072]⟩, a⟩, ⟨⟨2, ![n, 128]⟩, z⟩, ⟨⟨2, ![n, 3088]⟩, b⟩, ⟨⟨2, ![n, 112]⟩, e⟩] h (ix2 k j) = spread f j := by
  pointwise []
  unfold spread
  by_cases h1 : j.val < 3072
  · rw [dif_pos h1, dif_pos h1]
    exact (congrArg a (eq_ix2 _)).trans (ha ⟨j.val, h1⟩)
  · by_cases h2 : j.val < 3200
    · rw [dif_neg h1, dif_pos (by omega), dif_neg h1, if_pos h2]
      exact (congrArg z (eq_ix2 _)).trans (hz _)
    · by_cases h3 : j.val < 6288
      · rw [dif_neg h1, dif_neg (by omega), dif_pos (by omega), dif_neg h1, if_neg h2, dif_pos h3]
        refine (congrArg b (eq_ix2 _)).trans ((hb ⟨j.val - 3072 - 128, by omega⟩).trans (congrArg f (Fin.ext ?_)))
        show 3072 + (j.val - 3072 - 128) = j.val - 128
        omega
      · rw [dif_neg h1, dif_neg (by omega), dif_neg (by omega), dif_neg h1, if_neg h2, dif_neg h3]
        exact (congrArg e (eq_ix2 _)).trans (he _)
end

/-- A range cut in equal blocks, summed block by block. -/
theorem sum_blocks {b w n : ℕ} (hn : b * w = n) (F : Fin n → EReal) (at' : ℕ → Fin w → Fin n)
    (q : ℕ) (h : ∀ (s : ℕ) (r : Fin w), s < b → (at' (b * q + s) r).val = s * w + r.val) :
    ∑ s ∈ Finset.range b, ∑ r, F (at' (b * q + s) r) = ∑ k, F k := by
  subst hn
  rw [Finset.sum_range, ← (finProdFinEquiv (m := b) (n := w)).sum_comp, Fintype.sum_prod_type]
  refine Finset.sum_congr rfl fun s _ => Finset.sum_congr rfl fun r _ => congrArg F (Fin.ext ?_)
  rw [h s.val r s.isLt]
  show s.val * w + r.val = r.val + w * s.val
  rw [Nat.add_comm, Nat.mul_comm]

end Cert.Columns
-- ==== Proof.InX.lean ====
/-
  The gradient of the block's input: the kernel adds five products, over five blocks of the projections' columns, in its
  accumulator and at the end the residual's cotangent times the residual's scale.
-/
module

public import proofs.«01_k».proof.Defs
public import proofs.«01_k».proof.Proof.Columns
public import proofs.«01_k».proof.Proof.Gen.InX.Frame
public import proofs.«01_k».proof.Proof.Gen.InXIdeal.Value
public import proofs.«01_k».proof.Proof.Gen.InXRefIdeal.Run
public import proofs.«01_k».proof.Proof.Gen.InXRefIdeal.Read
public import Idealize.ShloMosaic.Lib.Claim
public import Idealize.ShloMosaic.Lib.StableHlo.RunRead
public import Idealize.ShloMosaic.Lib.Pointwise
public import Idealize.ShloMosaic.Lib.Pipeline.ValueKit.Point
public import Idealize.ShloMosaic.Lib.Pipeline.ReadBack

@[expose] public section

set_option maxRecDepth 16384

noncomputable section

namespace Cert.InXGrad

open Idealize.ShloMosaic Idealize.ShloMosaic.TcCoe Idealize.ShloMosaic.Tactic
open Cert.InXIdeal Cert.InXIdeal.Gen Cert.InXIdeal.Value Cert.Columns

theorem idx : ∀ t : Fin grid0.N, win0_0.index t = ![t.val / 5, t.val % 5] ∧ win0_1.index t = ![0, t.val % 5] ∧ win0_2.index t = ![t.val / 5, 0]
    ∧ win0_3.index t = ![t.val / 5, 0] := by
  decide +kernel

/-- Token `r` of block `q`. -/
def tok (q : ℕ) (hq : q < 8) (r : Fin 512) : Fin 4096 := ⟨q * 512 + r.val, by omega⟩
/-- Column `r` of the block that point `n` takes. -/
def col (n : ℕ) (r : Fin 1280) : Fin 6400 := ⟨n % 5 * 1280 + r.val, by omega⟩

theorem qlt (t : Fin cfg0.N) : t.val / 5 < 8 := by have h : t.val < 40 := t.isLt; omega

/-- The residual's scale, as the programs write it. -/
def scale : EReal := Scalar.ofBits (F := Ideal) .f32 0x3F9837F0#32

/-- The product over the projections' columns. -/
def lin (w : S2048x6160.Idx → EReal) (d : S4096x6160.Idx → EReal) (t : Fin 4096) (a : Fin 2048) : EReal := ∑ j : Fin 6160, d (ix2 t j) * w (ix2 a j)

/-- The residual's part and the product over the projections' columns. -/
def G (w : S2048x6160.Idx → EReal) (d : S4096x6160.Idx → EReal) (s : S4096x2048.Idx → EReal) : S4096x2048.Idx → EReal := fun i =>
  scale * s (ix2 (i 0) (i 1)) + lin w d (i 0) (i 1)

variable (m : (ℓ : Loc nD τ sig) → Buf (Elt Ideal) ℓ) (c : Dev nD)

theorem v5_eq : V m c main_v5 = concatenate S4096x6400 1 [⟨S4096x3072, extractStridedSlice S4096x3072 ![0, 0] (truncf (F := Ideal) .bf16 (m (c.tc.loc main_arg2) : (⟨S4096x6160, .f32⟩ : BufTy).Contents (Elt Ideal)) Gen.facts.bitsLt_bf16_f32) Gen.facts.slices_S4096x6160_S4096x3072_0_0⟩,
    ⟨S4096x128, broadcastInDim S4096x128 ![] Gen.facts.bcast_S_S4096x128 (constant (F := Ideal) S_ .bf16 0x0000#16)⟩,
    ⟨S4096x3088, extractStridedSlice S4096x3088 ![0, 3072] (truncf (F := Ideal) .bf16 (m (c.tc.loc main_arg2) : (⟨S4096x6160, .f32⟩ : BufTy).Contents (Elt Ideal)) Gen.facts.bitsLt_bf16_f32) Gen.facts.slices_S4096x6160_S4096x3088_0_3072⟩,
    ⟨S4096x112, broadcastInDim S4096x112 ![] Gen.facts.bcast_S_S4096x112 (constant (F := Ideal) S_ .bf16 0x0000#16)⟩]
    Gen.facts.concatenates_S4096x3072_S4096x128_S4096x3088_S4096x112_S4096x6400_d1 := by
  unfold V
  simp only [hostOps0, List.flatten_cons, List.flatten_nil, List.append_nil]
  after_reads_simp
  generalize hU : StableHlo.upto _ _ 7 = U
  have hl : U (Proc.devRef .tc main_v3) = extractStridedSlice S4096x3072 ![0, 0] (truncf (F := Ideal) .bf16 (m (c.tc.loc main_arg2) : (⟨S4096x6160, .f32⟩ : BufTy).Contents (Elt Ideal)) Gen.facts.bitsLt_bf16_f32) Gen.facts.slices_S4096x6160_S4096x3072_0_0 := by
    subst hU
    after_reads_simp
  have hz : U (Proc.devRef .tc main_v1) = broadcastInDim S4096x128 ![] Gen.facts.bcast_S_S4096x128 (constant (F := Ideal) S_ .bf16 0x0000#16) := by
    subst hU
    after_reads_simp
  have hr : U (Proc.devRef .tc main_v4) = extractStridedSlice S4096x3088 ![0, 3072] (truncf (F := Ideal) .bf16 (m (c.tc.loc main_arg2) : (⟨S4096x6160, .f32⟩ : BufTy).Contents (Elt Ideal)) Gen.facts.bitsLt_bf16_f32) Gen.facts.slices_S4096x6160_S4096x3088_0_3072 := by
    subst hU
    after_reads_simp
  have he : U (Proc.devRef .tc main_v2) = broadcastInDim S4096x112 ![] Gen.facts.bcast_S_S4096x112 (constant (F := Ideal) S_ .bf16 0x0000#16) := by
    subst hU
    after_reads_simp
  change concatenate S4096x6400 1 [⟨S4096x3072, U (Proc.devRef .tc main_v3)⟩, ⟨S4096x128, U (Proc.devRef .tc main_v1)⟩, ⟨S4096x3088, U (Proc.devRef .tc main_v4)⟩,
    ⟨S4096x112, U (Proc.devRef .tc main_v2)⟩] _ = _
  rw [hl, hz, hr, he]
theorem v5 (k : Fin 4096) (j : Fin 6400) : (V m c main_v5 : S4096x6400.Idx → EReal) (ix2 k j)
    = spread (fun j => (m (c.tc.loc main_arg2) : S4096x6160.Idx → EReal) (ix2 k j)) j := by
  rw [v5_eq]
  refine pieces _ _ _ _ _ k _ (fun j => ?_) (fun j => ?_) (fun j => ?_) (fun j => ?_) j
  all_goals pointwise []
theorem v11_eq : V m c main_v11 = concatenate S2048x6400 1 [⟨S2048x3072, extractStridedSlice S2048x3072 ![0, 0] (truncf (F := Ideal) .bf16 (m (c.tc.loc main_arg1) : (⟨S2048x6160, .f32⟩ : BufTy).Contents (Elt Ideal)) Gen.facts.bitsLt_bf16_f32) Gen.facts.slices_S2048x6160_S2048x3072_0_0⟩,
    ⟨S2048x128, broadcastInDim S2048x128 ![] Gen.facts.bcast_S_S2048x128 (constant (F := Ideal) S_ .bf16 0x0000#16)⟩,
    ⟨S2048x3088, extractStridedSlice S2048x3088 ![0, 3072] (truncf (F := Ideal) .bf16 (m (c.tc.loc main_arg1) : (⟨S2048x6160, .f32⟩ : BufTy).Contents (Elt Ideal)) Gen.facts.bitsLt_bf16_f32) Gen.facts.slices_S2048x6160_S2048x3088_0_3072⟩,
    ⟨S2048x112, broadcastInDim S2048x112 ![] Gen.facts.bcast_S_S2048x112 (constant (F := Ideal) S_ .bf16 0x0000#16)⟩]
    Gen.facts.concatenates_S2048x3072_S2048x128_S2048x3088_S2048x112_S2048x6400_d1 := by
  unfold V
  simp only [hostOps0, List.flatten_cons, List.flatten_nil, List.append_nil]
  after_reads_simp
  generalize hU : StableHlo.upto _ _ 15 = U
  have hl : U (Proc.devRef .tc main_v9) = extractStridedSlice S2048x3072 ![0, 0] (truncf (F := Ideal) .bf16 (m (c.tc.loc main_arg1) : (⟨S2048x6160, .f32⟩ : BufTy).Contents (Elt Ideal)) Gen.facts.bitsLt_bf16_f32) Gen.facts.slices_S2048x6160_S2048x3072_0_0 := by
    subst hU
    after_reads_simp
  have hz : U (Proc.devRef .tc main_v7) = broadcastInDim S2048x128 ![] Gen.facts.bcast_S_S2048x128 (constant (F := Ideal) S_ .bf16 0x0000#16) := by
    subst hU
    after_reads_simp
  have hr : U (Proc.devRef .tc main_v10) = extractStridedSlice S2048x3088 ![0, 3072] (truncf (F := Ideal) .bf16 (m (c.tc.loc main_arg1) : (⟨S2048x6160, .f32⟩ : BufTy).Contents (Elt Ideal)) Gen.facts.bitsLt_bf16_f32) Gen.facts.slices_S2048x6160_S2048x3088_0_3072 := by
    subst hU
    after_reads_simp
  have he : U (Proc.devRef .tc main_v8) = broadcastInDim S2048x112 ![] Gen.facts.bcast_S_S2048x112 (constant (F := Ideal) S_ .bf16 0x0000#16) := by
    subst hU
    after_reads_simp
  change concatenate S2048x6400 1 [⟨S2048x3072, U (Proc.devRef .tc main_v9)⟩, ⟨S2048x128, U (Proc.devRef .tc main_v7)⟩, ⟨S2048x3088, U (Proc.devRef .tc main_v10)⟩,
    ⟨S2048x112, U (Proc.devRef .tc main_v8)⟩] _ = _
  rw [hl, hz, hr, he]
theorem v11 (k : Fin 2048) (j : Fin 6400) : (V m c main_v11 : S2048x6400.Idx → EReal) (ix2 k j)
    = spread (fun j => (m (c.tc.loc main_arg1) : S2048x6160.Idx → EReal) (ix2 k j)) j := by
  rw [v11_eq]
  refine pieces _ _ _ _ _ k _ (fun j => ?_) (fun j => ?_) (fun j => ?_) (fun j => ?_) j
  all_goals pointwise []

theorem iblk0 (t : Fin cfg0.N) (r : Fin 512) (k : Fin 1280) : iblk m c 0 t (ix2 r k) = V m c main_v5 (ix2 (tok _ (qlt t) r) (col t.val k)) := by
  blk_ext [iblk, tok, col, (idx t).1]
theorem iblk1 (t : Fin cfg0.N) (r : Fin 2048) (k : Fin 1280) : iblk m c 1 t (ix2 r k) = V m c main_v11 (ix2 r (col t.val k)) := by
  blk_ext [iblk, col, (idx t).2.1]
theorem iblk2 (t : Fin cfg0.N) (r : Fin 512) (j : Fin 2048) : iblk m c 2 t (ix2 r j) = V m c main_arg3 (ix2 (tok _ (qlt t) r) j) := by
  blk_ext [iblk, tok, (idx t).2.2.1]
theorem emb3 (t : Fin cfg0.N) (r : Fin 512) (j : Fin 2048) : ((cfg0.win 3).blk t).view.emb (ix2 r j) = (ix2 (tok _ (qlt t) r) j : S4096x2048.Idx) := by
  blk_ext [tok, (idx t).2.2.2]

theorem pay1 (i : S512x2048.Idx) : k0_pay1 (F := Ideal) i = 0 := by
  obtain ⟨r, j, rfl⟩ : ∃ (r : Fin 512) (j : Fin 2048), i = ix2 r j := ⟨i 0, i 1, eq_ix2 i⟩
  pointwise [k0_pay1]
theorem pay2 (x : Vec Ideal S512x1280 .bf16) (y : Vec Ideal S2048x1280 .bf16) (a : Vec Ideal S512x2048 .f32) (r : Fin 512) (j : Fin 2048) :
    k0_pay2 x y a (ix2 r j) = a (ix2 r j) + ∑ k : Fin 1280, x (ix2 r k) * y (ix2 j k) := by
  pointwise [k0_pay2]
theorem pay3 (s a : Vec Ideal S512x2048 .f32) (i : S512x2048.Idx) : k0_pay3 s a i = scale * s i + a i := rfl

/-- What point `n` adds to block `q`. -/
def part (q : ℕ) (hq : q < 8) (n : ℕ) (i : S512x2048.Idx) : EReal :=
  ∑ k : Fin 1280, spread (fun j => (m (c.tc.loc main_arg2) : S4096x6160.Idx → EReal) (ix2 (tok q hq (i 0)) j)) (col n k)
    * spread (fun j => (m (c.tc.loc main_arg1) : S2048x6160.Idx → EReal) (ix2 (i 1) j)) (col n k)

theorem prod (t : Fin cfg0.N) (q : ℕ) (hq : q < 8) (e : t.val / 5 = q) (a : Vec Ideal S512x2048 .f32) (i : S512x2048.Idx) :
    k0_pay2 (iblk m c 0 t) (iblk m c 1 t) a i = a i + part m c q hq t.val i := by
  subst e
  obtain ⟨r, j, rfl⟩ : ∃ (r : Fin 512) (j : Fin 2048), i = ix2 r j := ⟨i 0, i 1, eq_ix2 i⟩
  refine (pay2 _ _ _ r j).trans (congrArg _ (Finset.sum_congr rfl fun k _ => ?_))
  rw [iblk0, iblk1, v5, v11]
  rfl

theorem first (n : ℕ) (h : n < cfg0.N) (acc : Vec Ideal S512x2048 .f32) (h0 : n % 5 = 0) :
    scAt0_0 m c n h acc = k0_pay2 (iblk m c 0 ⟨n, h⟩) (iblk m c 1 ⟨n, h⟩) (k0_pay1 (F := Ideal)) := by
  unfold scAt0_0
  rw [dif_pos h0, dif_neg (by omega)]
  frame_out
theorem next (n : ℕ) (h : n < cfg0.N) (acc : Vec Ideal S512x2048 .f32) (h0 : ¬ n % 5 = 0) :
    scAt0_0 m c n h acc = k0_pay2 (iblk m c 0 ⟨n, h⟩) (iblk m c 1 ⟨n, h⟩) acc := by
  unfold scAt0_0
  by_cases h1 : n % 5 = 4
  · rw [dif_neg h0, dif_pos h1]
    frame_out
    rw [Idealize.ShloMosaic.read_unread_whole]
  · rw [dif_neg h0, dif_neg h1]
    frame_out
    rw [Idealize.ShloMosaic.read_unread_whole]

/-- The accumulator after the fifth point of a block: the sum over all columns. -/
theorem acc (t : Fin cfg0.N) (h1 : t.val % 5 = 4) (r : Fin 512) (j : Fin 2048) : (outsAt0 m c t.val t.isLt).2 (ix2 r j)
    = lin (m (c.tc.loc main_arg1)) (m (c.tc.loc main_arg2)) (tok _ (qlt t) r) j := by
  have hN : t.val < 40 := t.isLt
  rw [soutsAt0_0_eq]
  refine (Pipeline.accAt_add_apply _ _ (fun _ => (0 : EReal)) (part m c (t.val / 5) (qlt t)) (5 * (t.val / 5)) 4 (fun h i => ?_) (fun n h a i hb he => ?_)
    (t.val % 5) (by omega) _ (ix2 r j)).trans ?_
  · rw [first m c _ _ _ (by omega), prod m c ⟨_, h⟩ (t.val / 5) (qlt t) (by show 5 * (t.val / 5) / 5 = t.val / 5; omega), pay1]
  · rw [next m c _ _ _ (by omega), prod m c ⟨_, h⟩ (t.val / 5) (qlt t) (by show n / 5 = t.val / 5; omega)]
  · rw [h1]
    refine (zero_add _).trans ?_
    refine Eq.trans ?_ (sum_mul (fun i => (m (c.tc.loc main_arg2) : S4096x6160.Idx → EReal) (ix2 (tok _ (qlt t) r) i))
      (fun i => (m (c.tc.loc main_arg1) : S2048x6160.Idx → EReal) (ix2 j i)))
    exact sum_blocks (b := 5) (w := 1280) (n := 6400) rfl
      (fun k => spread (fun i => (m (c.tc.loc main_arg2) : S4096x6160.Idx → EReal) (ix2 (tok _ (qlt t) r) i)) k
        * spread (fun i => (m (c.tc.loc main_arg1) : S2048x6160.Idx → EReal) (ix2 j i)) k)
      col (t.val / 5) (fun s r hs => by show (5 * (t.val / 5) + s) % 5 * 1280 + r.val = s * 1280 + r.val; rw [show (5 * (t.val / 5) + s) % 5 = s by omega])

/-- At the fifth point of a block the accumulator goes out with the residual's part. -/
theorem out (t : Fin cfg0.N) (h1 : t.val % 5 = 4) : (outsAt0 m c t.val t.isLt).1 = k0_pay3 (iblk m c 2 t) (outsAt0 m c t.val t.isLt).2 := by
  rw [outsAt0_C m c t (by omega) h1]
  dsimp only
  frame_out

theorem arr : (dats m 0 c).arrAt 3 cfg0.N = G (m (c.tc.loc main_arg1)) (m (c.tc.loc main_arg2)) (m (c.tc.loc main_arg3)) := by
  refine (dats m 0 c).arrAt_eq_of_covers 3 _ (by decide +kernel) fun t hf y => ?_
  have h1 : t.val % 5 = 4 := (flush0_3 t).mp hf
  blk_simp
  obtain ⟨r, j, rfl⟩ : ∃ (r : Fin 512) (j : Fin 2048), y = ix2 r j := ⟨y 0, y 1, eq_ix2 y⟩
  rw [after0_3, out m c t h1]
  refine (pay3 _ _ _).trans ?_
  rw [acc m c t h1 r j, iblk2, V_main_arg3]
  exact (congrArg (G _ _ _) (emb3 t r j)).symm

/-- The reference's result is the same. -/
theorem ref (w : S2048x6160.Idx → EReal) (d : S4096x6160.Idx → EReal) (s : S4096x2048.Idx → EReal) :
    Cert.InXRefIdeal.Read.val_main_v6 (F := Ideal) w d s = G w d s := by
  funext i
  rw [Cert.InXRefIdeal.Read.val_main_v6_apply, Cert.InXRefIdeal.Read.val_main_v4_apply, Cert.InXRefIdeal.Read.val_main_v3_apply,
    Cert.InXRefIdeal.Read.val_main_v5_apply]
  refine congrArg₂ (· + ·) (congrArg₂ (· * ·) rfl (congrArg s (eq_ix2 _))) ?_
  exact Finset.sum_congr rfl fun k _ => congrArg₂ (· * ·) (congrArg d (eq_ix2 _)) (congrArg w (eq_ix2 _))

/-- Equal arguments give equal results. -/
theorem value : Cert.algebraic_InXIdeal_InXRefIdeal (hInXIdeal := Cert.InXIdeal.Gen.facts) (hInXRefIdeal := Cert.InXRefIdeal.Gen.facts) := by
  intro m ρ m' ρ' _ hagree
  refine ⟨fun c => G (m (c.tc.loc main_arg1)) (m (c.tc.loc main_arg2)) (m (c.tc.loc main_arg3)), ?_, ?_⟩
  · exact (θ_run Cert.InXIdeal.defs _ _).mono (fun r h c => ⟨(h c).1.trans (arr m c), (h c).2⟩) (Cert.InXIdeal.Value.run_blocks (F := Ideal) m ρ)
  · refine (θ_run Cert.InXRefIdeal.defs _ _).mono (fun r h c => ⟨(h c).1.trans ?_, (h c).2⟩) (Cert.InXRefIdeal.Value.run (F := Ideal) m' ρ')
    obtain ⟨a0, a1, a2, a3⟩ := hagree c
    refine (Cert.InXRefIdeal.Read.val_main_v6_eq (F := Ideal) _ _ _).trans ((ref _ _ _).trans ?_)
    rw [a1, a2, a3]

/-- The reference alone. -/
theorem frame_ref : Cert.quiescent_InXRefIdeal (hInXRefIdeal := Cert.InXRefIdeal.Gen.facts) := fun m ρ _ =>
  (θ_run Cert.InXRefIdeal.defs _ _).mono (fun r h => ⟨fun c => (h c).2, sem_eq_zero_of_no_sems (by decide) r.2⟩) (Cert.InXRefIdeal.Value.run (F := Ideal) m ρ)

end Cert.InXGrad
-- ==== Proof.InW.lean ====
/-
  The gradient of the input projection's weight, its columns laid out with two gaps of zeros: the kernel adds two products, of
  the first and of the second half of the tokens, in its accumulator.
-/
module

public import proofs.«01_k».proof.Defs
public import proofs.«01_k».proof.Proof.Columns
public import proofs.«01_k».proof.Proof.Gen.InW.Frame
public import proofs.«01_k».proof.Proof.Gen.InWIdeal.Value
public import proofs.«01_k».proof.Proof.Gen.InWRefIdeal.Run
public import proofs.«01_k».proof.Proof.Gen.InWRefIdeal.Read
public import Idealize.ShloMosaic.Lib.Claim
public import Idealize.ShloMosaic.Lib.StableHlo.RunRead
public import Idealize.ShloMosaic.Lib.Pointwise
public import Idealize.ShloMosaic.Lib.Pipeline.ValueKit.Point
public import Idealize.ShloMosaic.Lib.Pipeline.ReadBack

@[expose] public section

set_option maxRecDepth 16384

noncomputable section

namespace Cert.InWGrad

open Idealize.ShloMosaic Idealize.ShloMosaic.TcCoe Idealize.ShloMosaic.Tactic
open Cert.InWIdeal Cert.InWIdeal.Gen Cert.InWIdeal.Value Cert.Columns

theorem idx : ∀ t : Fin grid0.N, win0_0.index t = ![t.val % 2, t.val / 10] ∧ win0_1.index t = ![t.val % 2, t.val / 2 % 5]
    ∧ win0_2.index t = ![t.val / 10, t.val / 2 % 5] := by
  decide +kernel

/-- Token `r` of the half that point `n` takes. -/
def tok (n : ℕ) (r : Fin 2048) : Fin 4096 := ⟨n % 2 * 2048 + r.val, by omega⟩
/-- Row `r` of the block of the weight's rows in pair `q` of points. -/
def row (q : ℕ) (hq : q < 10) (r : Fin 1024) : Fin 2048 := ⟨q / 5 * 1024 + r.val, by omega⟩
/-- Column `r` of the block of columns in pair `q` of points. -/
def col (q : ℕ) (r : Fin 1280) : Fin 6400 := ⟨q % 5 * 1280 + r.val, by omega⟩

theorem qlt (t : Fin cfg0.N) : t.val / 2 < 10 := by have h : t.val < 20 := t.isLt; omega

/-- One token's term. -/
def term (x : S4096x2048.Idx → EReal) (d : S4096x6160.Idx → EReal) (a : Fin 2048) (b : Fin 6400) (k : Fin 4096) : EReal :=
  x (ix2 k a) * spread (fun j => d (ix2 k j)) b

/-- The product, its columns with the two gaps. -/
def G (x : S4096x2048.Idx → EReal) (d : S4096x6160.Idx → EReal) : S2048x6400.Idx → EReal := fun i =>
  ∑ k : Fin 4096, term x d (i 0) (i 1) k

variable (m : (ℓ : Loc nD τ sig) → Buf (Elt Ideal) ℓ) (c : Dev nD)

theorem v0 : (V m c main_v0 : S4096x2048.Idx → EReal) = m (c.tc.loc main_arg0) := by
  entry_read
  rfl
theorem v6_eq : V m c main_v6 = concatenate S4096x6400 1 [⟨S4096x3072, extractStridedSlice S4096x3072 ![0, 0] (truncf (F := Ideal) .bf16 (m (c.tc.loc main_arg2) : (⟨S4096x6160, .f32⟩ : BufTy).Contents (Elt Ideal)) Gen.facts.bitsLt_bf16_f32) Gen.facts.slices_S4096x6160_S4096x3072_0_0⟩,
    ⟨S4096x128, broadcastInDim S4096x128 ![] Gen.facts.bcast_S_S4096x128 (constant (F := Ideal) S_ .bf16 0x0000#16)⟩,
    ⟨S4096x3088, extractStridedSlice S4096x3088 ![0, 3072] (truncf (F := Ideal) .bf16 (m (c.tc.loc main_arg2) : (⟨S4096x6160, .f32⟩ : BufTy).Contents (Elt Ideal)) Gen.facts.bitsLt_bf16_f32) Gen.facts.slices_S4096x6160_S4096x3088_0_3072⟩,
    ⟨S4096x112, broadcastInDim S4096x112 ![] Gen.facts.bcast_S_S4096x112 (constant (F := Ideal) S_ .bf16 0x0000#16)⟩]
    Gen.facts.concatenates_S4096x3072_S4096x128_S4096x3088_S4096x112_S4096x6400_d1 := by
  unfold V
  simp only [hostOps0, List.flatten_cons, List.flatten_nil, List.append_nil]
  after_reads_simp
  generalize hU : StableHlo.upto _ _ 8 = U
  have hl : U (Proc.devRef .tc main_v4) = extractStridedSlice S4096x3072 ![0, 0] (truncf (F := Ideal) .bf16 (m (c.tc.loc main_arg2) : (⟨S4096x6160, .f32⟩ : BufTy).Contents (Elt Ideal)) Gen.facts.bitsLt_bf16_f32) Gen.facts.slices_S4096x6160_S4096x3072_0_0 := by
    subst hU
    after_reads_simp
  have hz : U (Proc.devRef .tc main_v2) = broadcastInDim S4096x128 ![] Gen.facts.bcast_S_S4096x128 (constant (F := Ideal) S_ .bf16 0x0000#16) := by
    subst hU
    after_reads_simp
  have hr : U (Proc.devRef .tc main_v5) = extractStridedSlice S4096x3088 ![0, 3072] (truncf (F := Ideal) .bf16 (m (c.tc.loc main_arg2) : (⟨S4096x6160, .f32⟩ : BufTy).Contents (Elt Ideal)) Gen.facts.bitsLt_bf16_f32) Gen.facts.slices_S4096x6160_S4096x3088_0_3072 := by
    subst hU
    after_reads_simp
  have he : U (Proc.devRef .tc main_v3) = broadcastInDim S4096x112 ![] Gen.facts.bcast_S_S4096x112 (constant (F := Ideal) S_ .bf16 0x0000#16) := by
    subst hU
    after_reads_simp
  change concatenate S4096x6400 1 [⟨S4096x3072, U (Proc.devRef .tc main_v4)⟩, ⟨S4096x128, U (Proc.devRef .tc main_v2)⟩, ⟨S4096x3088, U (Proc.devRef .tc main_v5)⟩,
    ⟨S4096x112, U (Proc.devRef .tc main_v3)⟩] _ = _
  rw [hl, hz, hr, he]
theorem v6 (k : Fin 4096) (j : Fin 6400) : (V m c main_v6 : S4096x6400.Idx → EReal) (ix2 k j)
    = spread (fun j => (m (c.tc.loc main_arg2) : S4096x6160.Idx → EReal) (ix2 k j)) j := by
  rw [v6_eq]
  refine pieces _ _ _ _ _ k _ (fun j => ?_) (fun j => ?_) (fun j => ?_) (fun j => ?_) j
  all_goals pointwise []

theorem iblk0 (t : Fin cfg0.N) (k : Fin 2048) (r : Fin 1024) : iblk m c 0 t (ix2 k r) = V m c main_v0 (ix2 (tok t.val k) (row _ (qlt t) r)) := by
  have e : t.val / 2 / 5 = t.val / 10 := Nat.div_div_eq_div_mul _ _ _
  blk_ext [iblk, tok, row, e, (idx t).1]
theorem iblk1 (t : Fin cfg0.N) (k : Fin 2048) (r : Fin 1280) : iblk m c 1 t (ix2 k r) = V m c main_v6 (ix2 (tok t.val k) (col (t.val / 2) r)) := by
  blk_ext [iblk, tok, col, (idx t).2.1]
theorem emb2 (t : Fin cfg0.N) (r : Fin 1024) (j : Fin 1280) : ((cfg0.win 2).blk t).view.emb (ix2 r j) = (ix2 (row _ (qlt t) r) (col (t.val / 2) j) : S2048x6400.Idx) := by
  have e : t.val / 2 / 5 = t.val / 10 := Nat.div_div_eq_div_mul _ _ _
  blk_ext [row, col, e, (idx t).2.2]

theorem pay1 (i : S1024x1280.Idx) : k0_pay1 (F := Ideal) i = 0 := by
  obtain ⟨r, j, rfl⟩ : ∃ (r : Fin 1024) (j : Fin 1280), i = ix2 r j := ⟨i 0, i 1, eq_ix2 i⟩
  pointwise [k0_pay1]
theorem pay2 (x : Vec Ideal S2048x1024 .bf16) (y : Vec Ideal S2048x1280 .bf16) (a : Vec Ideal S1024x1280 .f32) (r : Fin 1024) (j : Fin 1280) :
    k0_pay2 x y a (ix2 r j) = a (ix2 r j) + ∑ k : Fin 2048, x (ix2 k r) * y (ix2 k j) := by
  pointwise [k0_pay2]

/-- What point `n` adds to its block. -/
def part (q : ℕ) (hq : q < 10) (n : ℕ) (i : S1024x1280.Idx) : EReal :=
  ∑ k : Fin 2048, term (m (c.tc.loc main_arg0)) (m (c.tc.loc main_arg2)) (row q hq (i 0)) (col q (i 1)) (tok n k)

theorem prod (t : Fin cfg0.N) (q : ℕ) (hq : q < 10) (e : t.val / 2 = q) (a : Vec Ideal S1024x1280 .f32) (i : S1024x1280.Idx) :
    k0_pay2 (iblk m c 0 t) (iblk m c 1 t) a i = a i + part m c q hq t.val i := by
  subst e
  obtain ⟨r, j, rfl⟩ : ∃ (r : Fin 1024) (j : Fin 1280), i = ix2 r j := ⟨i 0, i 1, eq_ix2 i⟩
  refine (pay2 _ _ _ r j).trans (congrArg _ (Finset.sum_congr rfl fun k _ => ?_))
  rw [iblk0, iblk1, v0, v6]
  rfl

theorem first (n : ℕ) (h : n < cfg0.N) (acc : Vec Ideal S1024x1280 .f32) (h0 : n % 2 = 0) :
    scAt0_0 m c n h acc = k0_pay2 (iblk m c 0 ⟨n, h⟩) (iblk m c 1 ⟨n, h⟩) (k0_pay1 (F := Ideal)) := by
  unfold scAt0_0
  rw [dif_pos h0, dif_neg (by omega)]
  frame_out
theorem next (n : ℕ) (h : n < cfg0.N) (acc : Vec Ideal S1024x1280 .f32) (h0 : ¬ n % 2 = 0) :
    scAt0_0 m c n h acc = k0_pay2 (iblk m c 0 ⟨n, h⟩) (iblk m c 1 ⟨n, h⟩) acc := by
  unfold scAt0_0
  rw [dif_neg h0, dif_pos (by omega)]
  frame_out
  rw [Idealize.ShloMosaic.read_unread_whole]

/-- The accumulator after the second point of a pair: the sum over all tokens. -/
theorem acc (t : Fin cfg0.N) (h1 : t.val % 2 = 1) (r : Fin 1024) (j : Fin 1280) : (outsAt0 m c t.val t.isLt).2 (ix2 r j)
    = G (m (c.tc.loc main_arg0)) (m (c.tc.loc main_arg2)) (ix2 (row _ (qlt t) r) (col (t.val / 2) j)) := by
  have hN : t.val < 20 := t.isLt
  rw [soutsAt0_0_eq]
  refine (Pipeline.accAt_add_apply _ _ (fun _ => (0 : EReal)) (part m c (t.val / 2) (qlt t)) (2 * (t.val / 2)) 1 (fun h i => ?_) (fun n h a i hb he => ?_)
    (t.val % 2) (by omega) _ (ix2 r j)).trans ?_
  · rw [first m c _ _ _ (by omega), prod m c ⟨_, h⟩ (t.val / 2) (qlt t) (by show 2 * (t.val / 2) / 2 = t.val / 2; omega), pay1]
  · rw [next m c _ _ _ (by omega), prod m c ⟨_, h⟩ (t.val / 2) (qlt t) (by show n / 2 = t.val / 2; omega)]
  · rw [h1]
    refine (zero_add _).trans ?_
    exact sum_blocks (b := 2) (w := 2048) (n := 4096) rfl
      (term (m (c.tc.loc main_arg0)) (m (c.tc.loc main_arg2)) (row _ (qlt t) r) (col (t.val / 2) j))
      tok (t.val / 2) (fun s r hs => by show (2 * (t.val / 2) + s) % 2 * 2048 + r.val = s * 2048 + r.val; rw [show (2 * (t.val / 2) + s) % 2 = s by omega])

/-- At the second point of a pair the accumulator is written out. -/
theorem out (t : Fin cfg0.N) (h1 : t.val % 2 = 1) : (outsAt0 m c t.val t.isLt).1 = (outsAt0 m c t.val t.isLt).2 := by
  rw [outsAt0_B m c t (by omega) h1]
  dsimp only
  frame_out

theorem arr : (dats m 0 c).arrAt 2 cfg0.N = G (m (c.tc.loc main_arg0)) (m (c.tc.loc main_arg2)) := by
  refine (dats m 0 c).arrAt_eq_of_covers 2 _ (by decide +kernel) fun t hf y => ?_
  have h1 : t.val % 2 = 1 := (flush0_2 t).mp hf
  blk_simp
  obtain ⟨r, j, rfl⟩ : ∃ (r : Fin 1024) (j : Fin 1280), y = ix2 r j := ⟨y 0, y 1, eq_ix2 y⟩
  rw [after0_2, out m c t h1]
  exact (acc m c t h1 r j).trans (congrArg (G _ _) (emb2 t r j)).symm

/-- The reference's result is the same. -/
theorem ref (x : S4096x2048.Idx → EReal) (d : S4096x6160.Idx → EReal) : Cert.InWRefIdeal.Read.val_main_v7 (F := Ideal) x d = G x d := by
  funext i
  obtain ⟨a, j, rfl⟩ : ∃ (a : Fin 2048) (j : Fin 6400), i = ix2 a j := ⟨i 0, i 1, eq_ix2 i⟩
  have e : ∀ j : Fin 6160, Cert.InWRefIdeal.Read.val_main_v2 (F := Ideal) x d (ix2 a j) = ∑ k : Fin 4096, x (ix2 k a) * d (ix2 k j) := fun j => by
    rw [Cert.InWRefIdeal.Read.val_main_v2_apply, Cert.InWRefIdeal.Read.val_main_v1_apply]
    exact Finset.sum_congr rfl fun k _ => (mul_comm _ _).trans (congrArg₂ (· * ·) (congrArg x (eq_ix2 _)) (congrArg d (eq_ix2 _)))
  refine Eq.trans ?_ (spread_sum (fun k : Fin 4096 => x (ix2 k a)) (fun k j => d (ix2 k j)) j).symm
  unfold Cert.InWRefIdeal.Read.val_main_v7
  refine pieces _ _ _ _ _ a _ (fun j => ?_) (fun j => ?_) (fun j => ?_) (fun j => ?_) j
  · rw [Cert.InWRefIdeal.Read.val_main_v3_apply]
    exact (congrArg _ (eq_ix2 _)).trans (e _)
  · rw [Cert.InWRefIdeal.Read.val_main_v4_apply]
    pointwise [Cert.InWRefIdeal.Read.val_main_cst]
  · rw [Cert.InWRefIdeal.Read.val_main_v5_apply]
    exact (congrArg _ (eq_ix2 _)).trans (e _)
  · rw [Cert.InWRefIdeal.Read.val_main_v6_apply]
    pointwise [Cert.InWRefIdeal.Read.val_main_cst_0]

/-- Equal arguments give equal results. -/
theorem value : Cert.algebraic_InWIdeal_InWRefIdeal (hInWIdeal := Cert.InWIdeal.Gen.facts) (hInWRefIdeal := Cert.InWRefIdeal.Gen.facts) := by
  intro m ρ m' ρ' _ hagree
  refine ⟨fun c => G (m (c.tc.loc main_arg0)) (m (c.tc.loc main_arg2)), ?_, ?_⟩
  · exact (θ_run Cert.InWIdeal.defs _ _).mono (fun r h c => ⟨(h c).1.trans (arr m c), (h c).2⟩) (Cert.InWIdeal.Value.run_blocks (F := Ideal) m ρ)
  · refine (θ_run Cert.InWRefIdeal.defs _ _).mono (fun r h c => ⟨(h c).1.trans ?_, (h c).2⟩) (Cert.InWRefIdeal.Value.run (F := Ideal) m' ρ')
    obtain ⟨a0, a1, a2⟩ := hagree c
    refine (Cert.InWRefIdeal.Read.val_main_v7_eq (F := Ideal) _ _).trans ((ref _ _).trans ?_)
    rw [a0, a2]

/-- The reference alone. -/
theorem frame_ref : Cert.quiescent_InWRefIdeal (hInWRefIdeal := Cert.InWRefIdeal.Gen.facts) := fun m ρ _ =>
  (θ_run Cert.InWRefIdeal.defs _ _).mono (fun r h => ⟨fun c => (h c).2, sem_eq_zero_of_no_sems (by decide) r.2⟩) (Cert.InWRefIdeal.Value.run (F := Ideal) m ρ)

end Cert.InWGrad
-- ==== Proof.ProjFwd.lean ====
/-
  The input projection: each block of the kernel's result is one product of a block of tokens with a block of the weight's
  columns, those laid out with two gaps of zeros.
-/
module

public import proofs.«01_k».proof.Defs
public import proofs.«01_k».proof.Proof.Columns
public import proofs.«01_k».proof.Proof.Gen.ProjFwd.Frame
public import proofs.«01_k».proof.Proof.Gen.ProjFwdIdeal.Value
public import proofs.«01_k».proof.Proof.Gen.ProjFwdRefIdeal.Run
public import proofs.«01_k».proof.Proof.Gen.ProjFwdRefIdeal.Read
public import Idealize.ShloMosaic.Lib.Claim
public import Idealize.ShloMosaic.Lib.StableHlo.RunRead
public import Idealize.ShloMosaic.Lib.Pointwise
public import Idealize.ShloMosaic.Lib.Pipeline.ValueKit.Point

@[expose] public section

set_option maxRecDepth 16384

noncomputable section

namespace Cert.ProjValue

open Idealize.ShloMosaic Idealize.ShloMosaic.TcCoe Idealize.ShloMosaic.Tactic
open Cert.ProjFwdIdeal Cert.ProjFwdIdeal.Gen Cert.Columns

theorem idx : ∀ t : Fin grid0.N, win0_0.index t = ![t.val / 5, 0] ∧ win0_1.index t = ![0, t.val % 5] ∧ win0_2.index t = ![t.val / 5, t.val % 5] := by
  decide +kernel

theorem ilt (t : Fin cfg0.N) : t.val / 5 < 4 := by have h : t.val < 20 := t.isLt; omega
theorem jlt (t : Fin cfg0.N) : t.val % 5 < 5 := by omega

/-- Token `r` of block `b`. -/
def tok (b : ℕ) (hb : b < 4) (r : Fin 1024) : Fin 4096 := ⟨b * 1024 + r.val, by omega⟩
/-- Column `r` of block `b`. -/
def col (b : ℕ) (hb : b < 5) (r : Fin 1280) : Fin 6400 := ⟨b * 1280 + r.val, by omega⟩

/-- The product, its columns with the two gaps. -/
def G (x : S4096x2048.Idx → EReal) (w : S2048x6160.Idx → EReal) : S4096x6400.Idx → EReal := fun i =>
  ∑ k : Fin 2048, x (ix2 (i 0) k) * spread (fun j => w (ix2 k j)) (i 1)

variable (m : (ℓ : Loc nD τ sig) → Buf (Elt Ideal) ℓ) (c : Dev nD)

theorem v0 : (V m c main_v0 : S4096x2048.Idx → EReal) = m (c.tc.loc main_arg0) := by
  entry_read
  rfl
theorem v6_eq : V m c main_v6 = concatenate S2048x6400 1 [⟨S2048x3072, extractStridedSlice S2048x3072 ![0, 0] (truncf (F := Ideal) .bf16 (m (c.tc.loc main_arg1) : (⟨S2048x6160, .f32⟩ : BufTy).Contents (Elt Ideal)) Gen.facts.bitsLt_bf16_f32) Gen.facts.slices_S2048x6160_S2048x3072_0_0⟩,
    ⟨S2048x128, broadcastInDim S2048x128 ![] Gen.facts.bcast_S_S2048x128 (constant (F := Ideal) S_ .bf16 0x0000#16)⟩,
    ⟨S2048x3088, extractStridedSlice S2048x3088 ![0, 3072] (truncf (F := Ideal) .bf16 (m (c.tc.loc main_arg1) : (⟨S2048x6160, .f32⟩ : BufTy).Contents (Elt Ideal)) Gen.facts.bitsLt_bf16_f32) Gen.facts.slices_S2048x6160_S2048x3088_0_3072⟩,
    ⟨S2048x112, broadcastInDim S2048x112 ![] Gen.facts.bcast_S_S2048x112 (constant (F := Ideal) S_ .bf16 0x0000#16)⟩]
    Gen.facts.concatenates_S2048x3072_S2048x128_S2048x3088_S2048x112_S2048x6400_d1 := by
  unfold V
  simp only [hostOps0, List.flatten_cons, List.flatten_nil, List.append_nil]
  after_reads_simp
  generalize hU : StableHlo.upto _ _ 8 = U
  have hl : U (Proc.devRef .tc main_v4) = extractStridedSlice S2048x3072 ![0, 0] (truncf (F := Ideal) .bf16 (m (c.tc.loc main_arg1) : (⟨S2048x6160, .f32⟩ : BufTy).Contents (Elt Ideal)) Gen.facts.bitsLt_bf16_f32) Gen.facts.slices_S2048x6160_S2048x3072_0_0 := by
    subst hU
    after_reads_simp
  have hz : U (Proc.devRef .tc main_v2) = broadcastInDim S2048x128 ![] Gen.facts.bcast_S_S2048x128 (constant (F := Ideal) S_ .bf16 0x0000#16) := by
    subst hU
    after_reads_simp
  have hr : U (Proc.devRef .tc main_v5) = extractStridedSlice S2048x3088 ![0, 3072] (truncf (F := Ideal) .bf16 (m (c.tc.loc main_arg1) : (⟨S2048x6160, .f32⟩ : BufTy).Contents (Elt Ideal)) Gen.facts.bitsLt_bf16_f32) Gen.facts.slices_S2048x6160_S2048x3088_0_3072 := by
    subst hU
    after_reads_simp
  have he : U (Proc.devRef .tc main_v3) = broadcastInDim S2048x112 ![] Gen.facts.bcast_S_S2048x112 (constant (F := Ideal) S_ .bf16 0x0000#16) := by
    subst hU
    after_reads_simp
  change concatenate S2048x6400 1 [⟨S2048x3072, U (Proc.devRef .tc main_v4)⟩, ⟨S2048x128, U (Proc.devRef .tc main_v2)⟩, ⟨S2048x3088, U (Proc.devRef .tc main_v5)⟩,
    ⟨S2048x112, U (Proc.devRef .tc main_v3)⟩] _ = _
  rw [hl, hz, hr, he]
theorem v6 (k : Fin 2048) (j : Fin 6400) : (V m c main_v6 : S2048x6400.Idx → EReal) (ix2 k j)
    = spread (fun j => (m (c.tc.loc main_arg1) : S2048x6160.Idx → EReal) (ix2 k j)) j := by
  rw [v6_eq]
  refine pieces _ _ _ _ _ k _ (fun j => ?_) (fun j => ?_) (fun j => ?_) (fun j => ?_) j
  all_goals pointwise []

theorem iblk0 (t : Fin cfg0.N) (r : Fin 1024) (k : Fin 2048) : iblk m c 0 t (ix2 r k) = V m c main_v0 (ix2 (tok _ (ilt t) r) k) := by
  blk_ext [iblk, tok, (idx t).1]
theorem iblk1 (t : Fin cfg0.N) (k : Fin 2048) (r : Fin 1280) : iblk m c 1 t (ix2 k r) = V m c main_v6 (ix2 k (col _ (jlt t) r)) := by
  blk_ext [iblk, col, (idx t).2.1]
theorem emb2 (t : Fin cfg0.N) (r : Fin 1024) (j : Fin 1280) : ((cfg0.win 2).blk t).view.emb (ix2 r j) = (ix2 (tok _ (ilt t) r) (col _ (jlt t) j) : S4096x6400.Idx) := by
  blk_ext [tok, col, (idx t).2.2]

theorem pay (x : Vec Ideal S1024x2048 .bf16) (y : Vec Ideal S2048x1280 .bf16) (r : Fin 1024) (j : Fin 1280) :
    k0_pay1 x y (ix2 r j) = ∑ k : Fin 2048, x (ix2 r k) * y (ix2 k j) := by
  pointwise [k0_pay1]

theorem arr : (dats m 0 c).arrAt 2 cfg0.N = G (m (c.tc.loc main_arg0)) (m (c.tc.loc main_arg1)) := by
  refine (dats m 0 c).arrAt_eq_of_covers 2 _ (by decide +kernel) fun t hf y => ?_
  blk_simp
  obtain ⟨r, j, rfl⟩ : ∃ (r : Fin 1024) (j : Fin 1280), y = ix2 r j := ⟨y 0, y 1, eq_ix2 y⟩
  rw [after0_2]
  unfold outsAt0
  frame_out
  refine (pay _ _ r j).trans ?_
  refine Eq.trans ?_ (congrArg (G _ _) (emb2 t r j)).symm
  refine Finset.sum_congr rfl fun k _ => ?_
  rw [iblk0, iblk1, v0, v6]
  rfl

/-- The reference's result is the same. -/
theorem ref (x : S4096x2048.Idx → EReal) (w : S2048x6160.Idx → EReal) : Cert.ProjFwdRefIdeal.Read.val_main_v5 (F := Ideal) x w = G x w := by
  funext i
  obtain ⟨t, j, rfl⟩ : ∃ (t : Fin 4096) (j : Fin 6400), i = ix2 t j := ⟨i 0, i 1, eq_ix2 i⟩
  have e : ∀ j : Fin 6160, Cert.ProjFwdRefIdeal.Read.val_main_v0 (F := Ideal) x w (ix2 t j) = ∑ k : Fin 2048, x (ix2 t k) * w (ix2 k j) := fun j => by
    rw [Cert.ProjFwdRefIdeal.Read.val_main_v0_apply]
    exact Finset.sum_congr rfl fun k _ => congrArg₂ (· * ·) (congrArg x (eq_ix2 _)) (congrArg w (eq_ix2 _))
  refine Eq.trans ?_ (spread_sum (fun k : Fin 2048 => x (ix2 t k)) (fun k j => w (ix2 k j)) j).symm
  unfold Cert.ProjFwdRefIdeal.Read.val_main_v5
  refine pieces _ _ _ _ _ t _ (fun j => ?_) (fun j => ?_) (fun j => ?_) (fun j => ?_) j
  · rw [Cert.ProjFwdRefIdeal.Read.val_main_v1_apply]
    exact (congrArg _ (eq_ix2 _)).trans (e _)
  · rw [Cert.ProjFwdRefIdeal.Read.val_main_v2_apply]
    pointwise [Cert.ProjFwdRefIdeal.Read.val_main_cst]
  · rw [Cert.ProjFwdRefIdeal.Read.val_main_v3_apply]
    exact (congrArg _ (eq_ix2 _)).trans (e _)
  · rw [Cert.ProjFwdRefIdeal.Read.val_main_v4_apply]
    pointwise [Cert.ProjFwdRefIdeal.Read.val_main_cst_0]

/-- Equal arguments give equal results. -/
theorem value : Cert.algebraic_ProjFwdIdeal_ProjFwdRefIdeal (hProjFwdIdeal := Cert.ProjFwdIdeal.Gen.facts) (hProjFwdRefIdeal := Cert.ProjFwdRefIdeal.Gen.facts) := by
  intro m ρ m' ρ' _ hagree
  refine ⟨fun c => G (m (c.tc.loc main_arg0)) (m (c.tc.loc main_arg1)), ?_, ?_⟩
  · exact (θ_run Cert.ProjFwdIdeal.defs _ _).mono (fun r h c => ⟨(h c).1.trans (arr m c), (h c).2⟩) (Cert.ProjFwdIdeal.Value.run_blocks (F := Ideal) m ρ)
  · refine (θ_run Cert.ProjFwdRefIdeal.defs _ _).mono (fun r h c => ⟨(h c).1.trans ?_, (h c).2⟩) (Cert.ProjFwdRefIdeal.Value.run (F := Ideal) m' ρ')
    obtain ⟨a0, a1⟩ := hagree c
    refine (Cert.ProjFwdRefIdeal.Read.val_main_v5_eq (F := Ideal) _ _).trans ((ref _ _).trans ?_)
    rw [a0, a1]

/-- The reference alone. -/
theorem frame_ref : Cert.quiescent_ProjFwdRefIdeal (hProjFwdRefIdeal := Cert.ProjFwdRefIdeal.Gen.facts) := fun m ρ _ =>
  (θ_run Cert.ProjFwdRefIdeal.defs _ _).mono (fun r h => ⟨fun c => (h c).2, sem_eq_zero_of_no_sems (by decide) r.2⟩) (Cert.ProjFwdRefIdeal.Value.run (F := Ideal) m ρ)

end Cert.ProjValue
-- ==== Proof.FfUp.lean ====
/-
  The second half of the MLP's hidden units: each block of the kernel's two results is the positive part of one product, and
  that positive part squared; the first half of the columns stays as given.
-/
module

public import proofs.«01_k».proof.Defs
public import proofs.«01_k».proof.Proof.Gen.FfUp.Frame
public import proofs.«01_k».proof.Proof.Gen.FfUpIdeal.Value
public import proofs.«01_k».proof.Proof.Gen.FfUpRefIdeal.Run
public import proofs.«01_k».proof.Proof.Gen.FfUpRefIdeal.Read
public import Idealize.ShloMosaic.Lib.Claim
public import Idealize.ShloMosaic.Lib.Pointwise
public import Idealize.ShloMosaic.Lib.Pipeline.ValueKit.Point
public import Idealize.ShloMosaic.Lib.Pipeline.ValueKit.Partial

@[expose] public section

set_option maxRecDepth 16384

noncomputable section

namespace Cert.FfUpValue

open Idealize.ShloMosaic Idealize.ShloMosaic.TcCoe Idealize.ShloMosaic.Tactic
open Cert.FfUpIdeal Cert.FfUpIdeal.Gen

theorem idx : ∀ t : Fin grid0.N, win0_0.index t = ![t.val / 4, 0] ∧ win0_1.index t = ![4 + t.val % 4, 0, 0] ∧ win0_2.index t = ![t.val / 4, 4 + t.val % 4]
    ∧ win0_3.index t = ![t.val / 4, 4 + t.val % 4] := by
  decide +kernel

theorem ilt (t : Fin cfg0.N) : t.val / 4 < 4 := by have h : t.val < 16 := t.isLt; omega
theorem jlt (t : Fin cfg0.N) : 4 + t.val % 4 < 8 := by omega

/-- Token `r` of block `b`. -/
def tok (b : ℕ) (hb : b < 4) (r : Fin 1024) : Fin 4096 := ⟨b * 1024 + r.val, by omega⟩
/-- Hidden unit `r` of group `b`. -/
def hid (b : ℕ) (hb : b < 8) (r : Fin 1024) : Fin 8192 := ⟨b * 1024 + r.val, by omega⟩

/-- A hidden unit's activation. -/
def act (x : S4096x2048.Idx → EReal) (w : S2048x8192.Idx → EReal) (t : Fin 4096) (r : Fin 8192) : EReal :=
  max (∑ k : Fin 2048, x (ix2 t k) * w (ix2 k r)) 0

/-- Its square. -/
def act2 (x : S4096x2048.Idx → EReal) (w : S2048x8192.Idx → EReal) (t : Fin 4096) (r : Fin 8192) : EReal := act x w t r * act x w t r

/-- An array whose columns of the second half are replaced. -/
def over (f : Fin 4096 → Fin 8192 → EReal) (p : S4096x8192.Idx → EReal) : S4096x8192.Idx → EReal := fun i =>
  if 4096 ≤ (i 1).val then f (i 0) (i 1) else p i

variable (m : (ℓ : Loc nD τ sig) → Buf (Elt Ideal) ℓ) (c : Dev nD)

theorem v3 : (V m c main_v3 : S4096x2048.Idx → EReal) = m (c.tc.loc main_arg0) := by
  entry_read
  rfl
theorem v2 (g : Fin 8) (k : Fin 2048) (j : Fin 1024) : (V m c main_v2 : S8x2048x1024.Idx → EReal) (ix3 g k j)
    = (m (c.tc.loc main_arg1) : S2048x8192.Idx → EReal) (ix2 k (hid g.val g.isLt j)) := by
  entry_read
  pointwise [hid]
theorem kept2 : V m c (Pipeline.arrRef spec0 2) = m (c.tc.loc main_arg2) := by
  show V m c main_v4_0 = _
  entry_read
  rfl
theorem kept3 : V m c (Pipeline.arrRef spec0 3) = m (c.tc.loc main_arg3) := by
  show V m c main_v4_1 = _
  entry_read
  rfl

theorem iblk0 (t : Fin cfg0.N) (r : Fin 1024) (k : Fin 2048) : iblk m c 0 t (ix2 r k) = V m c main_v3 (ix2 (tok _ (ilt t) r) k) := by
  blk_ext [iblk, tok, (idx t).1]
theorem iblk1 (t : Fin cfg0.N) (z : Fin 1) (k : Fin 2048) (j : Fin 1024) : iblk m c 1 t (ix3 z k j) = V m c main_v2 (ix3 ⟨4 + t.val % 4, jlt t⟩ k j) := by
  blk_ext [iblk, (idx t).2.1]
theorem emb2 (t : Fin cfg0.N) (r j : Fin 1024) : ((cfg0.win 2).blk t).view.emb (ix2 r j) = (ix2 (tok _ (ilt t) r) (hid _ (jlt t) j) : S4096x8192.Idx) := by
  blk_ext [tok, hid, (idx t).2.2.1]
theorem emb3 (t : Fin cfg0.N) (r j : Fin 1024) : ((cfg0.win 3).blk t).view.emb (ix2 r j) = (ix2 (tok _ (ilt t) r) (hid _ (jlt t) j) : S4096x8192.Idx) := by
  blk_ext [tok, hid, (idx t).2.2.2]

theorem pay1 (x : Vec Ideal S1024x2048 .bf16) (y : Vec Ideal S1x2048x1024 .bf16) (r j : Fin 1024) :
    k0_pay1 x y (ix2 r j) = max (∑ k : Fin 2048, x (ix2 r k) * y (ix3 0 k j)) 0 := by
  pointwise [k0_pay1]
theorem pay2 (x : Vec Ideal S1024x2048 .bf16) (y : Vec Ideal S1x2048x1024 .bf16) (i : S1024x1024.Idx) : k0_pay2 x y i = k0_pay1 x y i := rfl
theorem pay3 (x : Vec Ideal S1024x2048 .bf16) (y : Vec Ideal S1x2048x1024 .bf16) (i : S1024x1024.Idx) : k0_pay3 x y i = k0_pay1 x y i * k0_pay1 x y i := rfl

theorem block (t : Fin cfg0.N) (r j : Fin 1024) : k0_pay1 (iblk m c 0 t) (iblk m c 1 t) (ix2 r j)
    = act (m (c.tc.loc main_arg0)) (m (c.tc.loc main_arg1)) (tok _ (ilt t) r) (hid _ (jlt t) j) := by
  refine (pay1 _ _ r j).trans (congrArg (max · 0) (Finset.sum_congr rfl fun k _ => ?_))
  rw [iblk0, iblk1, v3, v2]

theorem far (t : Fin cfg0.N) (r j : Fin 1024) : 4096 ≤ ((ix2 (tok _ (ilt t) r) (hid _ (jlt t) j) : S4096x8192.Idx) 1).val := by
  show 4096 ≤ (4 + t.val % 4) * 1024 + j.val
  omega

theorem arr2 : (dats m 0 c).arrAt 2 cfg0.N = over (act (m (c.tc.loc main_arg0)) (m (c.tc.loc main_arg1))) (m (c.tc.loc main_arg2)) := by
  refine (dats m 0 c).arrAt_eq_of_coversWhere_of_agree 2 _ (fun β => 4 ≤ β (1 : Fin 2)) (by decide +kernel) (fun t hf y => ?_) (fun j hj => ?_)
  · blk_simp
    obtain ⟨r, j, rfl⟩ : ∃ (r j : Fin 1024), y = ix2 r j := ⟨y 0, y 1, eq_ix2 y⟩
    rw [after0_2]
    unfold outsAt0
    frame_out
    refine (pay2 _ _ _).trans ((block m c t r j).trans ?_)
    exact Eq.trans (if_pos (far t r j)).symm (congrArg (over _ _) (emb2 t r j)).symm
  · have hj' : ¬ 4 ≤ (j (1 : Fin 2)).val / 1024 := hj
    rw [A_eq, kept2]
    exact (if_neg (show ¬ 4096 ≤ (j (1 : Fin 2)).val by omega)).symm

theorem arr3 : (dats m 0 c).arrAt 3 cfg0.N
    = over (act2 (m (c.tc.loc main_arg0)) (m (c.tc.loc main_arg1))) (m (c.tc.loc main_arg3)) := by
  refine (dats m 0 c).arrAt_eq_of_coversWhere_of_agree 3 _ (fun β => 4 ≤ β (1 : Fin 2)) (by decide +kernel) (fun t hf y => ?_) (fun j hj => ?_)
  · blk_simp
    obtain ⟨r, j, rfl⟩ : ∃ (r j : Fin 1024), y = ix2 r j := ⟨y 0, y 1, eq_ix2 y⟩
    rw [after0_3]
    unfold outsAt0
    frame_out
    refine (pay3 _ _ _).trans ?_
    rw [block m c t r j]
    refine Eq.trans ?_ (congrArg (over _ _) (emb3 t r j)).symm
    exact (if_pos (far t r j)).symm
  · have hj' : ¬ 4 ≤ (j (1 : Fin 2)).val / 1024 := hj
    rw [A_eq, kept3]
    exact (if_neg (show ¬ 4096 ≤ (j (1 : Fin 2)).val by omega)).symm

section
variable (a b : Cert.FfUpRefIdeal.S4096x4096.Idx → EReal)
  (h : Shape.Concatenates ([⟨Cert.FfUpRefIdeal.S4096x4096, a⟩, ⟨Cert.FfUpRefIdeal.S4096x4096, b⟩].map (·.1 : ((s : Shape) × (s.Idx → EReal)) → Shape)) S4096x8192 1)

/-- Two halves side by side. -/
theorem halves (p : S4096x8192.Idx → EReal) (f : Fin 4096 → Fin 8192 → EReal)
    (ha : ∀ (t : Fin 4096) (j : Fin 4096), a (ix2 t j) = p (ix2 t ⟨j.val, by omega⟩)) (hb : ∀ (t : Fin 4096) (j : Fin 4096), b (ix2 t j) = f t ⟨4096 + j.val, by omega⟩) :
    concatenate S4096x8192 1 [⟨Cert.FfUpRefIdeal.S4096x4096, a⟩, ⟨Cert.FfUpRefIdeal.S4096x4096, b⟩] h = over f p := by
  funext i
  obtain ⟨t, j, rfl⟩ : ∃ (t : Fin 4096) (j : Fin 8192), i = ix2 t j := ⟨i 0, i 1, eq_ix2 i⟩
  pointwise []
  by_cases h1 : 4096 ≤ j.val
  · rw [dif_neg (by omega)]
    refine (congrArg b (eq_ix2 _)).trans ((hb t ⟨j.val - 4096, by omega⟩).trans (Eq.trans ?_ (if_pos h1).symm))
    refine congrArg (f t) (Fin.ext ?_)
    show 4096 + (j.val - 4096) = j.val
    omega
  · rw [dif_pos (by omega)]
    exact (congrArg a (eq_ix2 _)).trans ((ha t ⟨j.val, by omega⟩).trans (if_neg h1).symm)
end

theorem refAct (x : S4096x2048.Idx → EReal) (w : S2048x8192.Idx → EReal) (t j : Fin 4096) :
    Cert.FfUpRefIdeal.Read.val_main_v2 (F := Ideal) x w (ix2 t j) = act x w t ⟨4096 + j.val, by omega⟩ := by
  have e : Cert.FfUpRefIdeal.Read.val_main_v1 (F := Ideal) x w (ix2 t j) = ∑ k : Fin 2048, x (ix2 t k) * w (ix2 k ⟨4096 + j.val, by omega⟩) := by
    rw [Cert.FfUpRefIdeal.Read.val_main_v1_apply]
    refine Finset.sum_congr rfl fun k _ => congrArg₂ (· * ·) (congrArg x (eq_ix2 _)) ?_
    rw [Cert.FfUpRefIdeal.Read.val_main_v0_apply]
    exact congrArg w (eq_ix2 _)
  rw [Cert.FfUpRefIdeal.Read.val_main_v2_apply, e]
  unfold act
  generalize (∑ k : Fin 2048, x (ix2 t k) * w (ix2 k ⟨4096 + j.val, by omega⟩)) = s
  pointwise [Cert.FfUpRefIdeal.Read.val_main_call0_v0, Cert.FfUpRefIdeal.Read.val_main_call0_cst]

/-- The reference's first result. -/
theorem ref5 (x : S4096x2048.Idx → EReal) (w : S2048x8192.Idx → EReal) (p : S4096x8192.Idx → EReal) :
    Cert.FfUpRefIdeal.Read.val_main_v5 (F := Ideal) x w p = over (act x w) p := by
  unfold Cert.FfUpRefIdeal.Read.val_main_v5
  refine halves _ _ _ p _ (fun t j => ?_) (fun t j => ?_)
  · rw [Cert.FfUpRefIdeal.Read.val_main_v3_apply]
    exact congrArg p (eq_ix2 _)
  · rw [Cert.FfUpRefIdeal.Read.val_main_v4_apply]
    exact refAct x w t j
/-- The reference's second result. -/
theorem ref9 (x : S4096x2048.Idx → EReal) (w : S2048x8192.Idx → EReal) (p : S4096x8192.Idx → EReal) :
    Cert.FfUpRefIdeal.Read.val_main_v9 (F := Ideal) x w p = over (act2 x w) p := by
  unfold Cert.FfUpRefIdeal.Read.val_main_v9
  refine halves _ _ _ p _ (fun t j => ?_) (fun t j => ?_)
  · rw [Cert.FfUpRefIdeal.Read.val_main_v6_apply]
    exact congrArg p (eq_ix2 _)
  · rw [Cert.FfUpRefIdeal.Read.val_main_v8_apply, Cert.FfUpRefIdeal.Read.val_main_v7_apply, refAct x w t j]
    rfl

/-- Equal arguments give equal results. -/
theorem value : Cert.algebraic_FfUpIdeal_FfUpRefIdeal (hFfUpIdeal := Cert.FfUpIdeal.Gen.facts) (hFfUpRefIdeal := Cert.FfUpRefIdeal.Gen.facts) := by
  intro m ρ m' ρ' _ hagree
  refine ⟨fun c => over (act (m (c.tc.loc main_arg0)) (m (c.tc.loc main_arg1))) (m (c.tc.loc main_arg2)),
    fun c => over (act2 (m (c.tc.loc main_arg0)) (m (c.tc.loc main_arg1))) (m (c.tc.loc main_arg3)), ?_, ?_⟩
  · exact (θ_run Cert.FfUpIdeal.defs _ _).mono (fun r h c => ⟨(h c).1.trans (arr2 m c), (h c).2.1.trans (arr3 m c), (h c).2.2⟩) (Cert.FfUpIdeal.Value.run_blocks (F := Ideal) m ρ)
  · refine (θ_run Cert.FfUpRefIdeal.defs _ _).mono (fun r h c => ⟨(h c).1.trans ?_, (h c).2.1.trans ?_, (h c).2.2⟩) (Cert.FfUpRefIdeal.Value.run (F := Ideal) m' ρ')
    · obtain ⟨a0, a1, a2, a3⟩ := hagree c
      refine (Cert.FfUpRefIdeal.Read.val_main_v5_eq (F := Ideal) _ _ _).trans ((ref5 _ _ _).trans ?_)
      rw [a0, a1, a2]
    · obtain ⟨a0, a1, a2, a3⟩ := hagree c
      refine (Cert.FfUpRefIdeal.Read.val_main_v9_eq (F := Ideal) _ _ _).trans ((ref9 _ _ _).trans ?_)
      rw [a0, a1, a3]

/-- The reference alone. -/
theorem frame_ref : Cert.quiescent_FfUpRefIdeal (hFfUpRefIdeal := Cert.FfUpRefIdeal.Gen.facts) := fun m ρ _ =>
  (θ_run Cert.FfUpRefIdeal.defs _ _).mono (fun r h => ⟨fun c => (h c).2.2, sem_eq_zero_of_no_sems (by decide) r.2⟩) (Cert.FfUpRefIdeal.Value.run (F := Ideal) m ρ)

end Cert.FfUpValue
-- ==== Proof.MixWords.lean ====
/-
  The output projection with its residual and first layer norm: names for what one grid step computes, at any reading of
  floats. The body writes the layer norm out once for each of the 8 groups of 32 rows, and once for each parity of the
  row block; here each is one function of the group.
-/
module

public import proofs.«01_k».proof.Proof.Gen.MixLnIdeal.Value
public import Idealize.ShloMosaic.Lib.Pipeline.Value

@[expose] public section

set_option maxRecDepth 16384
set_option maxHeartbeats 4000000

noncomputable section

namespace Cert.MixNorm

open Idealize.ShloMosaic Idealize.ShloMosaic.TcCoe Idealize.ShloMosaic.Tactic
open Cert.MixLnIdeal Cert.MixLnIdeal.Gen

variable {F : FTy → Type} [FloatOps F]

/-! ## The layer norm of 32 rows -/

theorem slp (p : Fin 8) : S256x2048.Slices ![32 * p.val, 0] S32x2048 := by revert p; decide

theorem inp (p : Fin 8) : ∀ a, (![32 * p.val, 0] : Fin 2 → ℕ) a + S32x2048.size a ≤ S256x2048.size a := by
  revert p; decide

theorem inp1 (p : Fin 8) : ∀ a, (![32 * p.val, 0] : Fin 2 → ℕ) a + S32x1.size a ≤ S256x1.size a := by
  revert p; decide

/-- The pre-norm rows: the scaled residual plus the product's rows. -/
def hid (acc : Vec F S256x2048 .f32) (x : Vec F S32x2048 .f32) (p : Fin 8) : FVec F S32x2048 .f32 :=
  addf (mulf (broadcast S32x2048 (Scalar.ofBits .f32 0x3F9837F0#32)) x)
    (extractStridedSlice S32x2048 ![32 * p.val, 0] acc (slp p))

/-- The mean of each row. -/
def avg (h : FVec F S32x2048 .f32) : FVec F S32x1 .f32 :=
  divf (shapeCast S32x1 (multiReduction .add [1] S32 h 0x00000000#32 reduces_S32x2048_S32 (.inl rfl) rfl) shapeCasts_S32_S32x1)
    (broadcast S32x1 (Scalar.ofBits .f32 0x45000000#32))

/-- The rows less their means. -/
def cen (h : FVec F S32x2048 .f32) : FVec F S32x2048 .f32 :=
  subf h (broadcastTo S32x2048 (avg h) broadcasts_S32x1_S32x2048)

/-- One over the root of the variance, from the centred rows. -/
def rsd (d : FVec F S32x2048 .f32) : FVec F S32x1 .f32 :=
  rsqrt (addf (avg (mulf d d)) (broadcast S32x1 (Scalar.ofBits .f32 0x3727C5AC#32)))

/-- The normed rows. -/
def nrm (d : FVec F S32x2048 .f32) : FVec F S32x2048 .f32 :=
  mulf d (broadcastTo S32x2048 (rsd d) broadcasts_S32x1_S32x2048)

/-- The normed rows with gain and bias, rounded. -/
def aff (g b : Vec F S1x2048 .f32) (n : FVec F S32x2048 .f32) : FVec F S32x2048 .bf16 :=
  truncf .bf16 (addf (mulf n (broadcastTo S32x2048 g broadcasts_S1x2048_S32x2048))
    (broadcastTo S32x2048 b broadcasts_S1x2048_S32x2048)) bitsLt_bf16_f32

/-- The groups of rows, in the order the run lists them. -/
def groups : List (Fin 8) := [7, 6, 5, 4, 3, 2, 1, 0]

def P5 (acc : Vec F S256x2048 .f32) (X : Fin 8 → Vec F S32x2048 .f32) : List (View.Piece (Elt F) S256x2048 .f32) :=
  groups.map fun p => ⟨Rect.unit (s := S256x2048) ![32 * p.val, 0] S32x2048.size (inp p), nrm (cen (hid acc (X p) p))⟩

def P6 (acc : Vec F S256x2048 .f32) (X : Fin 8 → Vec F S32x2048 .f32) (g b : Vec F S1x2048 .f32) :
    List (View.Piece (Elt F) S256x2048 .bf16) :=
  groups.map fun p => ⟨Rect.unit (s := S256x2048) ![32 * p.val, 0] S32x2048.size (inp p), aff g b (nrm (cen (hid acc (X p) p)))⟩

def P7 (acc : Vec F S256x2048 .f32) (X : Fin 8 → Vec F S32x2048 .f32) : List (View.Piece (Elt F) S256x1 .f32) :=
  groups.map fun p => ⟨Rect.unit (s := S256x1) ![32 * p.val, 0] S32x1.size (inp1 p), rsd (cen (hid acc (X p) p))⟩

/-! ## The loads -/

def lx (arg4 : Memref sig .tc .vmem S256x2048 .f32) (harg4 : arg4.IsWhole) (x2 : Vec F S256x2048 .f32) (p : Fin 8) :
    Vec F S32x2048 .f32 :=
  View.readAt (Elt F) arg4.view (Rect.unit (s := S256x2048) ![32 * p.val, 0] S32x2048.size (inp p)).toLoadRect (harg4.unread x2)

def lrow (arg5 : Memref sig .tc .vmem S1x2048 .f32) (harg5 : arg5.IsWhole) (x3 : Vec F S1x2048 .f32) : Vec F S1x2048 .f32 :=
  View.readAt (Elt F) arg5.view (Rect.unit (s := S1x2048) ![0, 0] S1x2048.size Gen.inb_S1x2048_S1x2048_0_0).toLoadRect (harg5.unread x3)

def lw (arg3 : Memref sig .tc .vmem S512x2048 .bf16) (harg3 : arg3.IsWhole) (x1 : Vec F S512x2048 .bf16) : Vec F S512x2048 .bf16 :=
  View.readAt (Elt F) arg3.view (Rect.unit (s := S512x2048) ![0, 0] S512x2048.size Gen.inb_S512x2048_S512x2048_0_0).toLoadRect (harg3.unread x1)

def ly0 (arg2 : Memref sig .tc .vmem S1024x512 .bf16) (harg2 : arg2.IsWhole) (x0 : Vec F S1024x512 .bf16) : Vec F S512x512 .bf16 :=
  View.readAt (Elt F) arg2.view (Rect.unit (s := S1024x512) ![0, 0] S512x512.size Gen.inb_S1024x512_S512x512_0_0).toLoadRect (harg2.unread x0)

def ly1 (arg2 : Memref sig .tc .vmem S1024x512 .bf16) (harg2 : arg2.IsWhole) (x0 : Vec F S1024x512 .bf16) : Vec F S512x512 .bf16 :=
  View.readAt (Elt F) arg2.view (Rect.unit (s := S1024x512) ![512, 0] S512x512.size Gen.inb_S1024x512_S512x512_512_0).toLoadRect (harg2.unread x0)

/-- Half of an accumulator's rows. -/
def la0 (a : Memref sig .tc .vmem S1024x2048 .f32) (ha : a.IsWhole) (s : Vec F S1024x2048 .f32) : Vec F S512x2048 .f32 :=
  View.readAt (Elt F) a.view (Rect.unit (s := S1024x2048) ![0, 0] S512x2048.size Gen.inb_S1024x2048_S512x2048_0_0).toLoadRect (ha.unread s)

def la1 (a : Memref sig .tc .vmem S1024x2048 .f32) (ha : a.IsWhole) (s : Vec F S1024x2048 .f32) : Vec F S512x2048 .f32 :=
  View.readAt (Elt F) a.view (Rect.unit (s := S1024x2048) ![512, 0] S512x2048.size Gen.inb_S1024x2048_S512x2048_512_0).toLoadRect (ha.unread s)

/-- The 256 rows that grid step `i` norms. -/
def off (i : grid0.Coords) : Fin 2 → ℕ := ![256 * (i 1).val, 0]

theorem inoff (i : grid0.Coords) : ∀ a, off i a + S256x2048.size a ≤ S1024x2048.size a := by
  have h : (i 1).val < 4 := (i 1).isLt
  intro a
  fin_cases a
  · show 256 * (i 1).val + 256 ≤ 1024
    omega
  · show 0 + 2048 ≤ 2048
    omega

theorem off1 (i : grid0.Coords) : k0_off1 i = off i := by
  unfold k0_off1 off
  generalize i 1 = j
  revert j
  decide +kernel

theorem inoff1 (i : grid0.Coords) : ∀ a, k0_off1 i a + S256x2048.size a ≤ S1024x2048.size a := by
  rw [off1]
  exact inoff i

/-- The rows of the finished accumulator that grid step `i` norms. -/
def lacc (a : Memref sig .tc .vmem S1024x2048 .f32) (ha : a.IsWhole) (i : grid0.Coords) (s : Vec F S1024x2048 .f32) : Vec F S256x2048 .f32 :=
  View.readAt (Elt F) a.view (Rect.unit (s := S1024x2048) (k0_off1 i) S256x2048.size (inoff1 i)).toLoadRect (ha.unread s)

/-! ## What the product leaves in an accumulator -/

def PAcc (w : Vec F S512x2048 .bf16) (y0 y1 : Vec F S512x512 .bf16) (s0 s1 : Vec F S512x2048 .f32) :
    List (View.Piece (Elt F) S1024x2048 .f32) :=
  [⟨Rect.unit (s := S1024x2048) ![512, 0] S512x2048.size Gen.inb_S1024x2048_S512x2048_512_0, k0_pay3 (k0_pay47 w) (k0_pay49 y1) k0_pay50 s1⟩,
   ⟨Rect.unit (s := S1024x2048) ![0, 0] S512x2048.size Gen.inb_S1024x2048_S512x2048_0_0, k0_pay48 w y0 s0⟩]

/-- The zeros that clear the normed rows for the next row block. -/
def PZero (i : grid0.Coords) : List (View.Piece (Elt F) S1024x2048 .f32) :=
  [⟨Rect.unit (s := S1024x2048) (k0_off1 i) S256x2048.size (inoff1 i), k0_pay8⟩]

/-- The zeros both accumulators start from. -/
def PInit : List (View.Piece (Elt F) S1024x2048 .f32) :=
  [⟨Rect.unit (s := S1024x2048) ![0, 0] ![1024, 2048] (by decide), k0_pay1⟩]

/-! ## The run's pieces at the first grid step, at the even and at the odd row blocks, and after the last one -/

section Pieces

variable (c : Dev nD) (i : grid0.Coords) (arg2 : Memref sig .tc .vmem S1024x512 .bf16) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S256x1 .f32) (harg9 : arg9.IsWhole) (arg10 : Memref sig .tc .vmem S1024x2048 .f32) (harg10 : arg10.IsWhole) (arg11 : Memref sig .tc .vmem S1024x2048 .f32) (harg11 : arg11.IsWhole)
  (x0 : Vec F S1024x512 .bf16) (x1 : Vec F S512x2048 .bf16) (x2 : Vec F S256x2048 .f32) (x3 : Vec F S1x2048 .f32) (x4 : Vec F S1x2048 .f32) (xs0 : Vec F S1024x2048 .f32) (xs1 : Vec F S1024x2048 .f32)

theorem runA_5 (hc0 : cond0_0 i) (hc1 : cond0_1 i) (hc2 : ¬cond0_2 i) (hc3 : ¬cond0_3 i) :
    (kernelRun0_A (F := F) c i arg2 harg2 arg3 harg3 arg4 harg4 arg5 harg5 arg6 harg6 arg7 harg7 arg8 harg8 arg9 harg9 arg10 harg10 arg11 harg11 hc0 hc1 hc2 hc3 x0 x1 x2 x3 x4).1 =
      P5 (kernelRun0_A.sl.r c i arg11 hc1) (lx arg4 harg4 x2) := by sl_kernel_rfl

theorem runA_6 (hc0 : cond0_0 i) (hc1 : cond0_1 i) (hc2 : ¬cond0_2 i) (hc3 : ¬cond0_3 i) :
    (kernelRun0_A (F := F) c i arg2 harg2 arg3 harg3 arg4 harg4 arg5 harg5 arg6 harg6 arg7 harg7 arg8 harg8 arg9 harg9 arg10 harg10 arg11 harg11 hc0 hc1 hc2 hc3 x0 x1 x2 x3 x4).2.1 =
      P6 (kernelRun0_A.sl.r c i arg11 hc1) (lx arg4 harg4 x2) (lrow arg5 harg5 x3) (lrow arg6 harg6 x4) := by sl_kernel_rfl

theorem runA_7 (hc0 : cond0_0 i) (hc1 : cond0_1 i) (hc2 : ¬cond0_2 i) (hc3 : ¬cond0_3 i) :
    (kernelRun0_A (F := F) c i arg2 harg2 arg3 harg3 arg4 harg4 arg5 harg5 arg6 harg6 arg7 harg7 arg8 harg8 arg9 harg9 arg10 harg10 arg11 harg11 hc0 hc1 hc2 hc3 x0 x1 x2 x3 x4).2.2.1 =
      P7 (kernelRun0_A.sl.r c i arg11 hc1) (lx arg4 harg4 x2) := by sl_kernel_rfl

theorem runA_s0 (hc0 : cond0_0 i) (hc1 : cond0_1 i) (hc2 : ¬cond0_2 i) (hc3 : ¬cond0_3 i) :
    (kernelRun0_A (F := F) c i arg2 harg2 arg3 harg3 arg4 harg4 arg5 harg5 arg6 harg6 arg7 harg7 arg8 harg8 arg9 harg9 arg10 harg10 arg11 harg11 hc0 hc1 hc2 hc3 x0 x1 x2 x3 x4).2.2.2.1 =
      PAcc (lw arg3 harg3 x1) (ly0 arg2 harg2 x0) (ly1 arg2 harg2 x0) (kernelRun0_A.sl.v267 c arg10) (kernelRun0_A.sl.v285 c arg2 harg2 arg3 harg3 arg10 x0 x1) ++ PInit := by sl_kernel_rfl

theorem runA_s1 (hc0 : cond0_0 i) (hc1 : cond0_1 i) (hc2 : ¬cond0_2 i) (hc3 : ¬cond0_3 i) :
    (kernelRun0_A (F := F) c i arg2 harg2 arg3 harg3 arg4 harg4 arg5 harg5 arg6 harg6 arg7 harg7 arg8 harg8 arg9 harg9 arg10 harg10 arg11 harg11 hc0 hc1 hc2 hc3 x0 x1 x2 x3 x4).2.2.2.2.1 =
      PZero i ++ PInit := by sl_kernel_rfl

theorem runB_5 (hc0 : ¬cond0_0 i) (hc1 : cond0_1 i) (hc2 : ¬cond0_2 i) (hc3 : ¬cond0_3 i) :
    (kernelRun0_B (F := F) c i arg2 harg2 arg3 harg3 arg4 harg4 arg5 harg5 arg6 harg6 arg7 harg7 arg8 harg8 arg9 harg9 arg10 harg10 arg11 harg11 hc0 hc1 hc2 hc3 x0 x1 x2 x3 x4 xs0 xs1).1 =
      P5 (lacc arg11 harg11 i xs1) (lx arg4 harg4 x2) := by sl_kernel_rfl

theorem runB_6 (hc0 : ¬cond0_0 i) (hc1 : cond0_1 i) (hc2 : ¬cond0_2 i) (hc3 : ¬cond0_3 i) :
    (kernelRun0_B (F := F) c i arg2 harg2 arg3 harg3 arg4 harg4 arg5 harg5 arg6 harg6 arg7 harg7 arg8 harg8 arg9 harg9 arg10 harg10 arg11 harg11 hc0 hc1 hc2 hc3 x0 x1 x2 x3 x4 xs0 xs1).2.1 =
      P6 (lacc arg11 harg11 i xs1) (lx arg4 harg4 x2) (lrow arg5 harg5 x3) (lrow arg6 harg6 x4) := by sl_kernel_rfl

theorem runB_7 (hc0 : ¬cond0_0 i) (hc1 : cond0_1 i) (hc2 : ¬cond0_2 i) (hc3 : ¬cond0_3 i) :
    (kernelRun0_B (F := F) c i arg2 harg2 arg3 harg3 arg4 harg4 arg5 harg5 arg6 harg6 arg7 harg7 arg8 harg8 arg9 harg9 arg10 harg10 arg11 harg11 hc0 hc1 hc2 hc3 x0 x1 x2 x3 x4 xs0 xs1).2.2.1 =
      P7 (lacc arg11 harg11 i xs1) (lx arg4 harg4 x2) := by sl_kernel_rfl

theorem runB_s0 (hc0 : ¬cond0_0 i) (hc1 : cond0_1 i) (hc2 : ¬cond0_2 i) (hc3 : ¬cond0_3 i) :
    (kernelRun0_B (F := F) c i arg2 harg2 arg3 harg3 arg4 harg4 arg5 harg5 arg6 harg6 arg7 harg7 arg8 harg8 arg9 harg9 arg10 harg10 arg11 harg11 hc0 hc1 hc2 hc3 x0 x1 x2 x3 x4 xs0 xs1).2.2.2.1 =
      PAcc (lw arg3 harg3 x1) (ly0 arg2 harg2 x0) (ly1 arg2 harg2 x0) (la0 arg10 harg10 xs0) (la1 arg10 harg10 xs0) := by sl_kernel_rfl

theorem runB_s1 (hc0 : ¬cond0_0 i) (hc1 : cond0_1 i) (hc2 : ¬cond0_2 i) (hc3 : ¬cond0_3 i) :
    (kernelRun0_B (F := F) c i arg2 harg2 arg3 harg3 arg4 harg4 arg5 harg5 arg6 harg6 arg7 harg7 arg8 harg8 arg9 harg9 arg10 harg10 arg11 harg11 hc0 hc1 hc2 hc3 x0 x1 x2 x3 x4 xs0 xs1).2.2.2.2.1 =
      PZero i := by sl_kernel_rfl

theorem runC_5 (hc0 : ¬cond0_0 i) (hc1 : ¬cond0_1 i) (hc2 : cond0_2 i) (hc3 : ¬cond0_3 i) :
    (kernelRun0_C (F := F) c i arg2 harg2 arg3 harg3 arg4 harg4 arg5 harg5 arg6 harg6 arg7 harg7 arg8 harg8 arg9 harg9 arg10 harg10 arg11 harg11 hc0 hc1 hc2 hc3 x0 x1 x2 x3 x4 xs0 xs1).1 =
      P5 (lacc arg10 harg10 i xs0) (lx arg4 harg4 x2) := by sl_kernel_rfl

theorem runC_6 (hc0 : ¬cond0_0 i) (hc1 : ¬cond0_1 i) (hc2 : cond0_2 i) (hc3 : ¬cond0_3 i) :
    (kernelRun0_C (F := F) c i arg2 harg2 arg3 harg3 arg4 harg4 arg5 harg5 arg6 harg6 arg7 harg7 arg8 harg8 arg9 harg9 arg10 harg10 arg11 harg11 hc0 hc1 hc2 hc3 x0 x1 x2 x3 x4 xs0 xs1).2.1 =
      P6 (lacc arg10 harg10 i xs0) (lx arg4 harg4 x2) (lrow arg5 harg5 x3) (lrow arg6 harg6 x4) := by sl_kernel_rfl

theorem runC_7 (hc0 : ¬cond0_0 i) (hc1 : ¬cond0_1 i) (hc2 : cond0_2 i) (hc3 : ¬cond0_3 i) :
    (kernelRun0_C (F := F) c i arg2 harg2 arg3 harg3 arg4 harg4 arg5 harg5 arg6 harg6 arg7 harg7 arg8 harg8 arg9 harg9 arg10 harg10 arg11 harg11 hc0 hc1 hc2 hc3 x0 x1 x2 x3 x4 xs0 xs1).2.2.1 =
      P7 (lacc arg10 harg10 i xs0) (lx arg4 harg4 x2) := by sl_kernel_rfl

theorem runC_s0 (hc0 : ¬cond0_0 i) (hc1 : ¬cond0_1 i) (hc2 : cond0_2 i) (hc3 : ¬cond0_3 i) :
    (kernelRun0_C (F := F) c i arg2 harg2 arg3 harg3 arg4 harg4 arg5 harg5 arg6 harg6 arg7 harg7 arg8 harg8 arg9 harg9 arg10 harg10 arg11 harg11 hc0 hc1 hc2 hc3 x0 x1 x2 x3 x4 xs0 xs1).2.2.2.1 =
      PZero i := by sl_kernel_rfl

theorem runC_s1 (hc0 : ¬cond0_0 i) (hc1 : ¬cond0_1 i) (hc2 : cond0_2 i) (hc3 : ¬cond0_3 i) :
    (kernelRun0_C (F := F) c i arg2 harg2 arg3 harg3 arg4 harg4 arg5 harg5 arg6 harg6 arg7 harg7 arg8 harg8 arg9 harg9 arg10 harg10 arg11 harg11 hc0 hc1 hc2 hc3 x0 x1 x2 x3 x4 xs0 xs1).2.2.2.2.1 =
      PAcc (lw arg3 harg3 x1) (ly0 arg2 harg2 x0) (ly1 arg2 harg2 x0) (la0 arg11 harg11 xs1) (la1 arg11 harg11 xs1) := by sl_kernel_rfl

theorem runD_5 (hc0 : ¬cond0_0 i) (hc1 : ¬cond0_1 i) (hc2 : ¬cond0_2 i) (hc3 : cond0_3 i) :
    (kernelRun0_D (F := F) c i arg2 harg2 arg3 harg3 arg4 harg4 arg5 harg5 arg6 harg6 arg7 harg7 arg8 harg8 arg9 harg9 arg10 harg10 arg11 harg11 hc0 hc1 hc2 hc3 x0 x1 x2 x3 x4 xs0 xs1).1 =
      P5 (lacc arg11 harg11 i xs1) (lx arg4 harg4 x2) := by sl_kernel_rfl

theorem runD_6 (hc0 : ¬cond0_0 i) (hc1 : ¬cond0_1 i) (hc2 : ¬cond0_2 i) (hc3 : cond0_3 i) :
    (kernelRun0_D (F := F) c i arg2 harg2 arg3 harg3 arg4 harg4 arg5 harg5 arg6 harg6 arg7 harg7 arg8 harg8 arg9 harg9 arg10 harg10 arg11 harg11 hc0 hc1 hc2 hc3 x0 x1 x2 x3 x4 xs0 xs1).2.1 =
      P6 (lacc arg11 harg11 i xs1) (lx arg4 harg4 x2) (lrow arg5 harg5 x3) (lrow arg6 harg6 x4) := by sl_kernel_rfl

theorem runD_7 (hc0 : ¬cond0_0 i) (hc1 : ¬cond0_1 i) (hc2 : ¬cond0_2 i) (hc3 : cond0_3 i) :
    (kernelRun0_D (F := F) c i arg2 harg2 arg3 harg3 arg4 harg4 arg5 harg5 arg6 harg6 arg7 harg7 arg8 harg8 arg9 harg9 arg10 harg10 arg11 harg11 hc0 hc1 hc2 hc3 x0 x1 x2 x3 x4 xs0 xs1).2.2.1 =
      P7 (lacc arg11 harg11 i xs1) (lx arg4 harg4 x2) := by sl_kernel_rfl

theorem runD_s1 (hc0 : ¬cond0_0 i) (hc1 : ¬cond0_1 i) (hc2 : ¬cond0_2 i) (hc3 : cond0_3 i) :
    (kernelRun0_D (F := F) c i arg2 harg2 arg3 harg3 arg4 harg4 arg5 harg5 arg6 harg6 arg7 harg7 arg8 harg8 arg9 harg9 arg10 harg10 arg11 harg11 hc0 hc1 hc2 hc3 x0 x1 x2 x3 x4 xs0 xs1).2.2.2.2.1 =
      PZero i := by sl_kernel_rfl

end Pieces

end Cert.MixNorm
-- ==== Proof.MixRead.lean ====
/-
  What one grid step of the output projection with its layer norm computes, over the extended reals.
-/
module

public import proofs.«01_k».proof.Proof.MixWords
public import Idealize.ShloMosaic.Lib.Pointwise
public import Idealize.ShloMosaic.Lib.Pipeline.ReadBack
public import Idealize.ShloMosaic.Lib.Pipeline.ValueKit.Geometry
public import Idealize.ShloMosaic.Lib.WritesUnit

@[expose] public section

set_option maxRecDepth 16384

noncomputable section

namespace Cert.MixNorm

open Idealize.ShloMosaic Idealize.ShloMosaic.TcCoe Idealize.ShloMosaic.Tactic
open Cert.MixLnIdeal Cert.MixLnIdeal.Gen

/-! ## Where a piece lies -/

theorem emb2 {n0 n1 m0 m1 : ℕ} (off : Fin 2 → ℕ) (inb : ∀ a, off a + (![m0, m1] : Fin 2 → ℕ) a ≤ (⟨2, ![n0, n1]⟩ : Shape).size a)
    (i : Fin m0) (j : Fin m1) (i' : Fin n0) (j' : Fin n1) (h0 : off 0 + i.val = i'.val) (h1 : off 1 + j.val = j'.val) :
    (Rect.unit (s := ⟨2, ![n0, n1]⟩) off ![m0, m1] inb).emb (ix2 i j) = ix2 i' j' := by
  funext a
  apply Fin.ext
  rw [ValueKit.rect_emb_unit_val]
  match a with
  | ⟨0, _⟩ => exact h0
  | ⟨1, _⟩ => exact h1

theorem piece2 {α : Type} {n0 n1 m0 m1 : ℕ} (G : (⟨2, ![n0, n1]⟩ : Shape).Idx → α) (off : Fin 2 → ℕ)
    (inb : ∀ a, off a + (![m0, m1] : Fin 2 → ℕ) a ≤ (⟨2, ![n0, n1]⟩ : Shape).size a) (w : (⟨2, ![m0, m1]⟩ : Shape).Idx → α)
    (I : Fin m0 → Fin n0) (J : Fin m1 → Fin n1) (h0 : ∀ i, off 0 + i.val = (I i).val) (h1 : ∀ j, off 1 + j.val = (J j).val)
    (hw : ∀ i j, w (ix2 i j) = G (ix2 (I i) (J j))) (y : (⟨2, ![m0, m1]⟩ : Shape).Idx) :
    w y = G ((Rect.unit (s := ⟨2, ![n0, n1]⟩) off ![m0, m1] inb).emb y) := by
  obtain ⟨i, j, rfl⟩ : ∃ (i : Fin m0) (j : Fin m1), y = ix2 i j := ⟨y 0, y 1, eq_ix2 y⟩
  rw [emb2 off inb i j (I i) (J j) (h0 i) (h1 j)]
  exact hw i j

theorem off2 : (![0, 0] : Fin 2 → ℕ) = fun _ => 0 := by funext a; fin_cases a <;> rfl

/-! ## The norm of a row -/

/-- The residual's scale, the width, and the norm's small number, as the programs write them. -/
def scale : EReal := Scalar.ofBits (F := Ideal) .f32 0x3F9837F0#32
def width : EReal := Scalar.ofBits (F := Ideal) .f32 0x45000000#32
def small : EReal := Scalar.ofBits (F := Ideal) .f32 0x3727C5AC#32

def rmean (f : Fin 2048 → EReal) : EReal := Ideal.div (∑ j, f j) width
def rcen (f : Fin 2048 → EReal) (j : Fin 2048) : EReal := f j - rmean f
def rinv (d : Fin 2048 → EReal) : EReal := FloatOps.hostUnary (F := Ideal) (φ := .f32) .rsqrt (rmean (fun j => d j * d j) + small)
def rnrm (d : Fin 2048 → EReal) (j : Fin 2048) : EReal := d j * rinv d

def prow (p : Fin 8) (r : Fin 32) : Fin 256 := ⟨32 * p.val + r.val, by omega⟩

theorem hid_apply (acc : Vec Ideal S256x2048 .f32) (x : Vec Ideal S32x2048 .f32) (p : Fin 8) (r : Fin 32) (j : Fin 2048) :
    hid acc x p (ix2 r j) = scale * x (ix2 r j) + acc (ix2 (prow p r) j) := by
  unfold hid scale prow
  pointwise []

theorem avg_apply (h : FVec Ideal S32x2048 .f32) (r : Fin 32) : avg h (ix2 r 0) = rmean fun j => h (ix2 r j) := by
  unfold rmean width
  pointwise [avg]

theorem cen_apply (h : FVec Ideal S32x2048 .f32) (r : Fin 32) (j : Fin 2048) : cen h (ix2 r j) = rcen (fun j => h (ix2 r j)) j := by
  unfold rcen
  rw [← avg_apply]
  pointwise [cen]

theorem rsd_apply (d : FVec Ideal S32x2048 .f32) (r : Fin 32) : rsd d (ix2 r 0) = rinv fun j => d (ix2 r j) := by
  unfold rinv
  have h := avg_apply (mulf d d) r
  refine Eq.trans ?_ (congrArg (fun z => FloatOps.hostUnary (F := Ideal) (φ := .f32) .rsqrt (z + small)) h)
  rfl

theorem nrm_apply (d : FVec Ideal S32x2048 .f32) (r : Fin 32) (j : Fin 2048) : nrm d (ix2 r j) = rnrm (fun j => d (ix2 r j)) j := by
  unfold rnrm
  rw [← rsd_apply]
  pointwise [nrm]

theorem aff_apply (g b : Vec Ideal S1x2048 .f32) (n : FVec Ideal S32x2048 .f32) (r : Fin 32) (j : Fin 2048) :
    aff g b n (ix2 r j) = n (ix2 r j) * g (ix2 0 j) + b (ix2 0 j) := by
  pointwise [aff]

/-! ## The product's payloads -/

theorem pay1 (r : Fin 1024) (j : Fin 2048) : k0_pay1 (F := Ideal) (ix2 r j) = 0 := by
  pointwise [k0_pay1]
theorem pay8 (r : Fin 256) (j : Fin 2048) : k0_pay8 (F := Ideal) (ix2 r j) = 0 := by
  pointwise [k0_pay8]
theorem pay48 (w : Vec Ideal S512x2048 .bf16) (y : Vec Ideal S512x512 .bf16) (s : Vec Ideal S512x2048 .f32) (r : Fin 512) (j : Fin 2048) :
    k0_pay48 w y s (ix2 r j) = s (ix2 r j) + ∑ q : Fin 512, y (ix2 r q) * w (ix2 q j) := by
  pointwise [k0_pay48, k0_pay47]
theorem pay3 (w : Vec Ideal S512x2048 .bf16) (y : Vec Ideal S512x512 .bf16) (s : Vec Ideal S512x2048 .f32) (r : Fin 512) (j : Fin 2048) :
    k0_pay3 (k0_pay47 w) (k0_pay49 y) k0_pay50 s (ix2 r j) = s (ix2 r j) + ∑ q : Fin 512, y (ix2 r q) * w (ix2 q j) := by
  pointwise [k0_pay3, k0_pay47, k0_pay49, k0_pay50]
  simp only [dite_eq_ite, ite_self]
  have hz : FloatOps.uitofp (F := Ideal) FTy.f32 (IntOp.shrui ArithUnit.vector (IntOp.shrui ArithUnit.vector 0#32 16#32) 16#32) = (0 : EReal) := by
    have e : IntOp.shrui ArithUnit.vector (IntOp.shrui ArithUnit.vector 0#32 16#32) 16#32 = 0#32 := by decide
    rw [e]
    show (((0#32).toNat : ℝ) : EReal) = 0
    simp
  simp only [hz, add_zero]

/-! ## The loads -/

theorem lx_apply (M : Memref sig .tc .vmem S256x2048 .f32) (hM : M.IsWhole) (x : Vec Ideal S256x2048 .f32) (p : Fin 8) (r : Fin 32)
    (j : Fin 2048) : lx M hM x p (ix2 r j) = x (ix2 (prow p r) j) := by
  unfold lx; erw [View.readAt_eq_ld]; rw [hM.read_unread]
  exact congrArg x (emb2 _ _ r j _ _ rfl (Nat.zero_add _))
theorem lrow_eq (M : Memref sig .tc .vmem S1x2048 .f32) (hM : M.IsWhole) (x : Vec Ideal S1x2048 .f32) : lrow M hM x = x := by
  unfold lrow; erw [View.readAt_eq_ld]; rw [hM.read_unread]; exact View.ld_unit_zero off2 _ _
theorem lw_eq (M : Memref sig .tc .vmem S512x2048 .bf16) (hM : M.IsWhole) (x : Vec Ideal S512x2048 .bf16) : lw M hM x = x := by
  unfold lw; erw [View.readAt_eq_ld]; rw [hM.read_unread]; exact View.ld_unit_zero off2 _ _

def half0 (r : Fin 512) : Fin 1024 := ⟨r.val, by omega⟩
def half1 (r : Fin 512) : Fin 1024 := ⟨512 + r.val, by omega⟩

theorem ly0_apply (M : Memref sig .tc .vmem S1024x512 .bf16) (hM : M.IsWhole) (x : Vec Ideal S1024x512 .bf16) (r q : Fin 512) :
    ly0 M hM x (ix2 r q) = x (ix2 (half0 r) q) := by
  unfold ly0; erw [View.readAt_eq_ld]; rw [hM.read_unread]
  exact congrArg x (emb2 _ _ r q _ _ (Nat.zero_add _) (Nat.zero_add _))
theorem ly1_apply (M : Memref sig .tc .vmem S1024x512 .bf16) (hM : M.IsWhole) (x : Vec Ideal S1024x512 .bf16) (r q : Fin 512) :
    ly1 M hM x (ix2 r q) = x (ix2 (half1 r) q) := by
  unfold ly1; erw [View.readAt_eq_ld]; rw [hM.read_unread]
  exact congrArg x (emb2 _ _ r q _ _ rfl (Nat.zero_add _))
theorem la0_apply (M : Memref sig .tc .vmem S1024x2048 .f32) (hM : M.IsWhole) (x : Vec Ideal S1024x2048 .f32) (r : Fin 512) (j : Fin 2048) :
    la0 M hM x (ix2 r j) = x (ix2 (half0 r) j) := by
  unfold la0; erw [View.readAt_eq_ld]; rw [hM.read_unread]
  exact congrArg x (emb2 _ _ r j _ _ (Nat.zero_add _) (Nat.zero_add _))
theorem la1_apply (M : Memref sig .tc .vmem S1024x2048 .f32) (hM : M.IsWhole) (x : Vec Ideal S1024x2048 .f32) (r : Fin 512) (j : Fin 2048) :
    la1 M hM x (ix2 r j) = x (ix2 (half1 r) j) := by
  unfold la1; erw [View.readAt_eq_ld]; rw [hM.read_unread]
  exact congrArg x (emb2 _ _ r j _ _ rfl (Nat.zero_add _))

/-- Row `r` of the rows that step `i` norms. -/
def arow (i : grid0.Coords) (r : Fin 256) : Fin 1024 := ⟨256 * (i 1).val + r.val, by have h : (i 1).val < 4 := (i 1).isLt; omega⟩

theorem lacc_apply (M : Memref sig .tc .vmem S1024x2048 .f32) (hM : M.IsWhole) (i : grid0.Coords) (x : Vec Ideal S1024x2048 .f32)
    (r : Fin 256) (j : Fin 2048) : lacc M hM i x (ix2 r j) = x (ix2 (arow i r) j) := by
  unfold lacc; erw [View.readAt_eq_ld]; rw [hM.read_unread]
  exact congrArg x (emb2 _ _ r j _ _ (by rw [off1]; rfl) (by rw [off1]; exact Nat.zero_add _))

/-! ## What the step writes out -/

/-- The pre-norm row. -/
def hrow (acc x : S256x2048.Idx → EReal) (r : Fin 256) (j : Fin 2048) : EReal := scale * x (ix2 r j) + acc (ix2 r j)

def G5 (acc x : S256x2048.Idx → EReal) : S256x2048.Idx → EReal := fun y => rnrm (rcen (hrow acc x (y 0))) (y 1)
def G6 (acc x : S256x2048.Idx → EReal) (g b : S1x2048.Idx → EReal) : S256x2048.Idx → EReal := fun y =>
  rnrm (rcen (hrow acc x (y 0))) (y 1) * g (ix2 0 (y 1)) + b (ix2 0 (y 1))
def G7 (acc x : S256x2048.Idx → EReal) : S256x1.Idx → EReal := fun y => rinv (rcen (hrow acc x (y 0)))

theorem mem_groups (p : Fin 8) : p ∈ groups := by revert p; decide

theorem mem_rows {m : ℕ} (off : Fin 2 → ℕ) {n0 n1 m0 : ℕ} (inb : ∀ a, off a + (![m0, m] : Fin 2 → ℕ) a ≤ (⟨2, ![n0, n1]⟩ : Shape).size a)
    (y : (⟨2, ![n0, n1]⟩ : Shape).Idx) (i : Fin m0) (j : Fin m) (h0 : off 0 + i.val = (y 0).val) (h1 : off 1 + j.val = (y 1).val) :
    y ∈ (Rect.unit (s := ⟨2, ![n0, n1]⟩) off ![m0, m] inb).set := by
  have hi := i.isLt
  have hj := j.isLt
  refine Rect.mem_set_unit.mpr fun a => ?_
  match a with
  | ⟨0, _⟩ => exact ⟨h0 ▸ Nat.le_add_right _ _, h0 ▸ Nat.add_lt_add_left hi _⟩
  | ⟨1, _⟩ => exact ⟨h1 ▸ Nat.le_add_right _ _, h1 ▸ Nat.add_lt_add_left hj _⟩

section
variable (acc x : Vec Ideal S256x2048 .f32) (X : Fin 8 → Vec Ideal S32x2048 .f32) (g b : Vec Ideal S1x2048 .f32)
  (hX : ∀ p r j, X p (ix2 r j) = x (ix2 (prow p r) j))
include hX

theorem hid_row (p : Fin 8) (r : Fin 32) : (fun j => cen (hid acc (X p) p) (ix2 r j)) = rcen (hrow acc x (prow p r)) := by
  funext j
  rw [cen_apply]
  refine congrFun (congrArg rcen ?_) j
  funext j
  rw [hid_apply, hX]
  rfl

theorem canon5 : View.canon (P5 acc X) = G5 acc x := by
  funext y
  have h0 : (y 0).val < 256 := (y 0).isLt
  refine View.canon_apply_of_pieces _ _ (fun q hq => ?_) y ?_
  · obtain ⟨p, _, rfl⟩ := List.mem_map.mp hq
    refine piece2 (G5 acc x) _ (inp p) _ (prow p) id (fun _ => rfl) (fun _ => Nat.zero_add _) fun r j => ?_
    refine (nrm_apply _ r j).trans ?_
    rw [hid_row acc x X hX]
    rfl
  · exact ⟨_, List.mem_map.mpr ⟨⟨(y 0).val / 32, by omega⟩, mem_groups _, rfl⟩,
      mem_rows _ (inp _) y ⟨(y 0).val % 32, by omega⟩ (y 1) (Nat.div_add_mod _ _) (Nat.zero_add _)⟩

theorem canon6 : View.canon (P6 acc X g b) = G6 acc x g b := by
  funext y
  have h0 : (y 0).val < 256 := (y 0).isLt
  refine View.canon_apply_of_pieces _ _ (fun q hq => ?_) y ?_
  · obtain ⟨p, _, rfl⟩ := List.mem_map.mp hq
    refine piece2 (G6 acc x g b) _ (inp p) _ (prow p) id (fun _ => rfl) (fun _ => Nat.zero_add _) fun r j => ?_
    refine (aff_apply g b _ r j).trans ?_
    rw [nrm_apply, hid_row acc x X hX]
    rfl
  · exact ⟨_, List.mem_map.mpr ⟨⟨(y 0).val / 32, by omega⟩, mem_groups _, rfl⟩,
      mem_rows _ (inp _) y ⟨(y 0).val % 32, by omega⟩ (y 1) (Nat.div_add_mod _ _) (Nat.zero_add _)⟩

theorem canon7 : View.canon (P7 acc X) = G7 acc x := by
  funext y
  have h0 : (y 0).val < 256 := (y 0).isLt
  refine View.canon_apply_of_pieces _ _ (fun q hq => ?_) y ?_
  · obtain ⟨p, _, rfl⟩ := List.mem_map.mp hq
    refine piece2 (G7 acc x) _ (inp1 p) _ (prow p) id (fun _ => rfl) (fun _ => Nat.zero_add _) fun r j => ?_
    obtain rfl : j = 0 := Subsingleton.elim _ _
    refine (rsd_apply _ r).trans ?_
    rw [hid_row acc x X hX]
    rfl
  · exact ⟨_, List.mem_map.mpr ⟨⟨(y 0).val / 32, by omega⟩, mem_groups _, rfl⟩,
      mem_rows _ (inp1 _) y ⟨(y 0).val % 32, by omega⟩ (y 1) (Nat.div_add_mod _ _) (Nat.zero_add _)⟩
end

/-! ## What the step leaves in the accumulators -/

/-- The accumulator plus the product of the step's blocks. -/
def GA (w : S512x2048.Idx → EReal) (y : S1024x512.Idx → EReal) (s : S1024x2048.Idx → EReal) : S1024x2048.Idx → EReal := fun z =>
  s z + ∑ q : Fin 512, y (ix2 (z 0) q) * w (ix2 q (z 1))

section
variable (w : Vec Ideal S512x2048 .bf16) (y : Vec Ideal S1024x512 .bf16) (s : Vec Ideal S1024x2048 .f32)
  (y0 y1 : Vec Ideal S512x512 .bf16) (s0 s1 : Vec Ideal S512x2048 .f32)
  (hy0 : ∀ r q, y0 (ix2 r q) = y (ix2 (half0 r) q)) (hy1 : ∀ r q, y1 (ix2 r q) = y (ix2 (half1 r) q))
  (hs0 : ∀ r q, s0 (ix2 r q) = s (ix2 (half0 r) q)) (hs1 : ∀ r q, s1 (ix2 r q) = s (ix2 (half1 r) q))
include hy0 hy1 hs0 hs1

theorem canonA (L : List (View.Piece (Elt Ideal) S1024x2048 .f32)) : View.canon (PAcc w y0 y1 s0 s1 ++ L) = GA w y s := by
  funext z
  have h0 : (z 0).val < 1024 := (z 0).isLt
  refine View.canon_append_of_pieces (Val := Elt Ideal) (e := .f32) (GA w y s) _ _ (fun q hq => ?_) z ?_
  · rcases List.mem_cons.mp hq with rfl | hq
    · refine piece2 (GA w y s) _ Gen.inb_S1024x2048_S512x2048_512_0 _ half1 id (fun _ => rfl) (fun _ => Nat.zero_add _) fun r j => ?_
      refine (pay3 _ _ _ r j).trans ?_
      rw [hs1]
      exact congrArg (s (ix2 (half1 r) j) + ·) (Finset.sum_congr rfl fun q _ => by rw [hy1]; rfl)
    · obtain rfl := List.mem_singleton.mp hq
      refine piece2 (GA w y s) _ Gen.inb_S1024x2048_S512x2048_0_0 _ half0 id (fun _ => Nat.zero_add _) (fun _ => Nat.zero_add _) fun r j => ?_
      refine (pay48 _ _ _ r j).trans ?_
      rw [hs0]
      exact congrArg (s (ix2 (half0 r) j) + ·) (Finset.sum_congr rfl fun q _ => by rw [hy0]; rfl)
  · by_cases h : (z 0).val < 512
    · exact ⟨_, List.mem_cons.mpr (.inr (List.mem_singleton.mpr rfl)), mem_rows _ Gen.inb_S1024x2048_S512x2048_0_0 z ⟨(z 0).val, h⟩ (z 1) (Nat.zero_add _) (Nat.zero_add _)⟩
    · exact ⟨_, List.mem_cons.mpr (.inl rfl), mem_rows _ Gen.inb_S1024x2048_S512x2048_512_0 z ⟨(z 0).val - 512, by omega⟩ (z 1)
        (by show 512 + ((z 0).val - 512) = _; omega) (Nat.zero_add _)⟩
end

theorem pay1_zero : k0_pay1 (F := Ideal) = fun _ => (0 : EReal) := by
  funext z
  rw [eq_ix2 z]
  exact pay1 _ _

theorem canonInit : View.canon (Val := Elt Ideal) PInit = fun _ => (0 : EReal) := by
  unfold PInit
  exact (View.canon_cons_unit_zero off2 _ _ _).trans pay1_zero

theorem canonZero (i : grid0.Coords) : View.canon (Val := Elt Ideal) (PZero i ++ PInit) = fun _ => (0 : EReal) := by
  funext z
  refine View.canon_apply_of_pieces (Val := Elt Ideal) (e := .f32) (fun _ => (0 : EReal)) _ (fun q hq x => ?_) z
    ⟨_, List.mem_append_right _ (List.mem_singleton.mpr rfl), mem_rows ![0, 0] (by decide) z (z 0) (z 1) (Nat.zero_add _) (Nat.zero_add _)⟩
  rcases List.mem_append.mp hq with hq | hq
  · obtain rfl := List.mem_singleton.mp hq
    obtain ⟨r, j, rfl⟩ : ∃ (r : Fin 256) (j : Fin 2048), x = ix2 r j := ⟨x 0, x 1, eq_ix2 x⟩
    exact pay8 r j
  · obtain rfl := List.mem_singleton.mp hq
    exact congrFun pay1_zero x

/-- The normed rows are cleared, the others stay. -/
theorem clear (M : Memref sig .tc .vmem S1024x2048 .f32) (hM : M.IsWhole) (i : grid0.Coords) (x : Vec Ideal S1024x2048 .f32)
    (r : Fin 1024) (j : Fin 2048) : M.view.read (Elt Ideal) (M.view.writes (Elt Ideal) (hM.unread x) (PZero i)) (ix2 r j)
      = if 256 * (i 1).val ≤ r.val ∧ r.val < 256 * (i 1).val + 256 then 0 else x (ix2 r j) := by
  unfold PZero
  by_cases h : 256 * (i 1).val ≤ r.val ∧ r.val < 256 * (i 1).val + 256
  · rw [if_pos h]
    refine (View.read_writes_cons_rows_of_mem M.view (hM.unread x) (inoff1 i) _ [] (ix2 r j) (ix2 (⟨r.val - 256 * (i 1).val, by omega⟩ : Fin 256) j)
      (off1 i) ?_ rfl).trans (pay8 _ _)
    show r.val = 256 * (i 1).val + (r.val - 256 * (i 1).val)
    omega
  · rw [if_neg h]
    refine (View.read_writes_cons_rows_of_not_mem M.view (hM.unread x) (W := 256) (inoff1 i) _ [] (ix2 r j) (off1 i) rfl ?_).trans ?_
    · show r.val < 256 * (i 1).val ∨ 256 * (i 1).val + 256 ≤ r.val
      omega
    · rw [View.writes_nil, hM.read_unread]

end Cert.MixNorm
-- ==== Proof.MixStep.lean ====
/-
  What one grid step of the output projection with its layer norm leaves in its outputs and in its two accumulators: at the
  first step, at the even row blocks, at the odd ones, and after the last block.
-/
module

public import proofs.«01_k».proof.Proof.MixRead

@[expose] public section

set_option maxRecDepth 16384

noncomputable section

namespace Cert.MixNorm

open Idealize.ShloMosaic Idealize.ShloMosaic.TcCoe Idealize.ShloMosaic.Tactic
open Cert.MixLnIdeal Cert.MixLnIdeal.Gen

variable (c : Dev nD) (i : grid0.Coords) (arg2 : Memref sig .tc .vmem S1024x512 .bf16) (harg2 : arg2.IsWhole) (arg3 : Memref sig .tc .vmem S512x2048 .bf16) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S256x1 .f32) (harg9 : arg9.IsWhole) (arg10 : Memref sig .tc .vmem S1024x2048 .f32) (harg10 : arg10.IsWhole) (arg11 : Memref sig .tc .vmem S1024x2048 .f32) (harg11 : arg11.IsWhole)
  (x0 : Vec Ideal S1024x512 .bf16) (x1 : Vec Ideal S512x2048 .bf16) (x2 : Vec Ideal S256x2048 .f32) (x3 : Vec Ideal S1x2048 .f32) (x4 : Vec Ideal S1x2048 .f32)
  (xs0 : Vec Ideal S1024x2048 .f32) (xs1 : Vec Ideal S1024x2048 .f32)

theorem oB_5 (hc0 : ¬cond0_0 i) (hc1 : cond0_1 i) (hc2 : ¬cond0_2 i) (hc3 : ¬cond0_3 i) :
    out0_B_5 c i arg2 harg2 arg3 harg3 arg4 harg4 arg5 harg5 arg6 harg6 arg7 harg7 arg8 harg8 arg9 harg9 arg10 harg10 arg11 harg11 hc0 hc1 hc2 hc3 x0 x1 x2 x3 x4 xs0 xs1 = G5 (lacc arg11 harg11 i xs1) x2 := by
  unfold out0_B_5
  rw [runB_5, View.read_writes_junk_eq_canon]
  exact canon5 _ _ _ (lx_apply _ _ _)

theorem oB_6 (hc0 : ¬cond0_0 i) (hc1 : cond0_1 i) (hc2 : ¬cond0_2 i) (hc3 : ¬cond0_3 i) :
    out0_B_6 c i arg2 harg2 arg3 harg3 arg4 harg4 arg5 harg5 arg6 harg6 arg7 harg7 arg8 harg8 arg9 harg9 arg10 harg10 arg11 harg11 hc0 hc1 hc2 hc3 x0 x1 x2 x3 x4 xs0 xs1 = G6 (lacc arg11 harg11 i xs1) x2 x3 x4 := by
  unfold out0_B_6
  rw [runB_6, View.read_writes_junk_eq_canon, lrow_eq, lrow_eq]
  exact canon6 _ _ _ _ _ (lx_apply _ _ _)

theorem oB_7 (hc0 : ¬cond0_0 i) (hc1 : cond0_1 i) (hc2 : ¬cond0_2 i) (hc3 : ¬cond0_3 i) :
    out0_B_7 c i arg2 harg2 arg3 harg3 arg4 harg4 arg5 harg5 arg6 harg6 arg7 harg7 arg8 harg8 arg9 harg9 arg10 harg10 arg11 harg11 hc0 hc1 hc2 hc3 x0 x1 x2 x3 x4 xs0 xs1 = G7 (lacc arg11 harg11 i xs1) x2 := by
  unfold out0_B_7
  rw [runB_7, View.read_writes_junk_eq_canon]
  exact canon7 _ _ _ (lx_apply _ _ _)

theorem oC_5 (hc0 : ¬cond0_0 i) (hc1 : ¬cond0_1 i) (hc2 : cond0_2 i) (hc3 : ¬cond0_3 i) :
    out0_C_5 c i arg2 harg2 arg3 harg3 arg4 harg4 arg5 harg5 arg6 harg6 arg7 harg7 arg8 harg8 arg9 harg9 arg10 harg10 arg11 harg11 hc0 hc1 hc2 hc3 x0 x1 x2 x3 x4 xs0 xs1 = G5 (lacc arg10 harg10 i xs0) x2 := by
  unfold out0_C_5
  rw [runC_5, View.read_writes_junk_eq_canon]
  exact canon5 _ _ _ (lx_apply _ _ _)

theorem oC_6 (hc0 : ¬cond0_0 i) (hc1 : ¬cond0_1 i) (hc2 : cond0_2 i) (hc3 : ¬cond0_3 i) :
    out0_C_6 c i arg2 harg2 arg3 harg3 arg4 harg4 arg5 harg5 arg6 harg6 arg7 harg7 arg8 harg8 arg9 harg9 arg10 harg10 arg11 harg11 hc0 hc1 hc2 hc3 x0 x1 x2 x3 x4 xs0 xs1 = G6 (lacc arg10 harg10 i xs0) x2 x3 x4 := by
  unfold out0_C_6
  rw [runC_6, View.read_writes_junk_eq_canon, lrow_eq, lrow_eq]
  exact canon6 _ _ _ _ _ (lx_apply _ _ _)

theorem oC_7 (hc0 : ¬cond0_0 i) (hc1 : ¬cond0_1 i) (hc2 : cond0_2 i) (hc3 : ¬cond0_3 i) :
    out0_C_7 c i arg2 harg2 arg3 harg3 arg4 harg4 arg5 harg5 arg6 harg6 arg7 harg7 arg8 harg8 arg9 harg9 arg10 harg10 arg11 harg11 hc0 hc1 hc2 hc3 x0 x1 x2 x3 x4 xs0 xs1 = G7 (lacc arg10 harg10 i xs0) x2 := by
  unfold out0_C_7
  rw [runC_7, View.read_writes_junk_eq_canon]
  exact canon7 _ _ _ (lx_apply _ _ _)

theorem oD_5 (hc0 : ¬cond0_0 i) (hc1 : ¬cond0_1 i) (hc2 : ¬cond0_2 i) (hc3 : cond0_3 i) :
    out0_D_5 c i arg2 harg2 arg3 harg3 arg4 harg4 arg5 harg5 arg6 harg6 arg7 harg7 arg8 harg8 arg9 harg9 arg10 harg10 arg11 harg11 hc0 hc1 hc2 hc3 x0 x1 x2 x3 x4 xs0 xs1 = G5 (lacc arg11 harg11 i xs1) x2 := by
  unfold out0_D_5
  rw [runD_5, View.read_writes_junk_eq_canon]
  exact canon5 _ _ _ (lx_apply _ _ _)

theorem oD_6 (hc0 : ¬cond0_0 i) (hc1 : ¬cond0_1 i) (hc2 : ¬cond0_2 i) (hc3 : cond0_3 i) :
    out0_D_6 c i arg2 harg2 arg3 harg3 arg4 harg4 arg5 harg5 arg6 harg6 arg7 harg7 arg8 harg8 arg9 harg9 arg10 harg10 arg11 harg11 hc0 hc1 hc2 hc3 x0 x1 x2 x3 x4 xs0 xs1 = G6 (lacc arg11 harg11 i xs1) x2 x3 x4 := by
  unfold out0_D_6
  rw [runD_6, View.read_writes_junk_eq_canon, lrow_eq, lrow_eq]
  exact canon6 _ _ _ _ _ (lx_apply _ _ _)

theorem oD_7 (hc0 : ¬cond0_0 i) (hc1 : ¬cond0_1 i) (hc2 : ¬cond0_2 i) (hc3 : cond0_3 i) :
    out0_D_7 c i arg2 harg2 arg3 harg3 arg4 harg4 arg5 harg5 arg6 harg6 arg7 harg7 arg8 harg8 arg9 harg9 arg10 harg10 arg11 harg11 hc0 hc1 hc2 hc3 x0 x1 x2 x3 x4 xs0 xs1 = G7 (lacc arg11 harg11 i xs1) x2 := by
  unfold out0_D_7
  rw [runD_7, View.read_writes_junk_eq_canon]
  exact canon7 _ _ _ (lx_apply _ _ _)

theorem accB (hc0 : ¬cond0_0 i) (hc1 : cond0_1 i) (hc2 : ¬cond0_2 i) (hc3 : ¬cond0_3 i) :
    sout0_B_0 c i arg2 harg2 arg3 harg3 arg4 harg4 arg5 harg5 arg6 harg6 arg7 harg7 arg8 harg8 arg9 harg9 arg10 harg10 arg11 harg11 hc0 hc1 hc2 hc3 x0 x1 x2 x3 x4 xs0 xs1 = GA x1 x0 xs0 := by
  unfold sout0_B_0
  rw [runB_s0, View.read_writes_junk_eq_canon, lw_eq, ← List.append_nil (PAcc _ _ _ _ _)]
  exact canonA _ _ _ _ _ _ _ (ly0_apply _ _ _) (ly1_apply _ _ _) (la0_apply _ _ _) (la1_apply _ _ _) []

theorem accC (hc0 : ¬cond0_0 i) (hc1 : ¬cond0_1 i) (hc2 : cond0_2 i) (hc3 : ¬cond0_3 i) :
    sout0_C_1 c i arg2 harg2 arg3 harg3 arg4 harg4 arg5 harg5 arg6 harg6 arg7 harg7 arg8 harg8 arg9 harg9 arg10 harg10 arg11 harg11 hc0 hc1 hc2 hc3 x0 x1 x2 x3 x4 xs0 xs1 = GA x1 x0 xs1 := by
  unfold sout0_C_1
  rw [runC_s1, View.read_writes_junk_eq_canon, lw_eq, ← List.append_nil (PAcc _ _ _ _ _)]
  exact canonA _ _ _ _ _ _ _ (ly0_apply _ _ _) (ly1_apply _ _ _) (la0_apply _ _ _) (la1_apply _ _ _) []

theorem clrB (hc0 : ¬cond0_0 i) (hc1 : cond0_1 i) (hc2 : ¬cond0_2 i) (hc3 : ¬cond0_3 i) (r : Fin 1024) (j : Fin 2048) :
    sout0_B_1 c i arg2 harg2 arg3 harg3 arg4 harg4 arg5 harg5 arg6 harg6 arg7 harg7 arg8 harg8 arg9 harg9 arg10 harg10 arg11 harg11 hc0 hc1 hc2 hc3 x0 x1 x2 x3 x4 xs0 xs1 (ix2 r j)
      = if 256 * (i 1).val ≤ r.val ∧ r.val < 256 * (i 1).val + 256 then 0 else xs1 (ix2 r j) := by
  unfold sout0_B_1
  rw [runB_s1]
  exact clear _ _ _ _ r j

theorem clrC (hc0 : ¬cond0_0 i) (hc1 : ¬cond0_1 i) (hc2 : cond0_2 i) (hc3 : ¬cond0_3 i) (r : Fin 1024) (j : Fin 2048) :
    sout0_C_0 c i arg2 harg2 arg3 harg3 arg4 harg4 arg5 harg5 arg6 harg6 arg7 harg7 arg8 harg8 arg9 harg9 arg10 harg10 arg11 harg11 hc0 hc1 hc2 hc3 x0 x1 x2 x3 x4 xs0 xs1 (ix2 r j)
      = if 256 * (i 1).val ≤ r.val ∧ r.val < 256 * (i 1).val + 256 then 0 else xs0 (ix2 r j) := by
  unfold sout0_C_0
  rw [runC_s0]
  exact clear _ _ _ _ r j

theorem clrD (hc0 : ¬cond0_0 i) (hc1 : ¬cond0_1 i) (hc2 : ¬cond0_2 i) (hc3 : cond0_3 i) (r : Fin 1024) (j : Fin 2048) :
    sout0_D_1 c i arg2 harg2 arg3 harg3 arg4 harg4 arg5 harg5 arg6 harg6 arg7 harg7 arg8 harg8 arg9 harg9 arg10 harg10 arg11 harg11 hc0 hc1 hc2 hc3 x0 x1 x2 x3 x4 xs0 xs1 (ix2 r j)
      = if 256 * (i 1).val ≤ r.val ∧ r.val < 256 * (i 1).val + 256 then 0 else xs1 (ix2 r j) := by
  unfold sout0_D_1
  rw [runD_s1]
  exact clear _ _ _ _ r j

theorem v267 (r : Fin 512) (j : Fin 2048) : kernelRun0_A.sl.v267 (F := Ideal) c arg10 (ix2 r j) = 0 := by
  unfold kernelRun0_A.sl.v267
  rw [View.readCov_eq_canon']
  exact congrFun canonInit _

theorem v285 (r : Fin 512) (j : Fin 2048) : kernelRun0_A.sl.v285 (F := Ideal) c arg2 harg2 arg3 harg3 arg10 x0 x1 (ix2 r j) = 0 := by
  unfold kernelRun0_A.sl.v285 kernelRun0_A.sl.HS0_2
  rw [View.readCov_eq_canon']
  refine (View.canon_cons_of_not_mem _ _ ?_).trans (congrFun canonInit _)
  intro h
  have h1 := ((Rect.mem_set_unit (s := S1024x2048) (off := ![0, 0]) (size := S512x2048.size) (inb := Gen.inb_S1024x2048_S512x2048_0_0)).mp h 0).2
  have h2 : 512 + r.val < 0 + 512 := by
    refine lt_of_eq_of_lt ?_ h1
    exact (congrArg (fun z : S1024x2048.Idx => (z 0).val) (emb2 (n0 := 1024) (n1 := 2048) ![512, 0] Gen.inb_S1024x2048_S512x2048_512_0 r j (half1 r) j rfl (Nat.zero_add _))).symm
  omega

theorem accA (hc0 : cond0_0 i) (hc1 : cond0_1 i) (hc2 : ¬cond0_2 i) (hc3 : ¬cond0_3 i) :
    sout0_A_0 c i arg2 harg2 arg3 harg3 arg4 harg4 arg5 harg5 arg6 harg6 arg7 harg7 arg8 harg8 arg9 harg9 arg10 harg10 arg11 harg11 hc0 hc1 hc2 hc3 x0 x1 x2 x3 x4 = GA x1 x0 fun _ => 0 := by
  unfold sout0_A_0
  rw [runA_s0, View.read_writes_junk_eq_canon, lw_eq]
  exact canonA _ _ _ _ _ _ _ (ly0_apply _ _ _) (ly1_apply _ _ _) (v267 _ _) (v285 _ _ _ _ _ _ _ _) _

theorem clrA (hc0 : cond0_0 i) (hc1 : cond0_1 i) (hc2 : ¬cond0_2 i) (hc3 : ¬cond0_3 i) :
    sout0_A_1 c i arg2 harg2 arg3 harg3 arg4 harg4 arg5 harg5 arg6 harg6 arg7 harg7 arg8 harg8 arg9 harg9 arg10 harg10 arg11 harg11 hc0 hc1 hc2 hc3 x0 x1 x2 x3 x4 = fun _ => (0 : EReal) := by
  unfold sout0_A_1
  rw [runA_s1, View.read_writes_junk_eq_canon]
  exact canonZero i

end Cert.MixNorm
-- ==== Proof.MixLn.lean ====
/-
  The output projection with its scaled residual and layer norm: over the grid the kernel fills one of its two accumulators
  with a block of 1024 rows of the product while it norms the block before from the other, 256 rows at a step, and clears
  the rows it has normed.
-/
module

public import proofs.«01_k».proof.Defs
public import proofs.«01_k».proof.Proof.Columns
public import proofs.«01_k».proof.Proof.MixStep
public import proofs.«01_k».proof.Proof.Gen.MixLn.Frame
public import proofs.«01_k».proof.Proof.Gen.MixLnIdeal.Value
public import proofs.«01_k».proof.Proof.Gen.MixLnRefIdeal.Run
public import proofs.«01_k».proof.Proof.Gen.MixLnRefIdeal.Read
public import Idealize.ShloMosaic.Lib.Claim
public import Idealize.ShloMosaic.Lib.StableHlo.RunRead
public import Idealize.ShloMosaic.Lib.Pointwise
public import Idealize.ShloMosaic.Lib.Pipeline.ValueKit.Point
public import Idealize.ShloMosaic.Lib.Pipeline.ReadBack

@[expose] public section

set_option maxRecDepth 16384

noncomputable section

namespace Cert.MixNorm

open Idealize.ShloMosaic Idealize.ShloMosaic.TcCoe Idealize.ShloMosaic.Tactic
open Cert.MixLnIdeal Cert.MixLnIdeal.Gen Cert.MixLnIdeal.Value Cert.Columns

theorem idx : ∀ t : Fin grid0.N, win0_0.index t = ![min (t.val / 4) 3, if t.val < 16 then t.val % 4 else 3]
    ∧ win0_1.index t = ![if t.val < 16 then t.val % 4 else 3, 0] ∧ win0_2.index t = ![t.val - 4, 0]
    ∧ win0_3.index t = ![0, 0] ∧ win0_4.index t = ![0, 0]
    ∧ win0_5.index t = ![t.val - 4, 0] ∧ win0_6.index t = ![t.val - 4, 0] ∧ win0_7.index t = ![t.val - 4, 0]
    ∧ ((grid0.coords t) 1).val = t.val % 4 := by
  decide +kernel

theorem fl5 : ∀ t : Fin grid0.N, (cfg0.win 5).flush t = true → 4 ≤ t.val := by decide +kernel
theorem fl6 : ∀ t : Fin grid0.N, (cfg0.win 6).flush t = true → 4 ≤ t.val := by decide +kernel
theorem fl7 : ∀ t : Fin grid0.N, (cfg0.win 7).flush t = true → 4 ≤ t.val := by decide +kernel

theorem tlt (t : Fin cfg0.N) : t.val < 20 := t.isLt

/-- Token `r` of block `b`, and token `r` of the rows that point `n` norms. -/
def tok (b : ℕ) (hb : b < 4) (r : Fin 1024) : Fin 4096 := ⟨b * 1024 + r.val, by omega⟩
def ntok (n : ℕ) (hn : n < 16) (r : Fin 256) : Fin 4096 := ⟨n * 256 + r.val, by omega⟩
/-- Column `q` of the contraction's block that point `n` takes. -/
def col (n : ℕ) (q : Fin 512) : Fin 2048 := ⟨n % 4 * 512 + q.val, by omega⟩

theorem nlt (t : Fin cfg0.N) : t.val - 4 < 16 := by have h := tlt t; omega

/-! ## The results -/

section
variable (y : S4096x2048.Idx → EReal) (w : S2048x2048.Idx → EReal) (x : S4096x2048.Idx → EReal) (g b : S1x2048.Idx → EReal)

/-- The product with the weight. -/
def lin (t : Fin 4096) (j : Fin 2048) : EReal := ∑ k : Fin 2048, y (ix2 t k) * w (ix2 k j)
/-- The pre-norm row of a token. -/
def hf (t : Fin 4096) (j : Fin 2048) : EReal := scale * x (ix2 t j) + lin y w t j

def R5 : S4096x2048.Idx → EReal := fun i => rnrm (rcen (hf y w x (i 0))) (i 1)
def R6 : S4096x2048.Idx → EReal := fun i => rnrm (rcen (hf y w x (i 0))) (i 1) * g (ix2 0 (i 1)) + b (ix2 0 (i 1))
def R7 : S4096x1.Idx → EReal := fun i => rinv (rcen (hf y w x (i 0)))

/-- What the first `n` points of block `b` have added up for its row `r`. -/
def psum (b : ℕ) (hb : b < 4) (n : ℕ) (r : Fin 1024) (j : Fin 2048) : EReal :=
  ∑ s ∈ Finset.range n, ∑ q : Fin 512, y (ix2 (tok b hb r) (col (4 * b + s) q)) * w (ix2 (col (4 * b + s) q) j)

theorem psum_zero (b : ℕ) (hb : b < 4) (r : Fin 1024) (j : Fin 2048) : psum y w b hb 0 r j = 0 := Finset.sum_range_zero _

theorem psum_four (b : ℕ) (hb : b < 4) (r : Fin 1024) (j : Fin 2048) : psum y w b hb 4 r j = lin y w (tok b hb r) j :=
  sum_blocks (b := 4) (w := 512) (n := 2048) rfl (fun k => y (ix2 (tok b hb r) k) * w (ix2 k j)) col b
    (fun s q hs => by show (4 * b + s) % 4 * 512 + q.val = s * 512 + q.val; rw [show (4 * b + s) % 4 = s by omega])

/-- What is left of the block before when `n` points of block `b` are done: the first rows are cleared. -/
def rest (b : ℕ) (hb : b < 5) (n : ℕ) (r : Fin 1024) (j : Fin 2048) : EReal :=
  if h : b = 0 ∨ r.val < 256 * n then 0 else lin y w (tok (b - 1) (by omega) r) j

theorem rest_succ (b : ℕ) (hb : b < 5) (n : ℕ) (r : Fin 1024) (j : Fin 2048) :
    (if 256 * n ≤ r.val ∧ r.val < 256 * n + 256 then 0 else rest y w b hb n r j) = rest y w b hb (n + 1) r j := by
  unfold rest
  split_ifs <;> first | rfl | omega
end

/-! ## The blocks -/

variable (m : (ℓ : Loc nD τ sig) → Buf (Elt Ideal) ℓ) (c : Dev nD)

theorem v0 : (V m c main_v0 : S4096x2048.Idx → EReal) = m (c.tc.loc main_arg0) := by
  entry_read
  rfl
theorem v1 : (V m c main_v1 : S2048x2048.Idx → EReal) = m (c.tc.loc main_arg1) := by
  entry_read
  rfl

theorem iblk0 (t : Fin cfg0.N) (b : ℕ) (hb : b < 4) (e : t.val / 4 = b) (r : Fin 1024) (q : Fin 512) :
    iblk m c 0 t (ix2 r q) = V m c main_v0 (ix2 (tok b hb r) (col t.val q)) := by
  have h1 : min (t.val / 4) 3 = b := by omega
  have h2 : (if t.val < 16 then t.val % 4 else 3) = t.val % 4 := if_pos (by omega)
  blk_ext [iblk, tok, col, (idx t).1, h1, h2]
theorem iblk1 (t : Fin cfg0.N) (h : t.val < 16) (q : Fin 512) (j : Fin 2048) :
    iblk m c 1 t (ix2 q j) = V m c main_v1 (ix2 (col t.val q) j) := by
  have h2 : (if t.val < 16 then t.val % 4 else 3) = t.val % 4 := if_pos h
  blk_ext [iblk, col, (idx t).2.1, h2]
theorem iblk2 (t : Fin cfg0.N) (r : Fin 256) (j : Fin 2048) : iblk m c 2 t (ix2 r j) = V m c main_arg2 (ix2 (ntok _ (nlt t) r) j) := by
  blk_ext [iblk, ntok, (idx t).2.2.1]
theorem iblk3 (t : Fin cfg0.N) (j : Fin 2048) : iblk m c 3 t (ix2 0 j) = V m c main_arg3 (ix2 0 j) := by
  blk_ext [iblk, (idx t).2.2.2.1]
theorem iblk4 (t : Fin cfg0.N) (j : Fin 2048) : iblk m c 4 t (ix2 0 j) = V m c main_arg4 (ix2 0 j) := by
  blk_ext [iblk, (idx t).2.2.2.2.1]
theorem emb5 (t : Fin cfg0.N) (r : Fin 256) (j : Fin 2048) : ((cfg0.win 5).blk t).view.emb (ix2 r j) = (ix2 (ntok _ (nlt t) r) j : S4096x2048.Idx) := by
  blk_ext [ntok, (idx t).2.2.2.2.2.1]
theorem emb6 (t : Fin cfg0.N) (r : Fin 256) (j : Fin 2048) : ((cfg0.win 6).blk t).view.emb (ix2 r j) = (ix2 (ntok _ (nlt t) r) j : S4096x2048.Idx) := by
  blk_ext [ntok, (idx t).2.2.2.2.2.2.1]
theorem emb7 (t : Fin cfg0.N) (r : Fin 256) (j : Fin 1) : ((cfg0.win 7).blk t).view.emb (ix2 r j) = (ix2 (ntok _ (nlt t) r) j : S4096x1.Idx) := by
  blk_ext [ntok, (idx t).2.2.2.2.2.2.2.1]

/-! ## One point -/

/-- The accumulators of the even and of the odd blocks after point `n`. -/
def A0 (n : ℕ) (h : n < cfg0.N) : S1024x2048.Idx → EReal := (outsAt0 m c n h).2.2.2.1
def A1 (n : ℕ) (h : n < cfg0.N) : S1024x2048.Idx → EReal := (outsAt0 m c n h).2.2.2.2

theorem prv (t : Fin cfg0.N) : t.val - 1 < cfg0.N := Nat.lt_of_le_of_lt (Nat.sub_le _ _) t.isLt

/-- The product's part of point `t` of block `b`. -/
theorem ga (t : Fin cfg0.N) (b : ℕ) (hb : b < 4) (n : ℕ) (e : t.val = 4 * b + n) (hn : n < 4) (s : S1024x2048.Idx → EReal)
    (hs : ∀ r j, s (ix2 r j) = psum (m (c.tc.loc main_arg0)) (m (c.tc.loc main_arg1)) b hb n r j) (r : Fin 1024) (j : Fin 2048) :
    GA (iblk m c 1 t) (iblk m c 0 t) s (ix2 r j) = psum (m (c.tc.loc main_arg0)) (m (c.tc.loc main_arg1)) b hb (n + 1) r j := by
  unfold psum
  rw [Finset.sum_range_succ, ← e]
  refine congrArg₂ (· + ·) (hs r j) (Finset.sum_congr rfl fun q _ => ?_)
  refine congrArg₂ (· * ·) ((iblk0 m c t b hb (by omega) r q).trans (congrFun (v0 m c) _))
    ((iblk1 m c t (by omega) q j).trans (congrFun (v1 m c) _))

section
variable {α β γ δ ε : Type*} {p : α × β × γ × δ × ε} {a : α} {b : β} {d : γ} {e : δ} {f : ε}
theorem at1 (h : p = (a, b, d, e, f)) : p.1 = a := by rw [h]
theorem at2 (h : p = (a, b, d, e, f)) : p.2.1 = b := by rw [h]
theorem at3 (h : p = (a, b, d, e, f)) : p.2.2.1 = d := by rw [h]
theorem at4 (h : p = (a, b, d, e, f)) : p.2.2.2.1 = e := by rw [h]
theorem at5 (h : p = (a, b, d, e, f)) : p.2.2.2.2 = f := by rw [h]
end

theorem ptA (t : Fin cfg0.N) (h : t.val = 0) : A0 m c t.val t.isLt = GA (iblk m c 1 t) (iblk m c 0 t) (fun _ => 0) ∧ A1 m c t.val t.isLt = fun _ => 0 := by
  have e := outsAt0_A m c t (by omega) (by omega) (by omega) (by omega)
  exact ⟨(at4 e).trans (accA ..), (at5 e).trans (clrA ..)⟩

theorem ptB (t : Fin cfg0.N) (h : 0 < t.val) (h1 : t.val < 16) (h2 : t.val / 4 % 2 = 0) :
    A0 m c t.val t.isLt = GA (iblk m c 1 t) (iblk m c 0 t) (A0 m c (t.val - 1) (prv t))
    ∧ ∀ r j, A1 m c t.val t.isLt (ix2 r j) = if 256 * (t.val % 4) ≤ r.val ∧ r.val < 256 * (t.val % 4) + 256 then 0 else A1 m c (t.val - 1) (prv t) (ix2 r j) := by
  have e := outsAt0_B m c t (by omega) (by omega) (by omega) (by omega)
  rw [← (idx t).2.2.2.2.2.2.2.2]
  exact ⟨(at4 e).trans (accB ..), fun r j => (congrFun (at5 e) _).trans (clrB ..)⟩

theorem ptC (t : Fin cfg0.N) (h1 : t.val < 16) (h2 : t.val / 4 % 2 = 1) :
    A1 m c t.val t.isLt = GA (iblk m c 1 t) (iblk m c 0 t) (A1 m c (t.val - 1) (prv t))
    ∧ ∀ r j, A0 m c t.val t.isLt (ix2 r j) = if 256 * (t.val % 4) ≤ r.val ∧ r.val < 256 * (t.val % 4) + 256 then 0 else A0 m c (t.val - 1) (prv t) (ix2 r j) := by
  have e := outsAt0_C m c t (by omega) (by omega) (by omega) (by omega)
  rw [← (idx t).2.2.2.2.2.2.2.2]
  exact ⟨(at5 e).trans (accC ..), fun r j => (congrFun (at4 e) _).trans (clrC ..)⟩

theorem ptD (t : Fin cfg0.N) (h1 : 16 ≤ t.val) :
    ∀ r j, A1 m c t.val t.isLt (ix2 r j) = if 256 * (t.val % 4) ≤ r.val ∧ r.val < 256 * (t.val % 4) + 256 then 0 else A1 m c (t.val - 1) (prv t) (ix2 r j) := by
  have ht := tlt t
  have e := outsAt0_D m c t (by omega) (by omega) (by omega) (by omega)
  rw [← (idx t).2.2.2.2.2.2.2.2]
  exact fun r j => (congrFun (at5 e) _).trans (clrD ..)

/-! ## Over the grid -/

/-- The filling accumulator has the first `n` parts of block `b`, the other what is left of the block before. -/
def Holds (E O : S1024x2048.Idx → EReal) (b n : ℕ) : Prop :=
  (∀ (hb : b < 4) (r : Fin 1024) (j : Fin 2048), E (ix2 r j) = psum (m (c.tc.loc main_arg0)) (m (c.tc.loc main_arg1)) b hb n r j)
  ∧ ∀ (hb : b < 5) (r : Fin 1024) (j : Fin 2048), O (ix2 r j) = rest (m (c.tc.loc main_arg0)) (m (c.tc.loc main_arg1)) b hb n r j

/-- At the end of a block the two accumulators change places. -/
theorem turn (E O : S1024x2048.Idx → EReal) (b : ℕ) (hb : b < 4) (h : Holds m c E O b 4) : Holds m c O E (b + 1) 0 := by
  refine ⟨fun hb' r j => ?_, fun hb' r j => ?_⟩
  · rw [psum_zero, h.2 (by omega) r j]
    exact dif_pos (Or.inr (by have := r.isLt; omega))
  · rw [h.1 hb r j, psum_four]
    unfold rest
    rw [dif_neg (show ¬ (b + 1 = 0 ∨ r.val < 256 * 0) by omega)]
    rfl

/-- By the block's parity. -/
def Side (E O : S1024x2048.Idx → EReal) (b n : ℕ) : Prop :=
  (b % 2 = 0 → Holds m c E O b n) ∧ (b % 2 = 1 → Holds m c O E b n)

theorem step (E O : S1024x2048.Idx → EReal) (n : ℕ) (hn : n < 19) (h : Side m c E O (n / 4) (n % 4 + 1)) :
    Side m c E O ((n + 1) / 4) ((n + 1) % 4) := by
  by_cases h3 : n % 4 = 3
  · rw [show (n + 1) / 4 = n / 4 + 1 by omega, show (n + 1) % 4 = 0 by omega]
    rw [h3] at h
    exact ⟨fun e => turn m c _ _ _ (by omega) (h.2 (by omega)), fun e => turn m c _ _ _ (by omega) (h.1 (by omega))⟩
  · rw [show (n + 1) / 4 = n / 4 by omega, show (n + 1) % 4 = n % 4 + 1 by omega]
    exact h

theorem fill (t : Fin cfg0.N) (ht : t.val < 16) (E O E' O' : S1024x2048.Idx → EReal) (h : Holds m c E O (t.val / 4) (t.val % 4))
    (hE : E' = GA (iblk m c 1 t) (iblk m c 0 t) E)
    (hO : ∀ r j, O' (ix2 r j) = if 256 * (t.val % 4) ≤ r.val ∧ r.val < 256 * (t.val % 4) + 256 then 0 else O (ix2 r j)) :
    Holds m c E' O' (t.val / 4) (t.val % 4 + 1) := by
  refine ⟨fun hb r j => ?_, fun hb r j => ?_⟩
  · rw [hE]
    exact ga m c t _ hb _ (by omega) (by omega) _ (h.1 hb) r j
  · rw [hO, h.2 hb r j]
    exact rest_succ _ _ _ hb _ r j

theorem side (n : ℕ) : ∀ h : n < cfg0.N, Side m c (A0 m c n h) (A1 m c n h) (n / 4) (n % 4 + 1) := by
  induction n with
  | zero =>
    intro h
    refine ⟨fun _ => ?_, fun e => absurd e (by decide)⟩
    obtain ⟨e0, e1⟩ := ptA m c ⟨0, h⟩ rfl
    refine fill m c ⟨0, h⟩ (by show 0 < 16; decide) (fun _ => 0) (fun _ => 0) _ _ ⟨fun hb r j => ?_, fun hb r j => ?_⟩ e0 fun r j => ?_
    · exact (psum_zero _ _ _ hb r j).symm
    · unfold rest
      rw [dif_pos (Or.inl (show (⟨0, h⟩ : Fin cfg0.N).val / 4 = 0 from Nat.zero_div 4))]
    · exact (congrFun e1 _).trans (ite_self _).symm
  | succ n ih =>
    intro h
    have hN : n + 1 < 20 := h
    have hs := step m c _ _ n (by omega) (ih (Nat.lt_of_succ_lt h))
    refine ⟨fun e => ?_, fun e => ?_⟩
    · by_cases h1 : n + 1 < 16
      · obtain ⟨e0, e1⟩ := ptB m c ⟨n + 1, h⟩ (Nat.succ_pos n) h1 e
        exact fill m c ⟨n + 1, h⟩ h1 _ _ _ _ (hs.1 e) e0 e1
      · refine ⟨fun hb => absurd hb (by omega), fun hb r j => ?_⟩
        refine (ptD m c ⟨n + 1, h⟩ (by show 16 ≤ n + 1; omega) r j).trans ?_
        refine Eq.trans ?_ (rest_succ _ _ _ hb _ r j)
        rw [← (hs.1 e).2 hb r j]
        rfl
    · obtain ⟨e0, e1⟩ := ptC m c ⟨n + 1, h⟩ (by show n + 1 < 16; omega) e
      exact fill m c ⟨n + 1, h⟩ (by show n + 1 < 16; omega) _ _ _ _ (hs.2 e) e0 e1

/-- The accumulator that a point norms from, before the point. -/
def src (t : Fin cfg0.N) : S1024x2048.Idx → EReal :=
  if t.val / 4 % 2 = 0 then A1 m c (t.val - 1) (prv t) else A0 m c (t.val - 1) (prv t)

theorem src_row (t : Fin cfg0.N) (ht : 4 ≤ t.val) (r : Fin 256) (j : Fin 2048) :
    src m c t (ix2 (arow (grid0.coords t) r) j) = lin (m (c.tc.loc main_arg0)) (m (c.tc.loc main_arg1)) (ntok _ (nlt t) r) j := by
  have hN := tlt t
  have hs := step m c _ _ (t.val - 1) (by omega) (side m c (t.val - 1) (prv t))
  rw [show t.val - 1 + 1 = t.val by omega] at hs
  have hk : ((grid0.coords t) 1).val = t.val % 4 := (idx t).2.2.2.2.2.2.2.2
  have hr : ∀ hb : t.val / 4 < 5, rest (m (c.tc.loc main_arg0)) (m (c.tc.loc main_arg1)) (t.val / 4) hb (t.val % 4) (arow (grid0.coords t) r) j
      = lin (m (c.tc.loc main_arg0)) (m (c.tc.loc main_arg1)) (ntok _ (nlt t) r) j := by
    intro hb
    refine (dif_neg ?_).trans (congrArg (lin _ _ · j) (Fin.ext ?_))
    · show ¬ (t.val / 4 = 0 ∨ 256 * ((grid0.coords t) 1).val + r.val < 256 * (t.val % 4))
      rw [hk]
      omega
    · show (t.val / 4 - 1) * 1024 + (256 * ((grid0.coords t) 1).val + r.val) = (t.val - 4) * 256 + r.val
      rw [hk]
      omega
  unfold src
  by_cases e : t.val / 4 % 2 = 0
  · rw [if_pos e, (hs.1 e).2 (by omega), hr]
  · rw [if_neg e, (hs.2 (by omega)).2 (by omega), hr]

/-- What a point writes out, from the accumulator it norms from. -/
theorem outs (t : Fin cfg0.N) (ht : 4 ≤ t.val) : ∃ acc : S256x2048.Idx → EReal,
    (∀ r j, acc (ix2 r j) = src m c t (ix2 (arow (grid0.coords t) r) j))
    ∧ (outsAt0 m c t.val t.isLt).1 = G5 acc (iblk m c 2 t)
    ∧ (outsAt0 m c t.val t.isLt).2.1 = G6 acc (iblk m c 2 t) (iblk m c 3 t) (iblk m c 4 t)
    ∧ (outsAt0 m c t.val t.isLt).2.2.1 = G7 acc (iblk m c 2 t) := by
  have hN := tlt t
  unfold src
  by_cases e : t.val / 4 % 2 = 0
  · rw [if_pos e]
    by_cases h1 : t.val < 16
    · have e := outsAt0_B m c t (by omega) (by omega) (by omega) (by omega)
      exact ⟨_, lacc_apply scM0_1 (Memref.isWhole_whole _) (grid0.coords t) (A1 m c (t.val - 1) (prv t)),
        (at1 e).trans (oB_5 ..), (at2 e).trans (oB_6 ..), (at3 e).trans (oB_7 ..)⟩
    · have e := outsAt0_D m c t (by omega) (by omega) (by omega) (by omega)
      exact ⟨_, lacc_apply scM0_1 (Memref.isWhole_whole _) (grid0.coords t) (A1 m c (t.val - 1) (prv t)),
        (at1 e).trans (oD_5 ..), (at2 e).trans (oD_6 ..), (at3 e).trans (oD_7 ..)⟩
  · have e' := outsAt0_C m c t (by omega) (by omega) (by omega) (by omega)
    rw [if_neg e]
    exact ⟨_, lacc_apply scM0_0 (Memref.isWhole_whole _) (grid0.coords t) (A0 m c (t.val - 1) (prv t)),
      (at1 e').trans (oC_5 ..), (at2 e').trans (oC_6 ..), (at3 e').trans (oC_7 ..)⟩

theorem hrow_eq (t : Fin cfg0.N) (ht : 4 ≤ t.val) (acc : S256x2048.Idx → EReal)
    (ha : ∀ r j, acc (ix2 r j) = src m c t (ix2 (arow (grid0.coords t) r) j)) (r : Fin 256) :
    hrow acc (iblk m c 2 t) r = hf (m (c.tc.loc main_arg0)) (m (c.tc.loc main_arg1)) (m (c.tc.loc main_arg2)) (ntok _ (nlt t) r) := by
  funext j
  unfold hrow hf
  rw [ha, src_row m c t ht, iblk2, V_main_arg2]

theorem arr5 : (dats m 0 c).arrAt 5 cfg0.N = R5 (m (c.tc.loc main_arg0)) (m (c.tc.loc main_arg1)) (m (c.tc.loc main_arg2)) := by
  refine (dats m 0 c).arrAt_eq_of_covers 5 _ (by decide +kernel) fun t hf y => ?_
  have ht := fl5 t hf
  blk_simp
  obtain ⟨r, j, rfl⟩ : ∃ (r : Fin 256) (j : Fin 2048), y = ix2 r j := ⟨y 0, y 1, eq_ix2 y⟩
  obtain ⟨acc, ha, e, -, -⟩ := outs m c t ht
  rw [after0_5, e]
  refine Eq.trans ?_ (congrArg (R5 _ _ _) (emb5 t r j)).symm
  exact congrArg (fun f => rnrm (rcen f) j) (hrow_eq m c t ht acc ha r)

theorem arr6 : (dats m 0 c).arrAt 6 cfg0.N = R6 (m (c.tc.loc main_arg0)) (m (c.tc.loc main_arg1)) (m (c.tc.loc main_arg2))
    (m (c.tc.loc main_arg3)) (m (c.tc.loc main_arg4)) := by
  refine (dats m 0 c).arrAt_eq_of_covers 6 _ (by decide +kernel) fun t hf y => ?_
  have ht := fl6 t hf
  blk_simp
  obtain ⟨r, j, rfl⟩ : ∃ (r : Fin 256) (j : Fin 2048), y = ix2 r j := ⟨y 0, y 1, eq_ix2 y⟩
  obtain ⟨acc, ha, -, e, -⟩ := outs m c t ht
  rw [after0_6, e]
  refine Eq.trans ?_ (congrArg (R6 _ _ _ _ _) (emb6 t r j)).symm
  refine congrArg₂ (· + ·) (congrArg₂ (· * ·) (congrArg (fun f => rnrm (rcen f) j) (hrow_eq m c t ht acc ha r)) ?_) ?_
  · exact (iblk3 m c t j).trans (by rw [V_main_arg3]; rfl)
  · exact (iblk4 m c t j).trans (by rw [V_main_arg4]; rfl)

theorem arr7 : (dats m 0 c).arrAt 7 cfg0.N = R7 (m (c.tc.loc main_arg0)) (m (c.tc.loc main_arg1)) (m (c.tc.loc main_arg2)) := by
  refine (dats m 0 c).arrAt_eq_of_covers 7 _ (by decide +kernel) fun t hf y => ?_
  have ht := fl7 t hf
  blk_simp
  obtain ⟨r, j, rfl⟩ : ∃ (r : Fin 256) (j : Fin 1), y = ix2 r j := ⟨y 0, y 1, eq_ix2 y⟩
  obtain ⟨acc, ha, -, -, e⟩ := outs m c t ht
  rw [after0_7, e]
  refine Eq.trans ?_ (congrArg (R7 _ _ _) (emb7 t r j)).symm
  exact congrArg (fun f => rinv (rcen f)) (hrow_eq m c t ht acc ha r)

/-! ## The reference -/

section
variable (y : S4096x2048.Idx → EReal) (w : S2048x2048.Idx → EReal) (x : S4096x2048.Idx → EReal) (g b : S1x2048.Idx → EReal)

open Cert.MixLnRefIdeal.Read

theorem ref3 (t : Fin 4096) (j : Fin 2048) : val_main_v3 (F := Ideal) y w x (ix2 t j) = hf y w x t j := by
  rw [val_main_v3_apply, val_main_v1_apply, val_main_v0_apply, val_main_v2_apply]
  refine congrArg₂ (· + ·) rfl ?_
  exact Finset.sum_congr rfl fun k _ => congrArg₂ (· * ·) (congrArg y (eq_ix2 _)) (congrArg w (eq_ix2 _))

theorem zero_word : FloatOps.ofBits (F := Ideal) .f32 0x00000000#32 = (0 : EReal) := by
  pointwise []

theorem ref7 (i : S4096x1.Idx) : val_main_v7 (F := Ideal) y w x i = rmean (hf y w x (i 0)) := by
  rw [val_main_v7_apply, val_main_v5_apply, val_main_v4_apply, val_main_v6_apply, val_main_cst_0_apply, zero_word, zero_add]
  exact congrArg (fun z => Ideal.div z width) (Finset.sum_congr rfl fun k _ => (congrArg _ (eq_ix2 _)).trans (ref3 y w x _ k))

theorem ref9 (t : Fin 4096) (j : Fin 2048) : val_main_v9 (F := Ideal) y w x (ix2 t j) = rcen (hf y w x t) j := by
  rw [val_main_v9_apply, ref3, val_main_v8_apply, ref7]
  rfl

theorem ref17 (i : S4096x1.Idx) : val_main_v17 (F := Ideal) y w x i = rinv (rcen (hf y w x (i 0))) := by
  rw [val_main_v17_apply, val_main_v16_apply, val_main_v14_apply, val_main_v12_apply, val_main_v11_apply, val_main_v13_apply, val_main_v15_apply,
    val_main_cst_2_apply, zero_word, zero_add]
  unfold rinv
  refine congrArg (fun z => FloatOps.hostUnary (F := Ideal) (φ := .f32) .rsqrt (Ideal.div z width + small)) (Finset.sum_congr rfl fun k _ => ?_)
  rw [val_main_v10_apply]
  have e : val_main_v9 (F := Ideal) y w x (idx_main_v11 (idx_main_v12 i) k) = rcen (hf y w x (i 0)) k :=
    (congrArg _ (eq_ix2 _)).trans (ref9 y w x (i 0) k)
  exact congrArg₂ (· * ·) e e

theorem ref21 (t : Fin 4096) (j : Fin 2048) : val_main_v21 (F := Ideal) y w x (ix2 t j) = rnrm (rcen (hf y w x t)) j := by
  rw [val_main_v21_apply, val_main_v19_apply, ref3, val_main_v18_apply, ref7, val_main_v20_apply, ref17]
  rfl

theorem refR5 : val_main_v21 (F := Ideal) y w x = R5 y w x := by
  funext i
  rw [eq_ix2 i]
  exact ref21 y w x _ _
theorem refR6 : val_main_v26 (F := Ideal) y w x g b = R6 y w x g b := by
  funext i
  obtain ⟨t, j, rfl⟩ : ∃ (t : Fin 4096) (j : Fin 2048), i = ix2 t j := ⟨i 0, i 1, eq_ix2 i⟩
  rw [val_main_v26_apply, val_main_v25_apply, val_main_v23_apply, ref21, val_main_v22_apply, val_main_v24_apply]
  refine congrArg₂ (· + ·) (congrArg₂ (· * ·) rfl (congrArg g (eq_ix2 _))) (congrArg b (eq_ix2 _))
theorem refR7 : val_main_v17 (F := Ideal) y w x = R7 y w x := by
  funext i
  exact ref17 y w x i
end

/-- Equal arguments give equal results. -/
theorem value : Cert.algebraic_MixLnIdeal_MixLnRefIdeal (hMixLnIdeal := Cert.MixLnIdeal.Gen.facts) (hMixLnRefIdeal := Cert.MixLnRefIdeal.Gen.facts) := by
  intro m ρ m' ρ' _ hagree
  refine ⟨fun c => R5 (m (c.tc.loc main_arg0)) (m (c.tc.loc main_arg1)) (m (c.tc.loc main_arg2)),
    fun c => R6 (m (c.tc.loc main_arg0)) (m (c.tc.loc main_arg1)) (m (c.tc.loc main_arg2)) (m (c.tc.loc main_arg3)) (m (c.tc.loc main_arg4)),
    fun c => R7 (m (c.tc.loc main_arg0)) (m (c.tc.loc main_arg1)) (m (c.tc.loc main_arg2)), ?_, ?_⟩
  · exact (θ_run Cert.MixLnIdeal.defs _ _).mono (fun r h c => ⟨(h c).1.trans (arr5 m c), (h c).2.1.trans (arr6 m c), (h c).2.2.1.trans (arr7 m c), (h c).2.2.2⟩)
      (Cert.MixLnIdeal.Value.run_blocks (F := Ideal) m ρ)
  · refine (θ_run Cert.MixLnRefIdeal.defs _ _).mono (fun r h c => ⟨(h c).1.trans ?_, (h c).2.1.trans ?_, (h c).2.2.1.trans ?_, (h c).2.2.2⟩)
      (Cert.MixLnRefIdeal.Value.run (F := Ideal) m' ρ')
    all_goals obtain ⟨a0, a1, a2, a3, a4⟩ := hagree c
    · refine (Cert.MixLnRefIdeal.Read.val_main_v21_eq (F := Ideal) _ _ _).trans ((refR5 _ _ _).trans ?_)
      rw [a0, a1, a2]
    · refine (Cert.MixLnRefIdeal.Read.val_main_v26_eq (F := Ideal) _ _ _ _ _).trans ((refR6 _ _ _ _ _).trans ?_)
      rw [a0, a1, a2, a3, a4]
    · refine (Cert.MixLnRefIdeal.Read.val_main_v17_eq (F := Ideal) _ _ _).trans ((refR7 _ _ _).trans ?_)
      rw [a0, a1, a2]

/-- The reference alone. -/
theorem frame_ref : Cert.quiescent_MixLnRefIdeal (hMixLnRefIdeal := Cert.MixLnRefIdeal.Gen.facts) := fun m ρ _ =>
  (θ_run Cert.MixLnRefIdeal.defs _ _).mono (fun r h => ⟨fun c => (h c).2.2.2, sem_eq_zero_of_no_sems (by decide) r.2⟩)
    (Cert.MixLnRefIdeal.Value.run (F := Ideal) m ρ)

end Cert.MixNorm
-- ==== Proof.lean ====
/-
  The claims of the eleven programs put together: the attention's gradient is assembled here from its modules, the product
  calls' claims are proved in the module named after each.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Pre_finite
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.MlpBwd
public import proofs.«01_k».proof.Proof.Gen.MlpBwd.Skeleton
public import proofs.«01_k».proof.Proof.Gen.MlpBwd.Launch
public import proofs.«01_k».proof.Proof.Gen.MlpBwd.Points
public import proofs.«01_k».proof.Proof.Gen.MlpBwd.Frame
public import proofs.«01_k».proof.Proof.Gen.MlpBwdIdeal
public import proofs.«01_k».proof.Proof.Gen.MlpBwdIdeal.Skeleton
public import proofs.«01_k».proof.Proof.Gen.MlpBwdIdeal.Launch
public import proofs.«01_k».proof.Proof.Gen.MlpBwdIdeal.Points
public import proofs.«01_k».proof.Proof.Gen.MlpBwdIdeal.Frame
public import proofs.«01_k».proof.Proof.Gen.MlpBwdIdeal.Value
public import proofs.«01_k».proof.Proof.Gen.MlpBwdRefIdeal
public import proofs.«01_k».proof.Proof.Gen.MlpBwdRefIdeal.Run
public import proofs.«01_k».proof.Proof.Gen.MlpBwdRefIdeal.Read
public import proofs.«01_k».proof.Proof.Gen.DownW
public import proofs.«01_k».proof.Proof.Gen.DownW.Skeleton
public import proofs.«01_k».proof.Proof.Gen.DownW.Launch
public import proofs.«01_k».proof.Proof.Gen.DownW.Points
public import proofs.«01_k».proof.Proof.Gen.DownW.Frame
public import proofs.«01_k».proof.Proof.Gen.DownWIdeal
public import proofs.«01_k».proof.Proof.Gen.DownWIdeal.Skeleton
public import proofs.«01_k».proof.Proof.Gen.DownWIdeal.Launch
public import proofs.«01_k».proof.Proof.Gen.DownWIdeal.Points
public import proofs.«01_k».proof.Proof.Gen.DownWIdeal.Frame
public import proofs.«01_k».proof.Proof.Gen.DownWIdeal.Value
public import proofs.«01_k».proof.Proof.Gen.DownWRefIdeal
public import proofs.«01_k».proof.Proof.Gen.DownWRefIdeal.Run
public import proofs.«01_k».proof.Proof.Gen.DownWRefIdeal.Read
public import proofs.«01_k».proof.Proof.Gen.UpW
public import proofs.«01_k».proof.Proof.Gen.UpW.Skeleton
public import proofs.«01_k».proof.Proof.Gen.UpW.Launch
public import proofs.«01_k».proof.Proof.Gen.UpW.Points
public import proofs.«01_k».proof.Proof.Gen.UpW.Frame
public import proofs.«01_k».proof.Proof.Gen.UpWIdeal
public import proofs.«01_k».proof.Proof.Gen.UpWIdeal.Skeleton
public import proofs.«01_k».proof.Proof.Gen.UpWIdeal.Launch
public import proofs.«01_k».proof.Proof.Gen.UpWIdeal.Points
public import proofs.«01_k».proof.Proof.Gen.UpWIdeal.Frame
public import proofs.«01_k».proof.Proof.Gen.UpWIdeal.Value
public import proofs.«01_k».proof.Proof.Gen.UpWRefIdeal
public import proofs.«01_k».proof.Proof.Gen.UpWRefIdeal.Run
public import proofs.«01_k».proof.Proof.Gen.UpWRefIdeal.Read
public import proofs.«01_k».proof.Proof.Gen.OutW
public import proofs.«01_k».proof.Proof.Gen.OutW.Skeleton
public import proofs.«01_k».proof.Proof.Gen.OutW.Launch
public import proofs.«01_k».proof.Proof.Gen.OutW.Points
public import proofs.«01_k».proof.Proof.Gen.OutW.Frame
public import proofs.«01_k».proof.Proof.Gen.OutWIdeal
public import proofs.«01_k».proof.Proof.Gen.OutWIdeal.Skeleton
public import proofs.«01_k».proof.Proof.Gen.OutWIdeal.Launch
public import proofs.«01_k».proof.Proof.Gen.OutWIdeal.Points
public import proofs.«01_k».proof.Proof.Gen.OutWIdeal.Frame
public import proofs.«01_k».proof.Proof.Gen.OutWIdeal.Value
public import proofs.«01_k».proof.Proof.Gen.OutWRefIdeal
public import proofs.«01_k».proof.Proof.Gen.OutWRefIdeal.Run
public import proofs.«01_k».proof.Proof.Gen.OutWRefIdeal.Read
public import proofs.«01_k».proof.Proof.Gen.OutY
public import proofs.«01_k».proof.Proof.Gen.OutY.Skeleton
public import proofs.«01_k».proof.Proof.Gen.OutY.Launch
public import proofs.«01_k».proof.Proof.Gen.OutY.Points
public import proofs.«01_k».proof.Proof.Gen.OutY.Frame
public import proofs.«01_k».proof.Proof.Gen.OutYIdeal
public import proofs.«01_k».proof.Proof.Gen.OutYIdeal.Skeleton
public import proofs.«01_k».proof.Proof.Gen.OutYIdeal.Launch
public import proofs.«01_k».proof.Proof.Gen.OutYIdeal.Points
public import proofs.«01_k».proof.Proof.Gen.OutYIdeal.Frame
public import proofs.«01_k».proof.Proof.Gen.OutYIdeal.Value
public import proofs.«01_k».proof.Proof.Gen.OutYRefIdeal
public import proofs.«01_k».proof.Proof.Gen.OutYRefIdeal.Run
public import proofs.«01_k».proof.Proof.Gen.OutYRefIdeal.Read
public import proofs.«01_k».proof.Proof.Gen.InX
public import proofs.«01_k».proof.Proof.Gen.InX.Skeleton
public import proofs.«01_k».proof.Proof.Gen.InX.Launch
public import proofs.«01_k».proof.Proof.Gen.InX.Points
public import proofs.«01_k».proof.Proof.Gen.InX.Frame
public import proofs.«01_k».proof.Proof.Gen.InXIdeal
public import proofs.«01_k».proof.Proof.Gen.InXIdeal.Skeleton
public import proofs.«01_k».proof.Proof.Gen.InXIdeal.Launch
public import proofs.«01_k».proof.Proof.Gen.InXIdeal.Points
public import proofs.«01_k».proof.Proof.Gen.InXIdeal.Frame
public import proofs.«01_k».proof.Proof.Gen.InXIdeal.Value
public import proofs.«01_k».proof.Proof.Gen.InXRefIdeal
public import proofs.«01_k».proof.Proof.Gen.InXRefIdeal.Run
public import proofs.«01_k».proof.Proof.Gen.InXRefIdeal.Read
public import proofs.«01_k».proof.Proof.Gen.InW
public import proofs.«01_k».proof.Proof.Gen.InW.Skeleton
public import proofs.«01_k».proof.Proof.Gen.InW.Launch
public import proofs.«01_k».proof.Proof.Gen.InW.Points
public import proofs.«01_k».proof.Proof.Gen.InW.Frame
public import proofs.«01_k».proof.Proof.Gen.InWIdeal
public import proofs.«01_k».proof.Proof.Gen.InWIdeal.Skeleton
public import proofs.«01_k».proof.Proof.Gen.InWIdeal.Launch
public import proofs.«01_k».proof.Proof.Gen.InWIdeal.Points
public import proofs.«01_k».proof.Proof.Gen.InWIdeal.Frame
public import proofs.«01_k».proof.Proof.Gen.InWIdeal.Value
public import proofs.«01_k».proof.Proof.Gen.InWRefIdeal
public import proofs.«01_k».proof.Proof.Gen.InWRefIdeal.Run
public import proofs.«01_k».proof.Proof.Gen.InWRefIdeal.Read
public import proofs.«01_k».proof.Proof.Gen.ProjFwd
public import proofs.«01_k».proof.Proof.Gen.ProjFwd.Skeleton
public import proofs.«01_k».proof.Proof.Gen.ProjFwd.Launch
public import proofs.«01_k».proof.Proof.Gen.ProjFwd.Points
public import proofs.«01_k».proof.Proof.Gen.ProjFwd.Frame
public import proofs.«01_k».proof.Proof.Gen.ProjFwdIdeal
public import proofs.«01_k».proof.Proof.Gen.ProjFwdIdeal.Skeleton
public import proofs.«01_k».proof.Proof.Gen.ProjFwdIdeal.Launch
public import proofs.«01_k».proof.Proof.Gen.ProjFwdIdeal.Points
public import proofs.«01_k».proof.Proof.Gen.ProjFwdIdeal.Frame
public import proofs.«01_k».proof.Proof.Gen.ProjFwdIdeal.Value
public import proofs.«01_k».proof.Proof.Gen.ProjFwdRefIdeal
public import proofs.«01_k».proof.Proof.Gen.ProjFwdRefIdeal.Run
public import proofs.«01_k».proof.Proof.Gen.ProjFwdRefIdeal.Read
public import proofs.«01_k».proof.Proof.Gen.FfUp
public import proofs.«01_k».proof.Proof.Gen.FfUp.Skeleton
public import proofs.«01_k».proof.Proof.Gen.FfUp.Launch
public import proofs.«01_k».proof.Proof.Gen.FfUp.Points
public import proofs.«01_k».proof.Proof.Gen.FfUp.Frame
public import proofs.«01_k».proof.Proof.Gen.FfUpIdeal
public import proofs.«01_k».proof.Proof.Gen.FfUpIdeal.Skeleton
public import proofs.«01_k».proof.Proof.Gen.FfUpIdeal.Launch
public import proofs.«01_k».proof.Proof.Gen.FfUpIdeal.Points
public import proofs.«01_k».proof.Proof.Gen.FfUpIdeal.Frame
public import proofs.«01_k».proof.Proof.Gen.FfUpIdeal.Value
public import proofs.«01_k».proof.Proof.Gen.FfUpRefIdeal
public import proofs.«01_k».proof.Proof.Gen.FfUpRefIdeal.Run
public import proofs.«01_k».proof.Proof.Gen.FfUpRefIdeal.Read
public import proofs.«01_k».proof.Proof.Gen.MixLn
public import proofs.«01_k».proof.Proof.Gen.MixLn.Skeleton
public import proofs.«01_k».proof.Proof.Gen.MixLn.Launch
public import proofs.«01_k».proof.Proof.Gen.MixLn.Points
public import proofs.«01_k».proof.Proof.Gen.MixLn.Frame
public import proofs.«01_k».proof.Proof.Gen.MixLnIdeal
public import proofs.«01_k».proof.Proof.Gen.MixLnIdeal.Skeleton
public import proofs.«01_k».proof.Proof.Gen.MixLnIdeal.Launch
public import proofs.«01_k».proof.Proof.Gen.MixLnIdeal.Points
public import proofs.«01_k».proof.Proof.Gen.MixLnIdeal.Frame
public import proofs.«01_k».proof.Proof.Gen.MixLnIdeal.Value
public import proofs.«01_k».proof.Proof.Gen.MixLnRefIdeal
public import proofs.«01_k».proof.Proof.Gen.MixLnRefIdeal.Run
public import proofs.«01_k».proof.Proof.Gen.MixLnRefIdeal.Read
public import proofs.«01_k».proof.Proof.Finite
public import proofs.«01_k».proof.Proof.Entry
public import proofs.«01_k».proof.Proof.Results
public import proofs.«01_k».proof.Proof.MlpBwd
public import proofs.«01_k».proof.Proof.DownW
public import proofs.«01_k».proof.Proof.UpW
public import proofs.«01_k».proof.Proof.OutW
public import proofs.«01_k».proof.Proof.OutY
public import proofs.«01_k».proof.Proof.InX
public import proofs.«01_k».proof.Proof.InW
public import proofs.«01_k».proof.Proof.ProjFwd
public import proofs.«01_k».proof.Proof.FfUp
public import proofs.«01_k».proof.Proof.MixLn
public import Idealize.ShloMosaic.Adequacy
public import Idealize.ShloMosaic.Init

@[expose] public section

set_option maxRecDepth 16384

noncomputable section

namespace Cert.Proof

open Idealize.ShloMosaic Idealize.SL.Sem Cert.GlaBwd

/-- The reference runs and leaves its arguments alone; it declares no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- The arguments of the kernel under the precondition: real numbers. -/
abbrev reals (m : (ℓ : Loc Cert.KernelIdeal.nD Cert.KernelIdeal.τ Cert.KernelIdeal.sig) → Buf (Elt Ideal) ℓ) (c : Dev Cert.KernelIdeal.nD) : R.Args :=
  argsOf (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) (m (c.tc.loc Cert.KernelIdeal.main_arg8))

theorem given (m : (ℓ : Loc Cert.KernelIdeal.nD Cert.KernelIdeal.τ Cert.KernelIdeal.sig) → Buf (Elt Ideal) ℓ) (c : Dev Cert.KernelIdeal.nD)
    (h : Cert.Pre_KernelIdeal_finite (hPre_finite := Cert.Pre_finite.Gen.facts) m) : Given (reals m c) m c :=
  reads_of_finite _ _ _ _ _ _ _ _ _ _ (h c)

/-- The array the kernel's first result is written over is its last argument. -/
theorem entry9 (m : (ℓ : Loc Cert.KernelIdeal.nD Cert.KernelIdeal.τ Cert.KernelIdeal.sig) → Buf (Elt Ideal) ℓ) (c : Dev Cert.KernelIdeal.nD) :
    Cert.KernelIdeal.Gen.V m c (Pipeline.arrRef Cert.KernelIdeal.spec0 7) = m (c.tc.loc Cert.KernelIdeal.main_arg9) :=
  (V_eq m c _).trans (WI_v63 _)

/-- Both programs return the gradients: the kernel block by block, the reference as one composition of whole-array stages. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨fun c => A7 (reals m c) (m (c.tc.loc Cert.KernelIdeal.main_arg9)), fun c => A8 (reals m c), fun c => A9 (reals m c),
    fun c => A10 (reals m c), ?_, ?_⟩
  · refine (θ_run Cert.KernelIdeal.defs _ _).mono (fun r h c => ?_) (Cert.KernelIdeal.Value.run_blocks (F := Ideal) m ρ)
    obtain ⟨h0, h1, h2, h3, hk⟩ := h c
    have E := entry (given m c hpre)
    exact ⟨h0.trans ((arr7 E).trans (congrArg _ (entry9 m c))), h1.trans (arr8 E), h2.trans (arr9 E), h3.trans (arr10 E), hk⟩
  · refine (θ_run Cert.ReferenceIdeal.defs _ _).mono (fun r h c => ?_) (Cert.ReferenceIdeal.Value.run (F := Ideal) m' ρ')
    obtain ⟨h0, h1, h2, h3, hk⟩ := h c
    obtain ⟨a0, a1, a2, a3, a4, a5, a6, a7, a8, a9⟩ := hagree c
    have X := given m c hpre
    refine ⟨h0.trans ?_, h1.trans ?_, h2.trans ?_, h3.trans ?_, hk⟩
    · refine (Cert.ReferenceIdeal.Read.val_main_v183_eq (F := Ideal) (StableHlo.launchContents m' c)).trans ?_
      refine Eq.trans ?_ (res7 X _).symm
      show Cert.ReferenceIdeal.Read.val_main_v183 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) (m' (c.tc.loc Cert.ReferenceIdeal.main_arg9)) = _
      rw [a0, a1, a2, a3, a4, a5, a6, a7, a8, a9]
    · refine (Cert.ReferenceIdeal.Read.val_main_v185_eq (F := Ideal) (StableHlo.launchContents m' c)).trans ?_
      refine Eq.trans ?_ (res8 X).symm
      show Cert.ReferenceIdeal.Read.val_main_v185 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) = _
      rw [a0, a1, a2, a3, a4, a5, a6, a7, a8]
    · refine (Cert.ReferenceIdeal.Read.val_main_v186_eq (F := Ideal) (StableHlo.launchContents m' c)).trans ?_
      refine Eq.trans ?_ (res9 X).symm
      show Cert.ReferenceIdeal.Read.val_main_v186 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) = _
      rw [a0, a1, a2, a3, a4, a5, a6, a7, a8]
    · refine (Cert.ReferenceIdeal.Read.val_main_v187_eq (F := Ideal) (StableHlo.launchContents m' c)).trans ?_
      refine Eq.trans ?_ (res10 X).symm
      show Cert.ReferenceIdeal.Read.val_main_v187 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg8)) = _
      rw [a0, a1, a2, a3, a4, a5, a6, a8]

theorem claim : Cert.Claim :=
  ⟨Cert.Kernel.Gen.facts, Cert.KernelIdeal.Gen.facts, Cert.ReferenceIdeal.Gen.facts,
    Cert.MlpBwd.Gen.facts, Cert.MlpBwdIdeal.Gen.facts, Cert.MlpBwdRefIdeal.Gen.facts,
    Cert.DownW.Gen.facts, Cert.DownWIdeal.Gen.facts, Cert.DownWRefIdeal.Gen.facts,
    Cert.UpW.Gen.facts, Cert.UpWIdeal.Gen.facts, Cert.UpWRefIdeal.Gen.facts,
    Cert.OutW.Gen.facts, Cert.OutWIdeal.Gen.facts, Cert.OutWRefIdeal.Gen.facts,
    Cert.OutY.Gen.facts, Cert.OutYIdeal.Gen.facts, Cert.OutYRefIdeal.Gen.facts,
    Cert.InX.Gen.facts, Cert.InXIdeal.Gen.facts, Cert.InXRefIdeal.Gen.facts,
    Cert.InW.Gen.facts, Cert.InWIdeal.Gen.facts, Cert.InWRefIdeal.Gen.facts,
    Cert.ProjFwd.Gen.facts, Cert.ProjFwdIdeal.Gen.facts, Cert.ProjFwdRefIdeal.Gen.facts,
    Cert.FfUp.Gen.facts, Cert.FfUpIdeal.Gen.facts, Cert.FfUpRefIdeal.Gen.facts,
    Cert.MixLn.Gen.facts, Cert.MixLnIdeal.Gen.facts, Cert.MixLnRefIdeal.Gen.facts,
    Cert.Pre_finite.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.MlpBwd.Gen.frame m ρ, fun m ρ _ => Cert.MlpBwdIdeal.Gen.frame m ρ, Cert.MlpGrad.frame_ref,
    fun m ρ _ => Cert.DownW.Gen.frame m ρ, fun m ρ _ => Cert.DownWIdeal.Gen.frame m ρ, Cert.DownWGrad.frame_ref,
    fun m ρ _ => Cert.UpW.Gen.frame m ρ, fun m ρ _ => Cert.UpWIdeal.Gen.frame m ρ, Cert.UpWGrad.frame_ref,
    fun m ρ _ => Cert.OutW.Gen.frame m ρ, fun m ρ _ => Cert.OutWIdeal.Gen.frame m ρ, Cert.OutWGrad.frame_ref,
    fun m ρ _ => Cert.OutY.Gen.frame m ρ, fun m ρ _ => Cert.OutYIdeal.Gen.frame m ρ, Cert.OutYGrad.frame_ref,
    fun m ρ _ => Cert.InX.Gen.frame m ρ, fun m ρ _ => Cert.InXIdeal.Gen.frame m ρ, Cert.InXGrad.frame_ref,
    fun m ρ _ => Cert.InW.Gen.frame m ρ, fun m ρ _ => Cert.InWIdeal.Gen.frame m ρ, Cert.InWGrad.frame_ref,
    fun m ρ _ => Cert.ProjFwd.Gen.frame m ρ, fun m ρ _ => Cert.ProjFwdIdeal.Gen.frame m ρ, Cert.ProjValue.frame_ref,
    fun m ρ _ => Cert.FfUp.Gen.frame m ρ, fun m ρ _ => Cert.FfUpIdeal.Gen.frame m ρ, Cert.FfUpValue.frame_ref,
    fun m ρ _ => Cert.MixLn.Gen.frame m ρ, fun m ρ _ => Cert.MixLnIdeal.Gen.frame m ρ, Cert.MixNorm.frame_ref,
    trivial, value,
    trivial, Cert.MlpGrad.value,
    trivial, Cert.DownWGrad.value,
    trivial, Cert.UpWGrad.value,
    trivial, Cert.OutWGrad.value,
    trivial, Cert.OutYGrad.value,
    trivial, Cert.InXGrad.value,
    trivial, Cert.InWGrad.value,
    trivial, Cert.ProjValue.value,
    trivial, Cert.FfUpValue.value,
    trivial, Cert.MixNorm.value⟩

end Cert.Proof
